-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys_sinks [hPre_finite_queries_keys_sinks : Cert.Pre_finite_queries_keys_sinks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys_sinks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_queries_keys_sinks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys_sinks [hPre_finite_queries_keys_sinks : Cert.Pre_finite_queries_keys_sinks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys_sinks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_queries_keys_sinks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_input_and_convolved_weights [hPre_finite_input_and_convolved_weights : Cert.Pre_finite_input_and_convolved_weights.Facts] (m : (ℓ : Loc Cert.InProjIdeal.nD Cert.InProjIdeal.τ Cert.InProjIdeal.sig) → Buf (Elt Ideal) ℓ) : Prop :=
  ∀ c : Dev Cert.InProjIdeal.nD,
    (Cert.Pre_finite_input_and_convolved_weights.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))).1 = (fun _ => 1#1)
    ∧ (Cert.Pre_finite_input_and_convolved_weights.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))).2.1 = (fun _ => 1#1)
    ∧ (Cert.Pre_finite_input_and_convolved_weights.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))).2.2.1 = (fun _ => 1#1)
    ∧ (Cert.Pre_finite_input_and_convolved_weights.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))).2.2.2 = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_finite_input_and_convolved_weights [hPre_finite_input_and_convolved_weights : Cert.Pre_finite_input_and_convolved_weights.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_finite_input_and_convolved_weights.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3))).1 = (fun _ => 1#1)
    ∧ (Cert.Pre_finite_input_and_convolved_weights.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3))).2.1 = (fun _ => 1#1)
    ∧ (Cert.Pre_finite_input_and_convolved_weights.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3))).2.2.1 = (fun _ => 1#1)
    ∧ (Cert.Pre_finite_input_and_convolved_weights.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3))).2.2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdReferenceIdeal (m : (ℓ : Loc Cert.SsdReferenceIdeal.nD Cert.SsdReferenceIdeal.τ Cert.SsdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_queries_keys_sinks [hKernelIdeal : Cert.KernelIdeal.Facts] [hPre_finite_queries_keys_sinks : Cert.Pre_finite_queries_keys_sinks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys_sinks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_queries_keys_sinks [hReferenceIdeal : Cert.ReferenceIdeal.Facts] [hPre_finite_queries_keys_sinks : Cert.Pre_finite_queries_keys_sinks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys_sinks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjIdeal_pre_finite_input_and_convolved_weights [hInProjIdeal : Cert.InProjIdeal.Facts] [hPre_finite_input_and_convolved_weights : Cert.Pre_finite_input_and_convolved_weights.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_input_and_convolved_weights m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_InProjReferenceIdeal_pre_finite_input_and_convolved_weights [hInProjReferenceIdeal : Cert.InProjReferenceIdeal.Facts] [hPre_finite_input_and_convolved_weights : Cert.Pre_finite_input_and_convolved_weights.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_finite_input_and_convolved_weights m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4))
      ∧ r.2.sem = fun _ => 0)

def preserves_Kernel_KernelIdeal : Prop :=
  IdealRules.named_const.Statement Cert.KernelIdeal.κ "qk_scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_queries_keys_sinks [hKernelIdeal : Cert.KernelIdeal.Facts] [hReferenceIdeal : Cert.ReferenceIdeal.Facts] [hPre_finite_queries_keys_sinks : Cert.Pre_finite_queries_keys_sinks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys_sinks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v69) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v16) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Oproj_OprojIdeal : Prop :=
  True

def algebraic_OprojIdeal_OprojReferenceIdeal [hOprojIdeal : Cert.OprojIdeal.Facts] [hOprojReferenceIdeal : Cert.OprojReferenceIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)) →
    ∃ (v0 : (c : Dev Cert.OprojIdeal.nD) → Buf (Elt Ideal) ((c.tc : Thread Cert.OprojIdeal.nD Cert.OprojIdeal.τ).loc Cert.OprojIdeal.main_v3)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v3) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v5) = v0 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2))

def preserves_InProj_InProjIdeal : Prop :=
  True

def algebraic_InProjIdeal_InProjReferenceIdeal_pre_finite_input_and_convolved_weights [hInProjIdeal : Cert.InProjIdeal.Facts] [hInProjReferenceIdeal : Cert.InProjReferenceIdeal.Facts] [hPre_finite_input_and_convolved_weights : Cert.Pre_finite_input_and_convolved_weights.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal_finite_input_and_convolved_weights m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v52) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v15) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Ssd_SsdIdeal : Prop :=
  IdealRules.named_const.Statement Cert.SsdIdeal.κ "ssd_log2e" .f32 0x3FB8AA3B#32 (((Real.log 2)⁻¹ : ℝ) : EReal)

def algebraic_SsdIdeal_SsdReferenceIdeal [hSsdIdeal : Cert.SsdIdeal.Facts] [hSsdReferenceIdeal : Cert.SsdReferenceIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdReferenceIdeal.nD Cert.SsdReferenceIdeal.τ Cert.SsdReferenceIdeal.sig) → Buf (Elt Ideal) ℓ) (g' : Dev Cert.SsdReferenceIdeal.nD → PrngReg), Pre_SsdIdeal m →
    (∀ c : Dev Cert.SsdIdeal.nD,
      m' ((c.tc : Thread Cert.SsdReferenceIdeal.nD Cert.SsdReferenceIdeal.τ).loc Cert.SsdReferenceIdeal.main_arg0) = m ((c.tc : Thread Cert.SsdIdeal.nD Cert.SsdIdeal.τ).loc Cert.SsdIdeal.main_arg0)
      ∧ m' ((c.tc : Thread Cert.SsdReferenceIdeal.nD Cert.SsdReferenceIdeal.τ).loc Cert.SsdReferenceIdeal.main_arg1) = m ((c.tc : Thread Cert.SsdIdeal.nD Cert.SsdIdeal.τ).loc Cert.SsdIdeal.main_arg1)
      ∧ m' ((c.tc : Thread Cert.SsdReferenceIdeal.nD Cert.SsdReferenceIdeal.τ).loc Cert.SsdReferenceIdeal.main_arg2) = m ((c.tc : Thread Cert.SsdIdeal.nD Cert.SsdIdeal.τ).loc Cert.SsdIdeal.main_arg2)
      ∧ m' ((c.tc : Thread Cert.SsdReferenceIdeal.nD Cert.SsdReferenceIdeal.τ).loc Cert.SsdReferenceIdeal.main_arg3) = m ((c.tc : Thread Cert.SsdIdeal.nD Cert.SsdIdeal.τ).loc Cert.SsdIdeal.main_arg3)
      ∧ m' ((c.tc : Thread Cert.SsdReferenceIdeal.nD Cert.SsdReferenceIdeal.τ).loc Cert.SsdReferenceIdeal.main_arg4) = m ((c.tc : Thread Cert.SsdIdeal.nD Cert.SsdIdeal.τ).loc Cert.SsdIdeal.main_arg4)) →
    ∃ (v0 : (c : Dev Cert.SsdIdeal.nD) → Buf (Elt Ideal) ((c.tc : Thread Cert.SsdIdeal.nD Cert.SsdIdeal.τ).loc Cert.SsdIdeal.main_v24)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v24) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4))
      ∧ θ_run (Cert.SsdReferenceIdeal.defs (F := Ideal)) (onTc (τ := Cert.SsdReferenceIdeal.τ) (Cert.SsdReferenceIdeal.main (F := Ideal))) ⟨m', fun _ => 0, g'⟩ (fun r => ∀ c : Dev Cert.SsdReferenceIdeal.nD,
          r.2.mem ((c.tc : Thread Cert.SsdReferenceIdeal.nD Cert.SsdReferenceIdeal.τ).loc Cert.SsdReferenceIdeal.main_v93) = v0 c
          ∧ r.2.mem ((c.tc : Thread Cert.SsdReferenceIdeal.nD Cert.SsdReferenceIdeal.τ).loc Cert.SsdReferenceIdeal.main_arg0) = m' ((c.tc : Thread Cert.SsdReferenceIdeal.nD Cert.SsdReferenceIdeal.τ).loc Cert.SsdReferenceIdeal.main_arg0)
          ∧ r.2.mem ((c.tc : Thread Cert.SsdReferenceIdeal.nD Cert.SsdReferenceIdeal.τ).loc Cert.SsdReferenceIdeal.main_arg1) = m' ((c.tc : Thread Cert.SsdReferenceIdeal.nD Cert.SsdReferenceIdeal.τ).loc Cert.SsdReferenceIdeal.main_arg1)
          ∧ r.2.mem ((c.tc : Thread Cert.SsdReferenceIdeal.nD Cert.SsdReferenceIdeal.τ).loc Cert.SsdReferenceIdeal.main_arg2) = m' ((c.tc : Thread Cert.SsdReferenceIdeal.nD Cert.SsdReferenceIdeal.τ).loc Cert.SsdReferenceIdeal.main_arg2)
          ∧ r.2.mem ((c.tc : Thread Cert.SsdReferenceIdeal.nD Cert.SsdReferenceIdeal.τ).loc Cert.SsdReferenceIdeal.main_arg3) = m' ((c.tc : Thread Cert.SsdReferenceIdeal.nD Cert.SsdReferenceIdeal.τ).loc Cert.SsdReferenceIdeal.main_arg3)
          ∧ r.2.mem ((c.tc : Thread Cert.SsdReferenceIdeal.nD Cert.SsdReferenceIdeal.τ).loc Cert.SsdReferenceIdeal.main_arg4) = m' ((c.tc : Thread Cert.SsdReferenceIdeal.nD Cert.SsdReferenceIdeal.τ).loc Cert.SsdReferenceIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hOproj : Cert.Oproj.Facts) (hOprojIdeal : Cert.OprojIdeal.Facts) (hOprojReferenceIdeal : Cert.OprojReferenceIdeal.Facts) (hInProj : Cert.InProj.Facts) (hInProjIdeal : Cert.InProjIdeal.Facts) (hInProjReferenceIdeal : Cert.InProjReferenceIdeal.Facts) (hNorm : Cert.Norm.Facts) (hNormIdeal : Cert.NormIdeal.Facts) (hNormReferenceIdeal : Cert.NormReferenceIdeal.Facts) (hSsd : Cert.Ssd.Facts) (hSsdIdeal : Cert.SsdIdeal.Facts) (hSsdReferenceIdeal : Cert.SsdReferenceIdeal.Facts) (hPre_finite_queries_keys_sinks : Cert.Pre_finite_queries_keys_sinks.Facts) (hPre_finite_input_and_convolved_weights : Cert.Pre_finite_input_and_convolved_weights.Facts),
    quiescent_Kernel (hKernel := hKernel)
    ∧ quiescent_KernelIdeal (hKernelIdeal := hKernelIdeal)
    ∧ quiescent_KernelIdeal_pre_finite_queries_keys_sinks (hKernelIdeal := hKernelIdeal) (hPre_finite_queries_keys_sinks := hPre_finite_queries_keys_sinks)
    ∧ quiescent_ReferenceIdeal (hReferenceIdeal := hReferenceIdeal)
    ∧ quiescent_ReferenceIdeal_pre_finite_queries_keys_sinks (hReferenceIdeal := hReferenceIdeal) (hPre_finite_queries_keys_sinks := hPre_finite_queries_keys_sinks)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Oproj (hOproj := hOproj)
    ∧ quiescent_OprojIdeal (hOprojIdeal := hOprojIdeal)
    ∧ quiescent_OprojReferenceIdeal (hOprojReferenceIdeal := hOprojReferenceIdeal)
    ∧ quiescent_InProj (hInProj := hInProj)
    ∧ quiescent_InProjIdeal (hInProjIdeal := hInProjIdeal)
    ∧ quiescent_InProjIdeal_pre_finite_input_and_convolved_weights (hInProjIdeal := hInProjIdeal) (hPre_finite_input_and_convolved_weights := hPre_finite_input_and_convolved_weights)
    ∧ quiescent_InProjReferenceIdeal (hInProjReferenceIdeal := hInProjReferenceIdeal)
    ∧ quiescent_InProjReferenceIdeal_pre_finite_input_and_convolved_weights (hInProjReferenceIdeal := hInProjReferenceIdeal) (hPre_finite_input_and_convolved_weights := hPre_finite_input_and_convolved_weights)
    ∧ quiescent_Norm (hNorm := hNorm)
    ∧ quiescent_NormIdeal (hNormIdeal := hNormIdeal)
    ∧ quiescent_NormReferenceIdeal (hNormReferenceIdeal := hNormReferenceIdeal)
    ∧ quiescent_Ssd (hSsd := hSsd)
    ∧ quiescent_SsdIdeal (hSsdIdeal := hSsdIdeal)
    ∧ quiescent_SsdReferenceIdeal (hSsdReferenceIdeal := hSsdReferenceIdeal)
    ∧ preserves_Kernel_KernelIdeal
    ∧ algebraic_KernelIdeal_ReferenceIdeal_pre_finite_queries_keys_sinks (hKernelIdeal := hKernelIdeal) (hReferenceIdeal := hReferenceIdeal) (hPre_finite_queries_keys_sinks := hPre_finite_queries_keys_sinks)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Oproj_OprojIdeal
    ∧ algebraic_OprojIdeal_OprojReferenceIdeal (hOprojIdeal := hOprojIdeal) (hOprojReferenceIdeal := hOprojReferenceIdeal)
    ∧ preserves_InProj_InProjIdeal
    ∧ algebraic_InProjIdeal_InProjReferenceIdeal_pre_finite_input_and_convolved_weights (hInProjIdeal := hInProjIdeal) (hInProjReferenceIdeal := hInProjReferenceIdeal) (hPre_finite_input_and_convolved_weights := hPre_finite_input_and_convolved_weights)
    ∧ preserves_Norm_NormIdeal
    ∧ algebraic_NormIdeal_NormReferenceIdeal (hNormIdeal := hNormIdeal) (hNormReferenceIdeal := hNormReferenceIdeal)
    ∧ preserves_Ssd_SsdIdeal
    ∧ algebraic_SsdIdeal_SsdReferenceIdeal (hSsdIdeal := hSsdIdeal) (hSsdReferenceIdeal := hSsdReferenceIdeal)
-- ==== Pre_finite_input_and_convolved_weights.lean ====
abbrev S16384x2048 : Shape := ⟨2, ![16384, 2048]⟩
abbrev S1x2048x16960 : Shape := ⟨3, ![1, 2048, 16960]⟩
abbrev S1x4x6144 : Shape := ⟨3, ![1, 4, 6144]⟩
abbrev S1x6144 : Shape := ⟨2, ![1, 6144]⟩
abbrev S_ : Shape := ⟨0, ![]⟩
abbrev S1x2048x10240 : Shape := ⟨3, ![1, 2048, 10240]⟩

class Facts : Prop where
  bcast_S_S16384x2048 : S_.BroadcastsInDim S16384x2048 (![] : Fin 0 → Fin S16384x2048.rank)
  slices_S1x2048x16960_S1x2048x10240_0_0_0 : S1x2048x16960.Slices ![0, 0, 0] S1x2048x10240
  bcast_S_S1x2048x10240 : S_.BroadcastsInDim S1x2048x10240 (![] : Fin 0 → Fin S1x2048x10240.rank)
  bcast_S_S1x4x6144 : S_.BroadcastsInDim S1x4x6144 (![] : Fin 0 → Fin S1x4x6144.rank)
  bcast_S_S1x6144 : S_.BroadcastsInDim S1x6144 (![] : Fin 0 → Fin S1x6144.rank)

variable [Facts]

def fn {F : FTy → Type} [FloatOps F] (main_arg0 : FVec F S16384x2048 .bf16) (main_arg1 : FVec F S1x2048x16960 .f32) (main_arg2 : FVec F S1x4x6144 .f32) (main_arg3 : FVec F S1x6144 .f32) : IVec S16384x2048 1 × IVec S1x2048x10240 1 × IVec S1x4x6144 1 × IVec S1x6144 1 :=
  let main_v0 : FVec F S16384x2048 .bf16 := Host.absf main_arg0
  let main_cst : FVec F S_ .bf16 := constant S_ .bf16 0x7F80#16
  let main_v1 : FVec F S16384x2048 .bf16 := broadcastInDim S16384x2048 ![] bcast_S_S16384x2048 main_cst
  let main_v2 : IVec S16384x2048 1 := cmpf .olt main_v0 main_v1
  let main_v3 : FVec F S1x2048x10240 .f32 := (extractStridedSlice S1x2048x10240 ![0, 0, 0] · slices_S1x2048x16960_S1x2048x10240_0_0_0) main_arg1
  let main_v4 : FVec F S1x2048x10240 .f32 := Host.absf main_v3
  let main_cst_0 : FVec F S_ .f32 := constant S_ .f32 0x7F800000#32
  let main_v5 : FVec F S1x2048x10240 .f32 := broadcastInDim S1x2048x10240 ![] bcast_S_S1x2048x10240 main_cst_0
  let main_v6 : IVec S1x2048x10240 1 := cmpf .olt main_v4 main_v5
  let main_v7 : FVec F S1x4x6144 .f32 := Host.absf main_arg2
  let main_cst_1 : FVec F S_ .f32 := constant S_ .f32 0x7F800000#32
  let main_v8 : FVec F S1x4x6144 .f32 := broadcastInDim S1x4x6144 ![] bcast_S_S1x4x6144 main_cst_1
  let main_v9 : IVec S1x4x6144 1 := cmpf .olt main_v7 main_v8
  let main_v10 : FVec F S1x6144 .f32 := Host.absf main_arg3
  let main_cst_2 : FVec F S_ .f32 := constant S_ .f32 0x7F800000#32
  let main_v11 : FVec F S1x6144 .f32 := broadcastInDim S1x6144 ![] bcast_S_S1x6144 main_cst_2
  let main_v12 : IVec S1x6144 1 := cmpf .olt main_v10 main_v11
  (main_v2, main_v6, main_v9, main_v12)
-- ==== Pre_finite_queries_keys_sinks.lean ====
abbrev S16384x17408 : Shape := ⟨2, ![16384, 17408]⟩
abbrev S1x32 : Shape := ⟨2, ![1, 32]⟩
abbrev S16384x2304 : Shape := ⟨2, ![16384, 2304]⟩
abbrev S_ : Shape := ⟨0, ![]⟩

class Facts : Prop where
  slices_S16384x17408_S16384x2304_0_10304 : S16384x17408.Slices ![0, 10304] S16384x2304
  bcast_S_S16384x2304 : S_.BroadcastsInDim S16384x2304 (![] : Fin 0 → Fin S16384x2304.rank)
  bcast_S_S1x32 : S_.BroadcastsInDim S1x32 (![] : Fin 0 → Fin S1x32.rank)

variable [Facts]

def fn {F : FTy → Type} [FloatOps F] (main_arg0 : FVec F S16384x17408 .f32) (main_arg1 : FVec F S1x32 .f32) : IVec S16384x2304 1 × IVec S1x32 1 :=
  let main_v0 : FVec F S16384x2304 .f32 := (extractStridedSlice S16384x2304 ![0, 10304] · slices_S16384x17408_S16384x2304_0_10304) main_arg0
  let main_v1 : FVec F S16384x2304 .f32 := Host.absf main_v0
  let main_cst : FVec F S_ .f32 := constant S_ .f32 0x7F800000#32
  let main_v2 : FVec F S16384x2304 .f32 := broadcastInDim S16384x2304 ![] bcast_S_S16384x2304 main_cst
  let main_v3 : IVec S16384x2304 1 := cmpf .olt main_v1 main_v2
  let main_v4 : FVec F S1x32 .f32 := Host.absf main_arg1
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  (main_v3, main_v6)
-- ==== Kernel.lean ====
abbrev S16384x17408 : Shape := ⟨2, ![16384, 17408]⟩
abbrev S1x32 : Shape := ⟨2, ![1, 32]⟩
abbrev S32 : Shape := ⟨1, ![32]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S32x1x1 : Shape := ⟨3, ![32, 1, 1]⟩
abbrev S1x128x128 : Shape := ⟨3, ![1, 128, 128]⟩
abbrev S32x128x128 : Shape := ⟨3, ![32, 128, 128]⟩
abbrev S1x32x128x128 : Shape := ⟨4, ![1, 32, 128, 128]⟩
abbrev S2x32x128x128 : Shape := ⟨4, ![2, 32, 128, 128]⟩
abbrev S16384x2048 : Shape := ⟨2, ![16384, 2048]⟩
abbrev S128x2048 : Shape := ⟨2, ![128, 2048]⟩
abbrev S128x1024 : Shape := ⟨2, ![128, 1024]⟩
abbrev S256x1024 : Shape := ⟨2, ![256, 1024]⟩
abbrev S256x384 : Shape := ⟨2, ![256, 384]⟩
abbrev S384x256 : Shape := ⟨2, ![384, 256]⟩
abbrev S2048x128 : Shape := ⟨2, ![2048, 128]⟩
abbrev S2176x128 : Shape := ⟨2, ![2176, 128]⟩
abbrev S256x64 : Shape := ⟨2, ![256, 64]⟩
abbrev S64x128 : Shape := ⟨2, ![64, 128]⟩
abbrev S64x1024 : Shape := ⟨2, ![64, 1024]⟩
abbrev S256x128 : Shape := ⟨2, ![256, 128]⟩
abbrev S1x1x128x128 : Shape := ⟨4, ![1, 1, 128, 128]⟩
abbrev S1 : Shape := ⟨1, ![1]⟩
abbrev S64x256 : Shape := ⟨2, ![64, 256]⟩
abbrev S512x128 : Shape := ⟨2, ![512, 128]⟩
abbrev S128x512 : Shape := ⟨2, ![128, 512]⟩

abbrev nBuf : Space → Nat
  | .hbm => 48
  | .vmem => 12
  | .smem => 1
  | _ => 0

abbrev bufTy : (tb : Table) → Fin (tcTables nBuf tb) → BufTy
  | .hbm, ⟨0, _⟩ => ⟨S16384x17408, .f32⟩
  | .hbm, ⟨1, _⟩ => ⟨S1x32, .f32⟩
  | .hbm, ⟨2, _⟩ => ⟨S32, .f32⟩
  | .hbm, ⟨3, _⟩ => ⟨S128, .i32⟩
  | .hbm, ⟨4, _⟩ => ⟨S128x1, .i32⟩
  | .hbm, ⟨5, _⟩ => ⟨S128, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i1⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S128x128, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S32x1x1, .f32⟩
  | .hbm, ⟨33, _⟩ => ⟨S32x1x1, .f32⟩
  | .hbm, ⟨34, _⟩ => ⟨S1x128x128, .f32⟩
  | .hbm, ⟨35, _⟩ => ⟨S32x128x128, .f32⟩
  | .hbm, ⟨36, _⟩ => ⟨S32x128x128, .f32⟩
  | .hbm, ⟨37, _⟩ => ⟨S32x128x128, .f32⟩
  | .hbm, ⟨38, _⟩ => ⟨S1x128x128, .i1⟩
  | .hbm, ⟨39, _⟩ => ⟨S_, .f32⟩
  | .hbm, ⟨40, _⟩ => ⟨S_, .f32⟩
  | .hbm, ⟨41, _⟩ => ⟨S32x128x128, .i1⟩
  | .hbm, ⟨42, _⟩ => ⟨S32x128x128, .f32⟩
  | .hbm, ⟨43, _⟩ => ⟨S32x128x128, .f32⟩
  | .hbm, ⟨44, _⟩ => ⟨S1x32x128x128, .f32⟩
  | .hbm, ⟨45, _⟩ => ⟨S1x32x128x128, .f32⟩
  | .hbm, ⟨46, _⟩ => ⟨S2x32x128x128, .f32⟩
  | .hbm, ⟨47, _⟩ => ⟨S16384x2048, .bf16⟩
  | .local _ .vmem, ⟨0, _⟩ => ⟨S128x2048, .f32⟩
  | .local _ .vmem, ⟨1, _⟩ => ⟨S128x2048, .f32⟩
  | .local _ .vmem, ⟨2, _⟩ => ⟨S128x128, .f32⟩
  | .local _ .vmem, ⟨3, _⟩ => ⟨S128x128, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x32x128x128, .f32⟩
  | .local _ .vmem, ⟨9, _⟩ => ⟨S1x32x128x128, .f32⟩
  | .local _ .vmem, ⟨10, _⟩ => ⟨S128x2048, .bf16⟩
  | .local _ .vmem, ⟨11, _⟩ => ⟨S128x2048, .bf16⟩
  | .local _ .smem, ⟨0, _⟩ => ⟨S32, .f32⟩
  | _, _ => ⟨S16384x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c96_i32 : BitVec 32 := 96#32
  let c0_i32 : BitVec 32 := 0#32
  ![v1.toNat, c96_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c12_i32 : BitVec 32 := 12#32
  let c0_i32_0 : BitVec 32 := 0#32
  ![v3.toNat, c12_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c12_i32 : BitVec 32 := 12#32
  let c0_i32 : BitVec 32 := 0#32
  ![v1.toNat, c12_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "qk_scale" => some (((1 / 8) * (Real.log 2)⁻¹ : ℝ) : EReal)
  | _ => none
-- ==== ReferenceIdeal.lean ====
abbrev S16384x17408 : Shape := ⟨2, ![16384, 17408]⟩
abbrev S1x32 : Shape := ⟨2, ![1, 32]⟩
abbrev S4x4096x17408 : Shape := ⟨3, ![4, 4096, 17408]⟩
abbrev S4x4096x2048 : Shape := ⟨3, ![4, 4096, 2048]⟩
abbrev S4x4096x256 : Shape := ⟨3, ![4, 4096, 256]⟩
abbrev S32 : Shape := ⟨1, ![32]⟩
abbrev S4x32x128x4x8x64 : Shape := ⟨6, ![4, 32, 128, 4, 8, 64]⟩
abbrev S4x32x128x4x64 : Shape := ⟨5, ![4, 32, 128, 4, 64]⟩
abbrev S4x31x128x4x64 : Shape := ⟨5, ![4, 31, 128, 4, 64]⟩
abbrev S_ : Shape := ⟨0, ![]⟩
abbrev S4x32x256x4x64 : Shape := ⟨5, ![4, 32, 256, 4, 64]⟩
abbrev S4x4x32x256x128x8 : Shape := ⟨6, ![4, 4, 32, 256, 128, 8]⟩
abbrev S4x4x8x32x128x256 : Shape := ⟨6, ![4, 4, 8, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x8 : Shape := ⟨2, ![4, 8]⟩
abbrev S4x8x1x1x1 : Shape := ⟨5, ![4, 8, 1, 1, 1]⟩
abbrev S1x1x1x128x256 : Shape := ⟨5, ![1, 1, 1, 128, 256]⟩
abbrev S4x8x1x128x256 : Shape := ⟨5, ![4, 8, 1, 128, 256]⟩
abbrev S1x4x8x1x128x256 : Shape := ⟨6, ![1, 4, 8, 1, 128, 256]⟩
abbrev S1x4x8x1x1x1 : Shape := ⟨6, ![1, 4, 8, 1, 1, 1]⟩
abbrev S4x4x8x32x128 : Shape := ⟨5, ![4, 4, 8, 32, 128]⟩
abbrev S4x4x8x32x128x1 : Shape := ⟨6, ![4, 4, 8, 32, 128, 1]⟩
abbrev S4x32x4x64x8x128 : Shape := ⟨6, ![4, 32, 4, 64, 8, 128]⟩
abbrev S16384x2048 : Shape := ⟨2, ![16384, 2048]⟩

abbrev nBuf : Space → Nat
  | .hbm => 110
  | .vmem => 0
  | .smem => 0
  | _ => 0

abbrev bufTy : (tb : Table) → Fin (tcTables nBuf tb) → BufTy
  | .hbm, ⟨0, _⟩ => ⟨S16384x17408, .f32⟩
  | .hbm, ⟨1, _⟩ => ⟨S1x32, .f32⟩
  | .hbm, ⟨2, _⟩ => ⟨S4x4096x17408, .f32⟩
  | .hbm, ⟨3, _⟩ => ⟨S4x4096x2048, .f32⟩
  | .hbm, ⟨4, _⟩ => ⟨S4x4096x256, .f32⟩
  | .hbm, ⟨5, _⟩ => ⟨S4x4096x256, .f32⟩
  | .hbm, ⟨6, _⟩ => ⟨S32, .f32⟩
  | .hbm, ⟨7, _⟩ => ⟨S4x32x128x4x8x64, .f32⟩
  | .hbm, ⟨8, _⟩ => ⟨S4x32x128x4x64, .f32⟩
  | .hbm, ⟨9, _⟩ => ⟨S4x32x128x4x64, .f32⟩
  | .hbm, ⟨10, _⟩ => ⟨S4x31x128x4x64, .f32⟩
  | .hbm, ⟨11, _⟩ => ⟨S_, .i32⟩
  | .hbm, ⟨12, _⟩ => ⟨S_, .f32⟩
  | .hbm, ⟨13, _⟩ => ⟨S4x32x128x4x64, .f32⟩
  | .hbm, ⟨14, _⟩ => ⟨S4x32x256x4x64, .f32⟩
  | .hbm, ⟨15, _⟩ => ⟨S4x31x128x4x64, .f32⟩
  | .hbm, ⟨16, _⟩ => ⟨S_, .i32⟩
  | .hbm, ⟨17, _⟩ => ⟨S_, .f32⟩
  | .hbm, ⟨18, _⟩ => ⟨S4x32x128x4x64, .f32⟩
  | .hbm, ⟨19, _⟩ => ⟨S4x32x256x4x64, .f32⟩
  | .hbm, ⟨20, _⟩ => ⟨S4x4x32x256x128x8, .f32⟩
  | .hbm, ⟨21, _⟩ => ⟨S4x4x8x32x128x256, .f32⟩
  | .hbm, ⟨22, _⟩ => ⟨S_, .f32⟩
  | .hbm, ⟨23, _⟩ => ⟨S4x4x8x32x128x256, .f32⟩
  | .hbm, ⟨24, _⟩ => ⟨S4x4x8x32x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S32, .i32⟩
  | .hbm, ⟨36, _⟩ => ⟨S32x1x1, .i32⟩
  | .hbm, ⟨37, _⟩ => ⟨S_, .i32⟩
  | .hbm, ⟨38, _⟩ => ⟨S32x1x1, .i32⟩
  | .hbm, ⟨39, _⟩ => ⟨S32x1x1, .i32⟩
  | .hbm, ⟨40, _⟩ => ⟨S_, .i32⟩
  | .hbm, ⟨41, _⟩ => ⟨S32x1x1, .i32⟩
  | .hbm, ⟨42, _⟩ => ⟨S32x1x1, .i32⟩
  | .hbm, ⟨43, _⟩ => ⟨S1x1x256, .i32⟩
  | .hbm, ⟨44, _⟩ => ⟨S32x1x256, .i32⟩
  | .hbm, ⟨45, _⟩ => ⟨S32x1x256, .i32⟩
  | .hbm, ⟨46, _⟩ => ⟨S32x1x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S128x256, .i1⟩
  | .hbm, ⟨54, _⟩ => ⟨S_, .i32⟩
  | .hbm, ⟨55, _⟩ => ⟨S32x1x256, .i32⟩
  | .hbm, ⟨56, _⟩ => ⟨S32x1x256, .i1⟩
  | .hbm, ⟨57, _⟩ => ⟨S1x128x256, .i1⟩
  | .hbm, ⟨58, _⟩ => ⟨S32x128x256, .i1⟩
  | .hbm, ⟨59, _⟩ => ⟨S32x128x256, .i1⟩
  | .hbm, ⟨60, _⟩ => ⟨S32x128x256, .i1⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S32, .f32⟩
  | .hbm, ⟨72, _⟩ => ⟨S4x8, .f32⟩
  | .hbm, ⟨73, _⟩ => ⟨S4x8x1x1x1, .f32⟩
  | .hbm, ⟨74, _⟩ => ⟨S4x8x1x1x1, .f32⟩
  | .hbm, ⟨75, _⟩ => ⟨S128x256, .f32⟩
  | .hbm, ⟨76, _⟩ => ⟨S1x1x1x128x256, .f32⟩
  | .hbm, ⟨77, _⟩ => ⟨S4x8x1x128x256, .f32⟩
  | .hbm, ⟨78, _⟩ => ⟨S4x8x1x128x256, .f32⟩
  | .hbm, ⟨79, _⟩ => ⟨S4x8x1x128x256, .f32⟩
  | .hbm, ⟨80, _⟩ => ⟨S1x4x8x1x128x256, .f32⟩
  | .hbm, ⟨81, _⟩ => ⟨S4x4x8x32x128x256, .f32⟩
  | .hbm, ⟨82, _⟩ => ⟨S4x4x8x32x128x256, .f32⟩
  | .hbm, ⟨83, _⟩ => ⟨S_, .f32⟩
  | .hbm, ⟨84, _⟩ => ⟨S_, .f32⟩
  | .hbm, ⟨85, _⟩ => ⟨S4x4x8x32x128x256, .i1⟩
  | .hbm, ⟨86, _⟩ => ⟨S4x4x8x32x128x256, .f32⟩
  | .hbm, ⟨87, _⟩ => ⟨S4x4x8x32x128x256, .f32⟩
  | .hbm, ⟨88, _⟩ => ⟨S1x4x8x1x1x1, .f32⟩
  | .hbm, ⟨89, _⟩ => ⟨S_, .f32⟩
  | .hbm, ⟨90, _⟩ => ⟨S4x4x8x32x128, .f32⟩
  | .hbm, ⟨91, _⟩ => ⟨S4x4x8x32x128x1, .f32⟩
  | .hbm, ⟨92, _⟩ => ⟨S4x4x8x32x128x1, .f32⟩
  | .hbm, ⟨93, _⟩ => ⟨S4x4x8x32x128x1, .f32⟩
  | .hbm, ⟨94, _⟩ => ⟨S4x4x8x32x128x256, .f32⟩
  | .hbm, ⟨95, _⟩ => ⟨S4x4x8x32x128x256, .f32⟩
  | .hbm, ⟨96, _⟩ => ⟨S4x4x8x32x128x256, .f32⟩
  | .hbm, ⟨97, _⟩ => ⟨S_, .f32⟩
  | .hbm, ⟨98, _⟩ => ⟨S4x4x8x32x128, .f32⟩
  | .hbm, ⟨99, _⟩ => ⟨S4x4x8x32x128x1, .f32⟩
  | .hbm, ⟨100, _⟩ => ⟨S4x4x8x32x128x1, .f32⟩
  | .hbm, ⟨101, _⟩ => ⟨S4x4x8x32x128x1, .f32⟩
  | .hbm, ⟨102, _⟩ => ⟨S4x4x8x32x128x1, .f32⟩
  | .hbm, ⟨103, _⟩ => ⟨S4x4x8x32x128x1, .f32⟩
  | .hbm, ⟨104, _⟩ => ⟨S4x4x8x32x128x256, .f32⟩
  | .hbm, ⟨105, _⟩ => ⟨S4x4x8x32x128x256, .f32⟩
  | .hbm, ⟨106, _⟩ => ⟨S4x32x4x64x8x128, .f32⟩
  | .hbm, ⟨107, _⟩ => ⟨S4x32x128x4x8x64, .f32⟩
  | .hbm, ⟨108, _⟩ => ⟨S16384x2048, .f32⟩
  | .hbm, ⟨109, _⟩ => ⟨S16384x2048, .bf16⟩
  | _, _ => ⟨S16384x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩

abbrev nD : Nat := 1
abbrev τ : Topo := Topo.v7x

variable {F : FTy → Type} [FloatOps F]
-- ==== Ffn.lean ====
abbrev S16384x2048 : Shape := ⟨2, ![16384, 2048]⟩
abbrev S1x2048 : Shape := ⟨2, ![1, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S1x5632x2048 : Shape := ⟨3, ![1, 5632, 2048]⟩
abbrev S2048 : Shape := ⟨1, ![2048]⟩
abbrev S2048x11264 : Shape := ⟨2, ![2048, 11264]⟩
abbrev S5632x2048 : Shape := ⟨2, ![5632, 2048]⟩
abbrev S512x2048 : Shape := ⟨2, ![512, 2048]⟩
abbrev S16x2048 : Shape := ⟨2, ![16, 2048]⟩
abbrev S2048x512 : Shape := ⟨2, ![2048, 512]⟩
abbrev S1x3x512 : Shape := ⟨3, ![1, 3, 512]⟩
abbrev S1x512 : Shape := ⟨2, ![1, 512]⟩
abbrev S528x2048 : Shape := ⟨2, ![528, 2048]⟩
abbrev S16 : Shape := ⟨1, ![16]⟩
abbrev S16x1 : Shape := ⟨2, ![16, 1]⟩
abbrev S512 : Shape := ⟨1, ![512]⟩
abbrev S512x1 : Shape := ⟨2, ![512, 1]⟩
abbrev S528x512 : Shape := ⟨2, ![528, 512]⟩
abbrev S512x512 : Shape := ⟨2, ![512, 512]⟩
abbrev S3x512 : Shape := ⟨2, ![3, 512]⟩

abbrev nBuf : Space → Nat
  | .hbm => 15
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x11264, .f32⟩
  | .hbm, ⟨3, _⟩ => ⟨S1x3x5632, .f32⟩
  | .hbm, ⟨4, _⟩ => ⟨S1x5632, .f32⟩
  | .hbm, ⟨5, _⟩ => ⟨S1x5632x2048, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S2048x11264, .f32⟩
  | .hbm, ⟨10, _⟩ => ⟨S2048x11264, .bf16⟩
  | .hbm, ⟨11, _⟩ => ⟨S5632x2048, .f32⟩
  | .hbm, ⟨12, _⟩ => ⟨S5632x2048, .bf16⟩
  | .hbm, ⟨13, _⟩ => ⟨S1x2048, .f32⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1x3x512, .f32⟩
  | .local _ .vmem, ⟨10, _⟩ => ⟨S1x3x512, .f32⟩
  | .local _ .vmem, ⟨11, _⟩ => ⟨S1x512, .f32⟩
  | .local _ .vmem, ⟨12, _⟩ => ⟨S1x512, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S528x2048, .bf16⟩
  | .local _ .vmem, ⟨19, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v48 : BitVec 1 := Scalar.cmpi .eq arg1 c10_i32
  let v49 : BitVec 32 := Scalar.extui v48
  let c0_i32_23 : BitVec 32 := 0#32
  let v50 : BitVec 1 := Scalar.cmpi .ne v49 c0_i32_23
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnReferenceIdeal.lean ====
abbrev S16384x2048 : Shape := ⟨2, ![16384, 2048]⟩
abbrev S1x2048 : Shape := ⟨2, ![1, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S1x5632x2048 : Shape := ⟨3, ![1, 5632, 2048]⟩
abbrev S2048 : Shape := ⟨1, ![2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x11264 : Shape := ⟨2, ![2048, 11264]⟩
abbrev S4x4096x11264 : Shape := ⟨3, ![4, 4096, 11264]⟩
abbrev S4x4096x5632 : Shape := ⟨3, ![4, 4096, 5632]⟩
abbrev S4x4098x5632 : Shape := ⟨3, ![4, 4098, 5632]⟩
abbrev S3x5632 : Shape := ⟨2, ![3, 5632]⟩
abbrev S5632 : Shape := ⟨1, ![5632]⟩
abbrev S1x1x5632 : Shape := ⟨3, ![1, 1, 5632]⟩
abbrev S5632x2048 : Shape := ⟨2, ![5632, 2048]⟩

abbrev nBuf : Space → Nat
  | .hbm => 87
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x11264, .f32⟩
  | .hbm, ⟨3, _⟩ => ⟨S1x3x5632, .f32⟩
  | .hbm, ⟨4, _⟩ => ⟨S1x5632, .f32⟩
  | .hbm, ⟨5, _⟩ => ⟨S1x5632x2048, .f32⟩
  | .hbm, ⟨6, _⟩ => ⟨S2048, .f32⟩
  | .hbm, ⟨7, _⟩ => ⟨S4x4096x2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S2048x11264, .f32⟩
  | .hbm, ⟨26, _⟩ => ⟨S4x4096x11264, .f32⟩
  | .hbm, ⟨27, _⟩ => ⟨S4x4096x5632, .f32⟩
  | .hbm, ⟨28, _⟩ => ⟨S4x4096x5632, .f32⟩
  | .hbm, ⟨29, _⟩ => ⟨S_, .i32⟩
  | .hbm, ⟨30, _⟩ => ⟨S_, .f32⟩
  | .hbm, ⟨31, _⟩ => ⟨S4x4098x5632, .f32⟩
  | .hbm, ⟨32, _⟩ => ⟨S3x5632, .f32⟩
  | .hbm, ⟨33, _⟩ => ⟨S4x4096x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S4x4096x5632, .f32⟩
  | .hbm, ⟨44, _⟩ => ⟨S4x4096x5632, .f32⟩
  | .hbm, ⟨45, _⟩ => ⟨S4x4096x5632, .f32⟩
  | .hbm, ⟨46, _⟩ => ⟨S4x4096x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S5632, .f32⟩
  | .hbm, ⟨54, _⟩ => ⟨S1x1x5632, .f32⟩
  | .hbm, ⟨55, _⟩ => ⟨S4x4096x5632, .f32⟩
  | .hbm, ⟨56, _⟩ => ⟨S4x4096x5632, .f32⟩
  | .hbm, ⟨57, _⟩ => ⟨S_, .f32⟩
  | .hbm, ⟨58, _⟩ => ⟨S4x4096x5632, .f32⟩
  | .hbm, ⟨59, _⟩ => ⟨S4x4096x5632, .f32⟩
  | .hbm, ⟨60, _⟩ => ⟨S4x4096x5632, .f32⟩
  | .hbm, ⟨61, _⟩ => ⟨S_, .f32⟩
  | .hbm, ⟨62, _⟩ => ⟨S4x4096x5632, .f32⟩
  | .hbm, ⟨63, _⟩ => ⟨S4x4096x5632, .f32⟩
  | .hbm, ⟨64, _⟩ => ⟨S4x4096x5632, .f32⟩
  | .hbm, ⟨65, _⟩ => ⟨S4x4096x5632, .f32⟩
  | .hbm, ⟨66, _⟩ => ⟨S4x4096x5632, .f32⟩
  | .hbm, ⟨67, _⟩ => ⟨S5632x2048, .f32⟩
  | .hbm, ⟨68, _⟩ => ⟨S4x4096x2048, .f32⟩
  | .hbm, ⟨69, _⟩ => ⟨S4x4096x2048, .f32⟩
  | .hbm, ⟨70, _⟩ => ⟨S4x4096x2048, .f32⟩
  | .hbm, ⟨71, _⟩ => ⟨S_, .f32⟩
  | .hbm, ⟨72, _⟩ => ⟨S4x4096, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S_, .f32⟩
  | .hbm, ⟨78, _⟩ => ⟨S4x4096x1, .f32⟩
  | .hbm, ⟨79, _⟩ => ⟨S4x4096x1, .f32⟩
  | .hbm, ⟨80, _⟩ => ⟨S4x4096x1, .f32⟩
  | .hbm, ⟨81, _⟩ => ⟨S4x4096x2048, .f32⟩
  | .hbm, ⟨82, _⟩ => ⟨S4x4096x2048, .f32⟩
  | .hbm, ⟨83, _⟩ => ⟨S1x1x2048, .f32⟩
  | .hbm, ⟨84, _⟩ => ⟨S4x4096x2048, .f32⟩
  | .hbm, ⟨85, _⟩ => ⟨S4x4096x2048, .f32⟩
  | .hbm, ⟨86, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_2 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Merge.lean ====
abbrev S16384x4096 : Shape := ⟨2, ![16384, 4096]⟩
abbrev S16384x2048 : Shape := ⟨2, ![16384, 2048]⟩
abbrev S16384x17408 : Shape := ⟨2, ![16384, 17408]⟩
abbrev S1x4096x2048 : Shape := ⟨3, ![1, 4096, 2048]⟩
abbrev S1x2048x2048 : Shape := ⟨3, ![1, 2048, 2048]⟩
abbrev S4096x2048 : Shape := ⟨2, ![4096, 2048]⟩
abbrev S2048x2048 : Shape := ⟨2, ![2048, 2048]⟩
abbrev S512x4096 : Shape := ⟨2, ![512, 4096]⟩
abbrev S512x2048 : Shape := ⟨2, ![512, 2048]⟩
abbrev S512x1024 : Shape := ⟨2, ![512, 1024]⟩
abbrev S4096x1024 : Shape := ⟨2, ![4096, 1024]⟩
abbrev S2048x1024 : Shape := ⟨2, ![2048, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x17408, .f32⟩
  | .hbm, ⟨3, _⟩ => ⟨S1x4096x2048, .f32⟩
  | .hbm, ⟨4, _⟩ => ⟨S1x2048x2048, .f32⟩
  | .hbm, ⟨5, _⟩ => ⟨S4096x2048, .f32⟩
  | .hbm, ⟨6, _⟩ => ⟨S4096x2048, .bf16⟩
  | .hbm, ⟨7, _⟩ => ⟨S2048x2048, .f32⟩
  | .hbm, ⟨8, _⟩ => ⟨S2048x2048, .bf16⟩
  | .hbm, ⟨9, _⟩ => ⟨S16384x2048, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S4096x1024, .bf16⟩
  | .local _ .vmem, ⟨9, _⟩ => ⟨S4096x1024, .bf16⟩
  | .local _ .vmem, ⟨10, _⟩ => ⟨S2048x1024, .bf16⟩
  | .local _ .vmem, ⟨11, _⟩ => ⟨S2048x1024, .bf16⟩
  | .local _ .vmem, ⟨12, _⟩ => ⟨S512x1024, .bf16⟩
  | .local _ .vmem, ⟨13, _⟩ => ⟨S512x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S16384x4096 : Shape := ⟨2, ![16384, 4096]⟩
abbrev S16384x2048 : Shape := ⟨2, ![16384, 2048]⟩
abbrev S16384x17408 : Shape := ⟨2, ![16384, 17408]⟩
abbrev S1x4096x2048 : Shape := ⟨3, ![1, 4096, 2048]⟩
abbrev S1x2048x2048 : Shape := ⟨3, ![1, 2048, 2048]⟩
abbrev S4x4096x4096 : Shape := ⟨3, ![4, 4096, 4096]⟩
abbrev S4096x2048 : Shape := ⟨2, ![4096, 2048]⟩
abbrev S4x4096x2048 : Shape := ⟨3, ![4, 4096, 2048]⟩
abbrev S2048x2048 : Shape := ⟨2, ![2048, 2048]⟩
abbrev S4x4096x17408 : Shape := ⟨3, ![4, 4096, 17408]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x17408, .f32⟩
  | .hbm, ⟨3, _⟩ => ⟨S1x4096x2048, .f32⟩
  | .hbm, ⟨4, _⟩ => ⟨S1x2048x2048, .f32⟩
  | .hbm, ⟨5, _⟩ => ⟨S4x4096x4096, .bf16⟩
  | .hbm, ⟨6, _⟩ => ⟨S4x4096x4096, .f32⟩
  | .hbm, ⟨7, _⟩ => ⟨S4096x2048, .f32⟩
  | .hbm, ⟨8, _⟩ => ⟨S4x4096x2048, .f32⟩
  | .hbm, ⟨9, _⟩ => ⟨S4x4096x2048, .bf16⟩
  | .hbm, ⟨10, _⟩ => ⟨S4x4096x2048, .f32⟩
  | .hbm, ⟨11, _⟩ => ⟨S2048x2048, .f32⟩
  | .hbm, ⟨12, _⟩ => ⟨S4x4096x2048, .f32⟩
  | .hbm, ⟨13, _⟩ => ⟨S4x4096x17408, .f32⟩
  | .hbm, ⟨14, _⟩ => ⟨S4x4096x4096, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S16384x2048, .f32⟩
  | .hbm, ⟨21, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Oproj.lean ====
abbrev S16384x2048 : Shape := ⟨2, ![16384, 2048]⟩
abbrev S1x2048x2048 : Shape := ⟨3, ![1, 2048, 2048]⟩
abbrev S4x4096x2048 : Shape := ⟨3, ![4, 4096, 2048]⟩
abbrev S2048x2048 : Shape := ⟨2, ![2048, 2048]⟩
abbrev S512x2048 : Shape := ⟨2, ![512, 2048]⟩

abbrev nBuf : Space → Nat
  | .hbm => 7
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S4x4096x2048, .f32⟩
  | .hbm, ⟨3, _⟩ => ⟨S2048x2048, .f32⟩
  | .hbm, ⟨4, _⟩ => ⟨S2048x2048, .bf16⟩
  | .hbm, ⟨5, _⟩ => ⟨S16384x2048, .f32⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OprojReferenceIdeal.lean ====
abbrev S16384x2048 : Shape := ⟨2, ![16384, 2048]⟩
abbrev S1x2048x2048 : Shape := ⟨3, ![1, 2048, 2048]⟩
abbrev S4x4096x2048 : Shape := ⟨3, ![4, 4096, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S4x4096x2048, .f32⟩
  | .hbm, ⟨3, _⟩ => ⟨S4x4096x2048, .bf16⟩
  | .hbm, ⟨4, _⟩ => ⟨S4x4096x2048, .f32⟩
  | .hbm, ⟨5, _⟩ => ⟨S2048x2048, .f32⟩
  | .hbm, ⟨6, _⟩ => ⟨S4x4096x2048, .f32⟩
  | .hbm, ⟨7, _⟩ => ⟨S4x4096x2048, .f32⟩
  | .hbm, ⟨8, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProj.lean ====
abbrev S16384x2048 : Shape := ⟨2, ![16384, 2048]⟩
abbrev S1x2048x16960 : Shape := ⟨3, ![1, 2048, 16960]⟩
abbrev S1x4x6144 : Shape := ⟨3, ![1, 4, 6144]⟩
abbrev S1x6144 : Shape := ⟨2, ![1, 6144]⟩
abbrev S1x16960x2048 : Shape := ⟨3, ![1, 16960, 2048]⟩
abbrev S16960x2048 : Shape := ⟨2, ![16960, 2048]⟩
abbrev S16384x17408 : Shape := ⟨2, ![16384, 17408]⟩
abbrev S1024x2048 : Shape := ⟨2, ![1024, 2048]⟩
abbrev S16x2048 : Shape := ⟨2, ![16, 2048]⟩
abbrev S1x4x1024 : Shape := ⟨3, ![1, 4, 1024]⟩
abbrev S1x1024 : Shape := ⟨2, ![1, 1024]⟩
abbrev S1024x1024 : Shape := ⟨2, ![1024, 1024]⟩
abbrev S2048x1024 : Shape := ⟨2, ![2048, 1024]⟩
abbrev S1040x2048 : Shape := ⟨2, ![1040, 2048]⟩
abbrev S2048x256 : Shape := ⟨2, ![2048, 256]⟩
abbrev S1024x256 : Shape := ⟨2, ![1024, 256]⟩
abbrev S1040x256 : Shape := ⟨2, ![1040, 256]⟩
abbrev S1x4x256 : Shape := ⟨3, ![1, 4, 256]⟩
abbrev S4x256 : Shape := ⟨2, ![4, 256]⟩
abbrev S1x256 : Shape := ⟨2, ![1, 256]⟩

abbrev nBuf : Space → Nat
  | .hbm => 7
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S1x2048x16960, .f32⟩
  | .hbm, ⟨2, _⟩ => ⟨S1x4x6144, .f32⟩
  | .hbm, ⟨3, _⟩ => ⟨S1x6144, .f32⟩
  | .hbm, ⟨4, _⟩ => ⟨S1x16960x2048, .f32⟩
  | .hbm, ⟨5, _⟩ => ⟨S16960x2048, .f32⟩
  | .hbm, ⟨6, _⟩ => ⟨S16384x17408, .f32⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S1024x2048, .f32⟩
  | .local _ .vmem, ⟨5, _⟩ => ⟨S1024x2048, .f32⟩
  | .local _ .vmem, ⟨6, _⟩ => ⟨S1x4x1024, .f32⟩
  | .local _ .vmem, ⟨7, _⟩ => ⟨S1x4x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S2048x1024, .bf16⟩
  | .local _ .vmem, ⟨13, _⟩ => ⟨S1040x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![17, 16], ![false, false]⟩

def k0_mult1 (i : grid0.Coords) : BitVec 32 :=
  let arg0 : BitVec 32 := BitVec.ofNat 32 (i 0).val
  let c13_i32 : BitVec 32 := 13#32
  let v0 : BitVec 1 := Scalar.cmpi .slt arg0 c13_i32
  let c1024_i32 : BitVec 32 := 1024#32
  let v1 : BitVec 32 := Scalar.muli arg0 c1024_i32
  let c12864_i32 : BitVec 32 := 12864#32
  let c13_i32_0 : BitVec 32 := 13#32
  let v2 : BitVec 32 := Scalar.subi arg0 c13_i32_0
  let c1024_i32_1 : BitVec 32 := 1024#32
  let v3 : BitVec 32 := Scalar.muli v2 c1024_i32_1
  let v4 : BitVec 32 := Scalar.addi c12864_i32 v3
  let v5 : BitVec 32 := Scalar.select v0 v1 v4
  v5
def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c10_i32 : BitVec 32 := 10#32
  let v6 : BitVec 1 := Scalar.cmpi .sge arg0 c10_i32
  let c12_i32 : BitVec 32 := 12#32
  let v7 : BitVec 1 := Scalar.cmpi .slt arg0 c12_i32
  let v8 : BitVec 1 := Scalar.andi v6 v7
  let v9 : BitVec 32 := Scalar.extui v8
  let c0_i32_2 : BitVec 32 := 0#32
  let v10 : BitVec 1 := Scalar.cmpi .ne v9 c0_i32_2
  v10

def k0_cond4 (i : grid0.Coords) : BitVec 1 :=
  let arg0 : BitVec 32 := BitVec.ofNat 32 (i 0).val
  let c12_i32_3 : BitVec 32 := 12#32
  let v11 : BitVec 1 := Scalar.cmpi .eq arg0 c12_i32_3
  let v12 : BitVec 32 := Scalar.extui v11
  let c0_i32_4 : BitVec 32 := 0#32
  let v13 : BitVec 1 := Scalar.cmpi .ne v12 c0_i32_4
  v13

def k0_cond5 (i : grid0.Coords) : BitVec 1 :=
  let arg0 : BitVec 32 := BitVec.ofNat 32 (i 0).val
  let c13_i32 : BitVec 32 := 13#32
  let v14 : BitVec 1 := Scalar.cmpi .sge arg0 c13_i32
  let v15 : BitVec 32 := Scalar.extui v14
  let c0_i32_5 : BitVec 32 := 0#32
  let v16 : BitVec 1 := Scalar.cmpi .ne v15 c0_i32_5
  v16

def k0_cond6 (i : grid0.Coords) : BitVec 1 :=
  let arg0 : BitVec 32 := BitVec.ofNat 32 (i 0).val
  let c4_i32_6 : BitVec 32 := 4#32
  let v17 : BitVec 1 := Scalar.cmpi .sge arg0 c4_i32_6
  let c10_i32_7 : BitVec 32 := 10#32
  let v18 : BitVec 1 := Scalar.cmpi .slt arg0 c10_i32_7
  let v19 : BitVec 1 := Scalar.andi v17 v18
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 1 := Scalar.cmpi .slt arg0 c13_i32
  let c1024_i32 : BitVec 32 := 1024#32
  let v1 : BitVec 32 := Scalar.muli arg0 c1024_i32
  let c13_i32_0 : BitVec 32 := 13#32
  let v2 : BitVec 32 := Scalar.subi arg0 c13_i32_0
  let c1024_i32_1 : BitVec 32 := 1024#32
  let v3 : BitVec 32 := Scalar.muli v2 c1024_i32_1
  let c12864_i32 : BitVec 32 := 12864#32
  let v4 : BitVec 32 := Scalar.addi c12864_i32 v3
  let v5 : BitVec 32 := Scalar.select v0 v1 v4
  let v6 : BitVec 32 := v5
  let c0_i32 : BitVec 32 := 0#32
  let c0_i32_2 : BitVec 32 := 0#32
  ![v6.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  let c0_i32_2 : BitVec 32 := 0#32
  ![c0_i32_0.toNat, c0_i32_1.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjReferenceIdeal.lean ====
abbrev S16384x2048 : Shape := ⟨2, ![16384, 2048]⟩
abbrev S1x2048x16960 : Shape := ⟨3, ![1, 2048, 16960]⟩
abbrev S1x4x6144 : Shape := ⟨3, ![1, 4, 6144]⟩
abbrev S1x6144 : Shape := ⟨2, ![1, 6144]⟩
abbrev S4x4096x2048 : Shape := ⟨3, ![4, 4096, 2048]⟩
abbrev S2048x16960 : Shape := ⟨2, ![2048, 16960]⟩
abbrev S4x4096x16960 : Shape := ⟨3, ![4, 4096, 16960]⟩
abbrev S4x4096x4096 : Shape := ⟨3, ![4, 4096, 4096]⟩
abbrev S4x4096x6144 : Shape := ⟨3, ![4, 4096, 6144]⟩
abbrev S4x4096x2624 : Shape := ⟨3, ![4, 4096, 2624]⟩
abbrev S_ : Shape := ⟨0, ![]⟩
abbrev S4x4099x6144 : Shape := ⟨3, ![4, 4099, 6144]⟩
abbrev S4x6144 : Shape := ⟨2, ![4, 6144]⟩
abbrev S6144 : Shape := ⟨1, ![6144]⟩
abbrev S1x1x6144 : Shape := ⟨3, ![1, 1, 6144]⟩
abbrev S4x4096x192 : Shape := ⟨3, ![4, 4096, 192]⟩
abbrev S4x4096x448 : Shape := ⟨3, ![4, 4096, 448]⟩
abbrev S4x4096x17408 : Shape := ⟨3, ![4, 4096, 17408]⟩
abbrev S16384x17408 : Shape := ⟨2, ![16384, 17408]⟩

abbrev nBuf : Space → Nat
  | .hbm => 79
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x16960, .f32⟩
  | .hbm, ⟨2, _⟩ => ⟨S1x4x6144, .f32⟩
  | .hbm, ⟨3, _⟩ => ⟨S1x6144, .f32⟩
  | .hbm, ⟨4, _⟩ => ⟨S4x4096x2048, .bf16⟩
  | .hbm, ⟨5, _⟩ => ⟨S4x4096x2048, .f32⟩
  | .hbm, ⟨6, _⟩ => ⟨S2048x16960, .f32⟩
  | .hbm, ⟨7, _⟩ => ⟨S4x4096x16960, .f32⟩
  | .hbm, ⟨8, _⟩ => ⟨S4x4096x4096, .f32⟩
  | .hbm, ⟨9, _⟩ => ⟨S4x4096x6144, .f32⟩
  | .hbm, ⟨10, _⟩ => ⟨S4x4096x2624, .f32⟩
  | .hbm, ⟨11, _⟩ => ⟨S4x4096x4096, .f32⟩
  | .hbm, ⟨12, _⟩ => ⟨S_, .i32⟩
  | .hbm, ⟨13, _⟩ => ⟨S_, .f32⟩
  | .hbm, ⟨14, _⟩ => ⟨S4x4099x6144, .f32⟩
  | .hbm, ⟨15, _⟩ => ⟨S4x6144, .f32⟩
  | .hbm, ⟨16, _⟩ => ⟨S4x4096x6144, .f32⟩
  | .hbm, ⟨17, _⟩ => ⟨S1x6144, .f32⟩
  | .hbm, ⟨18, _⟩ => ⟨S6144, .f32⟩
  | .hbm, ⟨19, _⟩ => ⟨S1x1x6144, .f32⟩
  | .hbm, ⟨20, _⟩ => ⟨S4x4096x6144, .f32⟩
  | .hbm, ⟨21, _⟩ => ⟨S4x4096x6144, .f32⟩
  | .hbm, ⟨22, _⟩ => ⟨S4x4096x6144, .f32⟩
  | .hbm, ⟨23, _⟩ => ⟨S1x6144, .f32⟩
  | .hbm, ⟨24, _⟩ => ⟨S6144, .f32⟩
  | .hbm, ⟨25, _⟩ => ⟨S1x1x6144, .f32⟩
  | .hbm, ⟨26, _⟩ => ⟨S4x4096x6144, .f32⟩
  | .hbm, ⟨27, _⟩ => ⟨S4x4096x6144, .f32⟩
  | .hbm, ⟨28, _⟩ => ⟨S4x4096x6144, .f32⟩
  | .hbm, ⟨29, _⟩ => ⟨S4x4096x6144, .f32⟩
  | .hbm, ⟨30, _⟩ => ⟨S1x6144, .f32⟩
  | .hbm, ⟨31, _⟩ => ⟨S6144, .f32⟩
  | .hbm, ⟨32, _⟩ => ⟨S1x1x6144, .f32⟩
  | .hbm, ⟨33, _⟩ => ⟨S4x4096x6144, .f32⟩
  | .hbm, ⟨34, _⟩ => ⟨S4x4096x6144, .f32⟩
  | .hbm, ⟨35, _⟩ => ⟨S4x4096x6144, .f32⟩
  | .hbm, ⟨36, _⟩ => ⟨S4x4096x6144, .f32⟩
  | .hbm, ⟨37, _⟩ => ⟨S1x6144, .f32⟩
  | .hbm, ⟨38, _⟩ => ⟨S6144, .f32⟩
  | .hbm, ⟨39, _⟩ => ⟨S1x1x6144, .f32⟩
  | .hbm, ⟨40, _⟩ => ⟨S4x4096x6144, .f32⟩
  | .hbm, ⟨41, _⟩ => ⟨S4x4096x6144, .f32⟩
  | .hbm, ⟨42, _⟩ => ⟨S4x4096x6144, .f32⟩
  | .hbm, ⟨43, _⟩ => ⟨S6144, .f32⟩
  | .hbm, ⟨44, _⟩ => ⟨S1x1x6144, .f32⟩
  | .hbm, ⟨45, _⟩ => ⟨S4x4096x6144, .f32⟩
  | .hbm, ⟨46, _⟩ => ⟨S4x4096x6144, .f32⟩
  | .hbm, ⟨47, _⟩ => ⟨S4x4096x192, .f32⟩
  | .hbm, ⟨48, _⟩ => ⟨S_, .i32⟩
  | .hbm, ⟨49, _⟩ => ⟨S_, .f32⟩
  | .hbm, ⟨50, _⟩ => ⟨S4x4096x448, .f32⟩
  | .hbm, ⟨51, _⟩ => ⟨S4x4096x4096, .f32⟩
  | .hbm, ⟨52, _⟩ => ⟨S4x4096x4096, .f32⟩
  | .hbm, ⟨53, _⟩ => ⟨S_, .f32⟩
  | .hbm, ⟨54, _⟩ => ⟨S4x4096x4096, .f32⟩
  | .hbm, ⟨55, _⟩ => ⟨S4x4096x4096, .f32⟩
  | .hbm, ⟨56, _⟩ => ⟨S_, .f32⟩
  | .hbm, ⟨57, _⟩ => ⟨S4x4096x4096, .f32⟩
  | .hbm, ⟨58, _⟩ => ⟨S4x4096x4096, .f32⟩
  | .hbm, ⟨59, _⟩ => ⟨S4x4096x4096, .f32⟩
  | .hbm, ⟨60, _⟩ => ⟨S4x4096x6144, .f32⟩
  | .hbm, ⟨61, _⟩ => ⟨S4x4096x6144, .f32⟩
  | .hbm, ⟨62, _⟩ => ⟨S_, .f32⟩
  | .hbm, ⟨63, _⟩ => ⟨S4x4096x6144, .f32⟩
  | .hbm, ⟨64, _⟩ => ⟨S4x4096x6144, .f32⟩
  | .hbm, ⟨65, _⟩ => ⟨S_, .f32⟩
  | .hbm, ⟨66, _⟩ => ⟨S4x4096x6144, .f32⟩
  | .hbm, ⟨67, _⟩ => ⟨S4x4096x6144, .f32⟩
  | .hbm, ⟨68, _⟩ => ⟨S4x4096x6144, .f32⟩
  | .hbm, ⟨69, _⟩ => ⟨S4x4096x4096, .f32⟩
  | .hbm, ⟨70, _⟩ => ⟨S4x4096x4096, .f32⟩
  | .hbm, ⟨71, _⟩ => ⟨S_, .f32⟩
  | .hbm, ⟨72, _⟩ => ⟨S4x4096x4096, .f32⟩
  | .hbm, ⟨73, _⟩ => ⟨S4x4096x4096, .f32⟩
  | .hbm, ⟨74, _⟩ => ⟨S_, .f32⟩
  | .hbm, ⟨75, _⟩ => ⟨S4x4096x4096, .f32⟩
  | .hbm, ⟨76, _⟩ => ⟨S4x4096x4096, .f32⟩
  | .hbm, ⟨77, _⟩ => ⟨S4x4096x17408, .f32⟩
  | .hbm, ⟨78, _⟩ => ⟨S16384x17408, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_c_0 : Ref sig .tc := ⟨.hbm, 48, rfl⟩
abbrev main_call1_v0 : Ref sig .tc := ⟨.hbm, 49, rfl⟩
abbrev main_v42 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v43 : Ref sig .tc := ⟨.hbm, 59, rfl⟩
abbrev main_call3_v0 : Ref sig .tc := ⟨.hbm, 60, rfl⟩
abbrev main_call3_v1 : Ref sig .tc := ⟨.hbm, 61, rfl⟩
abbrev main_call3_cst : Ref sig .tc := ⟨.hbm, 62, rfl⟩
abbrev main_call3_v2 : Ref sig .tc := ⟨.hbm, 63, rfl⟩
abbrev main_call3_v3 : Ref sig .tc := ⟨.hbm, 64, rfl⟩
abbrev main_call3_cst_0 : Ref sig .tc := ⟨.hbm, 65, rfl⟩
abbrev main_call3_v4 : Ref sig .tc := ⟨.hbm, 66, rfl⟩
abbrev main_call3_v5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst : Ref sig .tc := ⟨.hbm, 71, rfl⟩
abbrev main_v47 : Ref sig .tc := ⟨.hbm, 72, rfl⟩
abbrev main_v48 : Ref sig .tc := ⟨.hbm, 73, rfl⟩
abbrev main_cst_1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩

abbrev nD : Nat := 1
abbrev τ : Topo := Topo.v7x

variable {F : FTy → Type} [FloatOps F]
-- ==== Norm.lean ====
abbrev S4x4096x2048 : Shape := ⟨3, ![4, 4096, 2048]⟩
abbrev S1x2048 : Shape := ⟨2, ![1, 2048]⟩
abbrev S16384x2048 : Shape := ⟨2, ![16384, 2048]⟩
abbrev S2048 : Shape := ⟨1, ![2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S16384x2048, .f32⟩
  | .hbm, ⟨3, _⟩ => ⟨S2048, .f32⟩
  | .hbm, ⟨4, _⟩ => ⟨S1x2048, .f32⟩
  | .hbm, ⟨5, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4x4096x2048 : Shape := ⟨3, ![4, 4096, 2048]⟩
abbrev S1x2048 : Shape := ⟨2, ![1, 2048]⟩
abbrev S_ : Shape := ⟨0, ![]⟩
abbrev S4x4096 : Shape := ⟨2, ![4, 4096]⟩
abbrev S4x4096x1 : Shape := ⟨3, ![4, 4096, 1]⟩
abbrev S2048 : Shape := ⟨1, ![2048]⟩
abbrev S1x1x2048 : Shape := ⟨3, ![1, 1, 2048]⟩
abbrev S16384x2048 : Shape := ⟨2, ![16384, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S4x4096x2048, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | .hbm, ⟨19, _⟩ => ⟨S16384x2048, .f32⟩
  | .hbm, ⟨20, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Ssd.lean ====
abbrev S16384x17408 : Shape := ⟨2, ![16384, 17408]⟩
abbrev S1x64 : Shape := ⟨2, ![1, 64]⟩
abbrev S1x4096 : Shape := ⟨2, ![1, 4096]⟩
abbrev S64 : Shape := ⟨1, ![64]⟩
abbrev S_ : Shape := ⟨0, ![]⟩
abbrev S1x128 : Shape := ⟨2, ![1, 128]⟩
abbrev S64x64 : Shape := ⟨2, ![64, 64]⟩
abbrev S4096 : Shape := ⟨1, ![4096]⟩
abbrev S4x64x64x64 : Shape := ⟨4, ![4, 64, 64, 64]⟩
abbrev S256x4096 : Shape := ⟨2, ![256, 4096]⟩
abbrev S16384x4096 : Shape := ⟨2, ![16384, 4096]⟩
abbrev S256x2048 : Shape := ⟨2, ![256, 2048]⟩
abbrev S256x128 : Shape := ⟨2, ![256, 128]⟩
abbrev S8x128x512 : Shape := ⟨3, ![8, 128, 512]⟩
abbrev S128x128 : Shape := ⟨2, ![128, 128]⟩
abbrev S128x256 : Shape := ⟨2, ![128, 256]⟩
abbrev S256x256 : Shape := ⟨2, ![256, 256]⟩
abbrev S256x512 : Shape := ⟨2, ![256, 512]⟩
abbrev S128x512 : Shape := ⟨2, ![128, 512]⟩
abbrev S1x512 : Shape := ⟨2, ![1, 512]⟩
abbrev S128x4096 : Shape := ⟨2, ![128, 4096]⟩
abbrev S128x2048 : Shape := ⟨2, ![128, 2048]⟩
abbrev S128x1 : Shape := ⟨2, ![128, 1]⟩
abbrev S1x128x512 : Shape := ⟨3, ![1, 128, 512]⟩
abbrev S128 : Shape := ⟨1, ![128]⟩

abbrev nBuf : Space → Nat
  | .hbm => 39
  | .vmem => 16
  | .smem => 0
  | _ => 0

abbrev bufTy : (tb : Table) → Fin (tcTables nBuf tb) → BufTy
  | .hbm, ⟨0, _⟩ => ⟨S16384x17408, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x4096, .f32⟩
  | .hbm, ⟨5, _⟩ => ⟨S64, .f32⟩
  | .hbm, ⟨6, _⟩ => ⟨S1x64, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S64, .f32⟩
  | .hbm, ⟨18, _⟩ => ⟨S64x64, .f32⟩
  | .hbm, ⟨19, _⟩ => ⟨S4096, .f32⟩
  | .hbm, ⟨20, _⟩ => ⟨S1x4096, .f32⟩
  | .hbm, ⟨21, _⟩ => ⟨S4096, .f32⟩
  | .hbm, ⟨22, _⟩ => ⟨S1x4096, .f32⟩
  | .hbm, ⟨23, _⟩ => ⟨S4x64x64x64, .i32⟩
  | .hbm, ⟨24, _⟩ => ⟨S4x64x64x64, .i32⟩
  | .hbm, ⟨25, _⟩ => ⟨S4x64x64x64, .i32⟩
  | .hbm, ⟨26, _⟩ => ⟨S4x64x64x64, .i1⟩
  | .hbm, ⟨27, _⟩ => ⟨S_, .i32⟩
  | .hbm, ⟨28, _⟩ => ⟨S4x64x64x64, .i32⟩
  | .hbm, ⟨29, _⟩ => ⟨S4x64x64x64, .i1⟩
  | .hbm, ⟨30, _⟩ => ⟨S4x64x64x64, .i1⟩
  | .hbm, ⟨31, _⟩ => ⟨S_, .f32⟩
  | .hbm, ⟨32, _⟩ => ⟨S_, .f32⟩
  | .hbm, ⟨33, _⟩ => ⟨S4x64x64x64, .f32⟩
  | .hbm, ⟨34, _⟩ => ⟨S4x64x64x64, .f32⟩
  | .hbm, ⟨35, _⟩ => ⟨S4x64x64x64, .f32⟩
  | .hbm, ⟨36, _⟩ => ⟨S256x4096, .f32⟩
  | .hbm, ⟨37, _⟩ => ⟨S256x4096, .bf16⟩
  | .hbm, ⟨38, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S256x4096, .bf16⟩
  | .local _ .vmem, ⟨11, _⟩ => ⟨S1x4096, .f32⟩
  | .local _ .vmem, ⟨12, _⟩ => ⟨S1x4096, .f32⟩
  | .local _ .vmem, ⟨13, _⟩ => ⟨S256x4096, .bf16⟩
  | .local _ .vmem, ⟨14, _⟩ => ⟨S256x4096, .bf16⟩
  | .local _ .vmem, ⟨15, _⟩ => ⟨S8x128x512, .f32⟩
  | _, _ => ⟨S16384x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_cst_2 : Ref sig .tc := ⟨.hbm, 32, rfl⟩
abbrev main_call2_v0 : Ref sig .tc := ⟨.hbm, 33, rfl⟩
abbrev main_call2_v1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c80_i32 : BitVec 32 := 80#32
  let c0_i32 : BitVec 32 := 0#32
  ![v1.toNat, c80_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SsdIdeal.lean ====
variable {F : FTy → Type} [FloatOps F] [Named F]
def κ : String → Option EReal := fun
  | "ssd_log2e" => some (((Real.log 2)⁻¹ : ℝ) : EReal)
  | _ => none
-- ==== SsdReferenceIdeal.lean ====
abbrev S16384x17408 : Shape := ⟨2, ![16384, 17408]⟩
abbrev S1x64 : Shape := ⟨2, ![1, 64]⟩
abbrev S1x4096 : Shape := ⟨2, ![1, 4096]⟩
abbrev S4x4096x17408 : Shape := ⟨3, ![4, 4096, 17408]⟩
abbrev S4x4096x4096 : Shape := ⟨3, ![4, 4096, 4096]⟩
abbrev S4x4096x1024 : Shape := ⟨3, ![4, 4096, 1024]⟩
abbrev S4x4096x64 : Shape := ⟨3, ![4, 4096, 64]⟩
abbrev S64 : Shape := ⟨1, ![64]⟩
abbrev S1x1x64 : Shape := ⟨3, ![1, 1, 64]⟩
abbrev S_ : Shape := ⟨0, ![]⟩
abbrev S4x4096x64x64 : Shape := ⟨4, ![4, 4096, 64, 64]⟩
abbrev S4x4096x64x1 : Shape := ⟨4, ![4, 4096, 64, 1]⟩
abbrev S4x32x128x8x8x64 : Shape := ⟨6, ![4, 32, 128, 8, 8, 64]⟩
abbrev S4x32x128x8x8 : Shape := ⟨5, ![4, 32, 128, 8, 8]⟩
abbrev S4x8x8x32x128 : Shape := ⟨5, ![4, 8, 8, 32, 128]⟩
abbrev S4x32x128x8x128 : Shape := ⟨5, ![4, 32, 128, 8, 128]⟩
abbrev S128x128 : Shape := ⟨2, ![128, 128]⟩
abbrev S4x8x8x32x128x1 : Shape := ⟨6, ![4, 8, 8, 32, 128, 1]⟩
abbrev S4x8x8x32x1x128 : Shape := ⟨6, ![4, 8, 8, 32, 1, 128]⟩
abbrev S4x8x8x32x128x128 : Shape := ⟨6, ![4, 8, 8, 32, 128, 128]⟩
abbrev S4x32x8x128x128 : Shape := ⟨5, ![4, 32, 8, 128, 128]⟩
abbrev S4x8x32x128x128 : Shape := ⟨5, ![4, 8, 32, 128, 128]⟩
abbrev S4x8x1x32x128x128 : Shape := ⟨6, ![4, 8, 1, 32, 128, 128]⟩
abbrev S4x32x8x8x64x128 : Shape := ⟨6, ![4, 32, 8, 8, 64, 128]⟩
abbrev S4x8x8x32x1 : Shape := ⟨5, ![4, 8, 8, 32, 1]⟩
abbrev S4x32x128x8x8x1 : Shape := ⟨6, ![4, 32, 128, 8, 8, 1]⟩
abbrev S32x4x8x8x64x128 : Shape := ⟨6, ![32, 4, 8, 8, 64, 128]⟩
abbrev S4x8x8x32 : Shape := ⟨4, ![4, 8, 8, 32]⟩
abbrev S32x4x8x8 : Shape := ⟨4, ![32, 4, 8, 8]⟩
abbrev S4x8x8x64x128 : Shape := ⟨5, ![4, 8, 8, 64, 128]⟩
abbrev S1x4x8x8x64x128 : Shape := ⟨6, ![1, 4, 8, 8, 64, 128]⟩
abbrev S1x4x8x8 : Shape := ⟨4, ![1, 4, 8, 8]⟩
abbrev S4x8x8 : Shape := ⟨3, ![4, 8, 8]⟩
abbrev S4x8x8x1x1 : Shape := ⟨5, ![4, 8, 8, 1, 1]⟩
abbrev S64x1 : Shape := ⟨2, ![64, 1]⟩
abbrev S1x1x64x1 : Shape := ⟨4, ![1, 1, 64, 1]⟩
abbrev S4x4096x8x512 : Shape := ⟨4, ![4, 4096, 8, 512]⟩
abbrev S4x4096x8 : Shape := ⟨3, ![4, 4096, 8]⟩
abbrev S4x4096x8x1 : Shape := ⟨4, ![4, 4096, 8, 1]⟩
abbrev S4096 : Shape := ⟨1, ![4096]⟩
abbrev S1x1x4096 : Shape := ⟨3, ![1, 1, 4096]⟩
abbrev S16384x4096 : Shape := ⟨2, ![16384, 4096]⟩

abbrev nBuf : Space → Nat
  | .hbm => 164
  | .vmem => 0
  | .smem => 0
  | _ => 0

abbrev hbmTy0_0 (i : Nat) : BufTy := match i % 128 with
  | 0 => ⟨S16384x17408, .f32⟩
  | 1 => ⟨S1x64, .f32⟩
  | 2 => ⟨S1x64, .f32⟩
  | 3 => ⟨S1x64, .f32⟩
  | 4 => ⟨S1x4096, .f32⟩
  | 5 => ⟨S4x4096x17408, .f32⟩
  | 6 => ⟨S4x4096x4096, .f32⟩
  | 7 => ⟨S4x4096x4096, .f32⟩
  | 8 => ⟨S4x4096x1024, .f32⟩
  | 9 => ⟨S4x4096x1024, .f32⟩
  | 10 => ⟨S4x4096x64, .f32⟩
  | 11 => ⟨S64, .f32⟩
  | 12 => ⟨S1x1x64, .f32⟩
  | 13 => ⟨S4x4096x64, .f32⟩
  | 14 => ⟨S4x4096x64, .f32⟩
  | 15 => ⟨S_, .f32⟩
  | 16 => ⟨S4x4096x64, .f32⟩
  | 17 => ⟨S4x4096x64, .f32⟩
  | 18 => ⟨S4x4096x64, .f32⟩
  | 19 => ⟨S4x4096x64, .f32⟩
  | 20 => ⟨S4x4096x64, .i1⟩
  | 21 => ⟨S4x4096x64, .f32⟩
  | 22 => ⟨S4x4096x64, .f32⟩
  | 23 => ⟨S4x4096x64, .f32⟩
  | 24 => ⟨S4x4096x64, .f32⟩
  | 25 => ⟨S4x4096x64, .f32⟩
  | 26 => ⟨S4x4096x64, .f32⟩
  | 27 => ⟨S4x4096x64, .f32⟩
  | 28 => ⟨S4x4096x64, .f32⟩
  | 29 => ⟨S64, .f32⟩
  | 30 => ⟨S64, .f32⟩
  | 31 => ⟨S64, .f32⟩
  | 32 => ⟨S4x4096x64x64, .f32⟩
  | 33 => ⟨S4x4096x64x1, .f32⟩
  | 34 => ⟨S4x4096x64x64, .f32⟩
  | 35 => ⟨S4x4096x64x64, .f32⟩
  | 36 => ⟨S4x32x128x8x8x64, .f32⟩
  | 37 => ⟨S1x1x64, .f32⟩
  | 38 => ⟨S4x4096x64, .f32⟩
  | 39 => ⟨S4x4096x64, .f32⟩
  | 40 => ⟨S4x32x128x8x8, .f32⟩
  | 41 => ⟨S4x8x8x32x128, .f32⟩
  | 42 => ⟨S4x32x128x8x128, .f32⟩
  | 43 => ⟨S4x32x128x8x128, .f32⟩
  | 44 => ⟨S_, .f32⟩
  | 45 => ⟨S_, .f32⟩
  | 46 => ⟨S4x8x8x32x128, .f32⟩
  | 47 => ⟨S_, .i1⟩
  | 48 => ⟨S128x128, .i1⟩
  | 49 => ⟨S128x128, .i32⟩
  | 50 => ⟨S_, .i32⟩
  | 51 => ⟨S128x128, .i32⟩
  | 52 => ⟨S128x128, .i32⟩
  | 53 => ⟨S128x128, .i32⟩
  | 54 => ⟨S128x128, .i1⟩
  | 55 => ⟨S_, .i1⟩
  | 56 => ⟨S128x128, .i1⟩
  | 57 => ⟨S128x128, .i1⟩
  | 58 => ⟨S4x8x8x32x128x1, .f32⟩
  | 59 => ⟨S4x8x8x32x1x128, .f32⟩
  | 60 => ⟨S4x8x8x32x128x128, .f32⟩
  | 61 => ⟨S4x8x8x32x128x128, .f32⟩
  | 62 => ⟨S4x8x8x32x128x128, .f32⟩
  | 63 => ⟨S_, .f32⟩
  | 64 => ⟨S_, .f32⟩
  | 65 => ⟨S4x8x8x32x128x128, .i1⟩
  | 66 => ⟨S4x8x8x32x128x128, .f32⟩
  | 67 => ⟨S4x8x8x32x128x128, .f32⟩
  | 68 => ⟨S4x8x8x32x128x128, .f32⟩
  | 69 => ⟨S4x32x8x128x128, .f32⟩
  | 70 => ⟨S4x8x32x128x128, .f32⟩
  | 71 => ⟨S4x8x1x32x128x128, .f32⟩
  | 72 => ⟨S4x8x8x32x128x128, .f32⟩
  | 73 => ⟨S4x8x8x32x128x128, .f32⟩
  | 74 => ⟨S4x32x8x8x64x128, .f32⟩
  | 75 => ⟨S4x32x128x8x8x64, .f32⟩
  | 76 => ⟨S4x8x8x32x1, .f32⟩
  | 77 => ⟨S4x8x8x32x128, .f32⟩
  | 78 => ⟨S4x8x8x32x128, .f32⟩
  | 79 => ⟨S4x8x8x32x128, .f32⟩
  | 80 => ⟨S4x32x128x8x8, .f32⟩
  | 81 => ⟨S4x32x128x8x8x1, .f32⟩
  | 82 => ⟨S4x32x128x8x8x64, .f32⟩
  | 83 => ⟨S4x32x128x8x8x64, .f32⟩
  | 84 => ⟨S32x4x8x8x64x128, .f32⟩
  | 85 => ⟨S4x8x8x32x1, .f32⟩
  | 86 => ⟨S4x8x8x32, .f32⟩
  | 87 => ⟨S4x8x8x32, .f32⟩
  | 88 => ⟨S32x4x8x8, .f32⟩
  | 89 => ⟨S_, .f32⟩
  | 90 => ⟨S4x8x8x64x128, .f32⟩
  | 91 => ⟨S_, .f32⟩
  | 92 => ⟨S32x4x8x8x64x128, .f32⟩
  | 93 => ⟨S_, .i32⟩
  | 94 => ⟨S32x4x8x8x64x128, .f32⟩
  | 95 => ⟨S32x4x8x8, .f32⟩
  | 96 => ⟨S_, .i32⟩
  | 97 => ⟨S4x8x8x64x128, .f32⟩
  | 98 => ⟨S32x4x8x8x64x128, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S1x4x8x8x64x128, .f32⟩
  | 107 => ⟨S4x8x8x64x128, .f32⟩
  | 108 => ⟨S_, .i32⟩
  | 109 => ⟨S_, .i32⟩
  | 110 => ⟨S_, .i32⟩
  | 111 => ⟨S1x4x8x8, .f32⟩
  | 112 => ⟨S4x8x8, .f32⟩
  | 113 => ⟨S4x8x8x1x1, .f32⟩
  | 114 => ⟨S4x8x8x64x128, .f32⟩
  | 115 => ⟨S4x8x8x64x128, .f32⟩
  | 116 => ⟨S4x8x8x64x128, .f32⟩
  | 117 => ⟨S1x4x8x8x64x128, .f32⟩
  | 118 => ⟨S_, .i32⟩
  | 119 => ⟨S_, .i32⟩
  | 120 => ⟨S_, .i32⟩
  | 121 => ⟨S_, .i32⟩
  | 122 => ⟨S_, .i32⟩
  | 123 => ⟨S32x4x8x8x64x128, .f32⟩
  | 124 => ⟨S_, .i32⟩
  | 125 => ⟨S_, .i32⟩
  | 126 => ⟨S4x32x8x8x64x128, .f32⟩
  | 127 => ⟨S4x32x128x8x8x64, .f32⟩
  | _ => ⟨S16384x17408, .f32⟩

abbrev hbmTy0_1 (i : Nat) : BufTy := match i % 128 with
  | 0 => ⟨S4x8x8x32x128, .f32⟩
  | 1 => ⟨S4x32x128x8x8, .f32⟩
  | 2 => ⟨S4x32x128x8x8x1, .f32⟩
  | 3 => ⟨S4x32x128x8x8x64, .f32⟩
  | 4 => ⟨S4x32x128x8x8x64, .f32⟩
  | 5 => ⟨S4x32x128x8x8x64, .f32⟩
  | 6 => ⟨S4x4096x64x64, .f32⟩
  | 7 => ⟨S64, .f32⟩
  | 8 => ⟨S64x1, .f32⟩
  | 9 => ⟨S1x1x64x1, .f32⟩
  | 10 => ⟨S4x4096x64x64, .f32⟩
  | 11 => ⟨S4x4096x64x64, .f32⟩
  | 12 => ⟨S4x4096x64x64, .f32⟩
  | 13 => ⟨S4x4096x8x512, .f32⟩
  | 14 => ⟨S4x4096x8x512, .f32⟩
  | 15 => ⟨S4x4096x8x512, .f32⟩
  | 16 => ⟨S4x4096x8x512, .f32⟩
  | 17 => ⟨S_, .f32⟩
  | 18 => ⟨S4x4096x8, .f32⟩
  | 19 => ⟨S4x4096x8x1, .f32⟩
  | 20 => ⟨S_, .f32⟩
  | 21 => ⟨S4x4096x8x1, .f32⟩
  | 22 => ⟨S4x4096x8x1, .f32⟩
  | 23 => ⟨S_, .f32⟩
  | 24 => ⟨S4x4096x8x1, .f32⟩
  | 25 => ⟨S4x4096x8x1, .f32⟩
  | 26 => ⟨S4x4096x8x1, .f32⟩
  | 27 => ⟨S4x4096x8x512, .f32⟩
  | 28 => ⟨S4x4096x8x512, .f32⟩
  | 29 => ⟨S4x4096x4096, .f32⟩
  | 30 => ⟨S4096, .f32⟩
  | 31 => ⟨S1x1x4096, .f32⟩
  | 32 => ⟨S4x4096x4096, .f32⟩
  | 33 => ⟨S4x4096x4096, .f32⟩
  | 34 => ⟨S16384x4096, .f32⟩
  | 35 => ⟨S16384x4096, .bf16⟩
  | _ => ⟨S16384x17408, .f32⟩

abbrev hbmTy (i : Nat) : BufTy := match i / 128 with
  | 0 => hbmTy0_0 i
  | 1 => hbmTy0_1 i
  | _ => ⟨S16384x17408, .f32⟩

abbrev bufTy : (tb : Table) → Fin (tcTables nBuf tb) → BufTy
  | .hbm, ⟨i, _⟩ => hbmTy i
  | _, _ => ⟨S16384x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call1_call0_cst : Ref sig .tc := ⟨.hbm, 44, rfl⟩
abbrev main_call1_call0_v0 : Ref sig .tc := ⟨.hbm, 45, rfl⟩
abbrev main_v26 : Ref sig .tc := ⟨.hbm, 46, rfl⟩
abbrev main_c : Ref sig .tc := ⟨.hbm, 47, rfl⟩
abbrev main_v27 : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_c_0 : Ref sig .tc := ⟨.hbm, 55, rfl⟩
abbrev main_call2_v5 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_0 : Ref sig .tc := ⟨.hbm, 89, rfl⟩
abbrev main_v56 : Ref sig .tc := ⟨.hbm, 90, rfl⟩
abbrev main_cst_1 : Ref sig .tc := ⟨.hbm, 91, rfl⟩
abbrev main_v57 : Ref sig .tc := ⟨.hbm, 92, rfl⟩
abbrev main_c_2 : Ref sig .tc := ⟨.hbm, 93, rfl⟩
abbrev main_v58_0 : Ref sig .tc := ⟨.hbm, 94, rfl⟩
abbrev main_v58_1 : Ref sig .tc := ⟨.hbm, 95, rfl⟩
abbrev main_v58_2 : Ref sig .tc := ⟨.hbm, 96, rfl⟩
abbrev main_v58_3 : Ref sig .tc := ⟨.hbm, 97, rfl⟩
abbrev main_v58_4 : Ref sig .tc := ⟨.hbm, 98, rfl⟩
abbrev main_while0c_c_10 : Ref sig .tc := ⟨.hbm, 99, rfl⟩
abbrev main_while0c_v94 : Ref sig .tc := ⟨.hbm, 100, rfl⟩
abbrev main_while0b_call4_c : Ref sig .tc := ⟨.hbm, 101, rfl⟩
abbrev main_while0b_call4_c_0 : Ref sig .tc := ⟨.hbm, 102, rfl⟩
abbrev main_while0b_call4_c_1 : Ref sig .tc := ⟨.hbm, 103, rfl⟩
abbrev main_while0b_call4_c_2 : Ref sig .tc := ⟨.hbm, 104, rfl⟩
abbrev main_while0b_call4_c_3 : Ref sig .tc := ⟨.hbm, 105, rfl⟩
abbrev main_while0b_call4_v0 : Ref sig .tc := ⟨.hbm, 106, rfl⟩
abbrev main_while0b_v94 : Ref sig .tc := ⟨.hbm, 107, rfl⟩
abbrev main_while0b_call5_c : Ref sig .tc := ⟨.hbm, 108, rfl⟩
abbrev main_while0b_call5_c_0 : Ref sig .tc := ⟨.hbm, 109, rfl⟩
abbrev main_while0b_call5_c_1 : Ref sig .tc := ⟨.hbm, 110, rfl⟩
abbrev main_while0b_call5_v0 : Ref sig .tc := ⟨.hbm, 111, rfl⟩
abbrev main_while0b_v95 : Ref sig .tc := ⟨.hbm, 112, rfl⟩
abbrev main_while0b_v96 : Ref sig .tc := ⟨.hbm, 113, rfl⟩
abbrev main_while0b_v97 : Ref sig .tc := ⟨.hbm, 114, rfl⟩
abbrev main_while0b_v98 : Ref sig .tc := ⟨.hbm, 115, rfl⟩
abbrev main_while0b_v99 : Ref sig .tc := ⟨.hbm, 116, rfl⟩
abbrev main_while0b_call6_v0 : Ref sig .tc := ⟨.hbm, 117, rfl⟩
abbrev main_while0b_call6_c : Ref sig .tc := ⟨.hbm, 118, rfl⟩
abbrev main_while0b_call6_c_0 : Ref sig .tc := ⟨.hbm, 119, rfl⟩
abbrev main_while0b_call6_c_1 : Ref sig .tc := ⟨.hbm, 120, rfl⟩
abbrev main_while0b_call6_c_2 : Ref sig .tc := ⟨.hbm, 121, rfl⟩
abbrev main_while0b_call6_c_3 : Ref sig .tc := ⟨.hbm, 122, rfl⟩
abbrev main_while0b_v100 : Ref sig .tc := ⟨.hbm, 123, rfl⟩
abbrev main_while0b_c_10 : Ref sig .tc := ⟨.hbm, 124, rfl⟩
abbrev main_while0b_v101 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_cst_3 : Ref sig .tc := ⟨.hbm, 145, rfl⟩
abbrev main_v78 : Ref sig .tc := ⟨.hbm, 146, rfl⟩
abbrev main_v79 : Ref sig .tc := ⟨.hbm, 147, rfl⟩
abbrev main_cst_4 : Ref sig .tc := ⟨.hbm, 148, rfl⟩
abbrev main_v80 : Ref sig .tc := ⟨.hbm, 149, rfl⟩
abbrev main_v81 : Ref sig .tc := ⟨.hbm, 150, rfl⟩
abbrev main_cst_5 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩

abbrev nD : Nat := 1
abbrev τ : Topo := Topo.v7x

variable {F : FTy → Type} [FloatOps F]

abbrev main_while0_count : Scf.Loop 32 := ⟨0#32, 32#32, 1#32⟩
-- ==== Proof.AttnHead.lean ====
/- One step of the attention call, one head at a time. The kernel writes four blocks of 512 columns, one per key head, each
   from the same operations at other offsets. `group kh` is that block, its operations written once over the key head `kh`, and
   the four stored blocks are `group 0` to `group 3`. -/
module

public import proofs.«01_k».proof.Proof.Gen.KernelIdeal.Value
public import Idealize.ShloMosaic.Lib.Pointwise
public import Idealize.ShloMosaic.Lib.VecWindow
public import Idealize.ShloMosaic.Lib.WholeRead

@[expose] public section

set_option maxRecDepth 16384

noncomputable section

namespace Cert.Attn

open Cert.KernelIdeal Cert.KernelIdeal.Gen Idealize.ShloMosaic Idealize.ShloMosaic.TcCoe

/-! ## Eight pieces of one shape -/

/-- Eight vectors of one shape laid one after another along axis `a`. -/
def cat8 {α : Type} {s : Shape} (t : Shape) (a : Fin t.rank) (f : Fin 8 → s.Idx → α)
    (h : Shape.Concatenates [s, s, s, s, s, s, s, s] t a) : t.Idx → α :=
  concatenate t a [⟨s, f 0⟩, ⟨s, f 1⟩, ⟨s, f 2⟩, ⟨s, f 3⟩, ⟨s, f 4⟩, ⟨s, f 5⟩, ⟨s, f 6⟩, ⟨s, f 7⟩] h

/-- Read at an index: piece `n` at the index with the axis coordinate taken within the piece. -/
theorem cat8_apply {α : Type} {s t : Shape} (a : Fin t.rank) (f : Fin 8 → s.Idx → α)
    (h : Shape.Concatenates [s, s, s, s, s, s, s, s] t a) (hr : s.rank = t.rank) (K : Nat) (hK : s.size (a.cast hr.symm) = K)
    (j : t.Idx) (n : Fin 8) (hn : (j a).val / K = n.val) (i : s.Idx) (hia : (i (a.cast hr.symm)).val = (j a).val % K)
    (hi : ∀ b : Fin s.rank, b.cast hr ≠ a → (i b).val = (j (b.cast hr)).val) :
    cat8 t a f h j = f n i :=
  concatenate_ofFn_apply a f h hr K hK j n hn i hia hi

/-! ## The block of one key head -/

theorem slicesK : ∀ kh : Fin 4, S256x1024.Slices ![0, 64 + 64 * kh.val] S256x64 := by decide +kernel
theorem slicesQ : ∀ (kh : Fin 4) (r : Fin 8), S2176x128.Slices ![64 + 64 * (8 * kh.val + r.val), 0] S64x128 := by decide +kernel
theorem slicesS : ∀ r : Fin 8, S256x1024.Slices ![0, 128 * r.val] S256x128 := by decide +kernel
theorem slicesV : ∀ kh : Fin 4, S384x256.Slices ![64 + 64 * kh.val, 0] S64x256 := by decide +kernel
theorem slicesO : ∀ r : Fin 8, S64x1024.Slices ![0, 128 * r.val] S64x128 := by decide +kernel

/-- The slots that hold a key of the block before: slot over query position. -/
def fromPrev : IVec S128x128 1 := cmpi .sgt (iota .tc S128x128 32 [0] iota_S128x128_d0_w32) (iota .tc S128x128 32 [1] iota_S128x128_d1_w32)

/-- The key and value columns of the block before over those of this one. -/
def rowsKV (kp kc : Vec Ideal S128x1024 .f32) : FVec Ideal S256x1024 .f32 :=
  concatenate S256x1024 0 [⟨S128x1024, kp⟩, ⟨S128x1024, kc⟩] concatenates_S128x1024_S128x1024_S256x1024_d0

/-- The slab that holds the value columns, turned over. -/
def valuesT (kp kc : Vec Ideal S128x1024 .f32) : FVec Ideal S384x256 .bf16 :=
  truncf .bf16 (transpose S384x256 [1, 0] (extractStridedSlice S256x384 ![0, 256] (rowsKV kp kc) slices_S256x1024_o0_256_S256x384)
    transposes_S256x384_p1_0_S384x256) bitsLt_bf16_f32

/-- The query columns, turned over. -/
def queriesT (q : Vec Ideal S128x2048 .f32) (qx : Vec Ideal S128x128 .f32) : FVec Ideal S2176x128 .bf16 :=
  truncf .bf16 (concatenate S2176x128 0 [⟨S2048x128, transpose S2048x128 [1, 0] q transposes_S128x2048_p1_0_S2048x128⟩,
    ⟨S128x128, transpose S128x128 [1, 0] qx transposes_S128x128_p1_0_S128x128⟩] concatenates_S2048x128_S128x128_S2176x128_d0) bitsLt_bf16_f32

/-- The scores of key head `kh`: 256 keys by 8 heads of 128 queries. -/
def scores (kh : Fin 4) (kv : FVec Ideal S256x1024 .f32) (qt : FVec Ideal S2176x128 .bf16) : FVec Ideal S256x1024 .f32 :=
  matmul dot_S256x64_S64x1024_S256x1024_1_0_0_1_n_n none
    (truncf .bf16 (extractStridedSlice S256x64 ![0, 64 + 64 * kh.val] kv (slicesK kh)) bitsLt_bf16_f32)
    (cat8 S64x1024 1 (fun r => extractStridedSlice S64x128 ![64 + 64 * (8 * kh.val + r.val), 0] qt (slicesQ kh r))
      concatenates_S64x128_S64x128_S64x128_S64x128_S64x128_S64x128_S64x128_S64x128_S64x1024_d1)
    (constant S256x1024 .f32 0x00000000#32)

/-- The logits of head `r` of the group, the band of 256 keys folded onto 128 slots, in the base-2 scale. -/
def logits (s : FVec Ideal S256x1024 .f32) (r : Fin 8) (b : Vec Ideal S1x1x128x128 .f32) : FVec Ideal S128x128 .f32 :=
  addf (mulf (select fromPrev
      (extractStridedSlice S128x128 ![0, 0] (extractStridedSlice S256x128 ![0, 128 * r.val] s (slicesS r)) slices_S256x128_o0_0_S128x128)
      (extractStridedSlice S128x128 ![128, 0] (extractStridedSlice S256x128 ![0, 128 * r.val] s (slicesS r)) slices_S256x128_o128_0_S128x128))
      (broadcast S128x128 (Named.named (F := Ideal) κ "qk_scale" (φ := .f32) 0x3E38AA3B#32)))
    (mulf (shapeCast S128x128 b shapeCasts_S1x1x128x128_S128x128)
      (broadcast S128x128 (Named.named (F := Ideal) κ "log2e" (φ := .f32) 0x3FB8AA3B#32)))

/-- The sink in the base-2 scale. -/
def sink2 (sk : Ideal .f32) : Ideal .f32 := Scalar.mulf sk (Named.named (F := Ideal) κ "log2e" (φ := .f32) 0x3FB8AA3B#32)

/-- The row maximum, the sink included. -/
def rowMax (L : FVec Ideal S128x128 .f32) (sk : Ideal .f32) : FVec Ideal S1x128 .f32 :=
  maximumf (shapeCast S1x128 (multiReduction .maximumf [0] S128 L 0xFF800000#32 reduces_S128x128_S128 (.inl rfl) rfl) shapeCasts_S128_S1x128)
    (broadcast S1x128 (sink2 sk))

/-- The weights before the division. -/
def weights (L : FVec Ideal S128x128 .f32) (sk : Ideal .f32) : FVec Ideal S128x128 .f32 :=
  exp2 (subf L (broadcastTo S128x128 (rowMax L sk) broadcasts_S1x128_S128x128))

/-- The denominators. -/
def denom (L : FVec Ideal S128x128 .f32) (sk : Ideal .f32) : FVec Ideal S1x128 .f32 :=
  addf (shapeCast S1x128 (multiReduction .add [0] S128 (weights L sk) 0x00000000#32 reduces_S128x128_S128 (.inl rfl) rfl) shapeCasts_S128_S1x128)
    (exp2 (subf (broadcast S1x128 (sink2 sk)) (rowMax L sk)))

/-- The weights of the keys of the block before. -/
def prevPart (L : FVec Ideal S128x128 .f32) (sk : Ideal .f32) : FVec Ideal S128x128 .bf16 :=
  truncf .bf16 (select fromPrev (weights L sk) (broadcast S128x128 (Scalar.ofBits (F := Ideal) .f32 0x00000000#32))) bitsLt_bf16_f32

/-- The weights of the keys of this block. -/
def curPart (L : FVec Ideal S128x128 .f32) (sk : Ideal .f32) : FVec Ideal S128x128 .bf16 :=
  truncf .bf16 (select fromPrev (broadcast S128x128 (Scalar.ofBits (F := Ideal) .f32 0x00000000#32)) (weights L sk)) bitsLt_bf16_f32

/-- The weighted values of the eight heads, not yet divided. -/
def mixed (kh : Fin 4) (vt : FVec Ideal S384x256 .bf16) (L : Fin 8 → FVec Ideal S128x128 .f32) (sk : Fin 8 → Ideal .f32) :
    FVec Ideal S64x1024 .f32 :=
  matmul dot_S64x256_S256x1024_S64x1024_1_0_0_1_n_n none
    (extractStridedSlice S64x256 ![64 + 64 * kh.val, 0] vt (slicesV kh))
    (concatenate S256x1024 0
      [⟨S128x1024, cat8 S128x1024 1 (fun r => prevPart (L r) (sk r))
          concatenates_S128x128_S128x128_S128x128_S128x128_S128x128_S128x128_S128x128_S128x128_S128x1024_d1⟩,
        ⟨S128x1024, cat8 S128x1024 1 (fun r => curPart (L r) (sk r))
          concatenates_S128x128_S128x128_S128x128_S128x128_S128x128_S128x128_S128x128_S128x128_S128x1024_d1⟩]
      concatenates_S128x1024_S128x1024_S256x1024_d0)
    (constant S64x1024 .f32 0x00000000#32)

/-- The stored block: the eight heads divided, one under another, and turned over. -/
def divided (o : FVec Ideal S64x1024 .f32) (den : Fin 8 → FVec Ideal S1x128 .f32) : FVec Ideal S128x512 .bf16 :=
  truncf .bf16
    (transpose S128x512 [1, 0]
      (cat8 S512x128 0
        (fun r => divf (extractStridedSlice S64x128 ![0, 128 * r.val] o (slicesO r)) (broadcastTo S64x128 (den r) broadcasts_S1x128_S64x128))
        concatenates_S64x128_S64x128_S64x128_S64x128_S64x128_S64x128_S64x128_S64x128_S512x128_d0)
      transposes_S512x128_p1_0_S128x512) bitsLt_bf16_f32

/-- Everything the block of key head `kh` is made of: `kp kc` the key and value columns of the block before and of this one,
`q qx` the query columns, `b` the eight bias tiles, `sk` the eight sinks. -/
def group (kh : Fin 4) (kp kc : Vec Ideal S128x1024 .f32) (q : Vec Ideal S128x2048 .f32) (qx : Vec Ideal S128x128 .f32)
    (b : Fin 8 → Vec Ideal S1x1x128x128 .f32) (sk : Fin 8 → Ideal .f32) : FVec Ideal S128x512 .bf16 :=
  divided (mixed kh (valuesT kp kc) (fun r => logits (scores kh (rowsKV kp kc) (queriesT q qx)) r (b r)) sk)
    (fun r => denom (logits (scores kh (rowsKV kp kc) (queriesT q qx)) r (b r)) (sk r))

theorem group_congr (kh : Fin 4) {kp kp' kc kc' : Vec Ideal S128x1024 .f32} {q q' : Vec Ideal S128x2048 .f32} {qx qx' : Vec Ideal S128x128 .f32}
    {b b' : Fin 8 → Vec Ideal S1x1x128x128 .f32} {sk sk' : Fin 8 → Ideal .f32} (e1 : kp = kp') (e2 : kc = kc') (e3 : q = q') (e4 : qx = qx')
    (e5 : b = b') (e6 : sk = sk') : group kh kp kc q qx b sk = group kh kp' kc' q' qx' b' sk' := by
  subst e1 e2 e3 e4 e5 e6; rfl

/-! ## The loads -/

theorem inbBias : ∀ (h : Fin 32) (a : Fin S1x32x128x128.rank), (![0, h.val, 0, 0] : Fin 4 → Nat) a + S1x1x128x128.size a ≤ S1x32x128x128.size a := by
  decide +kernel
theorem inbSink : ∀ (h : Fin 32) (a : Fin S32.rank), (![h.val] : Fin 1 → Nat) a + S1.size a ≤ S32.size a := by
  decide +kernel

/-- The bias tile of head `h`. -/
def tileOf (x5 : Vec Ideal S1x32x128x128 .f32) (h : Fin 32) : Vec Ideal S1x1x128x128 .f32 :=
  fun x => x5 ((Rect.unit (s := S1x32x128x128) ![0, h.val, 0, 0] S1x1x128x128.size (inbBias h)).toLoadRect.idx x)

section
variable (c : Dev nD) (arg2 : Memref sig .tc .smem S32 .f32) (harg2 : arg2.IsWhole) (arg3 : Memref sig .tc .vmem S128x2048 .f32) (harg3 : arg3.IsWhole)
  (arg4 : Memref sig .tc .vmem S128x128 .f32) (harg4 : arg4.IsWhole) (arg5 : Memref sig .tc .vmem S128x1024 .f32) (harg5 : arg5.IsWhole)
  (arg6 : Memref sig .tc .vmem S128x1024 .f32) (harg6 : arg6.IsWhole) (arg7 : Memref sig .tc .vmem S1x32x128x128 .f32) (harg7 : arg7.IsWhole)
  (x0 : Vec Ideal S32 .f32) (x1 : Vec Ideal S128x2048 .f32) (x2 : Vec Ideal S128x128 .f32) (x3 x4 : Vec Ideal S128x1024 .f32)
  (x5 : Vec Ideal S1x32x128x128 .f32)

/-- The block of key head `kh` over what the program loads from its buffers. -/
def loaded (kh : Fin 4) : FVec Ideal S128x512 .bf16 :=
  group kh
    (View.readAt (Elt Ideal) arg5.view (Rect.unit (s := S128x1024) ![0, 0] S128x1024.size inb_S128x1024_S128x1024_0_0).toLoadRect (harg5.unread x3))
    (View.readAt (Elt Ideal) arg6.view (Rect.unit (s := S128x1024) ![0, 0] S128x1024.size inb_S128x1024_S128x1024_0_0).toLoadRect (harg6.unread x4))
    (View.readAt (Elt Ideal) arg3.view (Rect.unit (s := S128x2048) ![0, 0] S128x2048.size inb_S128x2048_S128x2048_0_0).toLoadRect (harg3.unread x1))
    (View.readAt (Elt Ideal) arg4.view (Rect.unit (s := S128x128) ![0, 0] S128x128.size inb_S128x128_S128x128_0_0).toLoadRect (harg4.unread x2))
    (fun r => View.readAt (Elt Ideal) arg7.view (Rect.unit (s := S1x32x128x128) ![0, 8 * kh.val + r.val, 0, 0] S1x1x128x128.size
      (inbBias ⟨8 * kh.val + r.val, by omega⟩)).toLoadRect (harg7.unread x5))
    (fun r => View.readAt (Elt Ideal) arg2.view (Rect.unit (s := S32) ![8 * kh.val + r.val] S1.size
      (inbSink ⟨8 * kh.val + r.val, by omega⟩)).toLoadRect (harg2.unread x0) (Shape.Idx.first (s := S1) (by decide)))

/-- What one step leaves in the output's buffer, as its four stored blocks. -/
theorem out_pieces (i : grid0.Coords) (arg8 : Memref sig .tc .vmem S128x2048 .bf16) (harg8 : arg8.IsWhole) :
    out0_A_6 c i arg2 harg2 arg3 harg3 arg4 harg4 arg5 harg5 arg6 harg6 arg7 harg7 arg8 harg8 x0 x1 x2 x3 x4 x5
    = View.canon
      [⟨Rect.unit (s := S128x2048) ![0, 1536] S128x512.size inb_S128x2048_S128x512_0_1536,
          loaded arg2 harg2 arg3 harg3 arg4 harg4 arg5 harg5 arg6 harg6 arg7 harg7 x0 x1 x2 x3 x4 x5 3⟩,
        ⟨Rect.unit (s := S128x2048) ![0, 1024] S128x512.size inb_S128x2048_S128x512_0_1024,
          loaded arg2 harg2 arg3 harg3 arg4 harg4 arg5 harg5 arg6 harg6 arg7 harg7 x0 x1 x2 x3 x4 x5 2⟩,
        ⟨Rect.unit (s := S128x2048) ![0, 512] S128x512.size inb_S128x2048_S128x512_0_512,
          loaded arg2 harg2 arg3 harg3 arg4 harg4 arg5 harg5 arg6 harg6 arg7 harg7 x0 x1 x2 x3 x4 x5 1⟩,
        ⟨Rect.unit (s := S128x2048) ![0, 0] S128x512.size inb_S128x2048_S128x512_0_0,
          loaded arg2 harg2 arg3 harg3 arg4 harg4 arg5 harg5 arg6 harg6 arg7 harg7 x0 x1 x2 x3 x4 x5 0⟩] :=
  (View.read_writes_eq_canon _ _ _
    (cover0_A_6 c i arg2 harg2 arg3 harg3 arg4 harg4 arg5 harg5 arg6 harg6 arg7 harg7 arg8 harg8 x0 x1 x2 x3 x4 x5)).trans rfl

/-- The loads read the buffers' contents. -/
theorem loaded_eq (kh : Fin 4) :
    loaded arg2 harg2 arg3 harg3 arg4 harg4 arg5 harg5 arg6 harg6 arg7 harg7 x0 x1 x2 x3 x4 x5 kh
    = group kh x3 x4 x1 x2 (fun r => tileOf x5 ⟨8 * kh.val + r.val, by omega⟩) (fun r => x0 (ix1 ⟨8 * kh.val + r.val, by omega⟩)) := by
  exact group_congr kh ((View.readAt_full _ _ _).trans (harg5.read_unread x3)) ((View.readAt_full _ _ _).trans (harg6.read_unread x4))
    ((View.readAt_full _ _ _).trans (harg3.read_unread x1)) ((View.readAt_full _ _ _).trans (harg4.read_unread x2))
    (funext fun r => funext fun x => harg7.readAt_unread x5 _ x)
    (funext fun r => (harg2.readAt_unread x0 _ _).trans (congrArg x0 (by
      refine funext fun a => Fin.ext ?_
      obtain rfl : a = 0 := Subsingleton.elim _ _
      show 8 * kh.val + r.val + 1 * (0 : Nat) = _
      rfl)))

end

end Cert.Attn

end
-- ==== Proof.Consts.lean ====
/- The float literals of the programs, as extended reals. -/
module

public import Idealize.ShloMosaic.Lib.Pointwise

@[expose] public section

namespace Cert.Consts

open Idealize.ShloMosaic

theorem zero : Ideal.ofBits .f32 0x00000000#32 = 0 := by
  simp [Ideal.ofBits, Ideal.ieee, -EReal.coe_mul]

theorem negInf : Ideal.ofBits .f32 0xFF800000#32 = ⊥ := by
  simp [Ideal.ofBits, Ideal.ieee, -EReal.coe_mul]

theorem posInf : Ideal.ofBits .f32 0x7F800000#32 = ⊤ := by
  simp [Ideal.ofBits, Ideal.ieee, -EReal.coe_mul]

theorem eighth : Ideal.ofBits .f32 0x3E000000#32 = ((1 / 8 : ℝ) : EReal) := by
  simp [Ideal.ofBits, Ideal.ieee, -EReal.coe_mul]
  norm_num

end Cert.Consts

end
-- ==== Proof.AttnRead.lean ====
/- The block of one key head, read at an index: for query row `l`, head `r` and lane `d`, an expression in the entries of the
   columns, the bias tile and the sink. -/
module

public import proofs.«01_k».proof.Proof.AttnHead
public import proofs.«01_k».proof.Proof.Consts

@[expose] public section

set_option maxRecDepth 16384

noncomputable section

namespace Cert.Attn

open Cert.KernelIdeal Cert.KernelIdeal.Gen Idealize.ShloMosaic Idealize.ShloMosaic.TcCoe

/-- Entry `(i, col)` of the 256 key and value rows, the block before over this one. -/
def kvAt (kp kc : Vec Ideal S128x1024 .f32) (i : Fin 256) (col : Fin 1024) : EReal :=
  if h : i.val < 128 then kp (ix2 ⟨i.val, h⟩ col) else kc (ix2 ⟨i.val - 128, by omega⟩ col)

/-- Entry `(l, col)` of the query columns. -/
def qAt (q : Vec Ideal S128x2048 .f32) (qx : Vec Ideal S128x128 .f32) (l : Fin 128) (col : Fin 2176) : EReal :=
  if h : col.val < 2048 then q (ix2 l ⟨col.val, h⟩) else qx (ix2 l ⟨col.val - 2048, by omega⟩)

/-- Comparing the positions as 32-bit numbers is comparing them. -/
theorem sgt_iota : ∀ j l : Fin 128, IntOp.cmpi CmpIPredicate.sgt (BitVec.ofNat 32 j.val) (BitVec.ofNat 32 l.val)
    = if l.val < j.val then (1#1 : BitVec 1) else 0#1 := by decide +kernel

theorem fromPrev_apply (j l : Fin 128) : fromPrev (ix2 j l) = if l.val < j.val then (1#1 : BitVec 1) else 0#1 := by
  pointwise [fromPrev]
  exact sgt_iota j l

theorem select_ite {α : Type} (P : Prop) [Decidable P] (a b : α) : Scalar.select (if P then (1#1 : BitVec 1) else 0#1) a b = if P then a else b := by
  by_cases h : P <;> simp [Scalar.select, h]

/-- Eight pieces of 128 columns, 64 rows each. -/
theorem cat8_64 {α : Type} (f : Fin 8 → S64x128.Idx → α) (h) (e : Fin 64) (n : Fin 1024) :
    cat8 S64x1024 1 f h (ix2 e n) = f ⟨n.val / 128, by omega⟩ (ix2 e ⟨n.val % 128, by omega⟩) :=
  cat8_apply (t := S64x1024) 1 f h rfl 128 rfl (ix2 e n) ⟨n.val / 128, by omega⟩ rfl (ix2 e ⟨n.val % 128, by omega⟩) rfl (by
    intro b hb
    fin_cases b
    · rfl
    · exact absurd rfl hb)

/-- Eight pieces of 128 columns, 128 rows each. -/
theorem cat8_128 {α : Type} (f : Fin 8 → S128x128.Idx → α) (h) (e : Fin 128) (n : Fin 1024) :
    cat8 S128x1024 1 f h (ix2 e n) = f ⟨n.val / 128, by omega⟩ (ix2 e ⟨n.val % 128, by omega⟩) :=
  cat8_apply (t := S128x1024) 1 f h rfl 128 rfl (ix2 e n) ⟨n.val / 128, by omega⟩ rfl (ix2 e ⟨n.val % 128, by omega⟩) rfl (by
    intro b hb
    fin_cases b
    · rfl
    · exact absurd rfl hb)

/-- Eight pieces of 64 rows. -/
theorem cat8_rows {α : Type} (f : Fin 8 → S64x128.Idx → α) (h) (n : Fin 512) (l : Fin 128) :
    cat8 S512x128 0 f h (ix2 n l) = f ⟨n.val / 64, by omega⟩ (ix2 ⟨n.val % 64, by omega⟩ l) :=
  cat8_apply (t := S512x128) 0 f h rfl 64 rfl (ix2 n l) ⟨n.val / 64, by omega⟩ rfl (ix2 ⟨n.val % 64, by omega⟩ l) rfl (by
    intro b hb
    fin_cases b
    · exact absurd rfl hb
    · rfl)

theorem rowsKV_apply (kp kc : Vec Ideal S128x1024 .f32) (i : Fin 256) (col : Fin 1024) : rowsKV kp kc (ix2 i col) = kvAt kp kc i col := by
  pointwise [rowsKV, kvAt]

theorem valuesT_apply (kp kc : Vec Ideal S128x1024 .f32) (col : Fin 384) (i : Fin 256) :
    valuesT kp kc (ix2 col i) = kvAt kp kc i ⟨256 + col.val, by omega⟩ := by
  pointwise [valuesT, rowsKV_apply]

theorem queriesT_apply (q : Vec Ideal S128x2048 .f32) (qx : Vec Ideal S128x128 .f32) (col : Fin 2176) (l : Fin 128) :
    queriesT q qx (ix2 col l) = qAt q qx l col := by
  pointwise [queriesT, qAt]

theorem scores_apply (kh : Fin 4) (kv : FVec Ideal S256x1024 .f32) (qt : FVec Ideal S2176x128 .bf16) (i : Fin 256) (n : Fin 1024) :
    scores kh kv qt (ix2 i n) = ∑ e : Fin 64, kv (ix2 i ⟨64 + 64 * kh.val + e.val, by omega⟩)
      * qt (ix2 ⟨64 + 64 * (8 * kh.val + n.val / 128) + e.val, by omega⟩ ⟨n.val % 128, by omega⟩) := by
  pointwise [scores, cat8_64]

theorem logits_apply (s : FVec Ideal S256x1024 .f32) (r : Fin 8) (b : Vec Ideal S1x1x128x128 .f32) (j l : Fin 128) :
    logits s r b (ix2 j l) = (if l.val < j.val then s (ix2 ⟨j.val, by omega⟩ ⟨128 * r.val + l.val, by omega⟩)
      else s (ix2 ⟨128 + j.val, by omega⟩ ⟨128 * r.val + l.val, by omega⟩)) * Named.named (F := Ideal) κ "qk_scale" (φ := .f32) 0x3E38AA3B#32
      + b (ix4 0 0 j l) * Named.named (F := Ideal) κ "log2e" (φ := .f32) 0x3FB8AA3B#32 := by
  pointwise [logits, fromPrev_apply, select_ite]

theorem rowMax_apply (L : FVec Ideal S128x128 .f32) (sk : Ideal .f32) (l : Fin 128) :
    rowMax L sk (ix2 0 l) = max (Finset.univ.sup fun j : Fin 128 => L (ix2 j l)) (sink2 sk) := by
  pointwise [rowMax, Consts.negInf]
  rfl

theorem weights_apply (L : FVec Ideal S128x128 .f32) (sk : Ideal .f32) (j l : Fin 128) :
    weights L sk (ix2 j l) = Ideal.exp2 (L (ix2 j l) - rowMax L sk (ix2 0 l)) := by
  pointwise [weights]
  rfl

theorem denom_apply (L : FVec Ideal S128x128 .f32) (sk : Ideal .f32) (l : Fin 128) :
    denom L sk (ix2 0 l) = (∑ j : Fin 128, weights L sk (ix2 j l)) + Ideal.exp2 (sink2 sk - rowMax L sk (ix2 0 l)) := by
  pointwise [denom]
  rfl

theorem prevPart_apply (L : FVec Ideal S128x128 .f32) (sk : Ideal .f32) (j l : Fin 128) :
    prevPart L sk (ix2 j l) = if l.val < j.val then weights L sk (ix2 j l) else 0 := by
  pointwise [prevPart, fromPrev_apply, select_ite]

theorem curPart_apply (L : FVec Ideal S128x128 .f32) (sk : Ideal .f32) (j l : Fin 128) :
    curPart L sk (ix2 j l) = if l.val < j.val then 0 else weights L sk (ix2 j l) := by
  pointwise [curPart, fromPrev_apply, select_ite]

theorem mixed_apply (kh : Fin 4) (vt : FVec Ideal S384x256 .bf16) (L : Fin 8 → FVec Ideal S128x128 .f32) (sk : Fin 8 → Ideal .f32)
    (d : Fin 64) (n : Fin 1024) :
    mixed kh vt L sk (ix2 d n) =
      (∑ j : Fin 128, vt (ix2 ⟨64 + 64 * kh.val + d.val, by omega⟩ ⟨j.val, by omega⟩)
        * prevPart (L ⟨n.val / 128, by omega⟩) (sk ⟨n.val / 128, by omega⟩) (ix2 j ⟨n.val % 128, by omega⟩))
      + ∑ j : Fin 128, vt (ix2 ⟨64 + 64 * kh.val + d.val, by omega⟩ ⟨128 + j.val, by omega⟩)
        * curPart (L ⟨n.val / 128, by omega⟩) (sk ⟨n.val / 128, by omega⟩) (ix2 j ⟨n.val % 128, by omega⟩) := by
  pointwise [mixed, cat8_128]

theorem divided_apply (o : FVec Ideal S64x1024 .f32) (den : Fin 8 → FVec Ideal S1x128 .f32) (l : Fin 128) (n : Fin 512) :
    divided o den (ix2 l n) = Ideal.div (o (ix2 ⟨n.val % 64, by omega⟩ ⟨128 * (n.val / 64) + l.val, by omega⟩)) (den ⟨n.val / 64, by omega⟩ (ix2 0 l)) := by
  pointwise [divided, cat8_rows]

end Cert.Attn

end
-- ==== Proof.AttnSpec.lean ====
/- One query of one head against its band of 256 keys, the way the kernel computes it: the band folded onto 128 slots, the
   exponentials to the base 2, the weighted sum divided at the end. -/
module

public import Idealize.ShloMosaic.Lib.Pointwise

@[expose] public section

noncomputable section

namespace Cert.Attn

open Idealize.ShloMosaic

/-- The logit in slot `j` of query `l`, in the base-2 scale. -/
def slotLogit (cs cl : EReal) (kk : Fin 256 → Fin 64 → EReal) (qq : Fin 128 → Fin 64 → EReal) (bias : Fin 128 → Fin 128 → EReal)
    (l j : Fin 128) : EReal :=
  (if l.val < j.val then ∑ e : Fin 64, kk ⟨j.val, by omega⟩ e * qq l e else ∑ e : Fin 64, kk ⟨128 + j.val, by omega⟩ e * qq l e) * cs
    + bias j l * cl

/-- The maximum over logits `L` and a sink, both in the base-2 scale. -/
def slotMax (L : Fin 128 → EReal) (s2 : EReal) : EReal := max (Finset.univ.sup L) s2

/-- The weight in slot `j`, before the division. -/
def slotWeight (L : Fin 128 → EReal) (s2 : EReal) (j : Fin 128) : EReal := Ideal.exp2 (L j - slotMax L s2)

/-- The denominator. -/
def slotDen (L : Fin 128 → EReal) (s2 : EReal) : EReal := (∑ j, slotWeight L s2 j) + Ideal.exp2 (s2 - slotMax L s2)

/-- The result of query `l` at a lane whose values are `vv`. -/
def slotOut (L : Fin 128 → EReal) (s2 : EReal) (vv : Fin 256 → EReal) (l : Fin 128) : EReal :=
  Ideal.div ((∑ j : Fin 128, vv ⟨j.val, by omega⟩ * (if l.val < j.val then slotWeight L s2 j else 0))
      + ∑ j : Fin 128, vv ⟨128 + j.val, by omega⟩ * (if l.val < j.val then 0 else slotWeight L s2 j))
    (slotDen L s2)

/-- The slope of head `h`, `2^(-(h+1)/4)` as the host writes it. -/
def slope (h : Fin 32) : EReal :=
  Ideal.exp (Ideal.ofBits .f32 0x3F317218#32 * (Ideal.ofBits .f32 0xBE800000#32 * (1 + FloatOps.sitofp (F := Ideal) .f32 (BitVec.ofNat 32 h.val))))

/-- A distance as a float. -/
def distF (n : Nat) : EReal := FloatOps.sitofp (F := Ideal) .f32 (BitVec.ofNat 32 n)

/-- How far back the key in slot `j` lies from query `l`. -/
def slotDist (j l : Fin 128) : Nat := if l.val < j.val then l.val + 128 - j.val else l.val - j.val

end Cert.Attn

end
-- ==== Proof.AttnBlock.lean ====
/- What one step of the attention leaves in the output's buffer, at an index, from the contents of the input buffers. -/
module

public import proofs.«01_k».proof.Proof.AttnRead
public import proofs.«01_k».proof.Proof.AttnSpec

@[expose] public section

set_option maxRecDepth 16384

noncomputable section

namespace Cert.Attn

open Cert.KernelIdeal Cert.KernelIdeal.Gen Idealize.ShloMosaic Idealize.ShloMosaic.TcCoe

/-- The scale of the scores, `1/8 · 1/ln 2`. -/
def cs : EReal := Named.named (F := Ideal) κ "qk_scale" (φ := .f32) 0x3E38AA3B#32
/-- The scale of the bias and the sinks, `1/ln 2`. -/
def cl : EReal := Named.named (F := Ideal) κ "log2e" (φ := .f32) 0x3FB8AA3B#32

theorem group_apply (kh : Fin 4) (kp kc : Vec Ideal S128x1024 .f32) (q : Vec Ideal S128x2048 .f32) (qx : Vec Ideal S128x128 .f32)
    (b : Fin 8 → Vec Ideal S1x1x128x128 .f32) (sk : Fin 8 → Ideal .f32) (l : Fin 128) (n : Fin 512) :
    group kh kp kc q qx b sk (ix2 l n) =
      slotOut (slotLogit cs cl (fun i e => kvAt kp kc i ⟨64 + 64 * kh.val + e.val, by omega⟩)
          (fun l e => qAt q qx l ⟨64 + 64 * (8 * kh.val + n.val / 64) + e.val, by omega⟩)
          (fun j l => b ⟨n.val / 64, by omega⟩ (ix4 0 0 j l)) l)
        (sk ⟨n.val / 64, by omega⟩ * cl) (fun i => kvAt kp kc i ⟨256 + (64 + 64 * kh.val + n.val % 64), by omega⟩) l := by
  have hL : ∀ j l : Fin 128, logits (scores kh (rowsKV kp kc) (queriesT q qx)) ⟨n.val / 64, by omega⟩ (b ⟨n.val / 64, by omega⟩) (ix2 j l)
      = slotLogit cs cl (fun i e => kvAt kp kc i ⟨64 + 64 * kh.val + e.val, by omega⟩)
          (fun l e => qAt q qx l ⟨64 + 64 * (8 * kh.val + n.val / 64) + e.val, by omega⟩)
          (fun j l => b ⟨n.val / 64, by omega⟩ (ix4 0 0 j l)) l j := by
    intro j l
    rw [logits_apply]
    simp only [scores_apply, rowsKV_apply, queriesT_apply, slotLogit]
    have h1 : (128 * (n.val / 64) + l.val) / 128 = n.val / 64 := by omega
    have h2 : (128 * (n.val / 64) + l.val) % 128 = l.val := by omega
    simp only [h1, h2]
    rfl
  have h1 : (128 * (n.val / 64) + l.val) / 128 = n.val / 64 := by omega
  have h2 : (128 * (n.val / 64) + l.val) % 128 = l.val := by omega
  unfold group
  rw [divided_apply, mixed_apply]
  simp only [h1, h2, prevPart_apply, curPart_apply, denom_apply, weights_apply, rowMax_apply, valuesT_apply, hL]
  rfl

/-- The step's result at row `l`, column `n`. -/
def blockOut (x0 : Vec Ideal S32 .f32) (x1 : Vec Ideal S128x2048 .f32) (x2 : Vec Ideal S128x128 .f32) (x3 x4 : Vec Ideal S128x1024 .f32)
    (x5 : Vec Ideal S1x32x128x128 .f32) (l : Fin 128) (n : Fin 2048) : EReal :=
  slotOut (slotLogit cs cl (fun i e => kvAt x3 x4 i ⟨64 + 64 * (n.val / 512) + e.val, by omega⟩)
      (fun l e => qAt x1 x2 l ⟨64 + 64 * (n.val / 64) + e.val, by omega⟩) (fun j l => x5 (ix4 0 ⟨n.val / 64, by omega⟩ j l)) l)
    (x0 (ix1 ⟨n.val / 64, by omega⟩) * cl) (fun i => kvAt x3 x4 i ⟨320 + 64 * (n.val / 512) + n.val % 64, by omega⟩) l

/-- The same as a vector. -/
def blockVec (x0 : Vec Ideal S32 .f32) (x1 : Vec Ideal S128x2048 .f32) (x2 : Vec Ideal S128x128 .f32) (x3 x4 : Vec Ideal S128x1024 .f32)
    (x5 : Vec Ideal S1x32x128x128 .f32) : Vec Ideal S128x2048 .bf16 := fun y => blockOut x0 x1 x2 x3 x4 x5 (y 0) (y 1)

theorem tileOf_apply (x5 : Vec Ideal S1x32x128x128 .f32) (h : Fin 32) (j l : Fin 128) : tileOf x5 h (ix4 0 0 j l) = x5 (ix4 0 h j l) := by
  refine congrArg x5 (funext fun a => Fin.ext ?_)
  fin_cases a
  · rfl
  · show h.val + 1 * 0 = h.val; omega
  · show 0 + 1 * j.val = j.val; omega
  · show 0 + 1 * l.val = l.val; omega

section
variable (c : Dev nD) (i : grid0.Coords) (arg2 : Memref sig .tc .smem S32 .f32) (harg2 : arg2.IsWhole) (arg3 : Memref sig .tc .vmem S128x2048 .f32) (harg3 : arg3.IsWhole)
  (arg4 : Memref sig .tc .vmem S128x128 .f32) (harg4 : arg4.IsWhole) (arg5 : Memref sig .tc .vmem S128x1024 .f32) (harg5 : arg5.IsWhole)
  (arg6 : Memref sig .tc .vmem S128x1024 .f32) (harg6 : arg6.IsWhole) (arg7 : Memref sig .tc .vmem S1x32x128x128 .f32) (harg7 : arg7.IsWhole)
  (arg8 : Memref sig .tc .vmem S128x2048 .bf16) (harg8 : arg8.IsWhole)
  (x0 : Vec Ideal S32 .f32) (x1 : Vec Ideal S128x2048 .f32) (x2 : Vec Ideal S128x128 .f32) (x3 x4 : Vec Ideal S128x1024 .f32)
  (x5 : Vec Ideal S1x32x128x128 .f32)

/-- The block of key head `kh` is the result at the columns it is stored at. -/
theorem loaded_apply (kh : Fin 4) (l : Fin 128) (n : Fin 512) (N : Fin 2048) (hN : N.val = 512 * kh.val + n.val) :
    loaded arg2 harg2 arg3 harg3 arg4 harg4 arg5 harg5 arg6 harg6 arg7 harg7 x0 x1 x2 x3 x4 x5 kh (ix2 l n) = blockOut x0 x1 x2 x3 x4 x5 l N := by
  rw [loaded_eq, group_apply]
  have h1 : N.val / 512 = kh.val := by omega
  have h2 : N.val / 64 = 8 * kh.val + n.val / 64 := by omega
  have h3 : N.val % 64 = n.val % 64 := by omega
  have h4 : ∀ a b : Nat, 256 + (64 + a + b) = 320 + a + b := by intros; omega
  simp only [blockOut, h1, h2, h3, h4, tileOf_apply]

theorem out_apply (l : Fin 128) (N : Fin 2048) :
    out0_A_6 c i arg2 harg2 arg3 harg3 arg4 harg4 arg5 harg5 arg6 harg6 arg7 harg7 arg8 harg8 x0 x1 x2 x3 x4 x5 (ix2 l N)
    = blockOut x0 x1 x2 x3 x4 x5 l N := by
  rw [out_pieces]
  refine View.canon_apply_of_pieces (blockVec x0 x1 x2 x3 x4 x5) _ ?_ (ix2 l N) ?_
  · have key : ∀ (kh : Fin 4) (o : Fin 2 → Nat) (inb) (ho : o = ![0, 512 * kh.val]) (x : S128x512.Idx),
        loaded arg2 harg2 arg3 harg3 arg4 harg4 arg5 harg5 arg6 harg6 arg7 harg7 x0 x1 x2 x3 x4 x5 kh x
        = blockVec x0 x1 x2 x3 x4 x5 ((Rect.unit (s := S128x2048) o S128x512.size inb).emb x) := by
      intro kh o inb ho x
      subst ho
      have e0 : ((Rect.unit (s := S128x2048) ![0, 512 * kh.val] S128x512.size inb).emb x) 0 = x 0 := Fin.ext (by
        show 0 + 1 * (x 0).val = _; omega)
      have hx : x = ix2 (x 0) (x 1) := by funext a; fin_cases a <;> rfl
      rw [hx]
      refine (loaded_apply arg2 harg2 arg3 harg3 arg4 harg4 arg5 harg5 arg6 harg6 arg7 harg7 x0 x1 x2 x3 x4 x5 kh (x 0) (x 1)
        ⟨512 * kh.val + (x 1).val, by have := kh.isLt; have : (x 1).val < 512 := (x 1).isLt; omega⟩ rfl).trans ?_
      congr 1
      · exact Fin.ext (by show _ = 0 + 1 * (x 0).val; omega)
      · exact Fin.ext (by show _ = 512 * kh.val + 1 * (x 1).val; simp)
    intro p hp
    simp only [List.mem_cons, List.not_mem_nil, or_false] at hp
    rcases hp with rfl | rfl | rfl | rfl
    · exact key 3 _ inb_S128x2048_S128x512_0_1536 rfl
    · exact key 2 _ inb_S128x2048_S128x512_0_1024 rfl
    · exact key 1 _ inb_S128x2048_S128x512_0_512 rfl
    · exact key 0 _ inb_S128x2048_S128x512_0_0 rfl
  · have := cover0_A_6 c i arg2 harg2 arg3 harg3 arg4 harg4 arg5 harg5 arg6 harg6 arg7 harg7 arg8 harg8 x0 x1 x2 x3 x4 x5 (ix2 l N)
    exact this
end

end Cert.Attn

end
-- ==== Proof.AttnEntry.lean ====
/- What the host hands to the attention call: the table of biases and the sinks. -/
module

public import proofs.«01_k».proof.Proof.AttnBlock
public import Idealize.ShloMosaic.Lib.Claim

@[expose] public section

set_option maxRecDepth 16384

noncomputable section

namespace Cert.Attn

open Cert.KernelIdeal Cert.KernelIdeal.Gen Idealize.ShloMosaic Idealize.ShloMosaic.TcCoe

variable (m : (ℓ : Loc nD τ sig) → Buf (Elt Ideal) ℓ)

theorem sinks_apply (c : Dev nD) (h : Fin 32) : V m c main_v0 (ix1 h) = m ((c : Thread nD τ).loc main_arg1) (ix2 0 h) := by
  simp only [V, hostOps0, hostOps0_1, hostOps0_2, hostOps0_3, hostOps0_4, List.flatten_cons, List.flatten_nil, List.append_nil,
    List.cons_append, List.nil_append]
  entry_read
  pointwise

/-- The distance computed in 32-bit words. -/
theorem slot_word : ∀ j l : Fin 128, (if l.val < j.val then IntOp.addi (IntOp.subi (BitVec.ofNat 32 l.val) (BitVec.ofNat 32 j.val)) 128#32
    else IntOp.subi (BitVec.ofNat 32 l.val) (BitVec.ofNat 32 j.val)) = BitVec.ofNat 32 (slotDist j l) := by decide +kernel

theorem table_apply (c : Dev nD) (b : Fin 2) (h : Fin 32) (j l : Fin 128) :
    V m c main_v36 (ix4 b h j l)
      = if b.val < 1 then (if l.val < j.val then ⊥ else -slope h * distF (slotDist j l)) else -slope h * distF (slotDist j l) := by
  simp only [V, hostOps0, hostOps0_1, hostOps0_2, hostOps0_3, hostOps0_4, List.flatten_cons, List.flatten_nil, List.append_nil,
    List.cons_append, List.nil_append]
  entry_read
  simp only [StableHlo.TRef.of, StableHlo.TRef.ofBuf, StableHlo.TRef.toBuf, cast_eq, id_eq]
  pointwise
  rw [sgt_iota, select_ite, select_ite, slot_word, Consts.negInf]
  rfl

end Cert.Attn

end
-- ==== Proof.AttnKernel.lean ====
/- The array the attention call returns, entry by entry, from the two arguments. -/
module

public import proofs.«01_k».proof.Proof.AttnEntry
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe

variable (m : (ℓ : Loc nD τ sig) → Buf (Elt Ideal) ℓ)

/-- The block row before `t` within its sequence; the first block has itself. -/
def prevRow (t : Nat) : Nat := if t % 32 = 0 then t else t - 1

/-- Row of key `i` of block row `t`'s band. -/
def bandRow (t : Fin 128) (i : Fin 256) : Fin 16384 :=
  if h : i.val < 128 then ⟨128 * prevRow t.val + i.val, by unfold prevRow; split <;> omega⟩ else ⟨128 * t.val + (i.val - 128), by omega⟩

theorem idx : ∀ t : Fin cfg0.N, win0_0.index t = ![0] ∧ win0_1.index t = ![t.val, 5] ∧ win0_2.index t = ![t.val, 96]
    ∧ win0_3.index t = ![prevRow t.val, 12] ∧ win0_4.index t = ![t.val, 12] ∧ win0_5.index t = ![if t.val % 32 = 0 then 0 else 1, 0, 0, 0]
    ∧ win0_6.index t = ![t.val, 0] :=
  (by decide +kernel : ∀ t : Fin grid0.N, win0_0.index t = ![0] ∧ win0_1.index t = ![t.val, 5] ∧ win0_2.index t = ![t.val, 96]
    ∧ win0_3.index t = ![prevRow t.val, 12] ∧ win0_4.index t = ![t.val, 12] ∧ win0_5.index t = ![if t.val % 32 = 0 then 0 else 1, 0, 0, 0]
    ∧ win0_6.index t = ![t.val, 0])

theorem sinkBlock (c : Dev nD) (t : Fin cfg0.N) (h : Fin 32) : iblk m c 0 t (ix1 h) = m ((c : Thread nD τ).loc main_arg1) (ix2 0 h) := by
  refine Eq.trans ?_ (sinks_apply m c h)
  blk_ext [iblk, idx t]

theorem queryBlock (c : Dev nD) (t : Fin cfg0.N) (l : Fin 128) (n : Fin 2048) :
    X0_1 m c t (ix2 l n) = m ((c : Thread nD τ).loc main_arg0) (ix2 ⟨128 * t.val + l.val, by have : t.val < 128 := t.isLt; omega⟩ ⟨10240 + n.val, by omega⟩) := by
  refine Eq.trans ?_ (congrFun (V_main_arg0 m c) _)
  unfold X0_1 Pipeline.Window.fill
  rw [dif_pos (moved0_1 t _)]
  blk_ext [iblk, idx t]

theorem tailBlock (c : Dev nD) (t : Fin cfg0.N) (l : Fin 128) (n : Fin 128) :
    iblk m c 2 t (ix2 l n) = m ((c : Thread nD τ).loc main_arg0) (ix2 ⟨128 * t.val + l.val, by have : t.val < 128 := t.isLt; omega⟩ ⟨12288 + n.val, by omega⟩) := by
  refine Eq.trans ?_ (congrFun (V_main_arg0 m c) _)
  blk_ext [iblk, idx t]

theorem prevBlock (c : Dev nD) (t : Fin cfg0.N) (l : Fin 128) (n : Fin 1024) :
    iblk m c 3 t (ix2 l n) = m ((c : Thread nD τ).loc main_arg0)
      (ix2 ⟨128 * prevRow t.val + l.val, by have : t.val < 128 := t.isLt; unfold prevRow; split <;> omega⟩ ⟨12288 + n.val, by omega⟩) := by
  refine Eq.trans ?_ (congrFun (V_main_arg0 m c) _)
  blk_ext [iblk, idx t]

theorem curBlock (c : Dev nD) (t : Fin cfg0.N) (l : Fin 128) (n : Fin 1024) :
    iblk m c 4 t (ix2 l n) = m ((c : Thread nD τ).loc main_arg0) (ix2 ⟨128 * t.val + l.val, by have : t.val < 128 := t.isLt; omega⟩ ⟨12288 + n.val, by omega⟩) := by
  refine Eq.trans ?_ (congrFun (V_main_arg0 m c) _)
  blk_ext [iblk, idx t]

theorem tableBlock (c : Dev nD) (t : Fin cfg0.N) (h : Fin 32) (j l : Fin 128) :
    iblk m c 5 t (ix4 0 h j l) = if t.val % 32 = 0 then (if l.val < j.val then ⊥ else -slope h * distF (slotDist j l)) else -slope h * distF (slotDist j l) := by
  refine Eq.trans (?_ : _ = V m c main_v36 (ix4 (if t.val % 32 = 0 then 0 else 1) h j l)) ((table_apply m c _ h j l).trans ?_)
  · blk_ext [iblk, idx t]
    split <;> rfl
  · by_cases h0 : t.val % 32 = 0 <;> simp [h0]

/-- The key and value rows of the band. -/
theorem kvAt_block (c : Dev nD) (t : Fin cfg0.N) (i : Fin 256) (n : Fin 1024) :
    kvAt (iblk m c 3 t) (iblk m c 4 t) i n
    = m ((c : Thread nD τ).loc main_arg0) (ix2 (bandRow ⟨t.val, t.isLt⟩ i) ⟨12288 + n.val, by omega⟩) := by
  unfold kvAt bandRow
  by_cases h : i.val < 128
  · rw [dif_pos h, prevBlock]; simp only [h, dif_pos]
  · rw [dif_neg h, curBlock]; simp only [h, dif_neg, not_false_eq_true]

/-- The query columns. -/
theorem qAt_block (c : Dev nD) (t : Fin cfg0.N) (l : Fin 128) (n : Fin 2176) :
    qAt (X0_1 m c t) (iblk m c 2 t) l n
    = m ((c : Thread nD τ).loc main_arg0) (ix2 ⟨128 * t.val + l.val, by have : t.val < 128 := t.isLt; omega⟩ ⟨10240 + n.val, by omega⟩) := by
  unfold qAt
  by_cases h : n.val < 2048
  · rw [dif_pos h, queryBlock]
  · rw [dif_neg h, tailBlock]
    have e : 12288 + (n.val - 2048) = 10240 + n.val := by omega
    simp only [e]

/-- The array the call returns, from the projection `A` and the sinks `S`. -/
def attnFold (A : S16384x17408.Idx → EReal) (S : S1x32.Idx → EReal) (t : Fin 128) (l : Fin 128) (n : Fin 2048) : EReal :=
  slotOut (slotLogit cs cl (fun i e => A (ix2 (bandRow t i) ⟨12352 + 64 * (n.val / 512) + e.val, by omega⟩))
      (fun l e => A (ix2 ⟨128 * t.val + l.val, by omega⟩ ⟨10304 + 64 * (n.val / 64) + e.val, by omega⟩))
      (fun j l => if t.val % 32 = 0 then (if l.val < j.val then ⊥ else -slope ⟨n.val / 64, by omega⟩ * distF (slotDist j l))
        else -slope ⟨n.val / 64, by omega⟩ * distF (slotDist j l)) l)
    (S (ix2 0 ⟨n.val / 64, by omega⟩) * cl) (fun i => A (ix2 (bandRow t i) ⟨12608 + 64 * (n.val / 512) + n.val % 64, by omega⟩)) l

theorem block_apply (c : Dev nD) (t : Fin cfg0.N) (l : Fin 128) (n : Fin 2048) :
    blockOut (iblk m c 0 t) (X0_1 m c t) (iblk m c 2 t) (iblk m c 3 t) (iblk m c 4 t) (iblk m c 5 t) l n
    = attnFold (m ((c : Thread nD τ).loc main_arg0)) (m ((c : Thread nD τ).loc main_arg1)) ⟨t.val, t.isLt⟩ l n := by
  unfold blockOut attnFold
  simp only [kvAt_block, qAt_block, tableBlock, sinkBlock]
  have h1 : ∀ a b : Nat, 12288 + (64 + a + b) = 12352 + a + b := by intros; omega
  have h2 : ∀ a b : Nat, 10240 + (64 + a + b) = 10304 + a + b := by intros; omega
  have h3 : ∀ a b : Nat, 12288 + (320 + a + b) = 12608 + a + b := by intros; omega
  simp only [h1, h2, h3]

/-- The returned array. -/
def attnArr (A : S16384x17408.Idx → EReal) (S : S1x32.Idx → EReal) : S16384x2048.Idx → EReal := fun y =>
  attnFold A S ⟨(y 0).val / 128, by have : (y 0).val < 16384 := (y 0).isLt; omega⟩ ⟨(y 0).val % 128, by omega⟩ (y 1)

theorem arr_eq (c : Dev nD) : (dats m 0 c).arrAt 6 cfg0.N
    = attnArr (m ((c : Thread nD τ).loc main_arg0)) (m ((c : Thread nD τ).loc main_arg1)) := by
  refine (dats m 0 c).arrAt_eq_of_covers 6 _ (by decide +kernel) fun t hf y => ?_
  have e1 : (dats m 0 c).after 6 t ((cfg0.win 6).xinj (cfg0.grid.coords t) y)
      = attnFold (m ((c : Thread nD τ).loc main_arg0)) (m ((c : Thread nD τ).loc main_arg1)) ⟨t.val, t.isLt⟩ (y 0) (y 1) := by
    rw [after0_6]
    refine Eq.trans (congrArg (outsAt0 m c t) (?_ : _ = ix2 (y 0) (y 1))) ?_
    · funext a; fin_cases a <;> rfl
    · exact (out_apply c _ _ _ _ _ _ _ _ _ _ _ _ _ _ _ _ _ _ _ _ _ (y 0) (y 1)).trans (block_apply m c t (y 0) (y 1))
  have e2 : ((cfg0.win 6).blk t).view.emb y = ix2 ⟨128 * t.val + (y 0).val, by
      have : t.val < 128 := t.isLt; have : (y 0).val < 128 := (y 0).isLt; omega⟩ (y 1) := by
    blk_ext [idx t]
  rw [e2]
  refine e1.trans ?_
  have h0 : (y 0).val < 128 := (y 0).isLt
  have h1 : (128 * t.val + (y 0).val) / 128 = t.val := by omega
  have h2 : (128 * t.val + (y 0).val) % 128 = (y 0).val := by omega
  show _ = attnFold _ _ ⟨(128 * t.val + (y 0).val) / 128, _⟩ ⟨(128 * t.val + (y 0).val) % 128, _⟩ (y 1)
  simp only [h1, h2]
  rfl

end Cert.Attn

end
-- ==== Proof.AttnEq.lean ====
/- The folded softmax to the base 2, divided at the end, is the softmax over the whole band, divided first. -/
module

public import proofs.«01_k».proof.Proof.AttnSpec

@[expose] public section

noncomputable section

namespace Cert.Attn

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplying a sum by a nonnegative real. -/
theorem sum_mul_real {ι : Type*} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    rw [mul_comm, EReal.left_distrib_of_nonneg_of_ne_top (EReal.coe_nonneg.mpr hc) (EReal.coe_ne_top c), mul_comm, mul_comm (c : EReal)]

/-- A sum over the band of 256 by its two halves. -/
theorem sum_band (f : Fin 256 → EReal) : ∑ i, f i = ∑ j : Fin 128, f ⟨j.val, by omega⟩ + ∑ j : Fin 128, f ⟨128 + j.val, by omega⟩ :=
  Fin.sum_univ_add (a := 128) (b := 128) f

/-- The maximum over the band of 256 by its two halves. -/
theorem sup_band (f : Fin 256 → EReal) :
    Finset.univ.sup f = max (Finset.univ.sup fun j : Fin 128 => f ⟨j.val, by omega⟩) (Finset.univ.sup fun j : Fin 128 => f ⟨128 + j.val, by omega⟩) := by
  apply le_antisymm
  · refine Finset.sup_le fun i _ => ?_
    by_cases h : i.val < 128
    · exact le_max_of_le_left (Finset.le_sup (f := fun j : Fin 128 => f ⟨j.val, by omega⟩) (Finset.mem_univ (⟨i.val, h⟩ : Fin 128)))
    · refine le_max_of_le_right ?_
      have := Finset.le_sup (f := fun j : Fin 128 => f ⟨128 + j.val, by omega⟩) (Finset.mem_univ (⟨i.val - 128, by omega⟩ : Fin 128))
      have e : (⟨128 + (i.val - 128), by omega⟩ : Fin 256) = i := Fin.ext (by simp; omega)
      simpa only [e] using this
  · exact max_le (Finset.sup_le fun j _ => Finset.le_sup (f := f) (Finset.mem_univ _)) (Finset.sup_le fun j _ => Finset.le_sup (f := f) (Finset.mem_univ _))

theorem sup_scaled (ℓ : Fin 128 → EReal) {c : ℝ} (hc : 0 < c) : (Finset.univ.sup fun j => ℓ j * (c : EReal)) = Finset.univ.sup ℓ * (c : EReal) := by
  have hmono : Monotone fun x : EReal => x * (c : EReal) := fun x y h => mul_le_mul_of_nonneg_right h (EReal.coe_nonneg.mpr hc.le)
  exact (Finset.comp_sup_eq_sup_comp_of_is_total (s := Finset.univ) (f := ℓ) (fun x : EReal => x * (c : EReal)) hmono (EReal.bot_mul_coe_of_pos hc)).symm

theorem max_scaled (x y : EReal) {c : ℝ} (hc : 0 < c) : max (x * (c : EReal)) (y * (c : EReal)) = max x y * (c : EReal) := by
  have hmono : Monotone fun x : EReal => x * (c : EReal) := fun x y h => mul_le_mul_of_nonneg_right h (EReal.coe_nonneg.mpr hc.le)
  exact (hmono.map_max).symm

theorem exp2_scaled {x : EReal} (hx : x ≠ ⊤) (μ : ℝ) :
    Ideal.exp2 (x * (((Real.log 2)⁻¹ : ℝ) : EReal) - (μ : EReal) * (((Real.log 2)⁻¹ : ℝ) : EReal)) = Ideal.exp (x - (μ : EReal)) := by
  have hpos : 0 < Real.log 2 := Real.log_pos one_lt_two
  induction x using EReal.rec with
  | bot => rw [EReal.bot_mul_coe_of_pos (inv_pos.mpr hpos), ← EReal.coe_mul, EReal.bot_sub, EReal.bot_sub]; rfl
  | top => exact absurd rfl hx
  | coe r =>
    rw [← EReal.coe_mul, ← EReal.coe_mul, ← EReal.coe_sub, ← EReal.coe_sub, Ideal.exp2_coe, Ideal.exp_coe]
    refine congrArg _ ?_
    show (2 : ℝ) ^ (r * (Real.log 2)⁻¹ - μ * (Real.log 2)⁻¹) = Real.exp (r - μ)
    rw [Real.rpow_def_of_pos two_pos, ← sub_mul, mul_comm (r - μ), ← mul_assoc, mul_inv_cancel₀ hpos.ne', one_mul]

theorem exp_real {x : EReal} (hx : x ≠ ⊤) (μ : ℝ) : ∃ w : ℝ, 0 ≤ w ∧ Ideal.exp (x - (μ : EReal)) = (w : EReal) := by
  induction x using EReal.rec with
  | bot => exact ⟨0, le_rfl, by rw [EReal.bot_sub]; rfl⟩
  | top => exact absurd rfl hx
  | coe r => exact ⟨Real.exp (r - μ), (Real.exp_pos _).le, by rw [← EReal.coe_sub, Ideal.exp_coe]⟩

/-- The softmax over a band `R` and a sink `K`, weighting `V`. -/
def bandOut (R V : Fin 256 → EReal) (K : EReal) : EReal :=
  ∑ j, V j * Ideal.div (Ideal.exp (R j - max (Finset.univ.sup R) K))
    ((∑ j, Ideal.exp (R j - max (Finset.univ.sup R) K)) + Ideal.exp (K - max (Finset.univ.sup R) K))

theorem slot_eq (l : Fin 128) (ℓ : Fin 128 → EReal) (hℓ : ∀ j, ℓ j ≠ ⊤) (κ : ℝ) (R V vv : Fin 256 → EReal)
    (hlo : ∀ j : Fin 128, R ⟨j.val, by omega⟩ = if l.val < j.val then ℓ j else ⊥)
    (hhi : ∀ j : Fin 128, R ⟨128 + j.val, by omega⟩ = if l.val < j.val then ⊥ else ℓ j)
    (vlo : ∀ j : Fin 128, l.val < j.val → ℓ j ≠ ⊥ → vv ⟨j.val, by omega⟩ = V ⟨j.val, by omega⟩)
    (vhi : ∀ j : Fin 128, vv ⟨128 + j.val, by omega⟩ = V ⟨128 + j.val, by omega⟩) :
    slotOut (fun j => ℓ j * (((Real.log 2)⁻¹ : ℝ) : EReal)) ((κ : EReal) * (((Real.log 2)⁻¹ : ℝ) : EReal)) vv l = bandOut R V κ := by
  have hc : 0 < (Real.log 2)⁻¹ := inv_pos.mpr (Real.log_pos one_lt_two)
  have hsup : Finset.univ.sup R = Finset.univ.sup ℓ := by
    rw [sup_band]
    simp only [hlo, hhi]
    apply le_antisymm
    · refine max_le (Finset.sup_le fun j _ => ?_) (Finset.sup_le fun j _ => ?_)
      · split
        · exact Finset.le_sup (f := ℓ) (Finset.mem_univ j)
        · exact bot_le
      · split
        · exact bot_le
        · exact Finset.le_sup (f := ℓ) (Finset.mem_univ j)
    · refine Finset.sup_le fun j _ => ?_
      by_cases h : l.val < j.val
      · refine le_max_of_le_left (le_trans ?_ (Finset.le_sup (f := fun j : Fin 128 => if l.val < j.val then ℓ j else ⊥) (Finset.mem_univ j)))
        simp [h]
      · refine le_max_of_le_right (le_trans ?_ (Finset.le_sup (f := fun j : Fin 128 => if l.val < j.val then ⊥ else ℓ j) (Finset.mem_univ j)))
        simp [h]
  obtain ⟨μ, hμ⟩ : ∃ μ : ℝ, max (Finset.univ.sup ℓ) (κ : EReal) = (μ : EReal) := by
    have h1 : max (Finset.univ.sup ℓ) (κ : EReal) ≠ ⊤ := by
      refine ne_of_lt (max_lt ?_ (EReal.coe_lt_top κ))
      exact (Finset.sup_lt_iff (bot_lt_top)).mpr fun j _ => lt_top_iff_ne_top.mpr (hℓ j)
    have h2 : max (Finset.univ.sup ℓ) (κ : EReal) ≠ ⊥ := ne_of_gt (lt_of_lt_of_le (EReal.bot_lt_coe κ) (le_max_right _ _))
    exact ⟨_, (EReal.coe_toReal h1 h2).symm⟩
  choose w hw0 hw using fun j => exp_real (hℓ j) μ
  have hmax : slotMax (fun j => ℓ j * (((Real.log 2)⁻¹ : ℝ) : EReal)) ((κ : EReal) * (((Real.log 2)⁻¹ : ℝ) : EReal)) = (μ : EReal) * (((Real.log 2)⁻¹ : ℝ) : EReal) := by
    rw [slotMax, sup_scaled ℓ hc, max_scaled _ _ hc, hμ]
  have hwt : ∀ j, slotWeight (fun j => ℓ j * (((Real.log 2)⁻¹ : ℝ) : EReal)) ((κ : EReal) * (((Real.log 2)⁻¹ : ℝ) : EReal)) j = (w j : EReal) := fun j => by
    rw [slotWeight, hmax, exp2_scaled (hℓ j), hw]
  have hκ : Ideal.exp2 ((κ : EReal) * (((Real.log 2)⁻¹ : ℝ) : EReal) - (μ : EReal) * (((Real.log 2)⁻¹ : ℝ) : EReal)) = (Real.exp (κ - μ) : EReal) := by
    rw [exp2_scaled (EReal.coe_ne_top κ), ← EReal.coe_sub, Ideal.exp_coe]
  have hden : slotDen (fun j => ℓ j * (((Real.log 2)⁻¹ : ℝ) : EReal)) ((κ : EReal) * (((Real.log 2)⁻¹ : ℝ) : EReal)) = ((∑ j, w j + Real.exp (κ - μ) : ℝ) : EReal) := by
    rw [slotDen, hmax, hκ]
    simp only [hwt]
    rw [EReal.coe_add, coe_sum]
  have hlo' : ∀ j : Fin 128, Ideal.exp (R ⟨j.val, by omega⟩ - (μ : EReal)) = if l.val < j.val then (w j : EReal) else 0 := fun j => by
    rw [hlo]; split
    · exact hw j
    · rw [EReal.bot_sub]; rfl
  have hhi' : ∀ j : Fin 128, Ideal.exp (R ⟨128 + j.val, by omega⟩ - (μ : EReal)) = if l.val < j.val then 0 else (w j : EReal) := fun j => by
    rw [hhi]; split
    · rw [EReal.bot_sub]; rfl
    · exact hw j
  have hD : 0 < ∑ j, w j + Real.exp (κ - μ) := add_pos_of_nonneg_of_pos (Finset.sum_nonneg fun j _ => hw0 j) (Real.exp_pos _)
  have hden2 : (∑ j, Ideal.exp (R j - (μ : EReal))) + Ideal.exp ((κ : EReal) - (μ : EReal)) = ((∑ j, w j + Real.exp (κ - μ) : ℝ) : EReal) := by
    rw [sum_band]
    simp only [hlo', hhi']
    rw [← Finset.sum_add_distrib, ← EReal.coe_sub, Ideal.exp_coe, EReal.coe_add, coe_sum]
    refine congrArg (· + _) (Finset.sum_congr rfl fun j _ => ?_)
    split <;> simp
  have hz : ∀ j : Fin 128, vv ⟨j.val, by omega⟩ * (if l.val < j.val then (w j : EReal) else 0)
      = V ⟨j.val, by omega⟩ * (if l.val < j.val then (w j : EReal) else 0) := fun j => by
    split
    · rename_i h
      by_cases hb : ℓ j = ⊥
      · have h0 : (w j : EReal) = 0 := by rw [← hw, hb, EReal.bot_sub]; rfl
        rw [h0, mul_zero, mul_zero]
      · rw [vlo j h hb]
    · rw [mul_zero, mul_zero]
  rw [slotOut, hden, Ideal.div_coe hD.ne', bandOut, hsup, hμ, hden2]
  simp only [hwt, Ideal.div_coe hD.ne', ← mul_assoc]
  rw [← sum_mul_real _ _ (one_div_nonneg.mpr hD.le), sum_band (fun j => V j * Ideal.exp (R j - (μ : EReal)))]
  simp only [hlo', hhi', hz, vhi]

end Cert.Attn

end
-- ==== Proof.AttnRef.lean ====
/- The reference's attention, cut into named stages, and each stage at an index. -/
module

public import proofs.«01_k».proof.Proof.Gen.ReferenceIdeal.Run
public import proofs.«01_k».proof.Proof.Consts
public import Idealize.ShloMosaic.Lib.Pointwise

@[expose] public section

set_option maxRecDepth 16384

noncomputable section

namespace Cert.AttnRef

open Cert.ReferenceIdeal Cert.ReferenceIdeal.Gen Cert.ReferenceIdeal.Value Idealize.ShloMosaic Idealize.ShloMosaic.TcCoe

/-- The projections, one row of tokens for every batch entry. -/
def proj (A : S16384x17408.Idx → EReal) : S4x4096x17408.Idx → EReal := shapeCast _ A shapeCasts_S16384x17408_S4x4096x17408

def keys (A : S16384x17408.Idx → EReal) : S4x32x128x4x64.Idx → EReal :=
  shapeCast _ (extractStridedSlice S4x4096x256 ![0, 0, 12352] (proj A) slices_S4x4096x17408_S4x4096x256_0_0_12352) shapeCasts_S4x4096x256_S4x32x128x4x64

def vals (A : S16384x17408.Idx → EReal) : S4x32x128x4x64.Idx → EReal :=
  shapeCast _ (extractStridedSlice S4x4096x256 ![0, 0, 12608] (proj A) slices_S4x4096x17408_S4x4096x256_0_0_12608) shapeCasts_S4x4096x256_S4x32x128x4x64

def queries (A : S16384x17408.Idx → EReal) : S4x32x128x4x8x64.Idx → EReal :=
  shapeCast _ (extractStridedSlice S4x4096x2048 ![0, 0, 10304] (proj A) slices_S4x4096x17408_S4x4096x2048_0_0_10304) shapeCasts_S4x4096x2048_S4x32x128x4x8x64

/-- A block of rows after the block before it, which is zeros for the first one. -/
def band (x : S4x32x128x4x64.Idx → EReal) : S4x32x256x4x64.Idx → EReal :=
  concatenate S4x32x256x4x64 2 [⟨S4x32x128x4x64, (pad S4x32x128x4x64 ![0, 1, 0, 0, 0] ![0, 0, 0, 0, 0] ![0, 0, 0, 0, 0] (extractStridedSlice S4x31x128x4x64 ![0, 0, 0, 0, 0] x slices_S4x32x128x4x64_S4x31x128x4x64_0_0_0_0_0) (sitofp (F := Ideal) .f32 (constantI S_ 32 0#32)) pads_S4x31x128x4x64_S4x32x128x4x64_000_100_000_000_000 h_S_)⟩, ⟨S4x32x128x4x64, x⟩] concatenates_S4x32x128x4x64_S4x32x128x4x64_S4x32x256x4x64_d2

def scores (A : S16384x17408.Idx → EReal) : S4x4x8x32x128x256.Idx → EReal :=
  transpose S4x4x8x32x128x256 [0, 1, 5, 2, 4, 3] (Host.dotGeneral (F := Ideal) (φ₁ := .f32) (φ₂ := .f32) dot_S4x32x256x4x64_S4x32x128x4x8x64_S4x4x32x256x128x8_4_5_2_24_031_031 none (band (keys A)) (queries A)) transposes_S4x4x32x256x128x8_S4x4x8x32x128x256_0_1_5_2_4_3

/-- How far a key of the band lies behind the query. -/
def dist : S128x256.Idx → BitVec 32 :=
  addi (subi (broadcastInDim S128x256 ![0, 1] bcast_S128x1_S128x256_0_1 (broadcastInDim S128x1 ![0] bcast_S128_S128x1_0 (iotaInDim S128 32 0))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32))

def valid : S32x128x256.Idx → BitVec 1 :=
  andi (broadcastInDim S32x128x256 ![0, 1, 2] bcast_S1x128x256_S32x128x256_0_1_2 (broadcastInDim S1x128x256 ![1, 2] bcast_S128x256_S1x128x256_1_2 (andi (cmpi .sge dist (broadcastInDim S128x256 ![] bcast_S_S128x256 (constantI S_ 32 0#32))) (cmpi .slt dist (broadcastInDim S128x256 ![] bcast_S_S128x256 (constantI S_ 32 128#32)))))) (broadcastInDim S32x128x256 ![0, 1, 2] bcast_S32x1x256_S32x128x256_0_1_2 (cmpi .sge (addi (broadcastInDim S32x1x256 ![0, 1, 2] bcast_S32x1x1_S32x1x256_0_1_2 (subi (muli (broadcastInDim S32x1x1 ![0] bcast_S32_S32x1x1_0 (iotaInDim S32 32 0)) (broadcastInDim S32x1x1 ![] bcast_S_S32x1x1 (constantI S_ 32 128#32))) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 (broadcastInDim S1x256 ![1] bcast_S256_S1x256_1 (iotaInDim S256 32 0))))) (broadcastInDim S32x1x256 ![] bcast_S_S32x1x256 (constantI S_ 32 0#32))))

def bias : S4x4x8x32x128x256.Idx → EReal :=
  broadcastInDim S4x4x8x32x128x256 ![0, 1, 2, 3, 4, 5] bcast_S1x4x8x1x128x256_S4x4x8x32x128x256_0_1_2_3_4_5 (broadcastInDim S1x4x8x1x128x256 ![1, 2, 3, 4, 5] bcast_S4x8x1x128x256_S1x4x8x1x128x256_1_2_3_4_5 (mulf (F := Ideal) (φ := .f32) (broadcastInDim S4x8x1x128x256 ![0, 1, 2, 3, 4] bcast_S4x8x1x1x1_S4x8x1x128x256_0_1_2_3_4 (Host.negf (broadcastInDim S4x8x1x1x1 ![0, 1] bcast_S4x8_S4x8x1x1x1_0_1 (shapeCast _ (Host.exp (mulf (F := Ideal) (φ := .f32) (broadcastInDim S32 ![] bcast_S_S32 (constant S_ .f32 0x3F317218#32)) (mulf (broadcastInDim S32 ![] bcast_S_S32 (constant S_ .f32 0xBE800000#32)) (addf (broadcastInDim S32 ![] bcast_S_S32 (constant S_ .f32 0x3F800000#32)) (sitofp .f32 (iotaInDim S32 32 0)))))) shapeCasts_S32_S4x8)))) (broadcastInDim S4x8x1x128x256 ![0, 1, 2, 3, 4] bcast_S1x1x1x128x256_S4x8x1x128x256_0_1_2_3_4 (broadcastInDim S1x1x1x128x256 ![3, 4] bcast_S128x256_S1x1x1x128x256_3_4 (sitofp .f32 dist)))))

def logits (A : S16384x17408.Idx → EReal) : S4x4x8x32x128x256.Idx → EReal :=
  select (broadcastInDim S4x4x8x32x128x256 ![3, 4, 5] bcast_S32x128x256_S4x4x8x32x128x256_3_4_5 valid) (addf (F := Ideal) (φ := .f32) (mulf (scores A) (broadcastInDim S4x4x8x32x128x256 ![] bcast_S_S4x4x8x32x128x256 (constant S_ .f32 0x3E000000#32))) bias) (broadcastInDim S4x4x8x32x128x256 ![] bcast_S_S4x4x8x32x128x256 (id (constant S_ .f32 0xFF800000#32 : FVec Ideal S_ .f32)))

def sink (S : S1x32.Idx → EReal) : S1x4x8x1x1x1.Idx → EReal := shapeCast _ (shapeCast _ S shapeCasts_S1x32_S32) shapeCasts_S32_S1x4x8x1x1x1

/-- The maximum over the band. -/
def rowTop (L : S4x4x8x32x128x256.Idx → EReal) : S4x4x8x32x128.Idx → EReal :=
  Host.reduce (FloatOps.maximumf (F := Ideal) (φ := .f32)) L (constant (F := Ideal) S_ .f32 0xFF800000#32) reducesTo_S4x4x8x32x128x256_S4x4x8x32x128_d5 h_S_

/-- The sum over the band. -/
def rowSum (L : S4x4x8x32x128x256.Idx → EReal) : S4x4x8x32x128.Idx → EReal :=
  Host.reduceAdd (F := Ideal) (φ := .f32) L (constant S_ .f32 0x00000000#32) reducesTo_S4x4x8x32x128x256_S4x4x8x32x128_d5 h_S_

def top (L : S4x4x8x32x128x256.Idx → EReal) (K : S1x4x8x1x1x1.Idx → EReal) : S4x4x8x32x128x1.Idx → EReal :=
  maximumf (F := Ideal) (φ := .f32) (broadcastInDim S4x4x8x32x128x1 ![0, 1, 2, 3, 4] bcast_S4x4x8x32x128_S4x4x8x32x128x1_0_1_2_3_4 (rowTop L)) (broadcastInDim S4x4x8x32x128x1 ![0, 1, 2, 3, 4, 5] bcast_S1x4x8x1x1x1_S4x4x8x32x128x1_0_1_2_3_4_5 K)

def expo (L : S4x4x8x32x128x256.Idx → EReal) (M : S4x4x8x32x128x1.Idx → EReal) : S4x4x8x32x128x256.Idx → EReal :=
  Host.exp (F := Ideal) (φ := .f32) (subf L (broadcastInDim S4x4x8x32x128x256 ![0, 1, 2, 3, 4, 5] bcast_S4x4x8x32x128x1_S4x4x8x32x128x256_0_1_2_3_4_5 M))

def den (L : S4x4x8x32x128x256.Idx → EReal) (K : S1x4x8x1x1x1.Idx → EReal) (M : S4x4x8x32x128x1.Idx → EReal) : S4x4x8x32x128x1.Idx → EReal :=
  addf (F := Ideal) (φ := .f32) (broadcastInDim S4x4x8x32x128x1 ![0, 1, 2, 3, 4] bcast_S4x4x8x32x128_S4x4x8x32x128x1_0_1_2_3_4 (rowSum (expo L M))) (Host.exp (subf (broadcastInDim S4x4x8x32x128x1 ![0, 1, 2, 3, 4, 5] bcast_S1x4x8x1x1x1_S4x4x8x32x128x1_0_1_2_3_4_5 K) M))

def probs (L : S4x4x8x32x128x256.Idx → EReal) (K : S1x4x8x1x1x1.Idx → EReal) : S4x4x8x32x128x256.Idx → EReal :=
  Host.divf (F := Ideal) (φ := .f32) (expo L (top L K)) (broadcastInDim S4x4x8x32x128x256 ![0, 1, 2, 3, 4, 5] bcast_S4x4x8x32x128x1_S4x4x8x32x128x256_0_1_2_3_4_5 (den L K (top L K)))

def attn (P : S4x4x8x32x128x256.Idx → EReal) (V : S4x32x128x4x64.Idx → EReal) : S16384x2048.Idx → EReal :=
  shapeCast _ (transpose S4x32x128x4x8x64 [0, 1, 5, 2, 4, 3] (Host.dotGeneral (F := Ideal) (φ₁ := .f32) (φ₂ := .f32) dot_S4x32x256x4x64_S4x4x8x32x128x256_S4x32x4x64x8x128_2_5_4_24_013_031 none (band V) P) transposes_S4x32x4x64x8x128_S4x32x128x4x8x64_0_1_5_2_4_3) shapeCasts_S4x32x128x4x8x64_S16384x2048

theorem res_eq (m : (ℓ : Loc nD τ sig) → Buf (Elt Ideal) ℓ) (c : Dev nD) :
    res_main_v87 m c = attn (probs (logits (m ((c.tc : Thread nD τ).loc main_arg0))) (sink (m ((c.tc : Thread nD τ).loc main_arg1))))
      (vals (m ((c.tc : Thread nD τ).loc main_arg0))) := rfl

end Cert.AttnRef

end
-- ==== Proof.AttnRefRead.lean ====
/- Each stage of the reference's attention at an index. -/
module

public import proofs.«01_k».proof.Proof.AttnRef
public import proofs.«01_k».proof.Proof.AttnSpec

@[expose] public section

set_option maxRecDepth 16384

noncomputable section

namespace Cert.AttnRef

open Cert.ReferenceIdeal Cert.ReferenceIdeal.Gen Cert.ReferenceIdeal.Value Idealize.ShloMosaic Idealize.ShloMosaic.TcCoe

theorem keys_apply (A) (b : Fin 4) (n : Fin 32) (i : Fin 128) (k : Fin 4) (d : Fin 64) :
    keys A (ix5 b n i k d) = A (ix2 ⟨b.val * 4096 + (n.val * 128 + i.val), by omega⟩ ⟨12352 + (k.val * 64 + d.val), by omega⟩) := by
  unfold keys proj; pointwise

theorem vals_apply (A) (b : Fin 4) (n : Fin 32) (i : Fin 128) (k : Fin 4) (d : Fin 64) :
    vals A (ix5 b n i k d) = A (ix2 ⟨b.val * 4096 + (n.val * 128 + i.val), by omega⟩ ⟨12608 + (k.val * 64 + d.val), by omega⟩) := by
  unfold vals proj; pointwise

theorem queries_apply (A) (b : Fin 4) (n : Fin 32) (i : Fin 128) (k : Fin 4) (r : Fin 8) (d : Fin 64) :
    queries A (ix6 b n i k r d)
      = A (ix2 ⟨b.val * 4096 + (n.val * 128 + i.val), by omega⟩ ⟨10304 + (k.val * 512 + r.val * 64 + d.val), by omega⟩) := by
  unfold queries proj; pointwise

theorem band_apply (x) (b : Fin 4) (n : Fin 32) (j : Fin 256) (k : Fin 4) (d : Fin 64) :
    band x (ix5 b n j k d) = if h : j.val < 128 then (if h0 : 1 ≤ n.val then x (ix5 b ⟨n.val - 1, by omega⟩ ⟨j.val, h⟩ k d) else 0)
      else x (ix5 b n ⟨j.val - 128, by omega⟩ k d) := by
  unfold band; pointwise
  have hn : n.val - 1 < 31 := by omega
  by_cases h : j.val < 128
  · by_cases h0 : 1 ≤ n.val
    · simp [h, h0, hn]
    · simp only [h, h0, dif_pos, dif_neg, false_and, not_false_eq_true]
      show ((BitVec.toInt 0#32 : ℝ) : EReal) = 0
      simp
  · simp [h]

theorem scores_apply (A) (b : Fin 4) (k : Fin 4) (r : Fin 8) (n : Fin 32) (l : Fin 128) (j : Fin 256) :
    scores A (ix6 b k r n l j) = ∑ d : Fin 64, band (keys A) (ix5 b n j k d) * queries A (ix6 b n l k r d) := by
  unfold scores; pointwise

theorem dist_apply (l : Fin 128) (j : Fin 256) : dist (ix2 l j) = IntOp.addi (IntOp.subi (BitVec.ofNat 32 l.val) (BitVec.ofNat 32 j.val)) 128#32 := by
  unfold dist; pointwise

/-- The window's test, in 32-bit words. -/
theorem window_word : ∀ (l : Fin 128) (j : Fin 256), IntOp.andi
      (IntOp.cmpi CmpIPredicate.sge (IntOp.addi (IntOp.subi (BitVec.ofNat 32 l.val) (BitVec.ofNat 32 j.val)) 128#32) 0#32)
      (IntOp.cmpi CmpIPredicate.slt (IntOp.addi (IntOp.subi (BitVec.ofNat 32 l.val) (BitVec.ofNat 32 j.val)) 128#32) 128#32)
    = if l.val < j.val ∧ j.val ≤ l.val + 128 then 1#1 else 0#1 := by decide +kernel

/-- The test that a key lies in the sequence, in 32-bit words. -/
theorem inside_word : ∀ (n : Fin 32) (j : Fin 256),
      IntOp.cmpi CmpIPredicate.sge (IntOp.addi (IntOp.subi (IntOp.muli (BitVec.ofNat 32 n.val) 128#32) 128#32) (BitVec.ofNat 32 j.val)) 0#32
    = if 1 ≤ n.val ∨ 128 ≤ j.val then 1#1 else 0#1 := by decide +kernel

theorem valid_apply (n : Fin 32) (l : Fin 128) (j : Fin 256) :
    valid (ix3 n l j) = if (l.val < j.val ∧ j.val ≤ l.val + 128) ∧ (1 ≤ n.val ∨ 128 ≤ j.val) then 1#1 else 0#1 := by
  unfold valid; pointwise [dist_apply]
  rw [window_word, inside_word]
  by_cases h1 : l.val < j.val ∧ j.val ≤ l.val + 128 <;> by_cases h2 : 1 ≤ n.val ∨ 128 ≤ j.val <;> simp only [h1, h2, if_true, if_false, and_true, true_and, and_false, false_and, if_pos] <;> decide

theorem bias_apply (b : Fin 4) (k : Fin 4) (r : Fin 8) (n : Fin 32) (l : Fin 128) (j : Fin 256) :
    bias (ix6 b k r n l j) = -Attn.slope ⟨k.val * 8 + r.val, by omega⟩
      * FloatOps.sitofp (F := Ideal) .f32 (IntOp.addi (IntOp.subi (BitVec.ofNat 32 l.val) (BitVec.ofNat 32 j.val)) 128#32) := by
  unfold bias; pointwise [dist_apply]
  rfl

end Cert.AttnRef

end
-- ==== Proof.AttnRefSoft.lean ====
/- The reference's softmax and its weighted sum at an index. -/
module

public import proofs.«01_k».proof.Proof.AttnRefRead

@[expose] public section

set_option maxRecDepth 16384

noncomputable section

namespace Cert.AttnRef

open Cert.ReferenceIdeal Cert.ReferenceIdeal.Gen Cert.ReferenceIdeal.Value Idealize.ShloMosaic Idealize.ShloMosaic.TcCoe

theorem logits_apply (A) (b : Fin 4) (k : Fin 4) (r : Fin 8) (n : Fin 32) (l : Fin 128) (j : Fin 256) :
    logits A (ix6 b k r n l j) = if (l.val < j.val ∧ j.val ≤ l.val + 128) ∧ (1 ≤ n.val ∨ 128 ≤ j.val)
      then scores A (ix6 b k r n l j) * ((1 / 8 : ℝ) : EReal) + bias (ix6 b k r n l j) else ⊥ := by
  unfold logits; pointwise [valid_apply]
  have hz : id (constant S_ .f32 0xFF800000#32 : FVec Ideal S_ .f32) ix0 = (⊥ : EReal) := Consts.negInf
  rw [Consts.eighth, hz]
  by_cases h : (l.val < j.val ∧ j.val ≤ l.val + 128) ∧ (1 ≤ n.val ∨ 128 ≤ j.val) <;> simp [h, Scalar.select]

theorem sink_apply (S) (k : Fin 4) (r : Fin 8) : sink S (ix6 0 k r 0 0 0) = S (ix2 0 ⟨k.val * 8 + r.val, by omega⟩) := by
  unfold sink; pointwise

section lastAxis

variable {n0 n1 n2 n3 n4 n5 : Nat}

theorem lift_last (h : (⟨6, ![n0, n1, n2, n3, n4, n5]⟩ : Shape).Reduces [5] ⟨5, ![n0, n1, n2, n3, n4]⟩)
    (a : Fin n0) (b : Fin n1) (c : Fin n2) (d : Fin n3) (e : Fin n4) (k : Fin n5) : h.lift (ix5 a b c d e) k = ix6 a b c d e k := by
  funext x; apply Fin.ext
  match x with
  | ⟨0, _⟩ => rfl
  | ⟨1, _⟩ => rfl
  | ⟨2, _⟩ => rfl
  | ⟨3, _⟩ => rfl
  | ⟨4, _⟩ => rfl
  | ⟨5, _⟩ => rfl

/-- A maximum over the last of six axes. -/
theorem reduce_max {u : Shape} (h' : (⟨6, ![n0, n1, n2, n3, n4, n5]⟩ : Shape).ReducesTo [5] ⟨5, ![n0, n1, n2, n3, n4]⟩)
    (h : (⟨6, ![n0, n1, n2, n3, n4, n5]⟩ : Shape).Reduces [5] ⟨5, ![n0, n1, n2, n3, n4]⟩)
    (L : (⟨6, ![n0, n1, n2, n3, n4, n5]⟩ : Shape).Idx → EReal) (init : u.Idx → EReal) (hu : 0 < u.numel)
    (a : Fin n0) (b : Fin n1) (c : Fin n2) (d : Fin n3) (e : Fin n4) (hi : init (Shape.Idx.first hu) = ⊥) :
    Host.reduce (FloatOps.maximumf (F := Ideal) (φ := .f32)) L init h' hu (ix5 a b c d e) = Finset.univ.sup fun k : Fin n5 => L (ix6 a b c d e k) := by
  rw [Host.reduce_eq_fold_single _ L init h' h hu, hi]
  have e1 : L ∘ h.lift (ix5 a b c d e) = fun k : Fin n5 => L (ix6 a b c d e k) := funext fun k => congrArg L (lift_last h a b c d e k)
  rw [e1]
  rfl

/-- A sum over the last of six axes. -/
theorem reduce_sum {u : Shape} (h' : (⟨6, ![n0, n1, n2, n3, n4, n5]⟩ : Shape).ReducesTo [5] ⟨5, ![n0, n1, n2, n3, n4]⟩)
    (h : (⟨6, ![n0, n1, n2, n3, n4, n5]⟩ : Shape).Reduces [5] ⟨5, ![n0, n1, n2, n3, n4]⟩)
    (L : (⟨6, ![n0, n1, n2, n3, n4, n5]⟩ : Shape).Idx → EReal) (init : u.Idx → EReal) (hu : 0 < u.numel)
    (a : Fin n0) (b : Fin n1) (c : Fin n2) (d : Fin n3) (e : Fin n4) (hi : init (Shape.Idx.first hu) = 0) :
    Host.reduceAdd (F := Ideal) (φ := .f32) L init h' hu (ix5 a b c d e) = ∑ k : Fin n5, L (ix6 a b c d e k) := by
  refine (Ideal.hostReduceAdd_single h' h L _ _).trans ?_
  rw [hi, zero_add]
  exact Finset.sum_congr rfl fun k _ => congrArg L (lift_last h a b c d e k)

end lastAxis

theorem rowTop_apply (L) (b : Fin 4) (k : Fin 4) (r : Fin 8) (n : Fin 32) (l : Fin 128) :
    rowTop L (ix5 b k r n l) = Finset.univ.sup fun j : Fin 256 => L (ix6 b k r n l j) :=
  reduce_max reducesTo_S4x4x8x32x128x256_S4x4x8x32x128_d5 (by decide) L _ h_S_ b k r n l Consts.negInf

theorem rowSum_apply (L) (b : Fin 4) (k : Fin 4) (r : Fin 8) (n : Fin 32) (l : Fin 128) :
    rowSum L (ix5 b k r n l) = ∑ j : Fin 256, L (ix6 b k r n l j) :=
  reduce_sum reducesTo_S4x4x8x32x128x256_S4x4x8x32x128_d5 (by decide) L _ h_S_ b k r n l Consts.zero

theorem maximumf_at {s : Shape} (x y : s.Idx → EReal) (i : s.Idx) : maximumf (F := Ideal) (φ := .f32) x y i = max (x i) (y i) := rfl

theorem top_apply (L K) (b : Fin 4) (k : Fin 4) (r : Fin 8) (n : Fin 32) (l : Fin 128) :
    top L K (ix6 b k r n l 0) = max (Finset.univ.sup fun j : Fin 256 => L (ix6 b k r n l j)) (K (ix6 0 k r 0 0 0)) := by
  unfold top
  rw [maximumf_at]
  refine congrArg₂ max ?_ ?_
  · pointwise [rowTop_apply]
  · pointwise

theorem expo_apply (L M) (b : Fin 4) (k : Fin 4) (r : Fin 8) (n : Fin 32) (l : Fin 128) (j : Fin 256) :
    expo L M (ix6 b k r n l j) = Ideal.exp (L (ix6 b k r n l j) - M (ix6 b k r n l 0)) := by
  unfold expo; pointwise

theorem den_apply (L K M) (b : Fin 4) (k : Fin 4) (r : Fin 8) (n : Fin 32) (l : Fin 128) :
    den L K M (ix6 b k r n l 0) = (∑ j : Fin 256, expo L M (ix6 b k r n l j)) + Ideal.exp (K (ix6 0 k r 0 0 0) - M (ix6 b k r n l 0)) := by
  unfold den; pointwise [rowSum_apply]

theorem probs_apply (L K) (b : Fin 4) (k : Fin 4) (r : Fin 8) (n : Fin 32) (l : Fin 128) (j : Fin 256) :
    probs L K (ix6 b k r n l j) = Ideal.div (expo L (top L K) (ix6 b k r n l j)) (den L K (top L K) (ix6 b k r n l 0)) := by
  unfold probs; pointwise

theorem attn_apply (P V) (b : Fin 4) (n : Fin 32) (l : Fin 128) (k : Fin 4) (r : Fin 8) (d : Fin 64) :
    attn P V (ix2 ⟨4096 * b.val + 128 * n.val + l.val, by omega⟩ ⟨512 * k.val + 64 * r.val + d.val, by omega⟩)
      = ∑ j : Fin 256, band V (ix5 b n j k d) * P (ix6 b k r n l j) := by
  unfold attn; pointwise

end Cert.AttnRef

end
-- ==== Proof.AttnFinal.lean ====
/- Under finite queries, keys and sinks the two attentions are one array. -/
module

public import proofs.«01_k».proof.Proof.AttnKernel
public import proofs.«01_k».proof.Proof.AttnEq
public import proofs.«01_k».proof.Proof.AttnRefSoft

@[expose] public section

set_option maxRecDepth 16384

noncomputable section

namespace Cert.Attn

open Idealize.ShloMosaic

abbrev SP : Shape := ⟨2, ![16384, 17408]⟩
abbrev SS : Shape := ⟨2, ![1, 32]⟩

theorem cs_eq : cs = ((1 / 8 * (Real.log 2)⁻¹ : ℝ) : EReal) := IdealRules.named_const.ideal_named_scalar _ _ _ _ rfl
theorem cl_eq : cl = (((Real.log 2)⁻¹ : ℝ) : EReal) := IdealRules.named_const.ideal_named_scalar _ _ _ _ rfl

/-- The value is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.exp {x : EReal} (hx : IsReal x) : IsReal (Ideal.exp x) := by
  obtain ⟨a, rfl⟩ := hx; exact ⟨_, Ideal.exp_coe a⟩
theorem IsReal.sum {ι : Type*} {s : Finset ι} {f : ι → EReal} (hf : ∀ i, IsReal (f i)) : IsReal (∑ i ∈ s, f i) := by
  choose g hg using hf
  exact ⟨∑ i ∈ s, g i, by rw [coe_sum]; exact Finset.sum_congr rfl fun i _ => hg i⟩

theorem slope_real (h : Fin 32) : IsReal (slope h) := by
  refine IsReal.exp (IsReal.mul ⟨11629080 / 16777216, ?_⟩ (IsReal.mul ⟨-1 / 4, ?_⟩ (IsReal.add ⟨1, rfl⟩ ⟨_, rfl⟩)))
  · simp [Ideal.ofBits, Ideal.ieee, -EReal.coe_mul]
    norm_num
  · simp [Ideal.ofBits, Ideal.ieee, -EReal.coe_mul]
    norm_num

theorem dist_lo : ∀ j l : Fin 128, l.val < j.val →
    IntOp.addi (IntOp.subi (BitVec.ofNat 32 l.val) (BitVec.ofNat 32 j.val)) 128#32 = BitVec.ofNat 32 (slotDist j l) := by decide +kernel
theorem dist_hi : ∀ j l : Fin 128, ¬ l.val < j.val →
    IntOp.addi (IntOp.subi (BitVec.ofNat 32 l.val) (BitVec.ofNat 32 (128 + j.val))) 128#32 = BitVec.ofNat 32 (slotDist j l) := by decide +kernel

variable (A : SP.Idx → EReal) (S : SS.Idx → EReal)

/-- Token `i` of block `n` of batch entry `b`. -/
def row (b : Fin 4) (n : Fin 32) (i : Fin 128) : Fin 16384 := ⟨b.val * 4096 + (n.val * 128 + i.val), by omega⟩

theorem fold_eq (hA : ∀ i (j : Fin 17408), 10304 ≤ j.val → j.val < 12608 → IsReal (A (ix2 i j))) (hS : ∀ h, IsReal (S (ix2 0 h)))
    (b : Fin 4) (n : Fin 32) (l : Fin 128) (k : Fin 4) (r : Fin 8) (d : Fin 64) :
    attnFold A S ⟨b.val * 32 + n.val, by omega⟩ l ⟨k.val * 512 + r.val * 64 + d.val, by omega⟩
      = bandOut (fun j => AttnRef.logits A (ix6 b k r n l j)) (fun j => AttnRef.band (AttnRef.vals A) (ix5 b n j k d))
          (AttnRef.sink S (ix6 0 k r 0 0 0)) := by
  have h1 : (k.val * 512 + r.val * 64 + d.val) / 512 = k.val := by omega
  have h2 : (k.val * 512 + r.val * 64 + d.val) / 64 = k.val * 8 + r.val := by omega
  have h3 : (k.val * 512 + r.val * 64 + d.val) % 64 = d.val := by omega
  have h4 : (b.val * 32 + n.val) % 32 = n.val := by omega
  obtain ⟨κ, hκ⟩ := hS ⟨k.val * 8 + r.val, by omega⟩
  have q (e : Fin 64) : AttnRef.queries A (ix6 b n l k r e)
      = A (ix2 ⟨128 * (b.val * 32 + n.val) + l.val, by omega⟩ ⟨10304 + 64 * (k.val * 8 + r.val) + e.val, by omega⟩) := by
    rw [AttnRef.queries_apply]
    exact congrArg A (congrArg₂ ix2 (Fin.ext (by simp only []; omega)) (Fin.ext (by simp only []; omega)))
  have brHi (j : Fin 128) : bandRow ⟨b.val * 32 + n.val, by omega⟩ ⟨128 + j.val, by omega⟩ = row b n j := by
    apply Fin.ext; rw [bandRow, dif_neg (by simp)]; simp only [row]; omega
  have brLo (j : Fin 128) (hn : 1 ≤ n.val) : bandRow ⟨b.val * 32 + n.val, by omega⟩ ⟨j.val, by omega⟩ = row b ⟨n.val - 1, by omega⟩ j := by
    apply Fin.ext; rw [bandRow, dif_pos (by simp)]; simp only [row, prevRow, h4]; rw [if_neg (by omega)]; omega
  -- the kernel's dot products
  let dot (j : Fin 256) : EReal := ∑ e : Fin 64, A (ix2 (bandRow ⟨b.val * 32 + n.val, by omega⟩ j) ⟨12352 + 64 * k.val + e.val, by omega⟩)
    * A (ix2 ⟨128 * (b.val * 32 + n.val) + l.val, by omega⟩ ⟨10304 + 64 * (k.val * 8 + r.val) + e.val, by omega⟩)
  have dotReal (j) : IsReal (dot j) := IsReal.sum fun e => IsReal.mul (hA _ _ (by simp only []; omega) (by simp only []; omega))
    (hA _ _ (by simp only []; omega) (by simp only []; omega))
  have scHi (j : Fin 128) : AttnRef.scores A (ix6 b k r n l ⟨128 + j.val, by omega⟩) = dot ⟨128 + j.val, by omega⟩ := by
    rw [AttnRef.scores_apply]
    refine Finset.sum_congr rfl fun e _ => ?_
    rw [q, AttnRef.band_apply, dif_neg (by simp), AttnRef.keys_apply]
    rw [brHi]
    refine congrArg (· * _) (congrArg A (congrArg₂ ix2 (Fin.ext ?_) (Fin.ext ?_))) <;> simp only [row] <;> omega
  have scLo (j : Fin 128) (hn : 1 ≤ n.val) : AttnRef.scores A (ix6 b k r n l ⟨j.val, by omega⟩) = dot ⟨j.val, by omega⟩ := by
    rw [AttnRef.scores_apply]
    refine Finset.sum_congr rfl fun e _ => ?_
    rw [q, AttnRef.band_apply, dif_pos (by simp), dif_pos hn, AttnRef.keys_apply]
    rw [brLo j hn]
    refine congrArg (· * _) (congrArg A (congrArg₂ ix2 (Fin.ext ?_) (Fin.ext ?_))) <;> simp only [row] <;> omega
  -- the logits, before the change of base
  let ℓ (j : Fin 128) : EReal := if n.val = 0 ∧ l.val < j.val then ⊥
    else (if l.val < j.val then dot ⟨j.val, by omega⟩ else dot ⟨128 + j.val, by omega⟩) * ((1 / 8 : ℝ) : EReal)
      + -slope ⟨k.val * 8 + r.val, by omega⟩ * distF (slotDist j l)
  have biasReal (j : Fin 128) : IsReal (-slope ⟨k.val * 8 + r.val, by omega⟩ * distF (slotDist j l)) := (slope_real _).neg.mul ⟨_, rfl⟩
  have selReal (j : Fin 128) : IsReal (if l.val < j.val then dot ⟨j.val, by omega⟩ else dot ⟨128 + j.val, by omega⟩) := by
    split <;> exact dotReal _
  have hℓ (j) : ℓ j ≠ ⊤ := by
    simp only [ℓ]
    split
    · exact bot_ne_top
    · obtain ⟨x, hx⟩ := ((selReal j).mul ⟨1 / 8, rfl⟩).add (biasReal j)
      rw [hx]; exact EReal.coe_ne_top x
  have key := slot_eq l ℓ hℓ κ (fun j => AttnRef.logits A (ix6 b k r n l j)) (fun j => AttnRef.band (AttnRef.vals A) (ix5 b n j k d))
    (fun i => A (ix2 (bandRow ⟨b.val * 32 + n.val, by omega⟩ i) ⟨12608 + 64 * k.val + d.val, by omega⟩))
    (fun j => by
      simp only [ℓ]
      rw [AttnRef.logits_apply, AttnRef.bias_apply]
      by_cases hj : l.val < j.val
      · by_cases hn : n.val = 0
        · rw [if_neg (by simp only []; omega), if_pos hj, if_pos ⟨hn, hj⟩]
        · rw [if_pos (by simp only []; omega), if_pos hj, if_neg (by omega), if_pos hj, scLo j (by omega), dist_lo j l hj]
          rfl
      · rw [if_neg (by simp only []; omega), if_neg hj])
    (fun j => by
      simp only [ℓ]
      rw [AttnRef.logits_apply, AttnRef.bias_apply]
      by_cases hj : l.val < j.val
      · rw [if_neg (by simp only []; omega), if_pos hj]
      · rw [if_pos (by simp only []; omega), if_neg hj, if_neg (by omega), if_neg hj, scHi j, dist_hi j l hj]
        rfl)
    (fun j hj hb => by
      have hn : 1 ≤ n.val := by
        by_contra hn
        exact hb (if_pos ⟨by omega, hj⟩)
      rw [AttnRef.band_apply, dif_pos (by simp), dif_pos hn, AttnRef.vals_apply, brLo j hn]
      refine congrArg A (congrArg₂ ix2 (Fin.ext ?_) (Fin.ext ?_)) <;> simp only [row] <;> omega)
    (fun j => by
      rw [AttnRef.band_apply, dif_neg (by simp), AttnRef.vals_apply, brHi]
      refine congrArg A (congrArg₂ ix2 (Fin.ext ?_) (Fin.ext ?_)) <;> simp only [row] <;> omega)
  have hsink : AttnRef.sink S (ix6 0 k r 0 0 0) = (κ : EReal) := (AttnRef.sink_apply S k r).trans hκ
  rw [hsink, ← key]
  unfold attnFold
  simp only [h1, h2, h3, h4, hκ, cl_eq]
  refine congrArg (fun L => slotOut L _ _ l) (funext fun j => ?_)
  simp only [slotLogit, cs_eq, ℓ]
  obtain ⟨s, hs⟩ := selReal j
  obtain ⟨x, hx⟩ := biasReal j
  simp only [dot] at hs
  rw [hs, hx]
  have hpos : 0 < (Real.log 2)⁻¹ := inv_pos.mpr (Real.log_pos one_lt_two)
  have hreal : (s : EReal) * ((1 / 8 * (Real.log 2)⁻¹ : ℝ) : EReal) + (x : EReal) * (((Real.log 2)⁻¹ : ℝ) : EReal)
      = ((s : EReal) * ((1 / 8 : ℝ) : EReal) + (x : EReal)) * (((Real.log 2)⁻¹ : ℝ) : EReal) := by
    simp only [← EReal.coe_mul, ← EReal.coe_add]
    exact congrArg _ (by ring)
  by_cases hn : n.val = 0
  · by_cases hj : l.val < j.val
    · rw [if_pos hn, if_pos hj, if_pos ⟨hn, hj⟩, EReal.bot_mul_coe_of_pos hpos, EReal.add_bot]
    · rw [if_pos hn, if_neg hj, if_neg (by omega), hreal]
  · rw [if_neg hn, if_neg (by omega), hreal]

/-- The two arrays are one. -/
theorem attention_eq (hA : ∀ i (j : Fin 17408), 10304 ≤ j.val → j.val < 12608 → IsReal (A (ix2 i j))) (hS : ∀ h, IsReal (S (ix2 0 h))) :
    attnArr A S = AttnRef.attn (AttnRef.probs (AttnRef.logits A) (AttnRef.sink S)) (AttnRef.vals A) := by
  funext y
  have y0 : (y 0).val < 16384 := (y 0).isLt
  have y1 : (y 1).val < 2048 := (y 1).isLt
  obtain ⟨b, n, l, hr⟩ : ∃ (b : Fin 4) (n : Fin 32) (l : Fin 128), (y 0).val = 4096 * b.val + 128 * n.val + l.val :=
    ⟨⟨(y 0).val / 4096, by omega⟩, ⟨(y 0).val / 128 % 32, by omega⟩, ⟨(y 0).val % 128, by omega⟩, by simp only []; omega⟩
  obtain ⟨k, r, d, hc⟩ : ∃ (k : Fin 4) (r : Fin 8) (d : Fin 64), (y 1).val = 512 * k.val + 64 * r.val + d.val :=
    ⟨⟨(y 1).val / 512, by omega⟩, ⟨(y 1).val / 64 % 8, by omega⟩, ⟨(y 1).val % 64, by omega⟩, by simp only []; omega⟩
  have hy : y = ix2 ⟨4096 * b.val + 128 * n.val + l.val, by omega⟩ ⟨512 * k.val + 64 * r.val + d.val, by omega⟩ := by
    funext a; apply Fin.ext
    match a with
    | ⟨0, _⟩ => exact hr
    | ⟨1, _⟩ => exact hc
  have e1 : (4096 * b.val + 128 * n.val + l.val) / 128 = b.val * 32 + n.val := by omega
  have e2 : (4096 * b.val + 128 * n.val + l.val) % 128 = l.val := by omega
  have e3 : 512 * k.val + 64 * r.val + d.val = k.val * 512 + r.val * 64 + d.val := by omega
  rw [hy, AttnRef.attn_apply]
  show attnFold A S ⟨(4096 * b.val + 128 * n.val + l.val) / 128, _⟩ ⟨(4096 * b.val + 128 * n.val + l.val) % 128, _⟩
    ⟨512 * k.val + 64 * r.val + d.val, _⟩ = _
  simp only [e1, e2, e3]
  refine (fold_eq A S hA hS b n l k r d).trans ?_
  rw [bandOut]
  refine Finset.sum_congr rfl fun j _ => ?_
  rw [AttnRef.probs_apply, AttnRef.den_apply]
  simp only [AttnRef.expo_apply, AttnRef.top_apply]

end Cert.Attn

end
-- ==== Proof.AttnClaim.lean ====
/- The claims about the attention call. -/
module

public import proofs.«01_k».proof.Proof.AttnFinal
public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import Idealize.ShloMosaic.Adequacy
public import Idealize.ShloMosaic.Init

@[expose] public section

set_option maxRecDepth 16384

noncomputable section

namespace Cert.AttnClaim

open Idealize.ShloMosaic Idealize.SL.Sem

theorem preFacts : Cert.Pre_finite_queries_keys_sinks.Facts where
  slices_S16384x17408_S16384x2304_0_10304 := by decide
  bcast_S_S16384x2304 := by decide
  bcast_S_S1x32 := by decide

attribute [local instance] preFacts

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_queries_keys_sinks := fun m ρ _ => Cert.KernelIdeal.Gen.frame m ρ

theorem reference_frame (m) (ρ) : θ_run (Cert.ReferenceIdeal.defs (F := Ideal)) (onTc (τ := Cert.ReferenceIdeal.τ) (Cert.ReferenceIdeal.main (F := Ideal)))
    ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

theorem frame_ri : Cert.quiescent_ReferenceIdeal := fun m ρ _ => reference_frame m ρ
theorem frame_ri_pre : Cert.quiescent_ReferenceIdeal_pre_finite_queries_keys_sinks := fun m ρ _ => reference_frame m ρ

theorem preserves : Cert.preserves_Kernel_KernelIdeal :=
  ⟨IdealRules.named_const.statement Cert.KernelIdeal.κ "qk_scale" .f32 0x3E38AA3B#32 _ rfl,
   IdealRules.named_const.statement Cert.KernelIdeal.κ "log2e" .f32 0x3FB8AA3B#32 _ rfl⟩

/-- A value below infinity in size is a real. -/
theorem real_of_abs_lt {x : EReal} (h : Ideal.cmp .olt (max x (-x)) (Ideal.ofBits .f32 0x7F800000#32) = 1#1) : Attn.IsReal x := by
  rw [Consts.posInf] at h
  induction x using EReal.rec with
  | bot => simp [Ideal.cmp] at h
  | top => simp [Ideal.cmp] at h
  | coe r => exact ⟨r, rfl⟩

/-- What the precondition says of the arrays. -/
theorem finite (A : Attn.SP.Idx → EReal) (S : Attn.SS.Idx → EReal)
    (h1 : (Cert.Pre_finite_queries_keys_sinks.fn (F := Ideal) A S).1 = fun _ => 1#1)
    (h2 : (Cert.Pre_finite_queries_keys_sinks.fn (F := Ideal) A S).2 = fun _ => 1#1) :
    (∀ i (j : Fin 17408), 10304 ≤ j.val → j.val < 12608 → Attn.IsReal (A (ix2 i j))) ∧ ∀ h, Attn.IsReal (S (ix2 0 h)) := by
  constructor
  · intro i j hj1 hj2
    have e := congrFun h1 (ix2 i ⟨j.val - 10304, by omega⟩)
    refine real_of_abs_lt ?_
    have ej : (⟨10304 + (j.val - 10304), by omega⟩ : Fin 17408) = j := Fin.ext (by simp only []; omega)
    unfold Cert.Pre_finite_queries_keys_sinks.fn at e
    revert e
    pointwise
    rw [ej]
    exact id
  · intro h
    have e := congrFun h2 (ix2 0 h)
    exact real_of_abs_lt e

theorem algebraic : Cert.algebraic_KernelIdeal_ReferenceIdeal_pre_finite_queries_keys_sinks := by
  intro m g m' g' hpre hag
  refine ⟨fun c => (Cert.KernelIdeal.Gen.dats m 0 c).arrAt 6 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨hA, hS⟩ := finite _ _ (hpre c).1 (hpre c).2
  refine (AttnRef.res_eq m' c).trans ?_
  rw [(hag c).1, (hag c).2]
  exact ((Attn.arr_eq m c).trans (Attn.attention_eq _ _ hA hS)).symm

end Cert.AttnClaim

end
-- ==== Proof.FfnSpec.lean ====
/- What the feed-forward part computes at one place, over plain functions. -/
module

public import Idealize.ShloMosaic.Lib.Pointwise

@[expose] public section

noncomputable section

namespace Cert.FfnSpec

open Idealize.ShloMosaic

/-- A token over its root mean square, times the weights. -/
def normed (x w : Fin 2048 → EReal) (d : Fin 2048) : EReal :=
  x d * Ideal.rsqrt (Ideal.div (∑ k, x k * x k) (Ideal.ofBits .f32 0x45000000#32) + Ideal.ofBits .f32 0x3727C5AC#32) * w d

/-- A product of a row with a column. -/
def dot (u w : Fin 2048 → EReal) : EReal := ∑ d, u d * w d

/-- The three taps over a gate and the two before it. -/
def conv (g0 g1 g2 w0 w1 w2 b : EReal) : EReal := g0 * w0 + g1 * w1 + g2 * w2 + b

/-- The gelu, with the error function as it is. -/
def gelu (c : EReal) : EReal :=
  Ideal.ofBits .f32 0x3F000000#32 * c * (1 + Ideal.erf (c * Ideal.ofBits .f32 0x3F3504F3#32))

end Cert.FfnSpec

end
-- ==== Proof.FfnStep.lean ====
/- What one step of the feed-forward call computes at an index, from the contents of the buffers. -/
module

public import proofs.«01_k».proof.Proof.Gen.FfnIdeal.Skeleton
public import proofs.«01_k».proof.Proof.FfnSpec
public import proofs.«01_k».proof.Proof.Consts

@[expose] public section

set_option maxRecDepth 16384

noncomputable section

namespace Cert.FfnV

open Cert.FfnIdeal Cert.FfnIdeal.Gen Idealize.ShloMosaic Idealize.ShloMosaic.TcCoe

/-- The kernel's three taps, the last first. -/
def convK (g0 g1 g2 w0 w1 w2 b : EReal) : EReal := b + w2 * g2 + w0 * g0 + w1 * g1

/-- The step's activation at row `l`, channel `f`: 16 rows before the block lie in front of it. -/
def stepAct (u : Vec Ideal S528x2048 .bf16) (wg wv : Vec Ideal S2048x512 .bf16) (cw : Vec Ideal S1x3x512 .f32) (cb : Vec Ideal S1x512 .f32)
    (l f : Fin 512) : EReal :=
  FfnSpec.gelu (convK (FfnSpec.dot (fun d => u (ix2 ⟨l.val + 14, by omega⟩ d)) fun d => wg (ix2 d f))
      (FfnSpec.dot (fun d => u (ix2 ⟨l.val + 15, by omega⟩ d)) fun d => wg (ix2 d f))
      (FfnSpec.dot (fun d => u (ix2 ⟨l.val + 16, by omega⟩ d)) fun d => wg (ix2 d f))
      (cw (ix3 0 0 f)) (cw (ix3 0 1 f)) (cw (ix3 0 2 f)) (cb (ix2 0 f)))
    * FfnSpec.dot (fun d => u (ix2 ⟨l.val + 16, by omega⟩ d)) fun d => wv (ix2 d f)

theorem conv_apply (u : Vec Ideal S528x2048 .bf16) (wg : Vec Ideal S2048x512 .bf16) (cw : Vec Ideal S1x3x512 .f32) (cb : Vec Ideal S1x512 .f32)
    (l f : Fin 512) : k0_pay9 u wg cw cb (ix2 l f) = convK (FfnSpec.dot (fun d => u (ix2 ⟨l.val + 14, by omega⟩ d)) fun d => wg (ix2 d f))
      (FfnSpec.dot (fun d => u (ix2 ⟨l.val + 15, by omega⟩ d)) fun d => wg (ix2 d f))
      (FfnSpec.dot (fun d => u (ix2 ⟨l.val + 16, by omega⟩ d)) fun d => wg (ix2 d f))
      (cw (ix3 0 0 f)) (cw (ix3 0 1 f)) (cw (ix3 0 2 f)) (cb (ix2 0 f)) := by
  unfold k0_pay9 convK FfnSpec.dot; pointwise
  simp only [Nat.add_comm]

theorem half_apply (u : Vec Ideal S528x2048 .bf16) (wg : Vec Ideal S2048x512 .bf16) (cw : Vec Ideal S1x3x512 .f32) (cb : Vec Ideal S1x512 .f32)
    (l f : Fin 512) : k0_pay10 u wg cw cb (ix2 l f) = Ideal.ofBits .f32 0x3F000000#32 * k0_pay9 u wg cw cb (ix2 l f) := by
  unfold k0_pay10; pointwise

theorem erf_apply (u : Vec Ideal S528x2048 .bf16) (wg : Vec Ideal S2048x512 .bf16) (cw : Vec Ideal S1x3x512 .f32) (cb : Vec Ideal S1x512 .f32)
    (l f : Fin 512) : k0_pay11 u wg cw cb (ix2 l f) = 1 + Ideal.erf (k0_pay9 u wg cw cb (ix2 l f) * Ideal.ofBits .f32 0x3F3504F3#32) := by
  unfold k0_pay11; pointwise
  rfl

theorem val_apply (u : Vec Ideal S512x2048 .bf16) (wv : Vec Ideal S2048x512 .bf16) (l f : Fin 512) :
    k0_pay8 u wv (ix2 l f) = FfnSpec.dot (fun d => u (ix2 l d)) fun d => wv (ix2 d f) := by
  unfold k0_pay8 FfnSpec.dot; pointwise

theorem step_apply (u : Vec Ideal S528x2048 .bf16) (u' : Vec Ideal S512x2048 .bf16) (wg wv : Vec Ideal S2048x512 .bf16) (cw : Vec Ideal S1x3x512 .f32)
    (cb : Vec Ideal S1x512 .f32) (acc : Vec Ideal S512x2048 .f32) (wo : Vec Ideal S512x2048 .bf16)
    (hu : ∀ l d, u' (ix2 l d) = u (ix2 ⟨l.val + 16, by omega⟩ d)) (l : Fin 512) (d : Fin 2048) :
    k0_pay1 (k0_pay8 u' wv) (k0_pay10 u wg cw cb) (k0_pay11 u wg cw cb) acc wo (ix2 l d)
      = acc (ix2 l d) + ∑ f : Fin 512, stepAct u wg wv cw cb l f * wo (ix2 f d) := by
  unfold k0_pay1; pointwise [half_apply, erf_apply, val_apply, conv_apply]
  unfold stepAct FfnSpec.gelu
  simp only [hu]

theorem zero_apply (l : Fin 512) (d : Fin 2048) : k0_pay7 (F := Ideal) (ix2 l d) = 0 := by
  unfold k0_pay7; pointwise

theorem last_apply (x acc : Vec Ideal S512x2048 .f32) (w : Vec Ideal S1x2048 .f32) (l : Fin 512) (d : Fin 2048) :
    k0_pay2 x acc w (ix2 l d) = FfnSpec.normed (fun k => x (ix2 l k) + acc (ix2 l k)) (fun k => w (ix2 0 k)) d := by
  unfold k0_pay2 FfnSpec.normed; pointwise

theorem mean_apply (x : Vec Ideal S512x2048 .f32) (l : Fin 512) :
    k0_pay5 x (ix2 l 0) = Ideal.div (∑ k : Fin 2048, x (ix2 l k) * x (ix2 l k)) (Ideal.ofBits .f32 0x45000000#32) := by
  unfold k0_pay5; pointwise

theorem rows_apply (x : Vec Ideal S512x2048 .f32) (w : Vec Ideal S1x2048 .f32) (l : Fin 512) (d : Fin 2048) :
    k0_pay6 (k0_pay3 w) x (k0_pay5 x) (ix2 l d) = FfnSpec.normed (fun k => x (ix2 l k)) (fun k => w (ix2 0 k)) d := by
  unfold k0_pay6 k0_pay3 FfnSpec.normed; pointwise [mean_apply]

/-- Whether the block is the first of its sequence, as the kernel asks it. -/
def isFirst (n : BitVec 32) : BitVec 1 :=
  Scalar.cmpi CmpIPredicate.eq
    (Scalar.select
      (Scalar.andi (Scalar.xori (Scalar.cmpi CmpIPredicate.slt (Scalar.remsi n (Scalar.select (Scalar.cmpi CmpIPredicate.eq 8#32 0#32) 1#32 8#32)) 0#32)
          (Scalar.cmpi CmpIPredicate.slt (Scalar.select (Scalar.cmpi CmpIPredicate.eq 8#32 0#32) 1#32 8#32) 0#32))
        (Scalar.cmpi CmpIPredicate.ne (Scalar.remsi n (Scalar.select (Scalar.cmpi CmpIPredicate.eq 8#32 0#32) 1#32 8#32)) 0#32))
      (Scalar.addi (Scalar.remsi n (Scalar.select (Scalar.cmpi CmpIPredicate.eq 8#32 0#32) 1#32 8#32))
        (Scalar.select (Scalar.cmpi CmpIPredicate.eq 8#32 0#32) 1#32 8#32))
      (Scalar.remsi n (Scalar.select (Scalar.cmpi CmpIPredicate.eq 8#32 0#32) 1#32 8#32)))
    0#32

theorem isFirst_eq : ∀ i : Fin 32, isFirst (BitVec.ofNat 32 i.val) = if i.val % 8 = 0 then 1#1 else 0#1 := by decide +kernel

theorem halo_apply (i : Fin 32) (w : Vec Ideal S1x2048 .f32) (x : Vec Ideal S16x2048 .f32) (r : Fin 16) (d : Fin 2048) :
    k0_pay4 (BitVec.ofNat 32 i.val) w x (ix2 r d)
      = if i.val % 8 = 0 then 0 else FfnSpec.normed (fun k => x (ix2 r k)) (fun k => w (ix2 0 k)) d := by
  unfold k0_pay4 k0_pay3 FfnSpec.normed; pointwise
  refine Eq.trans (b := Scalar.select (isFirst (BitVec.ofNat 32 i.val)) _ _) rfl ?_
  rw [isFirst_eq]
  by_cases h : i.val % 8 = 0 <;> simp [Scalar.select, h]

end Cert.FfnV

end
-- ==== Proof.FfnCase.lean ====
/- What the points of the grid leave in the two scratch buffers and in the output's. -/
module

public import proofs.«01_k».proof.Proof.Gen.FfnIdeal.Value
public import proofs.«01_k».proof.Proof.FfnStep
public import Idealize.ShloMosaic.Lib.Pipeline.ValueKit
public import Idealize.ShloMosaic.Lib.Pipeline.ReadBack

@[expose] public section

set_option maxRecDepth 16384

noncomputable section

namespace Cert.FfnV

open Cert.FfnIdeal Cert.FfnIdeal.Gen Idealize.ShloMosaic Idealize.ShloMosaic.TcCoe

variable (m : (ℓ : Loc nD τ sig) → Buf (Elt Ideal) ℓ)

/-- The normed rows of a block, after 16 of the block before. -/
def stack (i : Fin 32) (x0 : Vec Ideal S512x2048 .f32) (x1 : Vec Ideal S16x2048 .f32) (x2 : Vec Ideal S1x2048 .f32) : Vec Ideal S528x2048 .bf16 :=
  fun y => if h : (y 0).val < 16 then
      (if i.val % 8 = 0 then 0 else FfnSpec.normed (fun k => x1 (ix2 ⟨(y 0).val, h⟩ k)) (fun k => x2 (ix2 0 k)) (y 1))
    else FfnSpec.normed (fun k => x0 (ix2 ⟨(y 0).val - 16, by have : (y 0).val < 528 := (y 0).isLt; omega⟩ k)) (fun k => x2 (ix2 0 k)) (y 1)

theorem stack_hi (i : Fin 32) (x0 : Vec Ideal S512x2048 .f32) (x1 : Vec Ideal S16x2048 .f32) (x2 : Vec Ideal S1x2048 .f32) (l : Fin 512) (d : Fin 2048) :
    stack i x0 x1 x2 (ix2 ⟨l.val + 16, by omega⟩ d) = FfnSpec.normed (fun k => x0 (ix2 l k)) (fun k => x2 (ix2 0 k)) d := by
  have h : ¬l.val + 16 < 16 := by omega
  unfold stack
  refine (dif_neg h).trans ?_
  simp only [Nat.add_sub_cancel]
  rfl

theorem stack_lo (i : Fin 32) (x0 : Vec Ideal S512x2048 .f32) (x1 : Vec Ideal S16x2048 .f32) (x2 : Vec Ideal S1x2048 .f32) (r : Fin 16) (d : Fin 2048) :
    stack i x0 x1 x2 (ix2 ⟨r.val, by omega⟩ d)
      = if i.val % 8 = 0 then 0 else FfnSpec.normed (fun k => x1 (ix2 r k)) (fun k => x2 (ix2 0 k)) d := by
  unfold stack
  exact dif_pos r.isLt

theorem emb_hi (h) (l : Fin 512) (d : Fin 2048) :
    (Rect.unit (s := S528x2048) ![16, 0] ![512, 2048] h).emb (ix2 l d) = ix2 ⟨l.val + 16, by omega⟩ d := by
  funext a; apply Fin.ext
  refine (Rect.idx_unit_val _ _ h (ix2 l d) a).trans ?_
  match a with
  | ⟨0, _⟩ => exact Nat.add_comm _ _
  | ⟨1, _⟩ => exact Nat.zero_add _

theorem emb_lo (h) (r : Fin 16) (d : Fin 2048) :
    (Rect.unit (s := S528x2048) ![0, 0] ![16, 2048] h).emb (ix2 r d) = ix2 ⟨r.val, by omega⟩ d := by
  funext a; apply Fin.ext
  refine (Rect.idx_unit_val _ _ h (ix2 r d) a).trans ?_
  match a with
  | ⟨0, _⟩ => exact Nat.zero_add _
  | ⟨1, _⟩ => exact Nat.zero_add _

theorem canon_stack (i : Fin 32) (x0 : Vec Ideal S512x2048 .f32) (x1 : Vec Ideal S16x2048 .f32) (x2 : Vec Ideal S1x2048 .f32) (h16 h0) :
    View.canon [⟨Rect.unit (s := S528x2048) ![16, 0] ![512, 2048] h16, k0_pay6 (k0_pay3 x2) x0 (k0_pay5 x0)⟩,
      ⟨Rect.unit (s := S528x2048) ![0, 0] ![16, 2048] h0, k0_pay4 (BitVec.ofNat 32 i.val) x2 x1⟩] = stack i x0 x1 x2 := by
  funext y
  refine View.canon_apply_of_pieces (stack i x0 x1 x2) _ ?_ y (View.cover_of_tiledBy _ ![16, 2048] (by sl_kernel_rfl) y)
  intro p hp x
  rcases List.mem_cons.mp hp with rfl | hp
  · have hx : x = ix2 (n0 := 512) (n1 := 2048) (x 0) (x 1) := eq_ix2 _
    rw [hx]
    refine (rows_apply x0 x2 (x 0) (x 1)).trans ?_
    exact (stack_hi i x0 x1 x2 (x 0) (x 1)).symm.trans (congrArg (stack i x0 x1 x2) (emb_hi h16 (x 0) (x 1)).symm)
  · obtain rfl := List.mem_singleton.mp hp
    have hx : x = ix2 (n0 := 16) (n1 := 2048) (x 0) (x 1) := eq_ix2 _
    rw [hx]
    refine (halo_apply i x2 x1 (x 0) (x 1)).trans ?_
    exact (stack_lo i x0 x1 x2 (x 0) (x 1)).symm.trans (congrArg (stack i x0 x1 x2) (emb_lo h0 (x 0) (x 1)).symm)

theorem rows_A (c : Dev nD) (t : Fin cfg0.N) (h0 : t.val % 11 = 0) (h1 : ¬t.val % 11 = 10) :
    (outsAt0 m c t.val t.isLt).2.1 = stack (grid0.coords t 0) (iblk m c 0 t) (iblk m c 1 t) (iblk m c 2 t) := by
  rw [outsAt0_A m c t h0 h1]; frame_out
  exact canon_stack (grid0.coords t 0) _ _ _ _ _

theorem rows_next (c : Dev nD) (t : Fin cfg0.N) (h0 : ¬t.val % 11 = 0) :
    (outsAt0 m c t.val t.isLt).2.1 = (outsAt0 m c (t.val - 1) (by omega)).2.1 := by
  by_cases h1 : t.val % 11 = 10
  · rw [outsAt0_C m c t h0 h1]; rfl
  · rw [outsAt0_B m c t h0 h1]; rfl

/-- What a point adds to the sums. -/
def addend (c : Dev nD) (t : Fin cfg0.N) (l : Fin 512) (d : Fin 2048) : EReal :=
  ∑ f : Fin 512, stepAct (outsAt0 m c t.val t.isLt).2.1 (iblk m c 3 t) (iblk m c 4 t) (iblk m c 5 t) (iblk m c 6 t) l f * iblk m c 7 t (ix2 f d)

theorem ld_hi (u : Vec Ideal S528x2048 .bf16) (h) (l : Fin 512) (d : Fin 2048) :
    View.ld u (Rect.unit (s := S528x2048) ![16, 0] ![512, 2048] h) (ix2 l d) = u (ix2 ⟨l.val + 16, by omega⟩ d) := by
  refine View.ld_unit_apply_of u _ _ _ _ _ fun a => ?_
  match a with
  | ⟨0, _⟩ => exact Nat.add_comm _ _
  | ⟨1, _⟩ => exact (Nat.zero_add _).symm

theorem readCov_ld {sig : RefSig} {κ : Kind} {sp : Space} {s : Shape} {e : EltTy} {Val : EltTy → Type} [∀ e, Nonempty (Val e)] (v : View sig κ sp s e)
    (L : List (View.Piece Val s e)) (r : Rect s) : v.readCov L r.toLoadRect = View.ld (View.canon L) r := View.readCov_eq_canon' v L _

theorem ld_all (u : Vec Ideal S528x2048 .bf16) (h) : View.ld u (Rect.unit (s := S528x2048) ![0, 0] ![528, 2048] h) = u :=
  View.ld_unit_zero (by funext a; fin_cases a <;> rfl) h u

theorem sum_A (c : Dev nD) (t : Fin cfg0.N) (h0 : t.val % 11 = 0) (h1 : ¬t.val % 11 = 10) (l : Fin 512) (d : Fin 2048) :
    (outsAt0 m c t.val t.isLt).2.2 (ix2 l d) = 0 + addend m c t l d := by
  unfold addend
  rw [rows_A m c t h0 h1, outsAt0_A m c t h0 h1]; frame_out
  simp only [readCov_ld, ld_all]
  rw [canon_stack (grid0.coords t 0)]
  refine (step_apply _ _ _ _ _ _ _ _ (ld_hi _ _) l d).trans ?_
  rw [zero_apply]

theorem sum_next (c : Dev nD) (t : Fin cfg0.N) (h0 : ¬t.val % 11 = 0) (l : Fin 512) (d : Fin 2048) :
    (outsAt0 m c t.val t.isLt).2.2 (ix2 l d) = (outsAt0 m c (t.val - 1) (by omega)).2.2 (ix2 l d) + addend m c t l d := by
  unfold addend
  rw [rows_next m c t h0]
  by_cases h1 : t.val % 11 = 10
  · rw [outsAt0_C m c t h0 h1]; frame_out
    simp only [read_unread_whole]
    exact step_apply _ _ _ _ _ _ _ _ (ld_hi _ _) l d
  · rw [outsAt0_B m c t h0 h1]; frame_out
    simp only [read_unread_whole]
    exact step_apply _ _ _ _ _ _ _ _ (ld_hi _ _) l d

/-- The rows of the block at point `t`. -/
def rowBlock (c : Dev nD) (t : Fin cfg0.N) : Vec Ideal S512x2048 .f32 := iblk m c 0 t

theorem out_C (c : Dev nD) (t : Fin cfg0.N) (h0 : ¬t.val % 11 = 0) (h1 : t.val % 11 = 10) (l : Fin 512) (d : Fin 2048) :
    (outsAt0 m c t.val t.isLt).1 (ix2 l d)
      = FfnSpec.normed (fun k => rowBlock m c t (ix2 l k) + (outsAt0 m c t.val t.isLt).2.2 (ix2 l k)) (fun k => iblk m c 8 t (ix2 0 k)) d := by
  have e : (outsAt0 m c t.val t.isLt).1 = k0_pay2 (iblk m c 0 t) (outsAt0 m c t.val t.isLt).2.2 (iblk m c 8 t) := by
    rw [outsAt0_C m c t h0 h1]; frame_out
  rw [e]
  exact last_apply _ _ _ l d

end Cert.FfnV

end
-- ==== Proof.FfnBlocks.lean ====
/- The feed-forward call's input blocks, as entries of the arguments. -/
module

public import proofs.«01_k».proof.Proof.FfnCase
public import Idealize.ShloMosaic.Lib.Claim

@[expose] public section

set_option maxRecDepth 16384

noncomputable section

namespace Cert.FfnV

open Cert.FfnIdeal Cert.FfnIdeal.Gen Idealize.ShloMosaic Idealize.ShloMosaic.TcCoe

variable (m : (ℓ : Loc nD τ sig) → Buf (Elt Ideal) ℓ)

theorem norm_entry (c : Dev nD) (d : Fin 2048) : V m c main_v1 (ix2 0 d) = m ((c : Thread nD τ).loc main_arg1) (ix2 0 d) := by
  simp only [V, hostOps0, List.flatten_cons, List.flatten_nil, List.append_nil, List.cons_append, List.nil_append]
  entry_read
  pointwise

theorem inner_entry (c : Dev nD) (d : Fin 2048) (f : Fin 11264) : V m c main_v3 (ix2 d f) = m ((c : Thread nD τ).loc main_arg2) (ix3 0 d f) := by
  simp only [V, hostOps0, List.flatten_cons, List.flatten_nil, List.append_nil, List.cons_append, List.nil_append]
  entry_read
  pointwise

theorem outer_entry (c : Dev nD) (f : Fin 5632) (d : Fin 2048) : V m c main_v5 (ix2 f d) = m ((c : Thread nD τ).loc main_arg5) (ix3 0 f d) := by
  simp only [V, hostOps0, List.flatten_cons, List.flatten_nil, List.append_nil, List.cons_append, List.nil_append]
  entry_read
  pointwise

theorem final_entry (c : Dev nD) (d : Fin 2048) : V m c main_v6 (ix2 0 d) = m ((c : Thread nD τ).loc main_arg6) (ix1 d) := by
  simp only [V, hostOps0, List.flatten_cons, List.flatten_nil, List.append_nil, List.cons_append, List.nil_append]
  entry_read
  pointwise

/-- The block of 16 rows before block `i` of 512. -/
def haloBlock (i : Nat) : Nat := 32 * i - 1

theorem idx : ∀ t : Fin cfg0.N, win0_0.index t = ![t.val / 11, 0] ∧ win0_1.index t = ![haloBlock (t.val / 11), 0] ∧ win0_2.index t = ![0, 0]
    ∧ win0_3.index t = ![0, t.val % 11] ∧ win0_4.index t = ![0, 11 + t.val % 11] ∧ win0_5.index t = ![0, 0, t.val % 11]
    ∧ win0_6.index t = ![0, t.val % 11] ∧ win0_7.index t = ![t.val % 11, 0] ∧ win0_8.index t = ![0, 0] ∧ win0_9.index t = ![t.val / 11, 0] :=
  (by decide +kernel : ∀ t : Fin grid0.N, win0_0.index t = ![t.val / 11, 0] ∧ win0_1.index t = ![haloBlock (t.val / 11), 0] ∧ win0_2.index t = ![0, 0]
    ∧ win0_3.index t = ![0, t.val % 11] ∧ win0_4.index t = ![0, 11 + t.val % 11] ∧ win0_5.index t = ![0, 0, t.val % 11]
    ∧ win0_6.index t = ![0, t.val % 11] ∧ win0_7.index t = ![t.val % 11, 0] ∧ win0_8.index t = ![0, 0] ∧ win0_9.index t = ![t.val / 11, 0])

theorem coord : ∀ t : Fin cfg0.N, (grid0.coords t 0).val = t.val / 11 :=
  (by decide +kernel : ∀ t : Fin grid0.N, (grid0.coords t 0).val = t.val / 11)

theorem lt_points (t : Fin cfg0.N) : t.val < 352 := t.isLt

theorem rowBlock_apply (c : Dev nD) (t : Fin cfg0.N) (l : Fin 512) (d : Fin 2048) :
    rowBlock m c t (ix2 l d) = m ((c : Thread nD τ).loc main_arg0) (ix2 ⟨512 * (t.val / 11) + l.val, by have := lt_points t; omega⟩ d) := by
  refine Eq.trans ?_ (congrFun (V_main_arg0 m c) _)
  unfold rowBlock
  blk_ext [iblk, idx t]

theorem halo_apply' (c : Dev nD) (t : Fin cfg0.N) (r : Fin 16) (d : Fin 2048) :
    iblk m c 1 t (ix2 r d) = m ((c : Thread nD τ).loc main_arg0)
      (ix2 ⟨16 * haloBlock (t.val / 11) + r.val, by have := lt_points t; unfold haloBlock; omega⟩ d) := by
  refine Eq.trans ?_ (congrFun (V_main_arg0 m c) _)
  blk_ext [iblk, idx t]

theorem normBlock (c : Dev nD) (t : Fin cfg0.N) (d : Fin 2048) : iblk m c 2 t (ix2 0 d) = m ((c : Thread nD τ).loc main_arg1) (ix2 0 d) := by
  refine Eq.trans ?_ (norm_entry m c d)
  blk_ext [iblk, idx t]

theorem gateBlock (c : Dev nD) (t : Fin cfg0.N) (d : Fin 2048) (f : Fin 512) :
    iblk m c 3 t (ix2 d f) = m ((c : Thread nD τ).loc main_arg2) (ix3 0 d ⟨512 * (t.val % 11) + f.val, by omega⟩) := by
  refine Eq.trans ?_ (inner_entry m c d _)
  blk_ext [iblk, idx t]

theorem valBlock (c : Dev nD) (t : Fin cfg0.N) (d : Fin 2048) (f : Fin 512) :
    iblk m c 4 t (ix2 d f) = m ((c : Thread nD τ).loc main_arg2) (ix3 0 d ⟨5632 + (512 * (t.val % 11) + f.val), by omega⟩) := by
  refine Eq.trans ?_ (inner_entry m c d _)
  blk_ext [iblk, idx t]

theorem tapBlock (c : Dev nD) (t : Fin cfg0.N) (k : Fin 3) (f : Fin 512) :
    iblk m c 5 t (ix3 0 k f) = m ((c : Thread nD τ).loc main_arg3) (ix3 0 k ⟨512 * (t.val % 11) + f.val, by omega⟩) := by
  refine Eq.trans ?_ (congrFun (V_main_arg3 m c) _)
  blk_ext [iblk, idx t]

theorem biasBlock (c : Dev nD) (t : Fin cfg0.N) (f : Fin 512) :
    iblk m c 6 t (ix2 0 f) = m ((c : Thread nD τ).loc main_arg4) (ix2 0 ⟨512 * (t.val % 11) + f.val, by omega⟩) := by
  refine Eq.trans ?_ (congrFun (V_main_arg4 m c) _)
  blk_ext [iblk, idx t]

theorem outBlock (c : Dev nD) (t : Fin cfg0.N) (f : Fin 512) (d : Fin 2048) :
    iblk m c 7 t (ix2 f d) = m ((c : Thread nD τ).loc main_arg5) (ix3 0 ⟨512 * (t.val % 11) + f.val, by omega⟩ d) := by
  refine Eq.trans ?_ (outer_entry m c _ d)
  blk_ext [iblk, idx t]

theorem finalBlock (c : Dev nD) (t : Fin cfg0.N) (d : Fin 2048) : iblk m c 8 t (ix2 0 d) = m ((c : Thread nD τ).loc main_arg6) (ix1 d) := by
  refine Eq.trans ?_ (final_entry m c d)
  blk_ext [iblk, idx t]

end Cert.FfnV

end
-- ==== Proof.FfnKernel.lean ====
/- The array the feed-forward call returns, entry by entry, from the arguments. -/
module

public import proofs.«01_k».proof.Proof.FfnBlocks

@[expose] public section

set_option maxRecDepth 16384

noncomputable section

namespace Cert.FfnV

open Cert.FfnIdeal Cert.FfnIdeal.Gen Idealize.ShloMosaic Idealize.ShloMosaic.TcCoe

/-- Row `r` of block `i`'s normed tokens, 16 of the block before in front; a sequence begins with zeros. -/
def uAt (A : S16384x2048.Idx → EReal) (N : S1x2048.Idx → EReal) (i : Fin 32) (r : Fin 528) (d : Fin 2048) : EReal :=
  if h : r.val < 16 then
    (if i.val % 8 = 0 then 0
      else FfnSpec.normed (fun k => A (ix2 ⟨16 * haloBlock i.val + r.val, by unfold haloBlock; omega⟩ k)) (fun k => N (ix2 0 k)) d)
  else FfnSpec.normed (fun k => A (ix2 ⟨512 * i.val + (r.val - 16), by omega⟩ k)) (fun k => N (ix2 0 k)) d

/-- The gate at row `r`, channel `f`. -/
def gateAt (A : S16384x2048.Idx → EReal) (N : S1x2048.Idx → EReal) (W : S1x2048x11264.Idx → EReal) (i : Fin 32) (r : Fin 528) (f : Fin 11264) : EReal :=
  FfnSpec.dot (uAt A N i r) fun d => W (ix3 0 d f)

/-- The activation at row `l` of block `i`, channel `f`. -/
def actAt (A : S16384x2048.Idx → EReal) (N : S1x2048.Idx → EReal) (W : S1x2048x11264.Idx → EReal) (CW : S1x3x5632.Idx → EReal)
    (CB : S1x5632.Idx → EReal) (i : Fin 32) (l : Fin 512) (f : Fin 5632) : EReal :=
  FfnSpec.gelu (convK (gateAt A N W i ⟨l.val + 14, by omega⟩ ⟨f.val, by omega⟩) (gateAt A N W i ⟨l.val + 15, by omega⟩ ⟨f.val, by omega⟩)
      (gateAt A N W i ⟨l.val + 16, by omega⟩ ⟨f.val, by omega⟩) (CW (ix3 0 0 f)) (CW (ix3 0 1 f)) (CW (ix3 0 2 f)) (CB (ix2 0 f)))
    * gateAt A N W i ⟨l.val + 16, by omega⟩ ⟨5632 + f.val, by omega⟩

/-- The result at row `l` of block `i`. -/
def outAt (A : S16384x2048.Idx → EReal) (N : S1x2048.Idx → EReal) (W : S1x2048x11264.Idx → EReal) (CW : S1x3x5632.Idx → EReal)
    (CB : S1x5632.Idx → EReal) (WO : S1x5632x2048.Idx → EReal) (FW : S2048.Idx → EReal) (i : Fin 32) (l : Fin 512) (d : Fin 2048) : EReal :=
  FfnSpec.normed (fun k => A (ix2 ⟨512 * i.val + l.val, by omega⟩ k) + ∑ f : Fin 5632, actAt A N W CW CB i l f * WO (ix3 0 f k)) (fun k => FW (ix1 k)) d

variable (m : (ℓ : Loc nD τ sig) → Buf (Elt Ideal) ℓ)

theorem stack_block (c : Dev nD) (t : Fin cfg0.N) (r : Fin 528) (d : Fin 2048) :
    stack (grid0.coords t 0) (iblk m c 0 t) (iblk m c 1 t) (iblk m c 2 t) (ix2 r d)
      = uAt (m ((c : Thread nD τ).loc main_arg0)) (m ((c : Thread nD τ).loc main_arg1)) ⟨t.val / 11, by have := lt_points t; omega⟩ r d := by
  have hc : (grid0.coords t 0).val = t.val / 11 := coord t
  have e2 : (fun k => (iblk m c 2 t : Vec Ideal S1x2048 .f32) (ix2 0 k)) = fun k => m ((c : Thread nD τ).loc main_arg1) (ix2 0 k) := funext (normBlock m c t)
  unfold uAt
  by_cases h : r.val < 16
  · rw [dif_pos h]
    refine (stack_lo (grid0.coords t 0) (iblk m c 0 t) (iblk m c 1 t) (iblk m c 2 t) ⟨r.val, h⟩ d).trans ?_
    rw [hc]
    refine if_congr Iff.rfl rfl ?_
    exact congrArg₂ (fun a b => FfnSpec.normed a b d) (funext fun k => halo_apply' m c t ⟨r.val, h⟩ k) e2
  · rw [dif_neg h]
    have hr : r = ⟨(⟨r.val - 16, by omega⟩ : Fin 512).val + 16, by omega⟩ := Fin.ext (by show r.val = r.val - 16 + 16; omega)
    refine (congrArg (fun r => stack (grid0.coords t 0) (iblk m c 0 t) (iblk m c 1 t) (iblk m c 2 t) (ix2 r d)) hr).trans ?_
    refine (stack_hi (grid0.coords t 0) (iblk m c 0 t) (iblk m c 1 t) (iblk m c 2 t) ⟨r.val - 16, by omega⟩ d).trans ?_
    exact congrArg₂ (fun a b => FfnSpec.normed a b d) (funext fun k => rowBlock_apply m c t ⟨r.val - 16, by omega⟩ k) e2

/-- The rows kept over the points of one block. -/
theorem rows_eq (c : Dev nD) (n : Nat) : ∀ (hn : n < cfg0.N) (r : Fin 528) (d : Fin 2048), (outsAt0 m c n hn).2.1 (ix2 r d)
    = uAt (m ((c : Thread nD τ).loc main_arg0)) (m ((c : Thread nD τ).loc main_arg1)) ⟨n / 11, by have : n < 352 := hn; omega⟩ r d := by
  induction n using Nat.strong_induction_on with
  | _ n ih =>
    intro hn r d
    have hn' : n < 352 := hn
    by_cases h0 : n % 11 = 0
    · exact (congrFun (rows_A m c ⟨n, hn⟩ h0 (by show ¬n % 11 = 10; omega)) _).trans (stack_block m c ⟨n, hn⟩ r d)
    · refine (congrFun (rows_next m c ⟨n, hn⟩ h0) _).trans ((ih (n - 1) (by omega) _ r d).trans ?_)
      have e : (n - 1) / 11 = n / 11 := by omega
      simp only [e]

theorem addend_eq (c : Dev nD) (t : Fin cfg0.N) (l : Fin 512) (d : Fin 2048) :
    addend m c t l d = ∑ f : Fin 512, (fun f : Fin 5632 =>
      actAt (m ((c : Thread nD τ).loc main_arg0)) (m ((c : Thread nD τ).loc main_arg1)) (m ((c : Thread nD τ).loc main_arg2))
        (m ((c : Thread nD τ).loc main_arg3)) (m ((c : Thread nD τ).loc main_arg4)) ⟨t.val / 11, by have := lt_points t; omega⟩ l f
      * m ((c : Thread nD τ).loc main_arg5) (ix3 0 f d)) ⟨512 * (t.val % 11) + f.val, by omega⟩ := by
  unfold addend
  refine Finset.sum_congr rfl fun f _ => ?_
  rw [outBlock]
  refine congrArg (· * _) ?_
  unfold stepAct actAt gateAt FfnSpec.dot
  simp only [rows_eq, gateBlock, valBlock, tapBlock, biasBlock]

theorem sums_eq (c : Dev nD) (t : Fin cfg0.N) (hr : t.val % 11 = 11 - 1) (l : Fin 512) (d : Fin 2048) :
    (outsAt0 m c t.val t.isLt).2.2 (ix2 l d) = ∑ f : Fin 5632,
      actAt (m ((c : Thread nD τ).loc main_arg0)) (m ((c : Thread nD τ).loc main_arg1)) (m ((c : Thread nD τ).loc main_arg2))
        (m ((c : Thread nD τ).loc main_arg3)) (m ((c : Thread nD τ).loc main_arg4)) ⟨t.val / 11, by have := lt_points t; omega⟩ l f
      * m ((c : Thread nD τ).loc main_arg5) (ix3 0 f d) := by
  have ht := lt_points t
  have hsum := Pipeline.eq_sum_fin_of_reset_step_apply_of_flush (fun n h (p : Fin 512 × Fin 2048) => (outsAt0 m c n h).2.2 (ix2 p.1 p.2)) 11 (fun _ => (0 : EReal))
    (fun t p => addend m c t p.1 p.2) (fun t h p => sum_A m c t h (by omega) p.1 p.2) (fun t h p => sum_next m c t h p.1 p.2) t hr (l, d)
  refine hsum.trans ((zero_add _).trans ?_)
  simp only [addend_eq]
  refine Fin.sum_mul_add_congr (S := 11) (n := 512) fun s k hl => ?_
  have e1 : (11 * (t.val / 11) + s.val) / 11 = t.val / 11 := by omega
  have e2 : 512 * ((11 * (t.val / 11) + s.val) % 11) + k.val = s.val * 512 + k.val := by omega
  simp only [e1, e2]

/-- The returned array. -/
def outArr (A : S16384x2048.Idx → EReal) (N : S1x2048.Idx → EReal) (W : S1x2048x11264.Idx → EReal) (CW : S1x3x5632.Idx → EReal)
    (CB : S1x5632.Idx → EReal) (WO : S1x5632x2048.Idx → EReal) (FW : S2048.Idx → EReal) : S16384x2048.Idx → EReal := fun y =>
  outAt A N W CW CB WO FW ⟨(y 0).val / 512, by have : (y 0).val < 16384 := (y 0).isLt; omega⟩ ⟨(y 0).val % 512, by omega⟩ (y 1)

theorem flushes : ∀ t : Fin cfg0.N, (cfg0.win 9).flush t = true → t.val % 11 = 10 :=
  (by decide +kernel : ∀ t : Fin grid0.N, win0_9.flush t = true → t.val % 11 = 10)

theorem arr_eq (c : Dev nD) : (dats m 0 c).arrAt 9 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have ht := lt_points t
  have h10 := flushes t hf
  have e1 : (dats m 0 c).after 9 t ((cfg0.win 9).xinj (cfg0.grid.coords t) y)
      = outAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        ⟨t.val / 11, by omega⟩ (y 0) (y 1) := by
    rw [after0_9]
    refine Eq.trans (congrArg (outsAt0 m c t.val t.isLt).1 (?_ : _ = ix2 (y 0) (y 1))) ?_
    · funext a; fin_cases a <;> rfl
    · refine (out_C m c t (by omega) h10 (y 0) (y 1)).trans ?_
      unfold outAt
      refine congrArg₂ (fun a b => FfnSpec.normed a b (y 1)) (funext fun k => ?_) (funext fun k => finalBlock m c t k)
      exact congrArg₂ (fun a b : EReal => a + b) (rowBlock_apply m c t (y 0) k) (sums_eq m c t h10 (y 0) k)
  have e2 : ((cfg0.win 9).blk t).view.emb y = ix2 ⟨512 * (t.val / 11) + (y 0).val, by
      have : (y 0).val < 512 := (y 0).isLt; omega⟩ (y 1) := by
    blk_ext [idx t]
  rw [e2]
  refine e1.trans ?_
  have h0 : (y 0).val < 512 := (y 0).isLt
  have h1 : (512 * (t.val / 11) + (y 0).val) / 512 = t.val / 11 := by omega
  have h2 : (512 * (t.val / 11) + (y 0).val) % 512 = (y 0).val := by omega
  show _ = outAt _ _ _ _ _ _ _ ⟨(512 * (t.val / 11) + (y 0).val) / 512, _⟩ ⟨(512 * (t.val / 11) + (y 0).val) % 512, _⟩ (y 1)
  simp only [h1, h2]
  rfl

end Cert.FfnV

end
-- ==== Proof.FfnRef.lean ====
/- The reference's feed-forward part, cut into named stages. -/
module

public import proofs.«01_k».proof.Proof.Gen.FfnReferenceIdeal.Run
public import Idealize.ShloMosaic.Lib.Pointwise

@[expose] public section

set_option maxRecDepth 16384

noncomputable section

namespace Cert.FfnRef

open Cert.FfnReferenceIdeal Cert.FfnReferenceIdeal.Gen Cert.FfnReferenceIdeal.Value Idealize.ShloMosaic Idealize.ShloMosaic.TcCoe

/-- The tokens, one row of them for every batch entry. -/
def rows (A : S16384x2048.Idx → EReal) : S4x4096x2048.Idx → EReal := shapeCast _ A shapeCasts_S16384x2048_S4x4096x2048

/-- The sum of the squares of each token. -/
def squares (X : S4x4096x2048.Idx → EReal) : S4x4096.Idx → EReal :=
  Host.reduceAdd (F := Ideal) (φ := .f32) (mulf (F := Ideal) (φ := .f32) X X) (constant S_ .f32 0x00000000#32) reducesTo_S4x4096x2048_S4x4096_d2 h_S_

/-- Each token over its root mean square, times the weights. -/
def rms (X : S4x4096x2048.Idx → EReal) (W : S2048.Idx → EReal) : S4x4096x2048.Idx → EReal :=
  mulf (F := Ideal) (φ := .f32) (mulf X (broadcastInDim S4x4096x2048 ![0, 1, 2] bcast_S4x4096x1_S4x4096x2048_0_1_2
      (Host.rsqrt (addf (Host.divf (broadcastInDim S4x4096x1 ![0, 1] bcast_S4x4096_S4x4096x1_0_1 (squares X))
          (broadcastInDim S4x4096x1 ![] bcast_S_S4x4096x1 (constant S_ .f32 0x45000000#32)))
        (broadcastInDim S4x4096x1 ![] bcast_S_S4x4096x1 (constant S_ .f32 0x3727C5AC#32))))))
    (broadcastInDim S4x4096x2048 ![0, 1, 2] bcast_S1x1x2048_S4x4096x2048_0_1_2 (broadcastInDim S1x1x2048 ![2] bcast_S2048_S1x1x2048_2 W))

/-- The gates and the values, side by side. -/
def inner (U : S4x4096x2048.Idx → EReal) (W : S1x2048x11264.Idx → EReal) : S4x4096x11264.Idx → EReal :=
  Host.dotGeneral (F := Ideal) (φ₁ := .f32) (φ₂ := .f32) dot_S4x4096x2048_S2048x11264_S4x4096x11264_2_0_01_1_n_n none U
    (shapeCast _ W shapeCasts_S1x2048x11264_S2048x11264)

/-- The gates, after two rows of zeros. -/
def past (I : S4x4096x11264.Idx → EReal) : S4x4098x5632.Idx → EReal :=
  pad S4x4098x5632 ![0, 2, 0] ![0, 0, 0] ![0, 0, 0] (extractStridedSlice S4x4096x5632 ![0, 0, 0] I slices_S4x4096x11264_S4x4096x5632_0_0_0)
    (sitofp (F := Ideal) .f32 (constantI S_ 32 0#32)) pads_S4x4096x5632_S4x4098x5632_000_200_000 h_S_

/-- A vector of channels, the same for every token. -/
def wide (w : S5632.Idx → EReal) : S4x4096x5632.Idx → EReal :=
  broadcastInDim S4x4096x5632 ![0, 1, 2] bcast_S1x1x5632_S4x4096x5632_0_1_2 (broadcastInDim S1x1x5632 ![2] bcast_S5632_S1x1x5632_2 w)

def taps (W : S1x3x5632.Idx → EReal) : S3x5632.Idx → EReal := shapeCast _ W shapeCasts_S1x3x5632_S3x5632

/-- The convolution of the gates over the three last tokens. -/
def conv (P : S4x4098x5632.Idx → EReal) (W : S3x5632.Idx → EReal) (B : S1x5632.Idx → EReal) : S4x4096x5632.Idx → EReal :=
  addf (F := Ideal) (φ := .f32) (addf (addf
    (mulf (extractStridedSlice S4x4096x5632 ![0, 0, 0] P slices_S4x4098x5632_S4x4096x5632_0_0_0)
      (wide (shapeCast _ (extractStridedSlice S1x5632 ![0, 0] W slices_S3x5632_S1x5632_0_0) shapeCasts_S1x5632_S5632)))
    (mulf (extractStridedSlice S4x4096x5632 ![0, 1, 0] P slices_S4x4098x5632_S4x4096x5632_0_1_0)
      (wide (shapeCast _ (extractStridedSlice S1x5632 ![1, 0] W slices_S3x5632_S1x5632_1_0) shapeCasts_S1x5632_S5632))))
    (mulf (extractStridedSlice S4x4096x5632 ![0, 2, 0] P slices_S4x4098x5632_S4x4096x5632_0_2_0)
      (wide (shapeCast _ (extractStridedSlice S1x5632 ![2, 0] W slices_S3x5632_S1x5632_2_0) shapeCasts_S1x5632_S5632))))
    (wide (shapeCast _ B shapeCasts_S1x5632_S5632))

/-- The gelu of the convolved gates. -/
def gelu (C : S4x4096x5632.Idx → EReal) : S4x4096x5632.Idx → EReal :=
  mulf (F := Ideal) (φ := .f32) (mulf (broadcastInDim S4x4096x5632 ![] bcast_S_S4x4096x5632 (constant S_ .f32 0x3F000000#32)) C)
    (Host.erfc (mulf (Host.negf C) (broadcastInDim S4x4096x5632 ![] bcast_S_S4x4096x5632 (constant S_ .f32 0x3F3504F3#32))))

def act (I : S4x4096x11264.Idx → EReal) (C : S4x4096x5632.Idx → EReal) : S4x4096x5632.Idx → EReal :=
  mulf (F := Ideal) (φ := .f32) (gelu C) (extractStridedSlice S4x4096x5632 ![0, 0, 5632] I slices_S4x4096x11264_S4x4096x5632_0_0_5632)

/-- The tokens with what the feed-forward part adds. -/
def outer (X : S4x4096x2048.Idx → EReal) (G : S4x4096x5632.Idx → EReal) (W : S1x5632x2048.Idx → EReal) : S4x4096x2048.Idx → EReal :=
  addf (F := Ideal) (φ := .f32) X (Host.dotGeneral (F := Ideal) (φ₁ := .f32) (φ₂ := .f32) dot_S4x4096x5632_S5632x2048_S4x4096x2048_2_0_01_1_n_n none G
    (shapeCast _ W shapeCasts_S1x5632x2048_S5632x2048))

def flat (X : S4x4096x2048.Idx → EReal) : S16384x2048.Idx → EReal := shapeCast _ X shapeCasts_S4x4096x2048_S16384x2048

def whole (A : S16384x2048.Idx → EReal) (N : S1x2048.Idx → EReal) (W : S1x2048x11264.Idx → EReal) (CW : S1x3x5632.Idx → EReal)
    (CB : S1x5632.Idx → EReal) (WO : S1x5632x2048.Idx → EReal) (FW : S2048.Idx → EReal) : S16384x2048.Idx → EReal :=
  flat (rms (outer (rows A) (act (inner (rms (rows A) (shapeCast _ N shapeCasts_S1x2048_S2048)) W)
    (conv (past (inner (rms (rows A) (shapeCast _ N shapeCasts_S1x2048_S2048)) W)) (taps CW) CB)) WO) FW)

theorem res_eq (m : (ℓ : Loc nD τ sig) → Buf (Elt Ideal) ℓ) (c : Dev nD) :
    res_main_v69 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

end Cert.FfnRef

end
-- ==== Proof.FfnRefRead.lean ====
/- The stages of the reference's feed-forward part at an index. -/
module

public import proofs.«01_k».proof.Proof.FfnRef
public import proofs.«01_k».proof.Proof.FfnSpec
public import proofs.«01_k».proof.Proof.Consts

@[expose] public section

set_option maxRecDepth 16384

noncomputable section

namespace Cert.FfnRef

open Cert.FfnReferenceIdeal Cert.FfnReferenceIdeal.Gen Cert.FfnReferenceIdeal.Value Idealize.ShloMosaic Idealize.ShloMosaic.TcCoe

theorem rows_apply (A) (b : Fin 4) (t : Fin 4096) (d : Fin 2048) : rows A (ix3 b t d) = A (ix2 ⟨b.val * 4096 + t.val, by omega⟩ d) := by
  unfold rows; pointwise

theorem flat_apply (X) (b : Fin 4) (t : Fin 4096) (d : Fin 2048) : flat X (ix2 ⟨b.val * 4096 + t.val, by omega⟩ d) = X (ix3 b t d) := by
  unfold flat; pointwise

theorem lift_last (h : S4x4096x2048.Reduces [2] S4x4096) (a : Fin 4) (b : Fin 4096) (k : Fin 2048) : h.lift (ix2 a b) k = ix3 a b k := by
  funext x; apply Fin.ext
  match x with
  | ⟨0, _⟩ => rfl
  | ⟨1, _⟩ => rfl
  | ⟨2, _⟩ => rfl

theorem squares_apply (X) (b : Fin 4) (t : Fin 4096) : squares X (ix2 b t) = ∑ k : Fin 2048, X (ix3 b t k) * X (ix3 b t k) := by
  refine (Ideal.hostReduceAdd_single reducesTo_S4x4096x2048_S4x4096_d2 (by decide) _ _ _).trans ?_
  refine (congrArg (· + _) Consts.zero).trans ((zero_add _).trans ?_)
  exact Finset.sum_congr rfl fun k _ => congrArg (mulf (F := Ideal) (φ := .f32) X X) (lift_last (by decide) b t k)

theorem rms_apply (X W) (b : Fin 4) (t : Fin 4096) (d : Fin 2048) :
    rms X W (ix3 b t d) = FfnSpec.normed (fun k => X (ix3 b t k)) (fun k => W (ix1 k)) d := by
  unfold rms FfnSpec.normed; pointwise [squares_apply]

theorem inner_apply (U W) (b : Fin 4) (t : Fin 4096) (f : Fin 11264) :
    inner U W (ix3 b t f) = FfnSpec.dot (fun d => U (ix3 b t d)) (fun d => W (ix3 0 d f)) := by
  unfold inner FfnSpec.dot; pointwise

theorem wide_apply (w) (b : Fin 4) (t : Fin 4096) (f : Fin 5632) : wide w (ix3 b t f) = w (ix1 f) := by
  unfold wide; pointwise

theorem taps_apply (W) (k : Fin 3) (f : Fin 5632) : taps W (ix2 k f) = W (ix3 0 k f) := by
  unfold taps; pointwise

theorem past_apply (I) (b : Fin 4) (t : Fin 4098) (f : Fin 5632) :
    past I (ix3 b t f) = if h : 2 ≤ t.val then I (ix3 b ⟨t.val - 2, by omega⟩ ⟨f.val, by omega⟩) else 0 := by
  unfold past; pointwise
  have hz : (FloatOps.sitofp (F := Ideal) .f32 (0#32 : BitVec 32)) = (0 : EReal) := by simp [FloatOps.sitofp]
  by_cases h : 2 ≤ t.val
  · rw [dif_pos h, dif_pos ⟨h, by omega⟩]
  · rw [dif_neg h, dif_neg (fun h' => h h'.1), hz]

theorem conv_apply (P W B) (b : Fin 4) (t : Fin 4096) (f : Fin 5632) :
    conv P W B (ix3 b t f) = FfnSpec.conv (P (ix3 b ⟨t.val, by omega⟩ f)) (P (ix3 b ⟨t.val + 1, by omega⟩ f)) (P (ix3 b ⟨t.val + 2, by omega⟩ f))
      (W (ix2 0 f)) (W (ix2 1 f)) (W (ix2 2 f)) (B (ix2 0 f)) := by
  unfold conv FfnSpec.conv; pointwise [wide_apply]
  simp only [Nat.add_comm]

theorem gelu_apply (C) (b : Fin 4) (t : Fin 4096) (f : Fin 5632) :
    gelu C (ix3 b t f) = Ideal.ofBits .f32 0x3F000000#32 * C (ix3 b t f) * Ideal.erfc (-C (ix3 b t f) * Ideal.ofBits .f32 0x3F3504F3#32) := by
  unfold gelu; pointwise

theorem act_apply (I C) (b : Fin 4) (t : Fin 4096) (f : Fin 5632) :
    act I C (ix3 b t f) = gelu C (ix3 b t f) * I (ix3 b t ⟨5632 + f.val, by omega⟩) := by
  unfold act; pointwise

theorem outer_apply (X G W) (b : Fin 4) (t : Fin 4096) (d : Fin 2048) :
    outer X G W (ix3 b t d) = X (ix3 b t d) + ∑ f : Fin 5632, G (ix3 b t f) * W (ix3 0 f d) := by
  unfold outer; pointwise

end Cert.FfnRef

end
-- ==== Proof.FfnEq.lean ====
/- The reference's feed-forward part and the call's array are the same. -/
module

public import proofs.«01_k».proof.Proof.FfnKernel
public import proofs.«01_k».proof.Proof.FfnRefRead

@[expose] public section

set_option maxRecDepth 16384

noncomputable section

namespace Cert.FfnEq

open Idealize.ShloMosaic

abbrev SA : Shape := ⟨2, ![16384, 2048]⟩
abbrev SN : Shape := ⟨2, ![1, 2048]⟩
abbrev SW : Shape := ⟨3, ![1, 2048, 11264]⟩
abbrev SC : Shape := ⟨3, ![1, 3, 5632]⟩
abbrev SB : Shape := ⟨2, ![1, 5632]⟩
abbrev SO : Shape := ⟨3, ![1, 5632, 2048]⟩
abbrev SF : Shape := ⟨1, ![2048]⟩

theorem erf_coe (r : ℝ) : Ideal.erf (r : EReal) = ((2 / Real.sqrt Real.pi * ∫ t in (0 : ℝ)..r, Real.exp (-(t ^ 2)) : ℝ) : EReal) := rfl

theorem erf_bot : Ideal.erf ⊥ = -1 := rfl

theorem erf_top : Ideal.erf ⊤ = 1 := rfl

/-- The error function is odd. -/
theorem erf_neg (x : EReal) : Ideal.erf (-x) = -Ideal.erf x := by
  induction x using EReal.rec with
  | bot => rw [EReal.neg_bot, erf_top, erf_bot, neg_neg]
  | top => rw [EReal.neg_top, erf_top, erf_bot]
  | coe r =>
    have h : (∫ t in (0 : ℝ)..(-r), Real.exp (-(t ^ 2))) = -∫ t in (0 : ℝ)..r, Real.exp (-(t ^ 2)) := by
      have h1 := intervalIntegral.integral_comp_neg (a := 0) (b := r) (fun t : ℝ => Real.exp (-(t ^ 2)))
      simp only [neg_sq, neg_zero] at h1
      rw [h1, intervalIntegral.integral_symm]
    rw [← EReal.coe_neg, erf_coe, erf_coe, h, mul_neg, EReal.coe_neg]

/-- The gelu through the complementary error function. -/
theorem gelu_eq (c : EReal) : Ideal.ofBits .f32 0x3F000000#32 * c * Ideal.erfc (-c * Ideal.ofBits .f32 0x3F3504F3#32) = FfnSpec.gelu c := by
  unfold FfnSpec.gelu Ideal.erfc
  rw [EReal.neg_mul, erf_neg, sub_eq_add_neg, neg_neg]

/-- The taps in the kernel's order. -/
theorem conv_eq (g0 g1 g2 w0 w1 w2 b : EReal) : FfnSpec.conv g0 g1 g2 w0 w1 w2 b = FfnV.convK g0 g1 g2 w0 w1 w2 b := by
  unfold FfnSpec.conv FfnV.convK
  rw [mul_comm g0, mul_comm g1, mul_comm g2]
  ac_rfl

/-- The reference's gate of token `t` in sequence `b`. -/
def gateRef (A : SA.Idx → EReal) (N : SN.Idx → EReal) (W : SW.Idx → EReal) (b : Fin 4) (t : Fin 4096) (f : Fin 11264) : EReal :=
  FfnSpec.dot (FfnSpec.normed (fun k => A (ix2 ⟨b.val * 4096 + t.val, by omega⟩ k)) fun k => N (ix2 0 k)) fun d => W (ix3 0 d f)

/-- The gates in front of a block are the gates of the tokens before it, and zero before a sequence. -/
theorem gate_eq (A : SA.Idx → EReal) (N : SN.Idx → EReal) (W : SW.Idx → EReal) (b : Fin 4) (t : Fin 4096) (k : Nat) (hk : k < 3) (f : Fin 11264) :
    FfnV.gateAt A N W ⟨8 * b.val + t.val / 512, by omega⟩ ⟨t.val % 512 + (14 + k), by omega⟩ f
      = if h : 2 ≤ t.val + k then gateRef A N W b ⟨t.val + k - 2, by omega⟩ f else 0 := by
  unfold FfnV.gateAt
  by_cases h : 2 ≤ t.val + k
  · rw [dif_pos h]
    unfold gateRef
    refine congrArg (fun u => FfnSpec.dot u _) (funext fun d => ?_)
    unfold FfnV.uAt
    by_cases hr : t.val % 512 + (14 + k) < 16
    · refine (dif_pos hr).trans ((if_neg ?_).trans ?_)
      · show ¬(8 * b.val + t.val / 512) % 8 = 0
        omega
      · have e : 16 * FfnV.haloBlock (8 * b.val + t.val / 512) + (t.val % 512 + (14 + k)) = b.val * 4096 + (t.val + k - 2) := by
          unfold FfnV.haloBlock; omega
        simp only [e]
    · refine (dif_neg hr).trans ?_
      have e : 512 * (8 * b.val + t.val / 512) + (t.val % 512 + (14 + k) - 16) = b.val * 4096 + (t.val + k - 2) := by omega
      simp only [e]
  · rw [dif_neg h]
    unfold FfnSpec.dot
    refine Finset.sum_eq_zero fun d _ => ?_
    have e : FfnV.uAt A N ⟨8 * b.val + t.val / 512, by omega⟩ ⟨t.val % 512 + (14 + k), by omega⟩ d = 0 := by
      unfold FfnV.uAt
      refine (dif_pos (by show t.val % 512 + (14 + k) < 16; omega)).trans (if_pos ?_)
      show (8 * b.val + t.val / 512) % 8 = 0
      omega
    rw [e, zero_mul]

theorem weights_apply (N : SN.Idx → EReal) (k : Fin 2048) : shapeCast Cert.FfnReferenceIdeal.S2048 N Cert.FfnReferenceIdeal.Gen.shapeCasts_S1x2048_S2048 (ix1 k) = N (ix2 0 k) := by
  pointwise

theorem inner_eq (A : SA.Idx → EReal) (N : SN.Idx → EReal) (W : SW.Idx → EReal) (b : Fin 4) (t : Fin 4096) (f : Fin 11264) :
    FfnRef.inner (FfnRef.rms (FfnRef.rows A) (shapeCast _ N Cert.FfnReferenceIdeal.Gen.shapeCasts_S1x2048_S2048)) W (ix3 b t f) = gateRef A N W b t f := by
  unfold gateRef
  rw [FfnRef.inner_apply]
  simp only [FfnRef.rms_apply, FfnRef.rows_apply, weights_apply]

theorem act_eq (A : SA.Idx → EReal) (N : SN.Idx → EReal) (W : SW.Idx → EReal) (CW : SC.Idx → EReal) (CB : SB.Idx → EReal)
    (b : Fin 4) (t : Fin 4096) (f : Fin 5632) :
    FfnRef.act (FfnRef.inner (FfnRef.rms (FfnRef.rows A) (shapeCast _ N Cert.FfnReferenceIdeal.Gen.shapeCasts_S1x2048_S2048)) W)
      (FfnRef.conv (FfnRef.past (FfnRef.inner (FfnRef.rms (FfnRef.rows A) (shapeCast _ N Cert.FfnReferenceIdeal.Gen.shapeCasts_S1x2048_S2048)) W))
        (FfnRef.taps CW) CB) (ix3 b t f)
      = FfnV.actAt A N W CW CB ⟨8 * b.val + t.val / 512, by omega⟩ ⟨t.val % 512, by omega⟩ f := by
  have hg := fun k hk => gate_eq A N W b t k hk
  rw [FfnRef.act_apply, FfnRef.gelu_apply, gelu_eq, FfnRef.conv_apply, conv_eq, inner_eq]
  simp only [FfnRef.past_apply, FfnRef.taps_apply, inner_eq]
  unfold FfnV.actAt
  have h0 := hg 0 (by omega) ⟨f.val, by omega⟩
  have h1 := hg 1 (by omega) ⟨f.val, by omega⟩
  have h2 := hg 2 (by omega) ⟨f.val, by omega⟩
  have h3 := hg 2 (by omega) ⟨5632 + f.val, by omega⟩
  have e : t.val + 2 - 2 = t.val := by omega
  simp only [Nat.add_zero, Nat.reduceAdd, Nat.le_add_left, dif_pos, e] at h0 h1 h2 h3
  simp only [h0, h1, h2, h3, Nat.le_add_left, dif_pos, e]

theorem whole_eq (A : SA.Idx → EReal) (N : SN.Idx → EReal) (W : SW.Idx → EReal) (CW : SC.Idx → EReal) (CB : SB.Idx → EReal)
    (WO : SO.Idx → EReal) (FW : SF.Idx → EReal) : FfnRef.whole A N W CW CB WO FW = FfnV.outArr A N W CW CB WO FW := by
  funext y
  obtain ⟨b, t, d, rfl⟩ : ∃ (b : Fin 4) (t : Fin 4096) (d : Fin 2048), y = ix2 (n0 := 16384) (n1 := 2048) ⟨b.val * 4096 + t.val, by omega⟩ d := by
    have h : (y 0).val < 16384 := (y 0).isLt
    refine ⟨⟨(y 0).val / 4096, by omega⟩, ⟨(y 0).val % 4096, by omega⟩, y 1, ?_⟩
    funext a
    match a with
    | ⟨0, _⟩ => exact Fin.ext (by show (y 0).val = (y 0).val / 4096 * 4096 + (y 0).val % 4096; omega)
    | ⟨1, _⟩ => rfl
  unfold FfnRef.whole
  rw [FfnRef.flat_apply, FfnRef.rms_apply]
  simp only [FfnRef.outer_apply, FfnRef.rows_apply, act_eq]
  have e1 : (b.val * 4096 + t.val) / 512 = 8 * b.val + t.val / 512 := by omega
  have e2 : (b.val * 4096 + t.val) % 512 = t.val % 512 := by omega
  have e3 : 512 * (8 * b.val + t.val / 512) + t.val % 512 = b.val * 4096 + t.val := by omega
  show _ = FfnV.outAt A N W CW CB WO FW ⟨(b.val * 4096 + t.val) / 512, _⟩ ⟨(b.val * 4096 + t.val) % 512, _⟩ d
  simp only [e1, e2]
  unfold FfnV.outAt
  simp only [e3]

end Cert.FfnEq

end
-- ==== Proof.FfnClaim.lean ====
/- The claims about the feed-forward call. -/
module

public import proofs.«01_k».proof.Proof.FfnEq
public import proofs.«01_k».proof.Defs
public import proofs.«01_k».proof.Proof.Gen.Ffn.Frame
public import proofs.«01_k».proof.Proof.Gen.FfnIdeal.Frame
public import proofs.«01_k».proof.Proof.Gen.FfnIdeal.Value
public import proofs.«01_k».proof.Proof.Gen.FfnReferenceIdeal.Run
public import Idealize.ShloMosaic.Adequacy
public import Idealize.ShloMosaic.Init

@[expose] public section

set_option maxRecDepth 16384

noncomputable section

namespace Cert.FfnClaim

open Idealize.ShloMosaic Idealize.SL.Sem

theorem frame_p : Cert.quiescent_Ffn := fun m ρ _ => Cert.Ffn.Gen.frame m ρ
theorem frame_pi : Cert.quiescent_FfnIdeal := fun m ρ _ => Cert.FfnIdeal.Gen.frame m ρ
theorem frame_ri : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem preserves : Cert.preserves_Ffn_FfnIdeal := trivial

theorem algebraic : Cert.algebraic_FfnIdeal_FfnReferenceIdeal := by
  intro m g m' g' _ hag
  refine ⟨fun c => (Cert.FfnIdeal.Gen.dats m 0 c).arrAt 9 Cert.FfnIdeal.cfg0.N, Cert.FfnIdeal.Value.run_blocks m g, ?_⟩
  refine (θ_run Cert.FfnReferenceIdeal.defs _ _).mono (fun r h c => ⟨(h c).1.trans ?_, (h c).2⟩) (Cert.FfnReferenceIdeal.Value.run (F := Ideal) m' g')
  obtain ⟨h0, h1, h2, h3, h4, h5, h6⟩ := hag c
  refine (FfnRef.res_eq m' c).trans ?_
  rw [h0, h1, h2, h3, h4, h5, h6]
  exact ((FfnV.arr_eq m c).trans (FfnEq.whole_eq _ _ _ _ _ _ _).symm).symm

end Cert.FfnClaim

end
-- ==== Proof.MergeKernel.lean ====
/- The array the merge call returns, entry by entry, from its arguments. -/
module

public import proofs.«01_k».proof.Proof.Gen.MergeIdeal.Value
public import proofs.«01_k».proof.Proof.Consts
public import Idealize.ShloMosaic.Lib.Pipeline.ValueKit
public import Idealize.ShloMosaic.Lib.Claim

@[expose] public section

set_option maxRecDepth 16384

noncomputable section

namespace Cert.MergeV

open Cert.MergeIdeal Cert.MergeIdeal.Gen Idealize.ShloMosaic Idealize.ShloMosaic.TcCoe

variable (m : (ℓ : Loc nD τ sig) → Buf (Elt Ideal) ℓ)

/-- The two branches' output products, each times its gate. -/
def merged (Y : S16384x4096.Idx → EReal) (A : S16384x2048.Idx → EReal) (P : S16384x17408.Idx → EReal) (WS : S1x4096x2048.Idx → EReal)
    (WA : S1x2048x2048.Idx → EReal) (r : Fin 16384) (d : Fin 2048) : EReal :=
  P (ix2 r ⟨13312 + d.val, by omega⟩) * (∑ k : Fin 4096, Y (ix2 r k) * WS (ix3 0 k d))
    + P (ix2 r ⟨15360 + d.val, by omega⟩) * ∑ k : Fin 2048, A (ix2 r k) * WA (ix3 0 k d)

theorem out_eq (x0 : Vec Ideal S512x4096 .bf16) (x1 : Vec Ideal S512x2048 .bf16) (x2 x3 : Vec Ideal S512x1024 .f32) (x4 : Vec Ideal S4096x1024 .bf16)
    (x5 : Vec Ideal S2048x1024 .bf16) : out0_6 x0 x1 x2 x3 x4 x5 = k0_pay1 x0 x4 x1 x5 x2 x3 := by
  unfold out0_6; frame_out

theorem step_apply (x0 : Vec Ideal S512x4096 .bf16) (x1 : Vec Ideal S512x2048 .bf16) (x2 x3 : Vec Ideal S512x1024 .f32) (x4 : Vec Ideal S4096x1024 .bf16)
    (x5 : Vec Ideal S2048x1024 .bf16) (l : Fin 512) (n : Fin 1024) : k0_pay1 x0 x4 x1 x5 x2 x3 (ix2 l n)
      = x2 (ix2 l n) * (∑ k : Fin 4096, x0 (ix2 l k) * x4 (ix2 k n)) + x3 (ix2 l n) * ∑ k : Fin 2048, x1 (ix2 l k) * x5 (ix2 k n) := by
  unfold k0_pay1; pointwise

theorem ssm_entry (c : Dev nD) (k : Fin 4096) (d : Fin 2048) : V m c main_v1 (ix2 k d) = m ((c : Thread nD τ).loc main_arg3) (ix3 0 k d) := by
  simp only [V, hostOps0, List.flatten_cons, List.flatten_nil, List.append_nil, List.cons_append, List.nil_append]
  entry_read
  pointwise

theorem attn_entry (c : Dev nD) (k d : Fin 2048) : V m c main_v3 (ix2 k d) = m ((c : Thread nD τ).loc main_arg4) (ix3 0 k d) := by
  simp only [V, hostOps0, List.flatten_cons, List.flatten_nil, List.append_nil, List.cons_append, List.nil_append]
  entry_read
  pointwise

theorem idx : ∀ t : Fin cfg0.N, win0_0.index t = ![t.val % 32, 0] ∧ win0_1.index t = ![t.val % 32, 0] ∧ win0_2.index t = ![t.val % 32, 13 + t.val / 32]
    ∧ win0_3.index t = ![t.val % 32, 15 + t.val / 32] ∧ win0_4.index t = ![0, t.val / 32] ∧ win0_5.index t = ![0, t.val / 32]
    ∧ win0_6.index t = ![t.val % 32, t.val / 32] :=
  (by decide +kernel : ∀ t : Fin grid0.N, win0_0.index t = ![t.val % 32, 0] ∧ win0_1.index t = ![t.val % 32, 0]
    ∧ win0_2.index t = ![t.val % 32, 13 + t.val / 32]
    ∧ win0_3.index t = ![t.val % 32, 15 + t.val / 32] ∧ win0_4.index t = ![0, t.val / 32] ∧ win0_5.index t = ![0, t.val / 32]
    ∧ win0_6.index t = ![t.val % 32, t.val / 32])

theorem lt_points (t : Fin cfg0.N) : t.val < 64 := t.isLt

theorem ssmBlock (c : Dev nD) (t : Fin cfg0.N) (l : Fin 512) (k : Fin 4096) :
    iblk m c 0 t (ix2 l k) = m ((c : Thread nD τ).loc main_arg0) (ix2 ⟨512 * (t.val % 32) + l.val, by omega⟩ k) := by
  refine Eq.trans ?_ (congrFun (V_main_arg0 m c) _)
  blk_ext [iblk, idx t]

theorem attnBlock (c : Dev nD) (t : Fin cfg0.N) (l : Fin 512) (k : Fin 2048) :
    iblk m c 1 t (ix2 l k) = m ((c : Thread nD τ).loc main_arg1) (ix2 ⟨512 * (t.val % 32) + l.val, by omega⟩ k) := by
  refine Eq.trans ?_ (congrFun (V_main_arg1 m c) _)
  blk_ext [iblk, idx t]

theorem ssmGate (c : Dev nD) (t : Fin cfg0.N) (l : Fin 512) (n : Fin 1024) :
    iblk m c 2 t (ix2 l n) = m ((c : Thread nD τ).loc main_arg2)
      (ix2 ⟨512 * (t.val % 32) + l.val, by omega⟩ ⟨13312 + (1024 * (t.val / 32) + n.val), by have := lt_points t; omega⟩) := by
  refine Eq.trans ?_ (congrFun (V_main_arg2 m c) _)
  blk_ext [iblk, idx t]

theorem attnGate (c : Dev nD) (t : Fin cfg0.N) (l : Fin 512) (n : Fin 1024) :
    iblk m c 3 t (ix2 l n) = m ((c : Thread nD τ).loc main_arg2)
      (ix2 ⟨512 * (t.val % 32) + l.val, by omega⟩ ⟨15360 + (1024 * (t.val / 32) + n.val), by have := lt_points t; omega⟩) := by
  refine Eq.trans ?_ (congrFun (V_main_arg2 m c) _)
  blk_ext [iblk, idx t]

theorem ssmWeights (c : Dev nD) (t : Fin cfg0.N) (k : Fin 4096) (n : Fin 1024) :
    iblk m c 4 t (ix2 k n) = m ((c : Thread nD τ).loc main_arg3) (ix3 0 k ⟨1024 * (t.val / 32) + n.val, by have := lt_points t; omega⟩) := by
  refine Eq.trans ?_ (ssm_entry m c k _)
  blk_ext [iblk, idx t]

theorem attnWeights (c : Dev nD) (t : Fin cfg0.N) (k : Fin 2048) (n : Fin 1024) :
    iblk m c 5 t (ix2 k n) = m ((c : Thread nD τ).loc main_arg4) (ix3 0 k ⟨1024 * (t.val / 32) + n.val, by have := lt_points t; omega⟩) := by
  refine Eq.trans ?_ (attn_entry m c k _)
  blk_ext [iblk, idx t]

theorem after_apply (c : Dev nD) (t : Fin cfg0.N) (l : Fin 512) (n : Fin 1024) :
    (dats m 0 c).after 6 t (ix2 l n) = merged (m ((c : Thread nD τ).loc main_arg0)) (m ((c : Thread nD τ).loc main_arg1)) (m ((c : Thread nD τ).loc main_arg2))
      (m ((c : Thread nD τ).loc main_arg3)) (m ((c : Thread nD τ).loc main_arg4)) ⟨512 * (t.val % 32) + l.val, by omega⟩
      ⟨1024 * (t.val / 32) + n.val, by have := lt_points t; omega⟩ := by
  rw [after0_6, out_eq]
  refine (step_apply _ _ _ _ _ _ l n).trans ?_
  simp only [ssmBlock, attnBlock, ssmGate, attnGate, ssmWeights, attnWeights]
  rfl

theorem arr_eq (c : Dev nD) : (dats m 0 c).arrAt 6 cfg0.N
    = fun y => merged (m ((c : Thread nD τ).loc main_arg0)) (m ((c : Thread nD τ).loc main_arg1)) (m ((c : Thread nD τ).loc main_arg2))
      (m ((c : Thread nD τ).loc main_arg3)) (m ((c : Thread nD τ).loc main_arg4)) (y 0) (y 1) := by
  refine (dats m 0 c).arrAt_eq_of_covers 6 _ (by decide +kernel) fun t hf y => ?_
  have e2 : ((cfg0.win 6).blk t).view.emb y = ix2 ⟨512 * (t.val % 32) + (y 0).val, by have : (y 0).val < 512 := (y 0).isLt; omega⟩
      ⟨1024 * (t.val / 32) + (y 1).val, by have := lt_points t; have : (y 1).val < 1024 := (y 1).isLt; omega⟩ := by
    blk_ext [idx t]
  rw [e2]
  refine Eq.trans (congrArg ((dats m 0 c).after 6 t) (?_ : _ = ix2 (n0 := 512) (n1 := 1024) (y 0) (y 1))) (after_apply m c t (y 0) (y 1))
  funext a; fin_cases a <;> rfl

end Cert.MergeV

end
-- ==== Proof.MergeClaim.lean ====
/- The claims about the merge call. -/
module

public import proofs.«01_k».proof.Proof.MergeKernel
public import proofs.«01_k».proof.Defs
public import proofs.«01_k».proof.Proof.Gen.Merge.Frame
public import proofs.«01_k».proof.Proof.Gen.MergeReferenceIdeal.Run
public import Idealize.ShloMosaic.Lib.Pointwise
public import Idealize.ShloMosaic.Adequacy
public import Idealize.ShloMosaic.Init

@[expose] public section

set_option maxRecDepth 16384

noncomputable section

namespace Cert.MergeRef

open Cert.MergeReferenceIdeal Cert.MergeReferenceIdeal.Gen Cert.MergeReferenceIdeal.Value Idealize.ShloMosaic Idealize.ShloMosaic.TcCoe

/-- The gates of both branches. -/
def gates (P : S16384x17408.Idx → EReal) : S4x4096x4096.Idx → EReal :=
  extractStridedSlice S4x4096x4096 ![0, 0, 13312] (shapeCast _ P shapeCasts_S16384x17408_S4x4096x17408) slices_S4x4096x17408_S4x4096x4096_0_0_13312

/-- The output product of the recurrence. -/
def ssm (Y : S16384x4096.Idx → EReal) (W : S1x4096x2048.Idx → EReal) : S4x4096x2048.Idx → EReal :=
  Host.dotGeneral (F := Ideal) (φ₁ := .f32) (φ₂ := .f32) dot_S4x4096x4096_S4096x2048_S4x4096x2048_2_0_01_1_n_n none
    (extf (F := Ideal) (φ := .bf16) .f32 (shapeCast _ Y shapeCasts_S16384x4096_S4x4096x4096) bitsLt_bf16_f32)
    (shapeCast _ W shapeCasts_S1x4096x2048_S4096x2048)

/-- The output product of the attention. -/
def attn (A : S16384x2048.Idx → EReal) (W : S1x2048x2048.Idx → EReal) : S4x4096x2048.Idx → EReal :=
  Host.dotGeneral (F := Ideal) (φ₁ := .f32) (φ₂ := .f32) dot_S4x4096x2048_S2048x2048_S4x4096x2048_2_0_01_1_n_n none
    (extf (F := Ideal) (φ := .bf16) .f32 (shapeCast _ A shapeCasts_S16384x2048_S4x4096x2048) bitsLt_bf16_f32)
    (shapeCast _ W shapeCasts_S1x2048x2048_S2048x2048)

def whole (Y : S16384x4096.Idx → EReal) (A : S16384x2048.Idx → EReal) (P : S16384x17408.Idx → EReal) (WS : S1x4096x2048.Idx → EReal)
    (WA : S1x2048x2048.Idx → EReal) : S16384x2048.Idx → EReal :=
  truncf (F := Ideal) (φ := .f32) .bf16 (shapeCast _ (addf (F := Ideal) (φ := .f32)
    (mulf (extractStridedSlice S4x4096x2048 ![0, 0, 0] (gates P) slices_S4x4096x4096_S4x4096x2048_0_0_0) (ssm Y WS))
    (mulf (extractStridedSlice S4x4096x2048 ![0, 0, 2048] (gates P) slices_S4x4096x4096_S4x4096x2048_0_0_2048) (attn A WA)))
    shapeCasts_S4x4096x2048_S16384x2048) bitsLt_bf16_f32

theorem gates_apply (P) (b : Fin 4) (t d : Fin 4096) : gates P (ix3 b t d) = P (ix2 ⟨b.val * 4096 + t.val, by omega⟩ ⟨13312 + d.val, by omega⟩) := by
  unfold gates; pointwise

theorem ssm_apply (Y W) (b : Fin 4) (t : Fin 4096) (d : Fin 2048) :
    ssm Y W (ix3 b t d) = ∑ k : Fin 4096, Y (ix2 ⟨b.val * 4096 + t.val, by omega⟩ k) * W (ix3 0 k d) := by
  unfold ssm; pointwise

theorem attn_apply (A W) (b : Fin 4) (t : Fin 4096) (d : Fin 2048) :
    attn A W (ix3 b t d) = ∑ k : Fin 2048, A (ix2 ⟨b.val * 4096 + t.val, by omega⟩ k) * W (ix3 0 k d) := by
  unfold attn; pointwise

theorem whole_apply (Y A P WS WA) (b : Fin 4) (t : Fin 4096) (d : Fin 2048) :
    whole Y A P WS WA (ix2 ⟨b.val * 4096 + t.val, by omega⟩ d) = MergeV.merged Y A P WS WA ⟨b.val * 4096 + t.val, by omega⟩ d := by
  have e : (⟨13312 + (2048 + d.val), by omega⟩ : Fin 17408) = ⟨15360 + d.val, by omega⟩ := Fin.ext (by simp only []; omega)
  unfold whole MergeV.merged; pointwise [gates_apply, ssm_apply, attn_apply]
  rw [e]

theorem whole_eq (Y A P WS WA) : whole Y A P WS WA = fun y => MergeV.merged Y A P WS WA (y 0) (y 1) := by
  funext y
  obtain ⟨r, d, rfl⟩ : ∃ (r : Fin 16384) (d : Fin 2048), y = ix2 r d := ⟨y 0, y 1, eq_ix2 _⟩
  have e : r = ⟨(r.val / 4096) * 4096 + r.val % 4096, by omega⟩ := Fin.ext (by show _ = (r.val / 4096) * 4096 + r.val % 4096; omega)
  rw [e]
  exact whole_apply Y A P WS WA ⟨r.val / 4096, by omega⟩ ⟨r.val % 4096, by omega⟩ d

end Cert.MergeRef

namespace Cert.MergeClaim

open Idealize.ShloMosaic Idealize.ShloMosaic.TcCoe Idealize.SL.Sem

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem preserves : Cert.preserves_Merge_MergeIdeal := trivial

theorem algebraic : Cert.algebraic_MergeIdeal_MergeReferenceIdeal := by
  intro m g m' g' _ hag
  refine ⟨fun c => (Cert.MergeIdeal.Gen.dats m 0 c).arrAt 6 Cert.MergeIdeal.cfg0.N, Cert.MergeIdeal.Value.run_blocks m g, ?_⟩
  refine (θ_run Cert.MergeReferenceIdeal.defs _ _).mono (fun r h c => ⟨(h c).1.trans ?_, (h c).2⟩) (Cert.MergeReferenceIdeal.Value.run (F := Ideal) m' g')
  obtain ⟨h0, h1, h2, h3, h4⟩ := hag c
  rw [h0, h1, h2, h3, h4]
  exact ((MergeV.arr_eq m c).trans (MergeRef.whole_eq _ _ _ _ _).symm).symm

end Cert.MergeClaim

end
-- ==== Proof.OprojKernel.lean ====
/- The array the output projection returns, entry by entry, from its arguments. -/
module

public import proofs.«01_k».proof.Proof.Gen.OprojIdeal.Value
public import proofs.«01_k».proof.Proof.Consts
public import Idealize.ShloMosaic.Lib.Pipeline.ValueKit
public import Idealize.ShloMosaic.Lib.Claim

@[expose] public section

set_option maxRecDepth 16384

noncomputable section

namespace Cert.OprojV

open Cert.OprojIdeal Cert.OprojIdeal.Gen Idealize.ShloMosaic Idealize.ShloMosaic.TcCoe

variable (m : (ℓ : Loc nD τ sig) → Buf (Elt Ideal) ℓ)

/-- The residual stream plus the output product. -/
def added (M : S16384x2048.Idx → EReal) (W : S1x2048x2048.Idx → EReal) (X : S4x4096x2048.Idx → EReal) (r : Fin 16384) (d : Fin 2048) : EReal :=
  X (ix3 ⟨r.val / 4096, by omega⟩ ⟨r.val % 4096, by omega⟩ d) + ∑ k : Fin 2048, M (ix2 r k) * W (ix3 0 k d)

theorem out_eq (x0 : Vec Ideal S512x2048 .bf16) (x1 : Vec Ideal S2048x2048 .bf16) (x2 : Vec Ideal S512x2048 .f32) :
    out0_3 x0 x1 x2 = k0_pay1 x2 x0 x1 := by
  unfold out0_3; frame_out

theorem step_apply (x0 : Vec Ideal S512x2048 .bf16) (x1 : Vec Ideal S2048x2048 .bf16) (x2 : Vec Ideal S512x2048 .f32) (l : Fin 512) (d : Fin 2048) :
    k0_pay1 x2 x0 x1 (ix2 l d) = x2 (ix2 l d) + ∑ k : Fin 2048, x0 (ix2 l k) * x1 (ix2 k d) := by
  unfold k0_pay1; pointwise

theorem weight_entry (c : Dev nD) (k d : Fin 2048) : V m c main_v1 (ix2 k d) = m ((c : Thread nD τ).loc main_arg1) (ix3 0 k d) := by
  simp only [V, hostOps0, List.flatten_cons, List.flatten_nil, List.append_nil, List.cons_append, List.nil_append]
  entry_read
  pointwise

theorem stream_entry (c : Dev nD) (r : Fin 16384) (d : Fin 2048) : V m c main_v2 (ix2 r d)
    = m ((c : Thread nD τ).loc main_arg2) (ix3 ⟨r.val / 4096, by omega⟩ ⟨r.val % 4096, by omega⟩ d) := by
  simp only [V, hostOps0, List.flatten_cons, List.flatten_nil, List.append_nil, List.cons_append, List.nil_append]
  entry_read
  pointwise

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

theorem lt_points (t : Fin cfg0.N) : t.val < 32 := t.isLt

theorem mergedBlock (c : Dev nD) (t : Fin cfg0.N) (l : Fin 512) (k : Fin 2048) :
    iblk m c 0 t (ix2 l k) = m ((c : Thread nD τ).loc main_arg0) (ix2 ⟨512 * t.val + l.val, by have := lt_points t; omega⟩ k) := by
  refine Eq.trans ?_ (congrFun (V_main_arg0 m c) _)
  blk_ext [iblk, idx t]

theorem weightBlock (c : Dev nD) (t : Fin cfg0.N) (k d : Fin 2048) : iblk m c 1 t (ix2 k d) = m ((c : Thread nD τ).loc main_arg1) (ix3 0 k d) := by
  refine Eq.trans ?_ (weight_entry m c k d)
  blk_ext [iblk, idx t]

theorem streamBlock (c : Dev nD) (t : Fin cfg0.N) (l : Fin 512) (d : Fin 2048) : iblk m c 2 t (ix2 l d)
    = m ((c : Thread nD τ).loc main_arg2) (ix3 ⟨(512 * t.val + l.val) / 4096, by have := lt_points t; omega⟩ ⟨(512 * t.val + l.val) % 4096, by omega⟩ d) := by
  refine Eq.trans ?_ (stream_entry m c ⟨512 * t.val + l.val, by have := lt_points t; omega⟩ d)
  blk_ext [iblk, idx t]

theorem after_apply (c : Dev nD) (t : Fin cfg0.N) (l : Fin 512) (d : Fin 2048) :
    (dats m 0 c).after 3 t (ix2 l d) = added (m ((c : Thread nD τ).loc main_arg0)) (m ((c : Thread nD τ).loc main_arg1)) (m ((c : Thread nD τ).loc main_arg2))
      ⟨512 * t.val + l.val, by have := lt_points t; omega⟩ d := by
  rw [after0_3, out_eq]
  refine (step_apply _ _ _ l d).trans ?_
  simp only [mergedBlock, weightBlock, streamBlock]
  rfl

theorem arr_eq (c : Dev nD) : (dats m 0 c).arrAt 3 cfg0.N
    = fun y => added (m ((c : Thread nD τ).loc main_arg0)) (m ((c : Thread nD τ).loc main_arg1)) (m ((c : Thread nD τ).loc main_arg2)) (y 0) (y 1) := by
  refine (dats m 0 c).arrAt_eq_of_covers 3 _ (by decide +kernel) fun t hf y => ?_
  have e2 : ((cfg0.win 3).blk t).view.emb y = ix2 ⟨512 * t.val + (y 0).val, by
      have := lt_points t; have : (y 0).val < 512 := (y 0).isLt; omega⟩ (y 1) := by
    blk_ext [idx t]
  rw [e2]
  refine Eq.trans (congrArg ((dats m 0 c).after 3 t) (?_ : _ = ix2 (n0 := 512) (n1 := 2048) (y 0) (y 1))) (after_apply m c t (y 0) (y 1))
  funext a; fin_cases a <;> rfl

end Cert.OprojV

end
-- ==== Proof.OprojClaim.lean ====
/- The claims about the output projection. -/
module

public import proofs.«01_k».proof.Proof.OprojKernel
public import proofs.«01_k».proof.Defs
public import proofs.«01_k».proof.Proof.Gen.Oproj.Frame
public import proofs.«01_k».proof.Proof.Gen.OprojReferenceIdeal.Run
public import Idealize.ShloMosaic.Lib.Pointwise
public import Idealize.ShloMosaic.Adequacy
public import Idealize.ShloMosaic.Init

@[expose] public section

set_option maxRecDepth 16384

noncomputable section

namespace Cert.OprojRef

open Cert.OprojReferenceIdeal Cert.OprojReferenceIdeal.Gen Cert.OprojReferenceIdeal.Value Idealize.ShloMosaic Idealize.ShloMosaic.TcCoe

/-- The reference's lines. -/
def whole (M : S16384x2048.Idx → EReal) (W : S1x2048x2048.Idx → EReal) (X : S4x4096x2048.Idx → EReal) : S16384x2048.Idx → EReal :=
  shapeCast _ (addf (F := Ideal) (φ := .f32) X (Host.dotGeneral (F := Ideal) (φ₁ := .f32) (φ₂ := .f32) dot_S4x4096x2048_S2048x2048_S4x4096x2048_2_0_01_1_n_n none
    (extf (F := Ideal) (φ := .bf16) .f32 (shapeCast _ M shapeCasts_S16384x2048_S4x4096x2048) bitsLt_bf16_f32)
    (shapeCast _ W shapeCasts_S1x2048x2048_S2048x2048))) shapeCasts_S4x4096x2048_S16384x2048

theorem whole_apply (M W X) (b : Fin 4) (t : Fin 4096) (d : Fin 2048) :
    whole M W X (ix2 ⟨b.val * 4096 + t.val, by omega⟩ d)
      = X (ix3 b t d) + ∑ k : Fin 2048, M (ix2 ⟨b.val * 4096 + t.val, by omega⟩ k) * W (ix3 0 k d) := by
  unfold whole; pointwise

theorem whole_eq (M W X) : whole M W X = fun y => OprojV.added M W X (y 0) (y 1) := by
  funext y
  obtain ⟨r, d, rfl⟩ : ∃ (r : Fin 16384) (d : Fin 2048), y = ix2 r d := ⟨y 0, y 1, eq_ix2 _⟩
  have e : (⟨(r.val / 4096) * 4096 + r.val % 4096, by omega⟩ : Fin 16384) = r := Fin.ext (by show (r.val / 4096) * 4096 + r.val % 4096 = _; omega)
  have := whole_apply M W X ⟨r.val / 4096, by omega⟩ ⟨r.val % 4096, by omega⟩ d
  simp only [e] at this
  exact this

end Cert.OprojRef

namespace Cert.OprojClaim

open Idealize.ShloMosaic Idealize.ShloMosaic.TcCoe Idealize.SL.Sem

theorem frame_p : Cert.quiescent_Oproj := fun m ρ _ => Cert.Oproj.Gen.frame m ρ
theorem frame_pi : Cert.quiescent_OprojIdeal := fun m ρ _ => Cert.OprojIdeal.Gen.frame m ρ
theorem frame_ri : Cert.quiescent_OprojReferenceIdeal := fun m ρ _ =>
  (θ_run Cert.OprojReferenceIdeal.defs _ _).mono (fun r h => ⟨fun c => (h c).2, sem_eq_zero_of_no_sems (by decide) r.2⟩)
    (Cert.OprojReferenceIdeal.Value.run (F := Ideal) m ρ)

theorem preserves : Cert.preserves_Oproj_OprojIdeal := trivial

theorem algebraic : Cert.algebraic_OprojIdeal_OprojReferenceIdeal := by
  intro m g m' g' _ hag
  refine ⟨fun c => (Cert.OprojIdeal.Gen.dats m 0 c).arrAt 3 Cert.OprojIdeal.cfg0.N, Cert.OprojIdeal.Value.run_blocks m g, ?_⟩
  refine (θ_run Cert.OprojReferenceIdeal.defs _ _).mono (fun r h c => ⟨(h c).1.trans ?_, (h c).2⟩) (Cert.OprojReferenceIdeal.Value.run (F := Ideal) m' g')
  obtain ⟨h0, h1, h2⟩ := hag c
  rw [h0, h1, h2]
  exact ((OprojV.arr_eq m c).trans (OprojRef.whole_eq _ _ _).symm).symm

end Cert.OprojClaim

end
-- ==== Proof.InSpec.lean ====
/- The input projection's values, as the kernel orders them and as the reference writes them, and that they agree on finite inputs. -/
module

public import Idealize.ShloMosaic.Lib.Pointwise
public import proofs.«01_k».proof.Proof.Consts

@[expose] public section

noncomputable section

namespace Cert.InSpec

open Idealize.ShloMosaic

/-- One half, as the kernel writes it. -/
def half : EReal := Ideal.ofBits .f32 0x3F000000#32

/-- SiLU of a value, from half of it. -/
def silu2 (h : EReal) : EReal := h + h * Ideal.tanh h

/-- The logistic function, by the hyperbolic tangent. -/
def gate (v : EReal) : EReal := half * Ideal.tanh (half * v) + half

def dot (u w : Fin 2048 → EReal) : EReal := ∑ d, u d * w d

/-- The kernel's four taps, the last first, with half of the bias. -/
def taps (g0 g1 g2 g3 w0 w1 w2 w3 b : EReal) : EReal := half * b + w3 * g3 + w0 * g0 + w1 * g1 + w2 * g2

/-- The reference's four taps. -/
def conv (g0 g1 g2 g3 w0 w1 w2 w3 b : EReal) : EReal := g0 * w0 + g1 * w1 + g2 * w2 + g3 * w3 + b

def IsReal (x : EReal) : Prop := ∃ r : ℝ, x = r

theorem half_eq : half = ((1 / 2 : ℝ) : EReal) := by
  unfold half
  simp [Ideal.ofBits, Ideal.ieee, -EReal.coe_mul]
  norm_num

theorem one_eq : Ideal.ofBits .f32 0x3F800000#32 = 1 := by
  simp [Ideal.ofBits, Ideal.ieee, -EReal.coe_mul]
  norm_num

theorem one_add_tanh (y : ℝ) : 1 + Real.tanh y = 2 * (1 + Real.exp (-(2 * y)))⁻¹ := by
  have e : Real.exp (-(2 * y)) = Real.exp (-y) * Real.exp (-y) := by rw [← Real.exp_add]; congr 1; ring
  have h : Real.exp y * Real.exp (-y) = 1 := by rw [← Real.exp_add]; simp
  have hp := Real.exp_pos y
  have hn := Real.exp_pos (-y)
  rw [Real.tanh_eq_sinh_div_cosh, Real.sinh_eq, Real.cosh_eq, e]
  field_simp
  nlinarith

theorem silu2_coe (r : ℝ) : silu2 ((1 / 2 * r : ℝ) : EReal) = (r : EReal) * Ideal.logistic r := by
  unfold silu2
  rw [Ideal.tanh_coe, Ideal.logistic_coe, ← EReal.coe_mul, ← EReal.coe_mul, ← EReal.coe_add]
  congr 1
  have h := one_add_tanh (1 / 2 * r)
  rw [show 2 * (1 / 2 * r) = r by ring] at h
  linear_combination (1 / 2 * r) * h

theorem gate_eq (v : EReal) : gate v = Ideal.logistic v := by
  unfold gate
  rw [half_eq]
  induction v using EReal.rec with
  | bot =>
    rw [EReal.coe_mul_bot_of_pos (by norm_num), Ideal.tanh_bot, Ideal.logistic_bot,
      show (-1 : EReal) = ((-1 : ℝ) : EReal) by norm_num, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, ← EReal.coe_mul, ← EReal.coe_add, Ideal.logistic_coe]
    congr 1
    have h := one_add_tanh (1 / 2 * r)
    rw [show 2 * (1 / 2 * r) = r by ring] at h
    linear_combination (1 / 2) * h

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Halved weights give half the sum, and the sum is a real. -/
theorem dot_half (u w : Fin 2048 → EReal) (hu : ∀ d, IsReal (u d)) (hw : ∀ d, IsReal (w d)) :
    ∃ r : ℝ, dot u w = r ∧ dot u (fun d => w d * half) = ((1 / 2 * r : ℝ) : EReal) := by
  choose a ha using hu
  choose b hb using hw
  refine ⟨∑ d, a d * b d, ?_, ?_⟩
  · unfold dot
    rw [coe_sum]
    exact Finset.sum_congr rfl fun d _ => by rw [ha, hb, EReal.coe_mul]
  · unfold dot
    rw [Finset.mul_sum, coe_sum]
    refine Finset.sum_congr rfl fun d _ => ?_
    beta_reduce
    rw [ha, hb, half_eq, ← EReal.coe_mul, ← EReal.coe_mul]
    congr 1; ring

theorem silu_dot (u w : Fin 2048 → EReal) (hu : ∀ d, IsReal (u d)) (hw : ∀ d, IsReal (w d)) :
    silu2 (dot u fun d => w d * half) = dot u w * Ideal.logistic (dot u w) := by
  obtain ⟨r, h1, h2⟩ := dot_half u w hu hw
  rw [h1, h2, silu2_coe]

theorem silu_conv {h0 h1 h2 h3 g0 g1 g2 g3 w0 w1 w2 w3 b : EReal}
    (e0 : ∃ r : ℝ, g0 = r ∧ h0 = ((1 / 2 * r : ℝ) : EReal)) (e1 : ∃ r : ℝ, g1 = r ∧ h1 = ((1 / 2 * r : ℝ) : EReal))
    (e2 : ∃ r : ℝ, g2 = r ∧ h2 = ((1 / 2 * r : ℝ) : EReal)) (e3 : ∃ r : ℝ, g3 = r ∧ h3 = ((1 / 2 * r : ℝ) : EReal))
    (k0 : IsReal w0) (k1 : IsReal w1) (k2 : IsReal w2) (k3 : IsReal w3) (kb : IsReal b) :
    silu2 (taps h0 h1 h2 h3 w0 w1 w2 w3 b) = conv g0 g1 g2 g3 w0 w1 w2 w3 b * Ideal.logistic (conv g0 g1 g2 g3 w0 w1 w2 w3 b) := by
  obtain ⟨r0, rfl, rfl⟩ := e0
  obtain ⟨r1, rfl, rfl⟩ := e1
  obtain ⟨r2, rfl, rfl⟩ := e2
  obtain ⟨r3, rfl, rfl⟩ := e3
  obtain ⟨x0, rfl⟩ := k0
  obtain ⟨x1, rfl⟩ := k1
  obtain ⟨x2, rfl⟩ := k2
  obtain ⟨x3, rfl⟩ := k3
  obtain ⟨y, rfl⟩ := kb
  have hc : conv (r0 : EReal) r1 r2 r3 x0 x1 x2 x3 y = ((r0 * x0 + r1 * x1 + r2 * x2 + r3 * x3 + y : ℝ) : EReal) := by
    unfold conv; norm_cast
  have ht : taps ((1 / 2 * r0 : ℝ) : EReal) ((1 / 2 * r1 : ℝ) : EReal) ((1 / 2 * r2 : ℝ) : EReal) ((1 / 2 * r3 : ℝ) : EReal) x0 x1 x2 x3 y
      = ((1 / 2 * (r0 * x0 + r1 * x1 + r2 * x2 + r3 * x3 + y) : ℝ) : EReal) := by
    unfold taps
    rw [half_eq, ← EReal.coe_mul, ← EReal.coe_mul, ← EReal.coe_mul, ← EReal.coe_mul, ← EReal.coe_mul, ← EReal.coe_add, ← EReal.coe_add,
      ← EReal.coe_add, ← EReal.coe_add]
    congr 1; ring
  rw [ht, hc, silu2_coe]

end Cert.InSpec

end
-- ==== Proof.InStep.lean ====
/- What a grid point of the input projection computes at an index, from the contents of the buffers. -/
module

public import proofs.«01_k».proof.Proof.Gen.InProjIdeal.Skeleton
public import proofs.«01_k».proof.Proof.InSpec

@[expose] public section

set_option maxRecDepth 16384

noncomputable section

namespace Cert.InProjV

open Cert.InProjIdeal Cert.InProjIdeal.Gen Idealize.ShloMosaic Idealize.ShloMosaic.TcCoe
open Cert.InSpec (half silu2 gate dot taps)

theorem raw2_apply (u : Vec Ideal S1024x2048 .bf16) (w : Vec Ideal S2048x256 .bf16) (l : Fin 1024) (n : Fin 256) :
    k0_pay2 u w (ix2 l n) = dot (fun d => u (ix2 l d)) fun d => w (ix2 d n) := by
  unfold k0_pay2 dot; pointwise

theorem raw3_apply (u : Vec Ideal S1024x2048 .bf16) (w : Vec Ideal S2048x256 .bf16) (l : Fin 1024) (n : Fin 256) :
    k0_pay3 u w (ix2 l n) = dot (fun d => u (ix2 l d)) fun d => w (ix2 d n) := by
  unfold k0_pay3 dot; pointwise

theorem raw4_apply (u : Vec Ideal S1024x2048 .bf16) (w : Vec Ideal S2048x256 .bf16) (l : Fin 1024) (n : Fin 256) :
    k0_pay4 u w (ix2 l n) = dot (fun d => u (ix2 l d)) fun d => w (ix2 d n) := by
  unfold k0_pay4 dot; pointwise

theorem raw5_apply (u : Vec Ideal S1024x2048 .bf16) (w : Vec Ideal S2048x256 .bf16) (l : Fin 1024) (n : Fin 256) :
    k0_pay5 u w (ix2 l n) = dot (fun d => u (ix2 l d)) fun d => w (ix2 d n) := by
  unfold k0_pay5 dot; pointwise

theorem raw6_apply (u : Vec Ideal S1024x2048 .bf16) (w : Vec Ideal S2048x256 .bf16) (l : Fin 1024) (n : Fin 256) :
    k0_pay6 u w (ix2 l n) = dot (fun d => u (ix2 l d)) fun d => w (ix2 d n) := by
  unfold k0_pay6 dot; pointwise

theorem raw7_apply (u : Vec Ideal S1024x2048 .bf16) (w : Vec Ideal S2048x256 .bf16) (l : Fin 1024) (n : Fin 256) :
    k0_pay7 u w (ix2 l n) = dot (fun d => u (ix2 l d)) fun d => w (ix2 d n) := by
  unfold k0_pay7 dot; pointwise

theorem raw8_apply (u : Vec Ideal S1024x2048 .bf16) (w : Vec Ideal S2048x256 .bf16) (l : Fin 1024) (n : Fin 256) :
    k0_pay8 u w (ix2 l n) = dot (fun d => u (ix2 l d)) fun d => w (ix2 d n) := by
  unfold k0_pay8 dot; pointwise

theorem zero_apply (l : Fin 1024) (n : Fin 256) : k0_pay9 (F := Ideal) (ix2 l n) = 0 := by
  unfold k0_pay9; pointwise

theorem silu13_apply (u : Vec Ideal S1024x2048 .bf16) (w : Vec Ideal S2048x256 .bf16) (l : Fin 1024) (n : Fin 256) :
    k0_pay13 u w (ix2 l n) = silu2 (dot (fun d => u (ix2 l d)) fun d => w (ix2 d n)) := by
  unfold k0_pay13 silu2 dot; pointwise

theorem silu14_apply (u : Vec Ideal S1024x2048 .bf16) (w : Vec Ideal S2048x256 .bf16) (l : Fin 1024) (n : Fin 256) :
    k0_pay14 u w (ix2 l n) = silu2 (dot (fun d => u (ix2 l d)) fun d => w (ix2 d n)) := by
  unfold k0_pay14 silu2 dot; pointwise

theorem silu15_apply (u : Vec Ideal S1024x2048 .bf16) (w : Vec Ideal S2048x256 .bf16) (l : Fin 1024) (n : Fin 256) :
    k0_pay15 u w (ix2 l n) = silu2 (dot (fun d => u (ix2 l d)) fun d => w (ix2 d n)) := by
  unfold k0_pay15 silu2 dot; pointwise

theorem silu16_apply (u : Vec Ideal S1024x2048 .bf16) (w : Vec Ideal S2048x256 .bf16) (l : Fin 1024) (n : Fin 256) :
    k0_pay16 u w (ix2 l n) = silu2 (dot (fun d => u (ix2 l d)) fun d => w (ix2 d n)) := by
  unfold k0_pay16 silu2 dot; pointwise

theorem gate11_apply (u : Vec Ideal S1024x2048 .bf16) (w : Vec Ideal S2048x256 .bf16) (l : Fin 1024) (n : Fin 256) :
    k0_pay11 u w (ix2 l n) = gate (dot (fun d => u (ix2 l d)) fun d => w (ix2 d n)) := by
  unfold k0_pay11 gate dot half; pointwise

theorem gate17_apply (u : Vec Ideal S1024x2048 .bf16) (w : Vec Ideal S2048x256 .bf16) (l : Fin 1024) (n : Fin 256) :
    k0_pay17 u w (ix2 l n) = gate (dot (fun d => u (ix2 l d)) fun d => w (ix2 d n)) := by
  unfold k0_pay17 gate dot half; pointwise

theorem gate18_apply (u : Vec Ideal S1024x2048 .bf16) (w : Vec Ideal S2048x256 .bf16) (l : Fin 1024) (n : Fin 256) :
    k0_pay18 u w (ix2 l n) = gate (dot (fun d => u (ix2 l d)) fun d => w (ix2 d n)) := by
  unfold k0_pay18 gate dot half; pointwise

theorem gate10_apply (u : Vec Ideal S1024x2048 .bf16) (w : Vec Ideal S2048x256 .bf16) (l : Fin 1024) (n : Fin 256) :
    k0_pay10 (k0_pay19 u w) (Scalar.ofBits .f32 0x3F000000#32) (ix2 l n) = gate (dot (fun d => u (ix2 l d)) fun d => w (ix2 d n)) := by
  unfold k0_pay10 k0_pay19 gate dot half; pointwise

/-- The activation of the taps at row `l`, channel `n`: 16 rows before the block lie in front of it. -/
def convAt (e : Vec Ideal S1040x2048 .bf16) (w : Vec Ideal S2048x256 .bf16) (cw : Vec Ideal S1x4x256 .f32) (cb : Vec Ideal S1x256 .f32)
    (l : Fin 1024) (n : Fin 256) : EReal :=
  silu2 (taps (dot (fun d => e (ix2 ⟨l.val + 13, by omega⟩ d)) fun d => w (ix2 d n))
    (dot (fun d => e (ix2 ⟨l.val + 14, by omega⟩ d)) fun d => w (ix2 d n))
    (dot (fun d => e (ix2 ⟨l.val + 15, by omega⟩ d)) fun d => w (ix2 d n))
    (dot (fun d => e (ix2 ⟨l.val + 16, by omega⟩ d)) fun d => w (ix2 d n))
    (cw (ix3 0 0 n)) (cw (ix3 0 1 n)) (cw (ix3 0 2 n)) (cw (ix3 0 3 n)) (cb (ix2 0 n)))

theorem conv27_apply (e : Vec Ideal S1040x2048 .bf16) (w : Vec Ideal S2048x256 .bf16) (cw : Vec Ideal S1x4x256 .f32) (cb : Vec Ideal S1x256 .f32)
    (l : Fin 1024) (n : Fin 256) :
    k0_pay27 (k0_pay22 e w) (k0_pay23 cw) (k0_pay24 cb) (k0_pay25 cw) (k0_pay26 e w) (ix2 l n) = convAt e w cw cb l n := by
  unfold k0_pay27 k0_pay22 k0_pay24 k0_pay25 k0_pay26 k0_pay22 k0_pay23 convAt silu2 taps dot half; pointwise
  simp only [Nat.add_comm]

theorem conv32_apply (e : Vec Ideal S1040x2048 .bf16) (w : Vec Ideal S2048x256 .bf16) (cw : Vec Ideal S1x4x256 .f32) (cb : Vec Ideal S1x256 .f32)
    (l : Fin 1024) (n : Fin 256) :
    k0_pay32 (k0_pay28 e w) (k0_pay29 cw) (k0_pay30 e w cw cb) (k0_pay31 e w cw) (ix2 l n) = convAt e w cw cb l n := by
  unfold k0_pay32 k0_pay30 k0_pay31 k0_pay28 k0_pay29 convAt silu2 taps dot half; pointwise
  simp only [Nat.add_comm]

theorem conv33_apply (e : Vec Ideal S1040x2048 .bf16) (w : Vec Ideal S2048x256 .bf16) (cw : Vec Ideal S1x4x256 .f32) (cb : Vec Ideal S1x256 .f32)
    (l : Fin 1024) (n : Fin 256) :
    k0_pay33 e w cw cb (ix2 l n) = convAt e w cw cb l n := by
  unfold k0_pay33 convAt silu2 taps dot half; pointwise
  simp only [Nat.add_comm]

theorem conv12_apply (e : Vec Ideal S1040x2048 .bf16) (w : Vec Ideal S2048x256 .bf16) (cw : Vec Ideal S1x4x256 .f32) (cb : Vec Ideal S1x256 .f32)
    (l : Fin 1024) (n : Fin 256) :
    k0_pay12 e w cw cb (ix2 l n) = convAt e w cw cb l n := by
  unfold k0_pay12 convAt silu2 taps dot half; pointwise
  simp only [Nat.add_comm]

/-- The weights' scale at tile `j` of columns. -/
def scale (j : Fin 17) : EReal := if j.val < 10 then half else 1

/-- Whether the tile's weights are halved, as the kernel asks it. -/
theorem halved_eq : ∀ j : Fin 17, Scalar.cmpi CmpIPredicate.slt (BitVec.ofNat 32 j.val) 10#32 = if j.val < 10 then 1#1 else 0#1 := by decide +kernel

theorem weights_apply (i : grid0.Coords) (x : Vec Ideal S1024x2048 .f32) (d : Fin 2048) (n : Fin 1024) :
    k0_pay1 i x (ix2 d n) = x (ix2 n d) * scale (i 0) := by
  unfold k0_pay1; pointwise
  refine congrArg (x (ix2 n d) * ·) ?_
  refine Eq.trans (congrArg (fun b => Scalar.select b _ _) (halved_eq (i 0))) ?_
  unfold scale
  by_cases h : (i 0).val < 10
  · rw [if_pos h, if_pos h]; rfl
  · rw [if_neg h, if_neg h]; rfl

/-- Whether the block is the first of its sequence, as the kernel asks it. -/
def isFirst (n : BitVec 32) : BitVec 1 :=
  Scalar.cmpi CmpIPredicate.eq
    (Scalar.select
      (Scalar.andi (Scalar.xori (Scalar.cmpi CmpIPredicate.slt (Scalar.remsi n (Scalar.select (Scalar.cmpi CmpIPredicate.eq 4#32 0#32) 1#32 4#32)) 0#32)
          (Scalar.cmpi CmpIPredicate.slt (Scalar.select (Scalar.cmpi CmpIPredicate.eq 4#32 0#32) 1#32 4#32) 0#32))
        (Scalar.cmpi CmpIPredicate.ne (Scalar.remsi n (Scalar.select (Scalar.cmpi CmpIPredicate.eq 4#32 0#32) 1#32 4#32)) 0#32))
      (Scalar.addi (Scalar.remsi n (Scalar.select (Scalar.cmpi CmpIPredicate.eq 4#32 0#32) 1#32 4#32))
        (Scalar.select (Scalar.cmpi CmpIPredicate.eq 4#32 0#32) 1#32 4#32))
      (Scalar.remsi n (Scalar.select (Scalar.cmpi CmpIPredicate.eq 4#32 0#32) 1#32 4#32)))
    0#32

theorem isFirst_eq : ∀ i : Fin 16, isFirst (BitVec.ofNat 32 i.val) = if i.val % 4 = 0 then 1#1 else 0#1 := by decide +kernel

theorem halo_apply (i : Fin 16) (x : Vec Ideal S16x2048 .bf16) (r : Fin 16) (d : Fin 2048) :
    k0_pay20 (BitVec.ofNat 32 i.val) x (ix2 r d) = if i.val % 4 = 0 then 0 else x (ix2 r d) := by
  unfold k0_pay20; pointwise
  refine Eq.trans (b := Scalar.select (isFirst (BitVec.ofNat 32 i.val)) (0 : EReal) (x (ix2 r d))) rfl ?_
  rw [isFirst_eq]
  by_cases h : i.val % 4 = 0 <;> simp [Scalar.select, h]

theorem rows_apply (x : Vec Ideal S1024x2048 .bf16) (l : Fin 1024) (d : Fin 2048) : k0_pay21 x (ix2 l d) = x (ix2 l d) := by
  unfold k0_pay21; pointwise

end Cert.InProjV

end
-- ==== Proof.InCase.lean ====
/- What the points of the grid leave in the weights' scratch buffer and in the output's. -/
module

public import proofs.«01_k».proof.Proof.Gen.InProjIdeal.Frame
public import proofs.«01_k».proof.Proof.InStep
public import Idealize.ShloMosaic.Lib.Pipeline.ValueKit
public import Idealize.ShloMosaic.Lib.Pipeline.ReadBack

@[expose] public section

set_option maxRecDepth 16384

noncomputable section

namespace Cert.InProjV

open Cert.InProjIdeal Cert.InProjIdeal.Gen Idealize.ShloMosaic Idealize.ShloMosaic.TcCoe
open Cert.InSpec (half silu2 gate dot taps)

/-- The rows of a block, after 16 of the block before. -/
def stack (i : Fin 16) (x0 : Vec Ideal S1024x2048 .bf16) (x1 : Vec Ideal S16x2048 .bf16) : Vec Ideal S1040x2048 .bf16 :=
  fun y => if h : (y 0).val < 16 then (if i.val % 4 = 0 then 0 else x1 (ix2 ⟨(y 0).val, h⟩ (y 1)))
    else x0 (ix2 ⟨(y 0).val - 16, by have : (y 0).val < 1040 := (y 0).isLt; omega⟩ (y 1))

theorem stack_hi (i : Fin 16) (x0 : Vec Ideal S1024x2048 .bf16) (x1 : Vec Ideal S16x2048 .bf16) (l : Fin 1024) (d : Fin 2048) :
    stack i x0 x1 (ix2 ⟨l.val + 16, by omega⟩ d) = x0 (ix2 l d) := by
  have h : ¬l.val + 16 < 16 := by omega
  unfold stack
  refine (dif_neg h).trans ?_
  simp only [Nat.add_sub_cancel]
  rfl

theorem stack_lo (i : Fin 16) (x0 : Vec Ideal S1024x2048 .bf16) (x1 : Vec Ideal S16x2048 .bf16) (r : Fin 16) (d : Fin 2048) :
    stack i x0 x1 (ix2 ⟨r.val, by omega⟩ d) = if i.val % 4 = 0 then 0 else x1 (ix2 r d) := by
  unfold stack
  exact dif_pos r.isLt

theorem emb_hi (h) (l : Fin 1024) (d : Fin 2048) :
    (Rect.unit (s := S1040x2048) ![16, 0] ![1024, 2048] h).emb (ix2 l d) = ix2 ⟨l.val + 16, by omega⟩ d := by
  funext a; apply Fin.ext
  refine (Rect.idx_unit_val _ _ h (ix2 l d) a).trans ?_
  match a with
  | ⟨0, _⟩ => exact Nat.add_comm _ _
  | ⟨1, _⟩ => exact Nat.zero_add _

theorem emb_lo (h) (r : Fin 16) (d : Fin 2048) :
    (Rect.unit (s := S1040x2048) ![0, 0] ![16, 2048] h).emb (ix2 r d) = ix2 ⟨r.val, by omega⟩ d := by
  funext a; apply Fin.ext
  refine (Rect.idx_unit_val _ _ h (ix2 r d) a).trans ?_
  match a with
  | ⟨0, _⟩ => exact Nat.zero_add _
  | ⟨1, _⟩ => exact Nat.zero_add _

theorem canon_stack (i : Fin 16) (x0 : Vec Ideal S1024x2048 .bf16) (x1 : Vec Ideal S16x2048 .bf16) (h16 h0) :
    View.canon [⟨Rect.unit (s := S1040x2048) ![16, 0] ![1024, 2048] h16, k0_pay21 x0⟩,
      ⟨Rect.unit (s := S1040x2048) ![0, 0] ![16, 2048] h0, k0_pay20 (BitVec.ofNat 32 i.val) x1⟩] = stack i x0 x1 := by
  funext y
  refine View.canon_apply_of_pieces (stack i x0 x1) _ ?_ y (View.cover_of_tiledBy _ ![16, 2048] (by sl_kernel_rfl) y)
  intro p hp x
  rcases List.mem_cons.mp hp with rfl | hp
  · have hx : x = ix2 (n0 := 1024) (n1 := 2048) (x 0) (x 1) := eq_ix2 _
    rw [hx]
    refine (rows_apply x0 (x 0) (x 1)).trans ?_
    exact (stack_hi i x0 x1 (x 0) (x 1)).symm.trans (congrArg (stack i x0 x1) (emb_hi h16 (x 0) (x 1)).symm)
  · obtain rfl := List.mem_singleton.mp hp
    have hx : x = ix2 (n0 := 16) (n1 := 2048) (x 0) (x 1) := eq_ix2 _
    rw [hx]
    refine (halo_apply i x1 (x 0) (x 1)).trans ?_
    exact (stack_lo i x0 x1 (x 0) (x 1)).symm.trans (congrArg (stack i x0 x1) (emb_lo h0 (x 0) (x 1)).symm)

theorem readCov_ld {sig : RefSig} {κ : Kind} {sp : Space} {s : Shape} {e : EltTy} {Val : EltTy → Type} [∀ e, Nonempty (Val e)] (v : View sig κ sp s e)
    (L : List (View.Piece Val s e)) (r : Rect s) : v.readCov L r.toLoadRect = View.ld (View.canon L) r := View.readCov_eq_canon' v L _

theorem ld_all (u : Vec Ideal S1040x2048 .bf16) (h) : View.ld u (Rect.unit (s := S1040x2048) ![0, 0] ![1040, 2048] h) = u :=
  View.ld_unit_zero (by funext a; fin_cases a <;> rfl) h u

/-- One piece that is the whole buffer. -/
theorem canon_weights (w : Vec Ideal S2048x1024 .bf16) (h) :
    View.canon [⟨Rect.unit (s := S2048x1024) ![0, 0] ![2048, 1024] h, w⟩] = w := by
  funext y
  refine View.canon_apply_of_pieces w _ ?_ y (View.cover_of_tiledBy _ ![2048, 1024] (by sl_kernel_rfl) y)
  intro p hp x
  obtain rfl := List.mem_singleton.mp hp
  refine congrArg w (funext fun a => Fin.ext ?_)
  refine Eq.trans ?_ (Rect.idx_unit_val _ _ h x a).symm
  match a with
  | ⟨0, _⟩ => exact (Nat.zero_add _).symm
  | ⟨1, _⟩ => exact (Nat.zero_add _).symm

theorem emb_cols (o : Fin 4) (off : Nat) (ho : off = 256 * o.val) (h) (l : Fin 1024) (n : Fin 256) :
    (Rect.unit (s := S1024x1024) ![0, off] ![1024, 256] h).emb (ix2 l n) = ix2 l ⟨256 * o.val + n.val, by omega⟩ := by
  subst ho
  funext a; apply Fin.ext
  refine (Rect.idx_unit_val _ _ h (ix2 l n) a).trans ?_
  match a with
  | ⟨0, _⟩ => exact Nat.zero_add _
  | ⟨1, _⟩ => rfl

/-- Four pieces of 256 columns, the last stored first. -/
theorem canon_cols (G : Vec Ideal S1024x1024 .f32) (p0 p1 p2 p3 : Vec Ideal S1024x256 .f32) (h3 h2 h1 h0)
    (e0 : ∀ l n, p0 (ix2 l n) = G (ix2 l ⟨256 * (0 : Fin 4).val + n.val, by omega⟩)) (e1 : ∀ l n, p1 (ix2 l n) = G (ix2 l ⟨256 * (1 : Fin 4).val + n.val, by omega⟩))
    (e2 : ∀ l n, p2 (ix2 l n) = G (ix2 l ⟨256 * (2 : Fin 4).val + n.val, by omega⟩)) (e3 : ∀ l n, p3 (ix2 l n) = G (ix2 l ⟨256 * (3 : Fin 4).val + n.val, by omega⟩)) :
    View.canon [⟨Rect.unit (s := S1024x1024) ![0, 768] ![1024, 256] h3, p3⟩, ⟨Rect.unit (s := S1024x1024) ![0, 512] ![1024, 256] h2, p2⟩,
      ⟨Rect.unit (s := S1024x1024) ![0, 256] ![1024, 256] h1, p1⟩, ⟨Rect.unit (s := S1024x1024) ![0, 0] ![1024, 256] h0, p0⟩] = G := by
  funext y
  refine View.canon_apply_of_pieces G _ ?_ y (View.cover_of_tiledBy _ ![1024, 256] (by sl_kernel_rfl) y)
  have key : ∀ (o : Fin 4) (off : Nat) (ho : off = 256 * o.val) (h) (p : Vec Ideal S1024x256 .f32)
      (_ : ∀ l n, p (ix2 l n) = G (ix2 l ⟨256 * o.val + n.val, by omega⟩)) (x : S1024x256.Idx),
      p x = G ((Rect.unit (s := S1024x1024) ![0, off] ![1024, 256] h).emb x) := by
    intro o off ho h p e x
    have hx : x = ix2 (n0 := 1024) (n1 := 256) (x 0) (x 1) := eq_ix2 _
    rw [hx]
    exact (e (x 0) (x 1)).trans (congrArg G (emb_cols o off ho h (x 0) (x 1)).symm)
  intro p hp
  simp only [List.mem_cons, List.not_mem_nil, or_false] at hp
  rcases hp with rfl | rfl | rfl | rfl
  · exact key 3 768 rfl h3 p3 e3
  · exact key 2 512 rfl h2 p2 e2
  · exact key 1 256 rfl h1 p1 e1
  · exact key 0 0 rfl h0 p0 e0

theorem ld_cols (w : Vec Ideal S2048x1024 .bf16) (off : Nat) (h) (d : Fin 2048) (n : Fin 256) (k : Fin 1024) (hk : k.val = off + n.val) :
    View.ld w (Rect.unit (s := S2048x1024) ![0, off] ![2048, 256] h) (ix2 d n) = w (ix2 d k) := by
  refine View.ld_unit_apply_of w _ _ _ _ _ fun a => ?_
  match a with
  | ⟨0, _⟩ => exact (Nat.zero_add _).symm
  | ⟨1, _⟩ => exact hk

theorem ld_taps (w : Vec Ideal S1x4x1024 .f32) (off : Nat) (h) (j : Fin 4) (n : Fin 256) (k : Fin 1024) (hk : k.val = off + n.val) :
    View.ld w (Rect.unit (s := S1x4x1024) ![0, 0, off] ![1, 4, 256] h) (ix3 0 j n) = w (ix3 0 j k) := by
  refine View.ld_unit_apply_of w _ _ _ _ _ fun a => ?_
  match a with
  | ⟨0, _⟩ => rfl
  | ⟨1, _⟩ => exact (Nat.zero_add _).symm
  | ⟨2, _⟩ => exact hk

theorem ld_bias (w : Vec Ideal S1x1024 .f32) (off : Nat) (h) (n : Fin 256) (k : Fin 1024) (hk : k.val = off + n.val) :
    View.ld w (Rect.unit (s := S1x1024) ![0, off] ![1, 256] h) (ix2 0 n) = w (ix2 0 k) := by
  refine View.ld_unit_apply_of w _ _ _ _ _ fun a => ?_
  match a with
  | ⟨0, _⟩ => rfl
  | ⟨1, _⟩ => exact hk

/-- The product of a block of rows and a tile of columns. -/
def prod (x0 : Vec Ideal S1024x2048 .bf16) (w : Vec Ideal S2048x1024 .bf16) (l n : Fin 1024) : EReal :=
  dot (fun d => x0 (ix2 l d)) fun d => w (ix2 d n)

/-- A tile of `z` columns. -/
def siluTile (x0 : Vec Ideal S1024x2048 .bf16) (w : Vec Ideal S2048x1024 .bf16) : Vec Ideal S1024x1024 .f32 := fun y => silu2 (prod x0 w (y 0) (y 1))
/-- A tile of columns that are taken as they are. -/
def rawTile (x0 : Vec Ideal S1024x2048 .bf16) (w : Vec Ideal S2048x1024 .bf16) : Vec Ideal S1024x1024 .f32 := fun y => prod x0 w (y 0) (y 1)
/-- The same, with zeros in the last 256 columns. -/
def lastTile (x0 : Vec Ideal S1024x2048 .bf16) (w : Vec Ideal S2048x1024 .bf16) : Vec Ideal S1024x1024 .f32 :=
  fun y => if (y 1).val < 768 then prod x0 w (y 0) (y 1) else 0
/-- A tile of gate columns. -/
def gateTile (x0 : Vec Ideal S1024x2048 .bf16) (w : Vec Ideal S2048x1024 .bf16) : Vec Ideal S1024x1024 .f32 := fun y => gate (prod x0 w (y 0) (y 1))
/-- The product at row `r` of a block with 16 rows in front. -/
def prodS (e : Vec Ideal S1040x2048 .bf16) (w : Vec Ideal S2048x1024 .bf16) (r : Fin 1040) (n : Fin 1024) : EReal :=
  dot (fun d => e (ix2 r d)) fun d => w (ix2 d n)
/-- A tile of columns that the convolution takes. -/
def convTile (e : Vec Ideal S1040x2048 .bf16) (w : Vec Ideal S2048x1024 .bf16) (cw : Vec Ideal S1x4x1024 .f32) (cb : Vec Ideal S1x1024 .f32) : Vec Ideal S1024x1024 .f32 :=
  fun y => silu2 (taps (prodS e w ⟨(y 0).val + 13, by have : (y 0).val < 1024 := (y 0).isLt; omega⟩ (y 1))
    (prodS e w ⟨(y 0).val + 14, by have : (y 0).val < 1024 := (y 0).isLt; omega⟩ (y 1))
    (prodS e w ⟨(y 0).val + 15, by have : (y 0).val < 1024 := (y 0).isLt; omega⟩ (y 1))
    (prodS e w ⟨(y 0).val + 16, by have : (y 0).val < 1024 := (y 0).isLt; omega⟩ (y 1))
    (cw (ix3 0 0 (y 1))) (cw (ix3 0 1 (y 1))) (cw (ix3 0 2 (y 1))) (cw (ix3 0 3 (y 1))) (cb (ix2 0 (y 1))))

theorem prod_ld (x0 : Vec Ideal S1024x2048 .bf16) (w : Vec Ideal S2048x1024 .bf16) (off : Nat) (h) (l : Fin 1024) (n : Fin 256) (k : Fin 1024) (hk : k.val = off + n.val) :
    (dot (fun d => x0 (ix2 l d)) fun d => View.ld w (Rect.unit (s := S2048x1024) ![0, off] ![2048, 256] h) (ix2 d n)) = prod x0 w l k :=
  congrArg (dot _) (funext fun d => ld_cols w off h d n k hk)

theorem convAt_ld (e : Vec Ideal S1040x2048 .bf16) (w : Vec Ideal S2048x1024 .bf16) (cw : Vec Ideal S1x4x1024 .f32) (cb : Vec Ideal S1x1024 .f32)
    (off : Nat) (h h' h'') (l : Fin 1024) (n : Fin 256) (k : Fin 1024) (hk : k.val = off + n.val) :
    convAt e (View.ld w (Rect.unit (s := S2048x1024) ![0, off] ![2048, 256] h)) (View.ld cw (Rect.unit (s := S1x4x1024) ![0, 0, off] ![1, 4, 256] h'))
      (View.ld cb (Rect.unit (s := S1x1024) ![0, off] ![1, 256] h'')) l n = convTile e w cw cb (ix2 l k) := by
  have e1 : (fun d => View.ld w (Rect.unit (s := S2048x1024) ![0, off] ![2048, 256] h) (ix2 d n)) = fun d => w (ix2 d k) :=
    funext fun d => ld_cols w off h d n k hk
  unfold convAt
  rw [e1, ld_taps cw off h' 0 n k hk, ld_taps cw off h' 1 n k hk, ld_taps cw off h' 2 n k hk, ld_taps cw off h' 3 n k hk, ld_bias cb off h'' n k hk]
  rfl

theorem silu_canon (x0 : Vec Ideal S1024x2048 .bf16) (w : Vec Ideal S2048x1024 .bf16) (h3 h2 h1 h0 g3 g2 g1 g0) :
    View.canon [⟨Rect.unit (s := S1024x1024) ![0, 768] ![1024, 256] h3, k0_pay16 x0 (View.ld w (Rect.unit (s := S2048x1024) ![0, 768] ![2048, 256] g3))⟩,
      ⟨Rect.unit (s := S1024x1024) ![0, 512] ![1024, 256] h2, k0_pay15 x0 (View.ld w (Rect.unit (s := S2048x1024) ![0, 512] ![2048, 256] g2))⟩,
      ⟨Rect.unit (s := S1024x1024) ![0, 256] ![1024, 256] h1, k0_pay14 x0 (View.ld w (Rect.unit (s := S2048x1024) ![0, 256] ![2048, 256] g1))⟩,
      ⟨Rect.unit (s := S1024x1024) ![0, 0] ![1024, 256] h0, k0_pay13 x0 (View.ld w (Rect.unit (s := S2048x1024) ![0, 0] ![2048, 256] g0))⟩] = siluTile x0 w := by
  refine canon_cols _ _ _ _ _ h3 h2 h1 h0 (fun l n => ?_) (fun l n => ?_) (fun l n => ?_) (fun l n => ?_)
  · exact (silu13_apply x0 _ l n).trans (congrArg silu2 (prod_ld x0 w 0 g0 l n _ rfl))
  · exact (silu14_apply x0 _ l n).trans (congrArg silu2 (prod_ld x0 w 256 g1 l n _ rfl))
  · exact (silu15_apply x0 _ l n).trans (congrArg silu2 (prod_ld x0 w 512 g2 l n _ rfl))
  · exact (silu16_apply x0 _ l n).trans (congrArg silu2 (prod_ld x0 w 768 g3 l n _ rfl))

theorem raw_canon (x0 : Vec Ideal S1024x2048 .bf16) (w : Vec Ideal S2048x1024 .bf16) (h3 h2 h1 h0 g3 g2 g1 g0) :
    View.canon [⟨Rect.unit (s := S1024x1024) ![0, 768] ![1024, 256] h3, k0_pay5 x0 (View.ld w (Rect.unit (s := S2048x1024) ![0, 768] ![2048, 256] g3))⟩,
      ⟨Rect.unit (s := S1024x1024) ![0, 512] ![1024, 256] h2, k0_pay4 x0 (View.ld w (Rect.unit (s := S2048x1024) ![0, 512] ![2048, 256] g2))⟩,
      ⟨Rect.unit (s := S1024x1024) ![0, 256] ![1024, 256] h1, k0_pay3 x0 (View.ld w (Rect.unit (s := S2048x1024) ![0, 256] ![2048, 256] g1))⟩,
      ⟨Rect.unit (s := S1024x1024) ![0, 0] ![1024, 256] h0, k0_pay2 x0 (View.ld w (Rect.unit (s := S2048x1024) ![0, 0] ![2048, 256] g0))⟩] = rawTile x0 w := by
  refine canon_cols _ _ _ _ _ h3 h2 h1 h0 (fun l n => ?_) (fun l n => ?_) (fun l n => ?_) (fun l n => ?_)
  · exact (raw2_apply x0 _ l n).trans (prod_ld x0 w 0 g0 l n _ rfl)
  · exact (raw3_apply x0 _ l n).trans (prod_ld x0 w 256 g1 l n _ rfl)
  · exact (raw4_apply x0 _ l n).trans (prod_ld x0 w 512 g2 l n _ rfl)
  · exact (raw5_apply x0 _ l n).trans (prod_ld x0 w 768 g3 l n _ rfl)

theorem gate_canon (x0 : Vec Ideal S1024x2048 .bf16) (w : Vec Ideal S2048x1024 .bf16) (h3 h2 h1 h0 g3 g2 g1 g0) :
    View.canon [⟨Rect.unit (s := S1024x1024) ![0, 768] ![1024, 256] h3, k0_pay11 x0 (View.ld w (Rect.unit (s := S2048x1024) ![0, 768] ![2048, 256] g3))⟩,
      ⟨Rect.unit (s := S1024x1024) ![0, 512] ![1024, 256] h2, k0_pay10 (k0_pay19 x0 (View.ld w (Rect.unit (s := S2048x1024) ![0, 512] ![2048, 256] g2))) (FloatOps.ofBits .f32 0x3F000000#32)⟩,
      ⟨Rect.unit (s := S1024x1024) ![0, 256] ![1024, 256] h1, k0_pay18 x0 (View.ld w (Rect.unit (s := S2048x1024) ![0, 256] ![2048, 256] g1))⟩,
      ⟨Rect.unit (s := S1024x1024) ![0, 0] ![1024, 256] h0, k0_pay17 x0 (View.ld w (Rect.unit (s := S2048x1024) ![0, 0] ![2048, 256] g0))⟩] = gateTile x0 w := by
  refine canon_cols _ _ _ _ _ h3 h2 h1 h0 (fun l n => ?_) (fun l n => ?_) (fun l n => ?_) (fun l n => ?_)
  · exact (gate17_apply x0 _ l n).trans (congrArg gate (prod_ld x0 w 0 g0 l n _ rfl))
  · exact (gate18_apply x0 _ l n).trans (congrArg gate (prod_ld x0 w 256 g1 l n _ rfl))
  · exact (gate10_apply x0 _ l n).trans (congrArg gate (prod_ld x0 w 512 g2 l n _ rfl))
  · exact (gate11_apply x0 _ l n).trans (congrArg gate (prod_ld x0 w 768 g3 l n _ rfl))

theorem last_canon (x0 : Vec Ideal S1024x2048 .bf16) (w : Vec Ideal S2048x1024 .bf16) (h3 h2 h1 h0 g2 g1 g0) :
    View.canon [⟨Rect.unit (s := S1024x1024) ![0, 768] ![1024, 256] h3, k0_pay9 (F := Ideal)⟩,
      ⟨Rect.unit (s := S1024x1024) ![0, 512] ![1024, 256] h2, k0_pay8 x0 (View.ld w (Rect.unit (s := S2048x1024) ![0, 512] ![2048, 256] g2))⟩,
      ⟨Rect.unit (s := S1024x1024) ![0, 256] ![1024, 256] h1, k0_pay7 x0 (View.ld w (Rect.unit (s := S2048x1024) ![0, 256] ![2048, 256] g1))⟩,
      ⟨Rect.unit (s := S1024x1024) ![0, 0] ![1024, 256] h0, k0_pay6 x0 (View.ld w (Rect.unit (s := S2048x1024) ![0, 0] ![2048, 256] g0))⟩] = lastTile x0 w := by
  refine canon_cols _ _ _ _ _ h3 h2 h1 h0 (fun l n => ?_) (fun l n => ?_) (fun l n => ?_) (fun l n => ?_)
  · refine (raw6_apply x0 _ l n).trans ((prod_ld x0 w 0 g0 l n ⟨256 * 0 + n.val, by omega⟩ rfl).trans ?_)
    exact (if_pos (by show 256 * 0 + n.val < 768; omega)).symm
  · refine (raw7_apply x0 _ l n).trans ((prod_ld x0 w 256 g1 l n ⟨256 * 1 + n.val, by omega⟩ rfl).trans ?_)
    exact (if_pos (by show 256 * 1 + n.val < 768; omega)).symm
  · refine (raw8_apply x0 _ l n).trans ((prod_ld x0 w 512 g2 l n ⟨256 * 2 + n.val, by omega⟩ rfl).trans ?_)
    exact (if_pos (by show 256 * 2 + n.val < 768; omega)).symm
  · refine (zero_apply l n).trans ?_
    exact (if_neg (by show ¬256 * 3 + n.val < 768; omega)).symm

theorem conv_canon (e : Vec Ideal S1040x2048 .bf16) (w : Vec Ideal S2048x1024 .bf16) (cw : Vec Ideal S1x4x1024 .f32) (cb : Vec Ideal S1x1024 .f32)
    (h3 h2 h1 h0 g3 g2 g1 g0 c3 c2 c1 c0 b3 b2 b1 b0) :
    View.canon [⟨Rect.unit (s := S1024x1024) ![0, 768] ![1024, 256] h3, k0_pay12 e (View.ld w (Rect.unit (s := S2048x1024) ![0, 768] ![2048, 256] g3)) (View.ld cw (Rect.unit (s := S1x4x1024) ![0, 0, 768] ![1, 4, 256] c3)) (View.ld cb (Rect.unit (s := S1x1024) ![0, 768] ![1, 256] b3))⟩,
      ⟨Rect.unit (s := S1024x1024) ![0, 512] ![1024, 256] h2, k0_pay33 e (View.ld w (Rect.unit (s := S2048x1024) ![0, 512] ![2048, 256] g2)) (View.ld cw (Rect.unit (s := S1x4x1024) ![0, 0, 512] ![1, 4, 256] c2)) (View.ld cb (Rect.unit (s := S1x1024) ![0, 512] ![1, 256] b2))⟩,
      ⟨Rect.unit (s := S1024x1024) ![0, 256] ![1024, 256] h1, k0_pay32 (k0_pay28 e (View.ld w (Rect.unit (s := S2048x1024) ![0, 256] ![2048, 256] g1))) (k0_pay29 (View.ld cw (Rect.unit (s := S1x4x1024) ![0, 0, 256] ![1, 4, 256] c1))) (k0_pay30 e (View.ld w (Rect.unit (s := S2048x1024) ![0, 256] ![2048, 256] g1)) (View.ld cw (Rect.unit (s := S1x4x1024) ![0, 0, 256] ![1, 4, 256] c1)) (View.ld cb (Rect.unit (s := S1x1024) ![0, 256] ![1, 256] b1))) (k0_pay31 e (View.ld w (Rect.unit (s := S2048x1024) ![0, 256] ![2048, 256] g1)) (View.ld cw (Rect.unit (s := S1x4x1024) ![0, 0, 256] ![1, 4, 256] c1)))⟩,
      ⟨Rect.unit (s := S1024x1024) ![0, 0] ![1024, 256] h0, k0_pay27 (k0_pay22 e (View.ld w (Rect.unit (s := S2048x1024) ![0, 0] ![2048, 256] g0))) (k0_pay23 (View.ld cw (Rect.unit (s := S1x4x1024) ![0, 0, 0] ![1, 4, 256] c0))) (k0_pay24 (View.ld cb (Rect.unit (s := S1x1024) ![0, 0] ![1, 256] b0))) (k0_pay25 (View.ld cw (Rect.unit (s := S1x4x1024) ![0, 0, 0] ![1, 4, 256] c0))) (k0_pay26 e (View.ld w (Rect.unit (s := S2048x1024) ![0, 0] ![2048, 256] g0)))⟩] = convTile e w cw cb := by
  refine canon_cols _ _ _ _ _ h3 h2 h1 h0 (fun l n => ?_) (fun l n => ?_) (fun l n => ?_) (fun l n => ?_)
  · exact (conv27_apply e _ _ _ l n).trans (convAt_ld e w cw cb 0 g0 c0 b0 l n _ rfl)
  · exact (conv32_apply e _ _ _ l n).trans (convAt_ld e w cw cb 256 g1 c1 b1 l n _ rfl)
  · exact (conv33_apply e _ _ _ l n).trans (convAt_ld e w cw cb 512 g2 c2 b2 l n _ rfl)
  · exact (conv12_apply e _ _ _ l n).trans (convAt_ld e w cw cb 768 g3 c3 b3 l n _ rfl)

variable (m : (ℓ : Loc nD τ sig) → Buf (Elt Ideal) ℓ)

theorem lt_points (t : Fin cfg0.N) : t.val < 272 := t.isLt

/-- The first point of a column tile stores its weights. -/
theorem weights_first (c : Dev nD) (t : Fin cfg0.N) (h0 : t.val % 16 = 0) :
    (outsAt0 m c t.val t.isLt).2 = k0_pay1 (grid0.coords t) (iblk m c 2 t) := by
  have ht := lt_points t
  by_cases q0 : t.val < 64
  · rw [outsAt0_A m c t h0 (by omega) (by omega) (by omega) (by omega) (by omega)]; frame_out
  by_cases q1 : 4 ≤ t.val / 16 % 17 ∧ t.val / 16 % 17 ≤ 9
  · rw [outsAt0_C m c t h0 (by omega) (by omega) (by omega) (by omega) (by omega)]; frame_out
  by_cases q2 : 10 ≤ t.val / 16 % 17 ∧ t.val / 16 % 17 ≤ 11
  · rw [outsAt0_E m c t h0 (by omega) (by omega) (by omega) (by omega) (by omega)]; frame_out
  by_cases q3 : t.val / 16 % 17 = 12
  · rw [outsAt0_G m c t h0 (by omega) (by omega) (by omega) (by omega) (by omega)]; frame_out
  rw [outsAt0_I m c t h0 (by omega) (by omega) (by omega) (by omega) (by omega)]; frame_out
/-- The other points keep them. -/
theorem weights_next (c : Dev nD) (t : Fin cfg0.N) (h0 : ¬t.val % 16 = 0) :
    (outsAt0 m c t.val t.isLt).2 = (outsAt0 m c (t.val - 1) (by omega)).2 := by
  have ht := lt_points t
  by_cases q0 : t.val < 64
  · rw [outsAt0_B m c t h0 (by omega) (by omega) (by omega) (by omega) (by omega)]; rfl
  by_cases q1 : 4 ≤ t.val / 16 % 17 ∧ t.val / 16 % 17 ≤ 9
  · rw [outsAt0_D m c t h0 (by omega) (by omega) (by omega) (by omega) (by omega)]; rfl
  by_cases q2 : 10 ≤ t.val / 16 % 17 ∧ t.val / 16 % 17 ≤ 11
  · rw [outsAt0_F m c t h0 (by omega) (by omega) (by omega) (by omega) (by omega)]; rfl
  by_cases q3 : t.val / 16 % 17 = 12
  · rw [outsAt0_H m c t h0 (by omega) (by omega) (by omega) (by omega) (by omega)]; rfl
  rw [outsAt0_J m c t h0 (by omega) (by omega) (by omega) (by omega) (by omega)]; rfl
theorem silu_out (c : Dev nD) (t : Fin cfg0.N) (q : t.val / 16 < 4) :
    (outsAt0 m c t.val t.isLt).1 = siluTile (iblk m c 0 t) (outsAt0 m c t.val t.isLt).2 := by
  have ht := lt_points t
  by_cases h0 : t.val % 16 = 0
  · rw [weights_first m c t h0, outsAt0_A m c t h0 (by omega) (by omega) (by omega) (by omega) (by omega)]; frame_out
    simp only [readCov_ld, canon_weights]
    exact silu_canon _ _ _ _ _ _ _ _ _ _
  · rw [weights_next m c t h0, outsAt0_B m c t h0 (by omega) (by omega) (by omega) (by omega) (by omega)]; frame_out
    simp only [readCov_ld, read_unread_whole]
    exact silu_canon _ _ _ _ _ _ _ _ _ _

theorem conv_out (c : Dev nD) (t : Fin cfg0.N) (q : 4 ≤ t.val / 16 ∧ t.val / 16 ≤ 9) :
    (outsAt0 m c t.val t.isLt).1 = convTile (stack (grid0.coords t 1) (iblk m c 0 t) (iblk m c 1 t)) (outsAt0 m c t.val t.isLt).2 (iblk m c 3 t) (iblk m c 4 t) := by
  have ht := lt_points t
  by_cases h0 : t.val % 16 = 0
  · rw [weights_first m c t h0, outsAt0_C m c t h0 (by omega) (by omega) (by omega) (by omega) (by omega)]; frame_out
    simp only [readCov_ld, canon_weights, ld_all]
    rw [canon_stack (grid0.coords t 1)]
    exact conv_canon _ _ _ _ _ _ _ _ _ _ _ _ _ _ _ _ _ _ _ _
  · rw [weights_next m c t h0, outsAt0_D m c t h0 (by omega) (by omega) (by omega) (by omega) (by omega)]; frame_out
    simp only [readCov_ld, read_unread_whole, ld_all]
    rw [canon_stack (grid0.coords t 1)]
    exact conv_canon _ _ _ _ _ _ _ _ _ _ _ _ _ _ _ _ _ _ _ _

theorem raw_out (c : Dev nD) (t : Fin cfg0.N) (q : 10 ≤ t.val / 16 ∧ t.val / 16 ≤ 11) :
    (outsAt0 m c t.val t.isLt).1 = rawTile (iblk m c 0 t) (outsAt0 m c t.val t.isLt).2 := by
  have ht := lt_points t
  by_cases h0 : t.val % 16 = 0
  · rw [weights_first m c t h0, outsAt0_E m c t h0 (by omega) (by omega) (by omega) (by omega) (by omega)]; frame_out
    simp only [readCov_ld, canon_weights]
    exact raw_canon _ _ _ _ _ _ _ _ _ _
  · rw [weights_next m c t h0, outsAt0_F m c t h0 (by omega) (by omega) (by omega) (by omega) (by omega)]; frame_out
    simp only [readCov_ld, read_unread_whole]
    exact raw_canon _ _ _ _ _ _ _ _ _ _

theorem last_out (c : Dev nD) (t : Fin cfg0.N) (q : t.val / 16 = 12) :
    (outsAt0 m c t.val t.isLt).1 = lastTile (iblk m c 0 t) (outsAt0 m c t.val t.isLt).2 := by
  have ht := lt_points t
  by_cases h0 : t.val % 16 = 0
  · rw [weights_first m c t h0, outsAt0_G m c t h0 (by omega) (by omega) (by omega) (by omega) (by omega)]; frame_out
    simp only [readCov_ld, canon_weights]
    exact last_canon _ _ _ _ _ _ _ _ _
  · rw [weights_next m c t h0, outsAt0_H m c t h0 (by omega) (by omega) (by omega) (by omega) (by omega)]; frame_out
    simp only [readCov_ld, read_unread_whole]
    exact last_canon _ _ _ _ _ _ _ _ _

theorem gate_out (c : Dev nD) (t : Fin cfg0.N) (q : 13 ≤ t.val / 16) :
    (outsAt0 m c t.val t.isLt).1 = gateTile (iblk m c 0 t) (outsAt0 m c t.val t.isLt).2 := by
  have ht := lt_points t
  by_cases h0 : t.val % 16 = 0
  · rw [weights_first m c t h0, outsAt0_I m c t h0 (by omega) (by omega) (by omega) (by omega) (by omega)]; frame_out
    simp only [readCov_ld, canon_weights]
    exact gate_canon _ _ _ _ _ _ _ _ _ _
  · rw [weights_next m c t h0, outsAt0_J m c t h0 (by omega) (by omega) (by omega) (by omega) (by omega)]; frame_out
    simp only [readCov_ld, read_unread_whole]
    exact gate_canon _ _ _ _ _ _ _ _ _ _

end Cert.InProjV

end
-- ==== Proof.InBlocks.lean ====
/- The input projection's input blocks, as entries of the arguments, and the run of the call. -/
module

public import proofs.«01_k».proof.Proof.InCase
public import Idealize.ShloMosaic.Lib.Claim
public import Idealize.ShloMosaic.Lib.Pipeline.Value

@[expose] public section

set_option maxRecDepth 16384

noncomputable section

namespace Cert.InProjV

open Cert.InProjIdeal Cert.InProjIdeal.Gen Idealize.ShloMosaic Idealize.ShloMosaic.TcCoe Idealize.SL.Sem

variable (m : (ℓ : Loc nD τ sig) → Buf (Elt Ideal) ℓ)

/-- The call ends with the array its blocks were written to, and with its arguments as they were. -/
theorem run (ρ : Dev nD → PrngReg) : θ_run defs (onTc (τ := τ) (main (F := Ideal))) ⟨m, fun _ => 0, ρ⟩ fun r => ∀ c : Dev nD,
    r.2.mem ((c : Thread nD τ).loc main_v2) = (dats m 0 c).arrAt 5 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  refine (θ_run defs _ _).mono (fun r h c => ?_) (run_main m ρ)
  have staged : ∀ w, (cfg0.win w).isOut = false → r.2.mem ((c : Thread nD τ).loc (Pipeline.arrRef spec0 w)) = V m c (Pipeline.arrRef spec0 w) := fun w hw =>
    ((h c).1 w).trans (((dats m 0 c).arrAt_in w hw _).trans (A_eq m c w))
  exact ⟨(h c).1 5, (staged 1 rfl).trans (V_main_arg0 m c),
    ((h c).2 main_arg1 (Pipeline.mem_restRefs_of main_arg1 (by decide) (by decide))).trans (V_main_arg1 m c),
    (staged 3 rfl).trans (V_main_arg2 m c), (staged 4 rfl).trans (V_main_arg3 m c)⟩

theorem weights_entry (c : Dev nD) (n : Fin 16960) (d : Fin 2048) : V m c main_v1 (ix2 n d) = m ((c : Thread nD τ).loc main_arg1) (ix3 0 d n) := by
  simp only [V, hostOps0, List.flatten_cons, List.flatten_nil, List.append_nil, List.cons_append, List.nil_append]
  entry_read
  pointwise

/-- The block of 16 rows before block `i` of 1024. -/
def haloBlock (i : Nat) : Nat := 64 * i - 1

/-- The first weight column of tile `j`. -/
def colStart (j : Nat) : Nat := if j < 13 then 1024 * j else 1024 * j - 448

theorem idx : ∀ t : Fin cfg0.N, win0_0.index t = ![t.val % 16, 0] ∧ win0_1.index t = ![haloBlock (t.val % 16), 0]
    ∧ win0_2.index t = ![colStart (t.val / 16), 0] ∧ win0_3.index t = ![0, 0, min 5 (t.val / 16 - 4)]
    ∧ win0_4.index t = ![0, min 5 (t.val / 16 - 4)] ∧ win0_5.index t = ![t.val % 16, t.val / 16] :=
  (by decide +kernel : ∀ t : Fin grid0.N, win0_0.index t = ![t.val % 16, 0] ∧ win0_1.index t = ![haloBlock (t.val % 16), 0]
    ∧ win0_2.index t = ![colStart (t.val / 16), 0] ∧ win0_3.index t = ![0, 0, min 5 (t.val / 16 - 4)]
    ∧ win0_4.index t = ![0, min 5 (t.val / 16 - 4)] ∧ win0_5.index t = ![t.val % 16, t.val / 16])

theorem coords : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

theorem rowBlock (c : Dev nD) (t : Fin cfg0.N) (l : Fin 1024) (d : Fin 2048) :
    iblk m c 0 t (ix2 l d) = m ((c : Thread nD τ).loc main_arg0) (ix2 ⟨1024 * (t.val % 16) + l.val, by omega⟩ d) := by
  refine Eq.trans ?_ (congrFun (V_main_arg0 m c) _)
  blk_ext [iblk, idx t]

theorem haloRows (c : Dev nD) (t : Fin cfg0.N) (r : Fin 16) (d : Fin 2048) :
    iblk m c 1 t (ix2 r d) = m ((c : Thread nD τ).loc main_arg0) (ix2 ⟨16 * haloBlock (t.val % 16) + r.val, by unfold haloBlock; omega⟩ d) := by
  refine Eq.trans ?_ (congrFun (V_main_arg0 m c) _)
  blk_ext [iblk, idx t]

theorem colStart_le (t : Fin cfg0.N) : colStart (t.val / 16) ≤ 15936 := by
  have := lt_points t
  unfold colStart
  split <;> omega

theorem weightBlock (c : Dev nD) (t : Fin cfg0.N) (n : Fin 1024) (d : Fin 2048) :
    iblk m c 2 t (ix2 n d) = m ((c : Thread nD τ).loc main_arg1) (ix3 0 d ⟨colStart (t.val / 16) + n.val, by have := colStart_le t; omega⟩) := by
  refine Eq.trans ?_ (weights_entry m c _ d)
  have e : win0_2.index t = ![colStart (t.val / 16), 0] := (idx t).2.2.1
  refine congrArg (V m c main_v1) (funext fun a => Fin.ext ?_)
  match a with
  | ⟨0, _⟩ =>
    refine Eq.trans (b := win0_2.index t 0 + 1 * n.val) rfl ?_
    rw [e, Nat.one_mul]; rfl
  | ⟨1, _⟩ =>
    refine Eq.trans (b := win0_2.index t 1 + 1 * d.val) rfl ?_
    rw [e, Nat.one_mul]; exact Nat.zero_add _

theorem tapBlock (c : Dev nD) (t : Fin cfg0.N) (j : Fin 4) (n : Fin 1024) :
    iblk m c 3 t (ix3 0 j n) = m ((c : Thread nD τ).loc main_arg2) (ix3 0 j ⟨1024 * min 5 (t.val / 16 - 4) + n.val, by omega⟩) := by
  refine Eq.trans ?_ (congrFun (V_main_arg2 m c) _)
  blk_ext [iblk, idx t]

theorem biasBlock (c : Dev nD) (t : Fin cfg0.N) (n : Fin 1024) :
    iblk m c 4 t (ix2 0 n) = m ((c : Thread nD τ).loc main_arg3) (ix2 0 ⟨1024 * min 5 (t.val / 16 - 4) + n.val, by omega⟩) := by
  refine Eq.trans ?_ (congrFun (V_main_arg3 m c) _)
  blk_ext [iblk, idx t]

end Cert.InProjV

end
-- ==== Proof.InKernel.lean ====
/- The array the input projection returns, entry by entry, from the arguments. -/
module

public import proofs.«01_k».proof.Proof.InBlocks

@[expose] public section

set_option maxRecDepth 16384

noncomputable section

namespace Cert.InProjV

open Cert.InProjIdeal Cert.InProjIdeal.Gen Idealize.ShloMosaic Idealize.ShloMosaic.TcCoe
open Cert.InSpec (half silu2 gate dot taps)

theorem colStart_lt (j : Fin 17) (n : Fin 1024) : colStart j.val + n.val < 16960 := by
  unfold colStart
  split <;> omega

/-- Weight `d` of column `n` in tile `j`, scaled. -/
def wAt (W : S1x2048x16960.Idx → EReal) (j : Fin 17) (n : Fin 1024) (d : Fin 2048) : EReal :=
  W (ix3 0 d ⟨colStart j.val + n.val, colStart_lt j n⟩) * scale j

/-- Row `r` of block `i`, 16 of the block before in front; a sequence begins with zeros. -/
def uAt (U : S16384x2048.Idx → EReal) (i : Fin 16) (r : Fin 1040) (d : Fin 2048) : EReal :=
  if h : r.val < 16 then (if i.val % 4 = 0 then 0 else U (ix2 ⟨16 * haloBlock i.val + r.val, by unfold haloBlock; omega⟩ d))
  else U (ix2 ⟨1024 * i.val + (r.val - 16), by omega⟩ d)

/-- The product at row `l` of block `i`, column `n` of tile `j`. -/
def prodAt (U : S16384x2048.Idx → EReal) (W : S1x2048x16960.Idx → EReal) (i : Fin 16) (l : Fin 1024) (j : Fin 17) (n : Fin 1024) : EReal :=
  dot (fun d => U (ix2 ⟨1024 * i.val + l.val, by omega⟩ d)) (wAt W j n)

/-- The same at a row of the block with 16 in front. -/
def prodAtS (U : S16384x2048.Idx → EReal) (W : S1x2048x16960.Idx → EReal) (i : Fin 16) (r : Fin 1040) (j : Fin 17) (n : Fin 1024) : EReal :=
  dot (uAt U i r) (wAt W j n)

/-- The convolution's activation. -/
def convAtS (U : S16384x2048.Idx → EReal) (W : S1x2048x16960.Idx → EReal) (CW : S1x4x6144.Idx → EReal) (CB : S1x6144.Idx → EReal)
    (i : Fin 16) (l : Fin 1024) (j : Fin 17) (n : Fin 1024) : EReal :=
  silu2 (taps (prodAtS U W i ⟨l.val + 13, by omega⟩ j n) (prodAtS U W i ⟨l.val + 14, by omega⟩ j n) (prodAtS U W i ⟨l.val + 15, by omega⟩ j n)
    (prodAtS U W i ⟨l.val + 16, by omega⟩ j n) (CW (ix3 0 0 ⟨1024 * min 5 (j.val - 4) + n.val, by omega⟩)) (CW (ix3 0 1 ⟨1024 * min 5 (j.val - 4) + n.val, by omega⟩))
    (CW (ix3 0 2 ⟨1024 * min 5 (j.val - 4) + n.val, by omega⟩)) (CW (ix3 0 3 ⟨1024 * min 5 (j.val - 4) + n.val, by omega⟩))
    (CB (ix2 0 ⟨1024 * min 5 (j.val - 4) + n.val, by omega⟩)))

/-- The result at row `l` of block `i`, column `n` of tile `j`. -/
def outAt (U : S16384x2048.Idx → EReal) (W : S1x2048x16960.Idx → EReal) (CW : S1x4x6144.Idx → EReal) (CB : S1x6144.Idx → EReal)
    (i : Fin 16) (l : Fin 1024) (j : Fin 17) (n : Fin 1024) : EReal :=
  if j.val < 4 then silu2 (prodAt U W i l j n)
  else if j.val < 10 then convAtS U W CW CB i l j n
  else if j.val < 12 then prodAt U W i l j n
  else if j.val < 13 then (if n.val < 768 then prodAt U W i l j n else 0)
  else gate (prodAt U W i l j n)

variable (m : (ℓ : Loc nD τ sig) → Buf (Elt Ideal) ℓ)

/-- The weights kept over the points of one column tile. -/
theorem weights_eq (c : Dev nD) (t : Nat) : ∀ (ht : t < cfg0.N) (d : Fin 2048) (n : Fin 1024), (outsAt0 m c t ht).2 (ix2 d n)
    = wAt (m ((c : Thread nD τ).loc main_arg1)) ⟨t / 16, by have : t < 272 := ht; omega⟩ n d := by
  induction t using Nat.strong_induction_on with
  | _ t ih =>
    intro ht d n
    have ht' : t < 272 := ht
    by_cases h0 : t % 16 = 0
    · refine (congrFun (weights_first m c ⟨t, ht⟩ h0) _).trans ((weights_apply _ _ d n).trans ?_)
      unfold wAt
      refine congrArg₂ (fun a b : EReal => a * b) (weightBlock m c ⟨t, ht⟩ n d) ?_
      exact congrArg scale (Fin.ext (coords ⟨t, ht⟩).1)
    · refine (congrFun (weights_next m c ⟨t, ht⟩ h0) _).trans ((ih (t - 1) (by omega) _ d n).trans ?_)
      have e : (t - 1) / 16 = t / 16 := by omega
      simp only [e]

theorem prod_eq (c : Dev nD) (t : Fin cfg0.N) (l n : Fin 1024) : prod (iblk m c 0 t) (outsAt0 m c t.val t.isLt).2 l n
    = prodAt (m ((c : Thread nD τ).loc main_arg0)) (m ((c : Thread nD τ).loc main_arg1)) ⟨t.val % 16, by omega⟩ l ⟨t.val / 16, by have := lt_points t; omega⟩ n :=
  congrArg₂ dot (funext fun d => rowBlock m c t l d) (funext fun d => weights_eq m c t.val t.isLt d n)

theorem stack_block (c : Dev nD) (t : Fin cfg0.N) (r : Fin 1040) (d : Fin 2048) :
    stack (grid0.coords t 1) (iblk m c 0 t) (iblk m c 1 t) (ix2 r d) = uAt (m ((c : Thread nD τ).loc main_arg0)) ⟨t.val % 16, by omega⟩ r d := by
  have hc : (grid0.coords t 1).val = t.val % 16 := (coords t).2
  unfold uAt
  by_cases h : r.val < 16
  · rw [dif_pos h]
    refine (stack_lo (grid0.coords t 1) (iblk m c 0 t) (iblk m c 1 t) ⟨r.val, h⟩ d).trans ?_
    rw [hc]
    exact if_congr Iff.rfl rfl (haloRows m c t ⟨r.val, h⟩ d)
  · rw [dif_neg h]
    have hr : r = ⟨(⟨r.val - 16, by omega⟩ : Fin 1024).val + 16, by omega⟩ := Fin.ext (by show r.val = r.val - 16 + 16; omega)
    refine (congrArg (fun r => stack (grid0.coords t 1) (iblk m c 0 t) (iblk m c 1 t) (ix2 r d)) hr).trans ?_
    exact (stack_hi (grid0.coords t 1) (iblk m c 0 t) (iblk m c 1 t) ⟨r.val - 16, by omega⟩ d).trans (rowBlock m c t ⟨r.val - 16, by omega⟩ d)

theorem prodS_eq (c : Dev nD) (t : Fin cfg0.N) (r : Fin 1040) (n : Fin 1024) :
    prodS (stack (grid0.coords t 1) (iblk m c 0 t) (iblk m c 1 t)) (outsAt0 m c t.val t.isLt).2 r n
    = prodAtS (m ((c : Thread nD τ).loc main_arg0)) (m ((c : Thread nD τ).loc main_arg1)) ⟨t.val % 16, by omega⟩ r ⟨t.val / 16, by have := lt_points t; omega⟩ n :=
  congrArg₂ dot (funext fun d => stack_block m c t r d) (funext fun d => weights_eq m c t.val t.isLt d n)

theorem out_apply (c : Dev nD) (t : Fin cfg0.N) (l n : Fin 1024) : (outsAt0 m c t.val t.isLt).1 (ix2 l n)
    = outAt (m ((c : Thread nD τ).loc main_arg0)) (m ((c : Thread nD τ).loc main_arg1)) (m ((c : Thread nD τ).loc main_arg2)) (m ((c : Thread nD τ).loc main_arg3))
      ⟨t.val % 16, by omega⟩ l ⟨t.val / 16, by have := lt_points t; omega⟩ n := by
  have ht := lt_points t
  unfold outAt
  by_cases q0 : t.val / 16 < 4
  · rw [if_pos q0]
    exact (congrFun (silu_out m c t q0) _).trans (congrArg silu2 (prod_eq m c t l n))
  rw [if_neg q0]
  by_cases q1 : t.val / 16 < 10
  · rw [if_pos q1]
    refine (congrFun (conv_out m c t (by omega)) _).trans ?_
    unfold convTile convAtS
    exact congrArg silu2 (by
      rw [← prodS_eq, ← prodS_eq, ← prodS_eq, ← prodS_eq]
      refine Eq.trans ?_ (congrArg₂ (fun (k : Fin 4 → EReal) b => taps _ _ _ _ (k 0) (k 1) (k 2) (k 3) b)
        (funext fun j => tapBlock m c t j n) (biasBlock m c t n))
      rfl)
  rw [if_neg q1]
  by_cases q2 : t.val / 16 < 12
  · rw [if_pos q2]
    exact (congrFun (raw_out m c t (by omega)) _).trans (prod_eq m c t l n)
  rw [if_neg q2]
  by_cases q3 : t.val / 16 < 13
  · rw [if_pos q3]
    exact (congrFun (last_out m c t (by omega)) _).trans (if_congr Iff.rfl (prod_eq m c t l n) rfl)
  rw [if_neg q3]
  exact (congrFun (gate_out m c t (by omega)) _).trans (congrArg gate (prod_eq m c t l n))

/-- The returned array. -/
def outArr (U : S16384x2048.Idx → EReal) (W : S1x2048x16960.Idx → EReal) (CW : S1x4x6144.Idx → EReal) (CB : S1x6144.Idx → EReal) : S16384x17408.Idx → EReal := fun y =>
  outAt U W CW CB ⟨(y 0).val / 1024, by have : (y 0).val < 16384 := (y 0).isLt; omega⟩ ⟨(y 0).val % 1024, by omega⟩
    ⟨(y 1).val / 1024, by have : (y 1).val < 17408 := (y 1).isLt; omega⟩ ⟨(y 1).val % 1024, by omega⟩

theorem arr_eq (c : Dev nD) : (dats m 0 c).arrAt 5 cfg0.N = outArr (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  have ht := lt_points t
  have h0 : (y 0).val < 1024 := (y 0).isLt
  have h1 : (y 1).val < 1024 := (y 1).isLt
  have e1 : (dats m 0 c).after 5 t ((cfg0.win 5).xinj (cfg0.grid.coords t) y)
      = outAt (m ((c : Thread nD τ).loc main_arg0)) (m ((c : Thread nD τ).loc main_arg1)) (m ((c : Thread nD τ).loc main_arg2)) (m ((c : Thread nD τ).loc main_arg3))
        ⟨t.val % 16, by omega⟩ (y 0) ⟨t.val / 16, by omega⟩ (y 1) := by
    rw [after0_5]
    refine Eq.trans (congrArg (outsAt0 m c t.val t.isLt).1 (?_ : _ = ix2 (y 0) (y 1))) (out_apply m c t (y 0) (y 1))
    funext a; fin_cases a <;> rfl
  have e2 : ((cfg0.win 5).blk t).view.emb y = ix2 ⟨1024 * (t.val % 16) + (y 0).val, by omega⟩ ⟨1024 * (t.val / 16) + (y 1).val, by omega⟩ := by
    blk_ext [idx t]
  rw [e2]
  refine e1.trans ?_
  have a1 : (1024 * (t.val % 16) + (y 0).val) / 1024 = t.val % 16 := by omega
  have a2 : (1024 * (t.val % 16) + (y 0).val) % 1024 = (y 0).val := by omega
  have a3 : (1024 * (t.val / 16) + (y 1).val) / 1024 = t.val / 16 := by omega
  have a4 : (1024 * (t.val / 16) + (y 1).val) % 1024 = (y 1).val := by omega
  show _ = outAt _ _ _ _ ⟨(1024 * (t.val % 16) + (y 0).val) / 1024, _⟩ ⟨(1024 * (t.val % 16) + (y 0).val) % 1024, _⟩
    ⟨(1024 * (t.val / 16) + (y 1).val) / 1024, _⟩ ⟨(1024 * (t.val / 16) + (y 1).val) % 1024, _⟩
  simp only [a1, a2, a3, a4]
  rfl

end Cert.InProjV

end
-- ==== Proof.InRef.lean ====
/- The reference's input projection, cut into named stages. -/
module

public import proofs.«01_k».proof.Proof.Gen.InProjReferenceIdeal.Run
public import Idealize.ShloMosaic.Lib.Pointwise

@[expose] public section

set_option maxRecDepth 16384

noncomputable section

namespace Cert.InProjRef

open Cert.InProjReferenceIdeal Cert.InProjReferenceIdeal.Gen Cert.InProjReferenceIdeal.Value Idealize.ShloMosaic Idealize.ShloMosaic.TcCoe

/-- The product of every token with the weights. -/
def proj (A : S16384x2048.Idx → EReal) (W : S1x2048x16960.Idx → EReal) : S4x4096x16960.Idx → EReal :=
  Host.dotGeneral (F := Ideal) (φ₁ := .f32) (φ₂ := .f32) dot_S4x4096x2048_S2048x16960_S4x4096x16960_2_0_01_1_n_n none
    (extf (F := Ideal) (φ := .bf16) .f32 (shapeCast _ A shapeCasts_S16384x2048_S4x4096x2048) bitsLt_bf16_f32)
    (shapeCast _ W shapeCasts_S1x2048x16960_S2048x16960)

/-- `x / (1 + exp (-x))`, at the first columns. -/
def siluZ (X : S4x4096x4096.Idx → EReal) : S4x4096x4096.Idx → EReal :=
  mulf (F := Ideal) (φ := .f32) X (Host.divf (broadcastInDim S4x4096x4096 ![] bcast_S_S4x4096x4096 (constant S_ .f32 0x3F800000#32))
    (addf (broadcastInDim S4x4096x4096 ![] bcast_S_S4x4096x4096 (constant S_ .f32 0x3F800000#32)) (Host.exp (Host.negf X))))

/-- The same at the convolved columns. -/
def siluC (X : S4x4096x6144.Idx → EReal) : S4x4096x6144.Idx → EReal :=
  mulf (F := Ideal) (φ := .f32) X (Host.divf (broadcastInDim S4x4096x6144 ![] bcast_S_S4x4096x6144 (constant S_ .f32 0x3F800000#32))
    (addf (broadcastInDim S4x4096x6144 ![] bcast_S_S4x4096x6144 (constant S_ .f32 0x3F800000#32)) (Host.exp (Host.negf X))))

/-- `1 / (1 + exp (-x))`. -/
def sigmoid (X : S4x4096x4096.Idx → EReal) : S4x4096x4096.Idx → EReal :=
  Host.divf (F := Ideal) (φ := .f32) (broadcastInDim S4x4096x4096 ![] bcast_S_S4x4096x4096 (constant S_ .f32 0x3F800000#32))
    (addf (broadcastInDim S4x4096x4096 ![] bcast_S_S4x4096x4096 (constant S_ .f32 0x3F800000#32)) (Host.exp (Host.negf X)))

/-- The columns to convolve, after three rows of zeros. -/
def past (P : S4x4096x16960.Idx → EReal) : S4x4099x6144.Idx → EReal :=
  pad S4x4099x6144 ![0, 3, 0] ![0, 0, 0] ![0, 0, 0] (extractStridedSlice S4x4096x6144 ![0, 0, 4096] P slices_S4x4096x16960_S4x4096x6144_0_0_4096)
    (sitofp (F := Ideal) .f32 (constantI S_ 32 0#32)) pads_S4x4096x6144_S4x4099x6144_000_300_000 h_S_

/-- A vector of channels, the same for every token. -/
def wide (w : S6144.Idx → EReal) : S4x4096x6144.Idx → EReal :=
  broadcastInDim S4x4096x6144 ![0, 1, 2] bcast_S1x1x6144_S4x4096x6144_0_1_2 (broadcastInDim S1x1x6144 ![2] bcast_S6144_S1x1x6144_2 w)

def taps (W : S1x4x6144.Idx → EReal) : S4x6144.Idx → EReal := shapeCast _ W shapeCasts_S1x4x6144_S4x6144

/-- The convolution over the four last tokens. -/
def conv (P : S4x4099x6144.Idx → EReal) (W : S4x6144.Idx → EReal) (B : S1x6144.Idx → EReal) : S4x4096x6144.Idx → EReal :=
  addf (F := Ideal) (φ := .f32) (addf (addf (addf
    (mulf (extractStridedSlice S4x4096x6144 ![0, 0, 0] P slices_S4x4099x6144_S4x4096x6144_0_0_0)
      (wide (shapeCast _ (extractStridedSlice S1x6144 ![0, 0] W slices_S4x6144_S1x6144_0_0) shapeCasts_S1x6144_S6144)))
    (mulf (extractStridedSlice S4x4096x6144 ![0, 1, 0] P slices_S4x4099x6144_S4x4096x6144_0_1_0)
      (wide (shapeCast _ (extractStridedSlice S1x6144 ![1, 0] W slices_S4x6144_S1x6144_1_0) shapeCasts_S1x6144_S6144))))
    (mulf (extractStridedSlice S4x4096x6144 ![0, 2, 0] P slices_S4x4099x6144_S4x4096x6144_0_2_0)
      (wide (shapeCast _ (extractStridedSlice S1x6144 ![2, 0] W slices_S4x6144_S1x6144_2_0) shapeCasts_S1x6144_S6144))))
    (mulf (extractStridedSlice S4x4096x6144 ![0, 3, 0] P slices_S4x4099x6144_S4x4096x6144_0_3_0)
      (wide (shapeCast _ (extractStridedSlice S1x6144 ![3, 0] W slices_S4x6144_S1x6144_3_0) shapeCasts_S1x6144_S6144))))
    (wide (shapeCast _ B shapeCasts_S1x6144_S6144))

/-- The columns of the gates. -/
def gates (P : S4x4096x16960.Idx → EReal) : S4x4096x4096.Idx → EReal :=
  extractStridedSlice S4x4096x4096 ![0, 0, 12864] P slices_S4x4096x16960_S4x4096x4096_0_0_12864

/-- The columns nothing reads. -/
def unread (G : S4x4096x4096.Idx → EReal) : S4x4096x448.Idx → EReal :=
  pad S4x4096x448 ![0, 0, 0] ![0, 0, 256] ![0, 0, 0] (extractStridedSlice S4x4096x192 ![0, 0, 0] G slices_S4x4096x4096_S4x4096x192_0_0_0)
    (sitofp (F := Ideal) .f32 (constantI S_ 32 0#32)) pads_S4x4096x192_S4x4096x448_000_000_02560 h_S_

/-- The five groups of columns, side by side. -/
def side (Z : S4x4096x4096.Idx → EReal) (C : S4x4096x6144.Idx → EReal) (D : S4x4096x2624.Idx → EReal) (U : S4x4096x448.Idx → EReal)
    (G : S4x4096x4096.Idx → EReal) : S4x4096x17408.Idx → EReal :=
  concatenate S4x4096x17408 2 [⟨S4x4096x4096, Z⟩, ⟨S4x4096x6144, C⟩, ⟨S4x4096x2624, D⟩, ⟨S4x4096x448, U⟩, ⟨S4x4096x4096, G⟩]
    concatenates_S4x4096x4096_S4x4096x6144_S4x4096x2624_S4x4096x448_S4x4096x4096_S4x4096x17408_d2

def parts (P : S4x4096x16960.Idx → EReal) (CW : S1x4x6144.Idx → EReal) (CB : S1x6144.Idx → EReal) : S4x4096x17408.Idx → EReal :=
  side (siluZ (extractStridedSlice S4x4096x4096 ![0, 0, 0] P slices_S4x4096x16960_S4x4096x4096_0_0_0))
    (siluC (conv (past P) (taps CW) CB))
    (extractStridedSlice S4x4096x2624 ![0, 0, 10240] P slices_S4x4096x16960_S4x4096x2624_0_0_10240)
    (unread (gates P)) (sigmoid (gates P))

def whole (A : S16384x2048.Idx → EReal) (W : S1x2048x16960.Idx → EReal) (CW : S1x4x6144.Idx → EReal) (CB : S1x6144.Idx → EReal) : S16384x17408.Idx → EReal :=
  shapeCast _ (parts (proj A W) CW CB) shapeCasts_S4x4096x17408_S16384x17408

theorem res_eq (m : (ℓ : Loc nD τ sig) → Buf (Elt Ideal) ℓ) (c : Dev nD) :
    res_main_v52 m c = whole (m ((c.tc : Thread nD τ).loc main_arg0)) (m ((c.tc : Thread nD τ).loc main_arg1)) (m ((c.tc : Thread nD τ).loc main_arg2))
      (m ((c.tc : Thread nD τ).loc main_arg3)) := rfl

end Cert.InProjRef

end
-- ==== Proof.InRefRead.lean ====
/- The stages of the reference's input projection at an index. -/
module

public import proofs.«01_k».proof.Proof.InRef
public import proofs.«01_k».proof.Proof.InSpec

@[expose] public section

set_option maxRecDepth 16384

noncomputable section

namespace Cert.InProjRef

open Cert.InProjReferenceIdeal Cert.InProjReferenceIdeal.Gen Cert.InProjReferenceIdeal.Value Idealize.ShloMosaic Idealize.ShloMosaic.TcCoe

theorem proj_apply (A W) (b : Fin 4) (t : Fin 4096) (f : Fin 16960) :
    proj A W (ix3 b t f) = InSpec.dot (fun d => A (ix2 ⟨b.val * 4096 + t.val, by omega⟩ d)) (fun d => W (ix3 0 d f)) := by
  unfold proj InSpec.dot; pointwise

theorem siluZ_apply (X) (b : Fin 4) (t : Fin 4096) (f : Fin 4096) : siluZ X (ix3 b t f) = X (ix3 b t f) * Ideal.logistic (X (ix3 b t f)) := by
  unfold siluZ; pointwise; rfl

theorem siluC_apply (X) (b : Fin 4) (t : Fin 4096) (f : Fin 6144) : siluC X (ix3 b t f) = X (ix3 b t f) * Ideal.logistic (X (ix3 b t f)) := by
  unfold siluC; pointwise; rfl

theorem sigmoid_apply (X) (b : Fin 4) (t : Fin 4096) (f : Fin 4096) : sigmoid X (ix3 b t f) = Ideal.logistic (X (ix3 b t f)) := by
  unfold sigmoid; pointwise; rfl

theorem wide_apply (w) (b : Fin 4) (t : Fin 4096) (f : Fin 6144) : wide w (ix3 b t f) = w (ix1 f) := by
  unfold wide; pointwise

theorem taps_apply (W) (k : Fin 4) (f : Fin 6144) : taps W (ix2 k f) = W (ix3 0 k f) := by
  unfold taps; pointwise

theorem sitofp_zero : FloatOps.sitofp (F := Ideal) .f32 (0#32 : BitVec 32) = (0 : EReal) := by simp [FloatOps.sitofp]

theorem past_apply (P) (b : Fin 4) (t : Fin 4099) (f : Fin 6144) :
    past P (ix3 b t f) = if h : 3 ≤ t.val then P (ix3 b ⟨t.val - 3, by omega⟩ ⟨4096 + f.val, by omega⟩) else 0 := by
  unfold past; pointwise
  by_cases h : 3 ≤ t.val
  · rw [dif_pos h, dif_pos ⟨h, by omega⟩]
  · rw [dif_neg h, dif_neg (fun h' => h h'.1), sitofp_zero]

theorem conv_apply (P W B) (b : Fin 4) (t : Fin 4096) (f : Fin 6144) :
    conv P W B (ix3 b t f) = InSpec.conv (P (ix3 b ⟨t.val, by omega⟩ f)) (P (ix3 b ⟨t.val + 1, by omega⟩ f)) (P (ix3 b ⟨t.val + 2, by omega⟩ f))
      (P (ix3 b ⟨t.val + 3, by omega⟩ f)) (W (ix2 0 f)) (W (ix2 1 f)) (W (ix2 2 f)) (W (ix2 3 f)) (B (ix2 0 f)) := by
  unfold conv InSpec.conv; pointwise [wide_apply]
  simp only [Nat.add_comm]

theorem gates_apply (P) (b : Fin 4) (t : Fin 4096) (f : Fin 4096) : gates P (ix3 b t f) = P (ix3 b t ⟨12864 + f.val, by omega⟩) := by
  unfold gates; pointwise

theorem unread_apply (G) (b : Fin 4) (t : Fin 4096) (f : Fin 448) :
    unread G (ix3 b t f) = if h : f.val < 192 then G (ix3 b t ⟨f.val, by omega⟩) else 0 := by
  unfold unread; pointwise
  by_cases h : f.val < 192
  · rw [dif_pos h, dif_pos h]
  · rw [dif_neg h, dif_neg h, sitofp_zero]

theorem side_apply (Z C D U G) (b : Fin 4) (t : Fin 4096) (f : Fin 17408) :
    side Z C D U G (ix3 b t f) = if h : f.val < 4096 then Z (ix3 b t ⟨f.val, by omega⟩)
      else if h : f.val < 10240 then C (ix3 b t ⟨f.val - 4096, by omega⟩)
      else if h : f.val < 12864 then D (ix3 b t ⟨f.val - 10240, by omega⟩)
      else if h : f.val < 13312 then U (ix3 b t ⟨f.val - 12864, by omega⟩)
      else G (ix3 b t ⟨f.val - 13312, by omega⟩) := by
  unfold side; pointwise
  simp only [Nat.sub_sub, Nat.reduceAdd]
  by_cases h0 : f.val < 4096
  · rw [dif_pos h0, dif_pos h0]
  rw [dif_neg h0, dif_neg h0]
  by_cases h1 : f.val < 10240
  · rw [dif_pos h1, dif_pos (by omega)]
  rw [dif_neg h1, dif_neg (by omega)]
  by_cases h2 : f.val < 12864
  · rw [dif_pos h2, dif_pos (by omega)]
  rw [dif_neg h2, dif_neg (by omega)]
  by_cases h3 : f.val < 13312
  · rw [dif_pos h3, dif_pos (by omega)]
  · rw [dif_neg h3, dif_neg (by omega)]

/-- The product at row `r` and column `c` of the weights. -/
def lin (A : S16384x2048.Idx → EReal) (W : S1x2048x16960.Idx → EReal) (r : Fin 16384) (c : Fin 16960) : EReal :=
  InSpec.dot (fun d => A (ix2 r d)) (fun d => W (ix3 0 d c))

/-- The product `k` rows after the third row before token `t`; before the first token it is zero. -/
def pastAt (A : S16384x2048.Idx → EReal) (W : S1x2048x16960.Idx → EReal) (b : Fin 4) (t : Fin 4099) (f : Fin 6144) : EReal :=
  if h : 3 ≤ t.val then lin A W ⟨b.val * 4096 + (t.val - 3), by omega⟩ ⟨4096 + f.val, by omega⟩ else 0

/-- The convolution at a token and a channel. -/
def convAt (A : S16384x2048.Idx → EReal) (W : S1x2048x16960.Idx → EReal) (CW : S1x4x6144.Idx → EReal) (CB : S1x6144.Idx → EReal)
    (b : Fin 4) (t : Fin 4096) (f : Fin 6144) : EReal :=
  InSpec.conv (pastAt A W b ⟨t.val, by omega⟩ f) (pastAt A W b ⟨t.val + 1, by omega⟩ f) (pastAt A W b ⟨t.val + 2, by omega⟩ f)
    (pastAt A W b ⟨t.val + 3, by omega⟩ f) (CW (ix3 0 0 f)) (CW (ix3 0 1 f)) (CW (ix3 0 2 f)) (CW (ix3 0 3 f)) (CB (ix2 0 f))

/-- The reference at a token and a column. -/
def spec (A : S16384x2048.Idx → EReal) (W : S1x2048x16960.Idx → EReal) (CW : S1x4x6144.Idx → EReal) (CB : S1x6144.Idx → EReal)
    (b : Fin 4) (t : Fin 4096) (f : Fin 17408) : EReal :=
  if h : f.val < 4096 then lin A W ⟨b.val * 4096 + t.val, by omega⟩ ⟨f.val, by omega⟩
      * Ideal.logistic (lin A W ⟨b.val * 4096 + t.val, by omega⟩ ⟨f.val, by omega⟩)
  else if h : f.val < 10240 then convAt A W CW CB b t ⟨f.val - 4096, by omega⟩ * Ideal.logistic (convAt A W CW CB b t ⟨f.val - 4096, by omega⟩)
  else if h : f.val < 13056 then lin A W ⟨b.val * 4096 + t.val, by omega⟩ ⟨f.val, by omega⟩
  else if h : f.val < 13312 then 0
  else Ideal.logistic (lin A W ⟨b.val * 4096 + t.val, by omega⟩ ⟨f.val - 448, by omega⟩)

theorem past_proj (A W) (b : Fin 4) (t : Fin 4099) (f : Fin 6144) : past (proj A W) (ix3 b t f) = pastAt A W b t f := by
  rw [past_apply]
  unfold pastAt lin
  simp only [proj_apply]

theorem lin_congr (A W) (r : Fin 16384) {c c' : Fin 16960} (h : c.val = c'.val) : lin A W r c = lin A W r c' := congrArg (lin A W r) (Fin.ext h)

theorem parts_apply (A W CW CB) (b : Fin 4) (t : Fin 4096) (f : Fin 17408) : parts (proj A W) CW CB (ix3 b t f) = spec A W CW CB b t f := by
  unfold parts spec
  rw [side_apply]
  by_cases h0 : f.val < 4096
  · rw [dif_pos h0, dif_pos h0, siluZ_apply]
    pointwise [proj_apply]
    rfl
  rw [dif_neg h0, dif_neg h0]
  by_cases h1 : f.val < 10240
  · rw [dif_pos h1, dif_pos h1, siluC_apply, conv_apply]
    simp only [past_proj, taps_apply]
    rfl
  rw [dif_neg h1, dif_neg h1]
  by_cases h2 : f.val < 12864
  · rw [dif_pos h2, dif_pos (by omega)]
    pointwise [proj_apply]
    exact lin_congr A W _ (by show 10240 + (f.val - 10240) = f.val; omega)
  rw [dif_neg h2]
  by_cases h3 : f.val < 13312
  · rw [dif_pos h3, unread_apply]
    by_cases h4 : f.val < 13056
    · rw [dif_pos h4, dif_pos (by show f.val - 12864 < 192; omega), gates_apply, proj_apply]
      exact lin_congr A W _ (by show 12864 + (f.val - 12864) = f.val; omega)
    · rw [dif_neg h4, dif_pos h3, dif_neg (by show ¬f.val - 12864 < 192; omega)]
  rw [dif_neg h3, dif_neg (by omega), dif_neg h3, sigmoid_apply, gates_apply, proj_apply]
  exact congrArg Ideal.logistic (lin_congr A W _ (by show 12864 + (f.val - 13312) = f.val - 448; omega))

theorem whole_apply (A W CW CB) (b : Fin 4) (t : Fin 4096) (f : Fin 17408) :
    whole A W CW CB (ix2 ⟨b.val * 4096 + t.val, by omega⟩ f) = spec A W CW CB b t f := by
  unfold whole
  refine Eq.trans ?_ (parts_apply A W CW CB b t f)
  pointwise

end Cert.InProjRef

end
-- ==== Proof.InEq.lean ====
/- The array the input projection returns is the reference's. -/
module

public import proofs.«01_k».proof.Proof.InKernel
public import proofs.«01_k».proof.Proof.InRefRead

@[expose] public section

set_option maxRecDepth 16384

noncomputable section

namespace Cert.InProjV

open Cert.InProjIdeal Cert.InProjIdeal.Gen Idealize.ShloMosaic Idealize.ShloMosaic.TcCoe
open Cert.InSpec (half silu2 gate dot taps IsReal)
open Cert.InProjRef (lin pastAt)

variable (U : S16384x2048.Idx → EReal) (W : S1x2048x16960.Idx → EReal) (CW : S1x4x6144.Idx → EReal) (CB : S1x6144.Idx → EReal)

theorem scale_low (j : Fin 17) (h : j.val < 10) : scale j = half := if_pos h
theorem scale_high (j : Fin 17) (h : ¬j.val < 10) : scale j = 1 := if_neg h

/-- In the unscaled tiles the product is the reference's. -/
theorem prodAt_high (i : Fin 16) (l : Fin 1024) (j : Fin 17) (n : Fin 1024) (h : ¬j.val < 10) (r : Fin 16384) (c : Fin 16960)
    (hr : r.val = 1024 * i.val + l.val) (hc : c.val = colStart j.val + n.val) : prodAt U W i l j n = lin U W r c := by
  have er : r = ⟨1024 * i.val + l.val, by omega⟩ := Fin.ext hr
  have ec : c = ⟨colStart j.val + n.val, colStart_lt j n⟩ := Fin.ext hc
  rw [er, ec]
  unfold prodAt lin wAt
  rw [scale_high j h]
  simp only [mul_one]

/-- In the scaled tiles the weights are half the reference's. -/
theorem wAt_low (j : Fin 17) (n : Fin 1024) (h : j.val < 10) (c : Fin 16960) (hc : c.val = 1024 * j.val + n.val) :
    wAt W j n = fun d => W (ix3 0 d c) * half := by
  have ec : c = ⟨colStart j.val + n.val, colStart_lt j n⟩ := Fin.ext (hc.trans (congrArg (· + n.val) (if_pos (by omega : j.val < 13)).symm))
  rw [ec]
  unfold wAt
  rw [scale_low j h]

theorem dot_zero (w : Fin 2048 → EReal) : dot (fun _ => 0) w = 0 := by
  unfold dot
  simp only [zero_mul, Finset.sum_const_zero]

/-- The row three before a token, or a row of zeros. -/
theorem uAt_eq (i : Fin 16) (l : Fin 1024) (b : Fin 4) (t : Fin 4096) (hr : b.val * 4096 + t.val = 1024 * i.val + l.val) (k : Fin 4) (d : Fin 2048) :
    uAt U i ⟨l.val + 13 + k.val, by omega⟩ d = if h : 3 ≤ t.val + k.val then U (ix2 ⟨b.val * 4096 + (t.val + k.val - 3), by omega⟩ d) else 0 := by
  unfold uAt
  by_cases h : 3 ≤ t.val + k.val
  · rw [dif_pos h]
    by_cases hl : l.val + 13 + k.val < 16
    · rw [dif_pos hl, if_neg (by omega)]
      refine congrArg (fun r => U (ix2 r d)) (Fin.ext ?_)
      show 16 * (64 * i.val - 1) + (l.val + 13 + k.val) = b.val * 4096 + (t.val + k.val - 3)
      omega
    · rw [dif_neg hl]
      refine congrArg (fun r => U (ix2 r d)) (Fin.ext ?_)
      show 1024 * i.val + (l.val + 13 + k.val - 16) = b.val * 4096 + (t.val + k.val - 3)
      omega
  · rw [dif_neg h, dif_pos (by show l.val + 13 + k.val < 16; omega), if_pos (by omega)]

/-- Each of the four products of the convolution is a real, and the kernel has half of it. -/
theorem prodAtS_eq (hU : ∀ r d, IsReal (U (ix2 r d))) (hW : ∀ d (c : Fin 16960), c.val < 10240 → IsReal (W (ix3 0 d c)))
    (i : Fin 16) (l : Fin 1024) (j : Fin 17) (n : Fin 1024) (b : Fin 4) (t : Fin 4096) (f : Fin 6144)
    (hr : b.val * 4096 + t.val = 1024 * i.val + l.val) (hf : 4096 + f.val = 1024 * j.val + n.val) (k : Fin 4) :
    ∃ r : ℝ, pastAt U W b ⟨t.val + k.val, by omega⟩ f = r ∧ prodAtS U W i ⟨l.val + 13 + k.val, by omega⟩ j n = ((1 / 2 * r : ℝ) : EReal) := by
  unfold prodAtS pastAt
  rw [wAt_low W j n (by omega) ⟨4096 + f.val, by omega⟩ hf, funext (uAt_eq U i l b t hr k)]
  by_cases h : 3 ≤ t.val + k.val
  · simp only [dif_pos h]
    exact InSpec.dot_half _ _ (fun d => hU _ d) (fun d => hW d _ (by show 4096 + f.val < 10240; omega))
  · simp only [dif_neg h]
    refine ⟨0, rfl, (dot_zero _).trans ?_⟩
    rw [mul_zero]; rfl

theorem outAt_eq (hU : ∀ r d, IsReal (U (ix2 r d))) (hW : ∀ d (c : Fin 16960), c.val < 10240 → IsReal (W (ix3 0 d c)))
    (hCW : ∀ k f, IsReal (CW (ix3 0 k f))) (hCB : ∀ f, IsReal (CB (ix2 0 f)))
    (i : Fin 16) (l : Fin 1024) (j : Fin 17) (n : Fin 1024) (b : Fin 4) (t : Fin 4096) (f : Fin 17408)
    (hr : b.val * 4096 + t.val = 1024 * i.val + l.val) (hf : f.val = 1024 * j.val + n.val) :
    outAt U W CW CB i l j n = InProjRef.spec U W CW CB b t f := by
  unfold outAt InProjRef.spec
  by_cases q0 : j.val < 4
  · rw [if_pos q0, dif_pos (by omega : f.val < 4096)]
    unfold prodAt
    rw [wAt_low W j n (by omega) ⟨f.val, by omega⟩ hf]
    have er : (⟨1024 * i.val + l.val, by omega⟩ : Fin 16384) = ⟨b.val * 4096 + t.val, by omega⟩ := Fin.ext hr.symm
    rw [er]
    exact InSpec.silu_dot _ _ (fun d => hU _ d) (fun d => hW d _ (by show f.val < 10240; omega))
  rw [if_neg q0, dif_neg (by omega : ¬f.val < 4096)]
  by_cases q1 : j.val < 10
  · rw [if_pos q1, dif_pos (by omega : f.val < 10240)]
    have hf' : 4096 + (⟨f.val - 4096, by omega⟩ : Fin 6144).val = 1024 * j.val + n.val := by show 4096 + (f.val - 4096) = _; omega
    have ef : (⟨1024 * min 5 (j.val - 4) + n.val, by omega⟩ : Fin 6144) = ⟨f.val - 4096, by omega⟩ := Fin.ext (by show 1024 * min 5 (j.val - 4) + n.val = f.val - 4096; omega)
    unfold convAtS InProjRef.convAt
    rw [ef]
    exact InSpec.silu_conv (prodAtS_eq U W hU hW i l j n b t _ hr hf' 0) (prodAtS_eq U W hU hW i l j n b t _ hr hf' 1)
      (prodAtS_eq U W hU hW i l j n b t _ hr hf' 2) (prodAtS_eq U W hU hW i l j n b t _ hr hf' 3) (hCW 0 _) (hCW 1 _) (hCW 2 _) (hCW 3 _) (hCB _)
  rw [if_neg q1, dif_neg (by omega : ¬f.val < 10240)]
  by_cases q2 : j.val < 12
  · rw [if_pos q2, dif_pos (by omega : f.val < 13056)]
    exact prodAt_high U W i l j n q1 _ _ hr (by show f.val = colStart j.val + n.val; unfold colStart; split <;> omega)
  rw [if_neg q2]
  by_cases q3 : j.val < 13
  · rw [if_pos q3]
    by_cases hn : n.val < 768
    · rw [if_pos hn, dif_pos (by omega : f.val < 13056)]
      exact prodAt_high U W i l j n q1 _ _ hr (by show f.val = colStart j.val + n.val; unfold colStart; split <;> omega)
    · rw [if_neg hn, dif_neg (by omega : ¬f.val < 13056), dif_pos (by omega : f.val < 13312)]
  rw [if_neg q3, dif_neg (by omega : ¬f.val < 13056), dif_neg (by omega : ¬f.val < 13312), InSpec.gate_eq]
  exact congrArg Ideal.logistic (prodAt_high U W i l j n q1 _ _ hr (by show f.val - 448 = colStart j.val + n.val; unfold colStart; split <;> omega))

theorem outArr_eq (hU : ∀ r d, IsReal (U (ix2 r d))) (hW : ∀ d (c : Fin 16960), c.val < 10240 → IsReal (W (ix3 0 d c)))
    (hCW : ∀ k f, IsReal (CW (ix3 0 k f))) (hCB : ∀ f, IsReal (CB (ix2 0 f))) : outArr U W CW CB = InProjRef.whole U W CW CB := by
  funext y
  obtain ⟨r, f, rfl⟩ : ∃ (r : Fin 16384) (f : Fin 17408), y = ix2 r f := ⟨y 0, y 1, eq_ix2 _⟩
  have e : r = ⟨(⟨r.val / 4096, by omega⟩ : Fin 4).val * 4096 + (⟨r.val % 4096, by omega⟩ : Fin 4096).val, by omega⟩ :=
    Fin.ext (by show _ = (r.val / 4096) * 4096 + r.val % 4096; omega)
  refine Eq.trans ?_ ((InProjRef.whole_apply U W CW CB ⟨r.val / 4096, by omega⟩ ⟨r.val % 4096, by omega⟩ f).symm.trans
    (congrArg (fun r => InProjRef.whole U W CW CB (ix2 r f)) e.symm))
  refine outAt_eq U W CW CB hU hW hCW hCB _ _ _ _ _ _ _ ?_ ?_
  · show r.val / 4096 * 4096 + r.val % 4096 = 1024 * (r.val / 1024) + r.val % 1024
    omega
  · show f.val = 1024 * (f.val / 1024) + f.val % 1024
    omega

end Cert.InProjV

end
-- ==== Proof.InProjClaim.lean ====
/- The claims about the input projection. -/
module

public import proofs.«01_k».proof.Proof.InEq
public import proofs.«01_k».proof.Proof.Consts
public import proofs.«01_k».proof.Defs
public import proofs.«01_k».proof.Proof.Gen.InProj.Frame
public import Idealize.ShloMosaic.Adequacy
public import Idealize.ShloMosaic.Init

@[expose] public section

set_option maxRecDepth 16384

noncomputable section

namespace Cert.InProjClaim

open Idealize.ShloMosaic Idealize.SL.Sem
open Cert.InSpec (IsReal)
open Cert.InProjIdeal (S16384x2048 S1x2048x16960 S1x4x6144 S1x6144)

theorem preFacts : Cert.Pre_finite_input_and_convolved_weights.Facts where
  bcast_S_S16384x2048 := by decide
  slices_S1x2048x16960_S1x2048x10240_0_0_0 := by decide
  bcast_S_S1x2048x10240 := by decide
  bcast_S_S1x4x6144 := by decide
  bcast_S_S1x6144 := by decide

attribute [local instance] preFacts

theorem frame_p : Cert.quiescent_InProj := fun m ρ _ => Cert.InProj.Gen.frame m ρ
theorem frame_pi : Cert.quiescent_InProjIdeal := fun m ρ _ => Cert.InProjIdeal.Gen.frame m ρ
theorem frame_pi_pre : Cert.quiescent_InProjIdeal_pre_finite_input_and_convolved_weights := fun m ρ _ => Cert.InProjIdeal.Gen.frame m ρ

theorem frame_ri : Cert.quiescent_InProjReferenceIdeal := fun m ρ _ =>
  (θ_run Cert.InProjReferenceIdeal.defs _ _).mono (fun r h => ⟨fun c => (h c).2, sem_eq_zero_of_no_sems (by decide) r.2⟩)
    (Cert.InProjReferenceIdeal.Value.run (F := Ideal) m ρ)
theorem frame_ri_pre : Cert.quiescent_InProjReferenceIdeal_pre_finite_input_and_convolved_weights := fun m ρ _ => frame_ri m ρ trivial

theorem preserves : Cert.preserves_InProj_InProjIdeal := trivial

theorem top16 : Ideal.ofBits .bf16 0x7F80#16 = (⊤ : EReal) := by simp [Ideal.ofBits, Ideal.ieee, -EReal.coe_mul]

/-- A value below infinity in size is a real. -/
theorem real_of_lt_top {x : EReal} (h : Ideal.cmp .olt (max x (-x)) ⊤ = 1#1) : IsReal x := by
  induction x using EReal.rec with
  | bot => simp [Ideal.cmp] at h
  | top => simp [Ideal.cmp] at h
  | coe r => exact ⟨r, rfl⟩

/-- What the precondition says of the arrays. -/
theorem finite (U : S16384x2048.Idx → EReal) (W : S1x2048x16960.Idx → EReal) (CW : S1x4x6144.Idx → EReal) (CB : S1x6144.Idx → EReal)
    (h1 : (Cert.Pre_finite_input_and_convolved_weights.fn (F := Ideal) U W CW CB).1 = fun _ => 1#1)
    (h2 : (Cert.Pre_finite_input_and_convolved_weights.fn (F := Ideal) U W CW CB).2.1 = fun _ => 1#1)
    (h3 : (Cert.Pre_finite_input_and_convolved_weights.fn (F := Ideal) U W CW CB).2.2.1 = fun _ => 1#1)
    (h4 : (Cert.Pre_finite_input_and_convolved_weights.fn (F := Ideal) U W CW CB).2.2.2 = fun _ => 1#1) :
    (∀ r d, IsReal (U (ix2 r d))) ∧ (∀ d (c : Fin 16960), c.val < 10240 → IsReal (W (ix3 0 d c)))
      ∧ (∀ k f, IsReal (CW (ix3 0 k f))) ∧ ∀ f, IsReal (CB (ix2 0 f)) := by
  refine ⟨fun r d => ?_, fun d c hc => ?_, fun k f => ?_, fun f => ?_⟩
  · exact real_of_lt_top ((congrArg (Ideal.cmp .olt _) top16.symm).trans (congrFun h1 (ix2 r d)))
  · have e := congrFun h2 (ix3 0 d ⟨c.val, hc⟩)
    refine real_of_lt_top ((congrArg (Ideal.cmp .olt _) Consts.posInf.symm).trans ?_)
    unfold Cert.Pre_finite_input_and_convolved_weights.fn at e
    revert e
    pointwise
    exact id
  · exact real_of_lt_top ((congrArg (Ideal.cmp .olt _) Consts.posInf.symm).trans (congrFun h3 (ix3 0 k f)))
  · exact real_of_lt_top ((congrArg (Ideal.cmp .olt _) Consts.posInf.symm).trans (congrFun h4 (ix2 0 f)))

theorem algebraic : Cert.algebraic_InProjIdeal_InProjReferenceIdeal_pre_finite_input_and_convolved_weights := by
  intro m g m' g' hpre hag
  refine ⟨fun c => (Cert.InProjIdeal.Gen.dats m 0 c).arrAt 5 Cert.InProjIdeal.cfg0.N, InProjV.run m g, ?_⟩
  refine (θ_run Cert.InProjReferenceIdeal.defs _ _).mono (fun r h c => ⟨(h c).1.trans ?_, (h c).2⟩) (Cert.InProjReferenceIdeal.Value.run (F := Ideal) m' g')
  obtain ⟨hU, hW, hCW, hCB⟩ := finite _ _ _ _ (hpre c).1 (hpre c).2.1 (hpre c).2.2.1 (hpre c).2.2.2
  refine (InProjRef.res_eq m' c).trans ?_
  obtain ⟨h0, h1, h2, h3⟩ := hag c
  rw [h0, h1, h2, h3]
  exact ((InProjV.arr_eq m c).trans (InProjV.outArr_eq _ _ _ _ hU hW hCW hCB)).symm

end Cert.InProjClaim

end
-- ==== Proof.NormKernel.lean ====
/- The array the norm before the mixer returns, entry by entry, from its arguments. -/
module

public import proofs.«01_k».proof.Proof.Gen.NormIdeal.Value
public import proofs.«01_k».proof.Proof.FfnSpec
public import proofs.«01_k».proof.Proof.Consts
public import Idealize.ShloMosaic.Lib.Pipeline.ValueKit
public import Idealize.ShloMosaic.Lib.Claim

@[expose] public section

set_option maxRecDepth 16384

noncomputable section

namespace Cert.NormV

open Cert.NormIdeal Cert.NormIdeal.Gen Idealize.ShloMosaic Idealize.ShloMosaic.TcCoe
open Cert.FfnSpec (normed)

variable (m : (ℓ : Loc nD τ sig) → Buf (Elt Ideal) ℓ)

/-- The normed tokens, by rows. -/
def rowsOf (X : S4x4096x2048.Idx → EReal) (W : S1x2048.Idx → EReal) (r : Fin 16384) (d : Fin 2048) : EReal :=
  normed (fun k => X (ix3 ⟨r.val / 4096, by omega⟩ ⟨r.val % 4096, by omega⟩ k)) (fun k => W (ix2 0 k)) d

theorem out_eq (x0 : Vec Ideal S1024x2048 .f32) (x1 : Vec Ideal S1x2048 .f32) : out0_2 x0 x1 = k0_pay1 x0 x1 := by
  unfold out0_2; frame_out

theorem step_apply (x0 : Vec Ideal S1024x2048 .f32) (x1 : Vec Ideal S1x2048 .f32) (l : Fin 1024) (d : Fin 2048) :
    k0_pay1 x0 x1 (ix2 l d) = normed (fun k => x0 (ix2 l k)) (fun k => x1 (ix2 0 k)) d := by
  unfold k0_pay1 normed; pointwise

theorem weight_entry (c : Dev nD) (d : Fin 2048) : V m c main_v2 (ix2 0 d) = m ((c : Thread nD τ).loc main_arg1) (ix2 0 d) := by
  simp only [V, hostOps0, List.flatten_cons, List.flatten_nil, List.append_nil, List.cons_append, List.nil_append]
  entry_read
  pointwise

theorem rows_entry (c : Dev nD) (r : Fin 16384) (d : Fin 2048) : V m c main_v0 (ix2 r d)
    = m ((c : Thread nD τ).loc main_arg0) (ix3 ⟨r.val / 4096, by omega⟩ ⟨r.val % 4096, by omega⟩ d) := by
  simp only [V, hostOps0, List.flatten_cons, List.flatten_nil, List.append_nil, List.cons_append, List.nil_append]
  entry_read
  pointwise

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem lt_points (t : Fin cfg0.N) : t.val < 16 := t.isLt

theorem rowBlock (c : Dev nD) (t : Fin cfg0.N) (l : Fin 1024) (d : Fin 2048) : iblk m c 0 t (ix2 l d)
    = m ((c : Thread nD τ).loc main_arg0) (ix3 ⟨(1024 * t.val + l.val) / 4096, by have := lt_points t; omega⟩ ⟨(1024 * t.val + l.val) % 4096, by omega⟩ d) := by
  refine Eq.trans ?_ (rows_entry m c ⟨1024 * t.val + l.val, by have := lt_points t; omega⟩ d)
  blk_ext [iblk, idx t]

theorem weightBlock (c : Dev nD) (t : Fin cfg0.N) (d : Fin 2048) : iblk m c 1 t (ix2 0 d) = m ((c : Thread nD τ).loc main_arg1) (ix2 0 d) := by
  refine Eq.trans ?_ (weight_entry m c d)
  blk_ext [iblk, idx t]

theorem after_apply (c : Dev nD) (t : Fin cfg0.N) (l : Fin 1024) (d : Fin 2048) :
    (dats m 0 c).after 2 t (ix2 l d) = rowsOf (m ((c : Thread nD τ).loc main_arg0)) (m ((c : Thread nD τ).loc main_arg1))
      ⟨1024 * t.val + l.val, by have := lt_points t; omega⟩ d := by
  rw [after0_2, out_eq]
  refine (step_apply _ _ l d).trans ?_
  simp only [rowBlock, weightBlock]
  rfl

theorem arr_eq (c : Dev nD) : (dats m 0 c).arrAt 2 cfg0.N
    = fun y => rowsOf (m ((c : Thread nD τ).loc main_arg0)) (m ((c : Thread nD τ).loc main_arg1)) (y 0) (y 1) := by
  refine (dats m 0 c).arrAt_eq_of_covers 2 _ (by decide +kernel) fun t hf y => ?_
  have e2 : ((cfg0.win 2).blk t).view.emb y = ix2 ⟨1024 * t.val + (y 0).val, by
      have := lt_points t; have : (y 0).val < 1024 := (y 0).isLt; omega⟩ (y 1) := by
    blk_ext [idx t]
  rw [e2]
  refine Eq.trans (congrArg ((dats m 0 c).after 2 t) (?_ : _ = ix2 (n0 := 1024) (n1 := 2048) (y 0) (y 1))) (after_apply m c t (y 0) (y 1))
  funext a; fin_cases a <;> rfl

end Cert.NormV

end
-- ==== Proof.NormClaim.lean ====
/- The claims about the norm before the mixer. -/
module

public import proofs.«01_k».proof.Proof.NormKernel
public import proofs.«01_k».proof.Defs
public import proofs.«01_k».proof.Proof.Gen.Norm.Frame
public import proofs.«01_k».proof.Proof.Gen.NormReferenceIdeal.Run
public import Idealize.ShloMosaic.Lib.Pointwise
public import Idealize.ShloMosaic.Adequacy
public import Idealize.ShloMosaic.Init

@[expose] public section

set_option maxRecDepth 16384

noncomputable section

namespace Cert.NormRef

open Cert.NormReferenceIdeal Cert.NormReferenceIdeal.Gen Cert.NormReferenceIdeal.Value Idealize.ShloMosaic Idealize.ShloMosaic.TcCoe

/-- The sum of the squares of each token. -/
def squares (X : S4x4096x2048.Idx → EReal) : S4x4096.Idx → EReal :=
  Host.reduceAdd (F := Ideal) (φ := .f32) (mulf (F := Ideal) (φ := .f32) X X) (constant S_ .f32 0x00000000#32) reducesTo_S4x4096x2048_S4x4096_d2 h_S_

/-- The reference's lines. -/
def whole (X : S4x4096x2048.Idx → EReal) (W : S1x2048.Idx → EReal) : S16384x2048.Idx → EReal :=
  truncf (F := Ideal) (φ := .f32) .bf16 (shapeCast _ (mulf (F := Ideal) (φ := .f32) (mulf X (broadcastInDim S4x4096x2048 ![0, 1, 2] bcast_S4x4096x1_S4x4096x2048_0_1_2
      (Host.rsqrt (addf (Host.divf (broadcastInDim S4x4096x1 ![0, 1] bcast_S4x4096_S4x4096x1_0_1 (squares X))
          (broadcastInDim S4x4096x1 ![] bcast_S_S4x4096x1 (constant S_ .f32 0x45000000#32)))
        (broadcastInDim S4x4096x1 ![] bcast_S_S4x4096x1 (constant S_ .f32 0x3727C5AC#32))))))
    (broadcastInDim S4x4096x2048 ![0, 1, 2] bcast_S1x1x2048_S4x4096x2048_0_1_2 (broadcastInDim S1x1x2048 ![2] bcast_S2048_S1x1x2048_2
      (shapeCast _ W shapeCasts_S1x2048_S2048)))) shapeCasts_S4x4096x2048_S16384x2048) bitsLt_bf16_f32

theorem lift_last (h : S4x4096x2048.Reduces [2] S4x4096) (a : Fin 4) (b : Fin 4096) (k : Fin 2048) : h.lift (ix2 a b) k = ix3 a b k := by
  funext x; apply Fin.ext
  match x with
  | ⟨0, _⟩ => rfl
  | ⟨1, _⟩ => rfl
  | ⟨2, _⟩ => rfl

theorem squares_apply (X) (b : Fin 4) (t : Fin 4096) : squares X (ix2 b t) = ∑ k : Fin 2048, X (ix3 b t k) * X (ix3 b t k) := by
  refine (Ideal.hostReduceAdd_single reducesTo_S4x4096x2048_S4x4096_d2 (by decide) _ _ _).trans ?_
  refine (congrArg (· + _) Consts.zero).trans ((zero_add _).trans ?_)
  exact Finset.sum_congr rfl fun k _ => congrArg (mulf (F := Ideal) (φ := .f32) X X) (lift_last (by decide) b t k)

theorem whole_apply (X W) (b : Fin 4) (t : Fin 4096) (d : Fin 2048) : whole X W (ix2 ⟨b.val * 4096 + t.val, by omega⟩ d)
    = FfnSpec.normed (fun k => X (ix3 b t k)) (fun k => W (ix2 0 k)) d := by
  unfold whole FfnSpec.normed; pointwise [squares_apply]

theorem whole_eq (X W) : whole X W = fun y => NormV.rowsOf X W (y 0) (y 1) := by
  funext y
  obtain ⟨r, d, rfl⟩ : ∃ (r : Fin 16384) (d : Fin 2048), y = ix2 r d := ⟨y 0, y 1, eq_ix2 _⟩
  have e : (⟨(r.val / 4096) * 4096 + r.val % 4096, by omega⟩ : Fin 16384) = r := Fin.ext (by show (r.val / 4096) * 4096 + r.val % 4096 = _; omega)
  have := whole_apply X W ⟨r.val / 4096, by omega⟩ ⟨r.val % 4096, by omega⟩ d
  simp only [e] at this
  exact this

end Cert.NormRef

namespace Cert.NormClaim

open Idealize.ShloMosaic Idealize.ShloMosaic.TcCoe Idealize.SL.Sem

theorem frame_p : Cert.quiescent_Norm := fun m ρ _ => Cert.Norm.Gen.frame m ρ
theorem frame_pi : Cert.quiescent_NormIdeal := fun m ρ _ => Cert.NormIdeal.Gen.frame m ρ
theorem frame_ri : Cert.quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run (F := Ideal) m ρ)

theorem preserves : Cert.preserves_Norm_NormIdeal := trivial

theorem algebraic : Cert.algebraic_NormIdeal_NormReferenceIdeal := by
  intro m g m' g' _ hag
  refine ⟨fun c => (Cert.NormIdeal.Gen.dats m 0 c).arrAt 2 Cert.NormIdeal.cfg0.N, Cert.NormIdeal.Value.run_blocks m g, ?_⟩
  refine (θ_run Cert.NormReferenceIdeal.defs _ _).mono (fun r h c => ⟨(h c).1.trans ?_, (h c).2⟩) (Cert.NormReferenceIdeal.Value.run (F := Ideal) m' g')
  rw [(hag c).1, (hag c).2]
  exact ((NormV.arr_eq m c).trans (NormRef.whole_eq _ _).symm).symm

end Cert.NormClaim

end
-- ==== Proof.SsdHead.lean ====
/- What one step of the recurrence's kernel computes, a chunk of 128 tokens and a group of eight heads at a time: the group's new
   state and the group's block of the result, each defined once, and the lists of what the step stores. -/
module

public import proofs.«01_k».proof.Proof.Gen.SsdIdeal.Frame
public import Idealize.ShloMosaic.Lib.Pointwise

@[expose] public section

set_option maxRecDepth 16384

noncomputable section

namespace Cert.Ssd

open Cert.SsdIdeal Cert.SsdIdeal.Gen Idealize.ShloMosaic Idealize.ShloMosaic.TcCoe

theorem slicesCol : ∀ h : Fin 64, S128x128.Slices ![0, h.val] S128x1 := by decide +kernel
theorem slicesRow : ∀ h : Fin 64, S128x128.Slices ![h.val, 0] S1x128 := by decide +kernel
theorem slicesPair : ∀ r : Fin 4, S128x512.Slices ![0, 128 * r.val] S128x128 := by decide +kernel

/-- Where a token may look at a token: not before it. -/
def causal : IVec S128x128 1 := cmpi .sge (iota .tc S128x128 32 [0] iota_S128x128_d0_w32) (iota .tc S128x128 32 [1] iota_S128x128_d1_w32)
/-- The first 64 lanes. -/
def lowHalf : IVec S128x128 1 := cmpi .slt (iota .tc S128x128 32 [1] iota_S128x128_d1_w32) (broadcast S128x128 64#32)

/-- A number's first part, as it is kept in the short format. -/
def hi (v : FVec Ideal S128x128 .f32) : FVec Ideal S128x128 .f32 := extf .f32 (truncf .bf16 v bitsLt_bf16_f32) bitsLt_bf16_f32
/-- What is left of it. -/
def rest (v : FVec Ideal S128x128 .f32) : FVec Ideal S128x128 .f32 := subf v (hi v)

/-- The step sizes: the softplus of the raw step sizes with their bias. -/
def stepOf (raw : Vec Ideal S128x128 .f32) (bias : Vec Ideal S1x128 .f32) : FVec Ideal S128x128 .f32 :=
  addf (maximumf (addf raw (broadcastTo S128x128 (shapeCast S1x128 bias shapeCasts_S1x128_S1x128) broadcasts_S1x128_S128x128))
      (broadcast S128x128 (Scalar.ofBits (F := Ideal) .f32 0x00000000#32)))
    (log1p (exp (subf (broadcast S128x128 (Scalar.ofBits (F := Ideal) .f32 0x00000000#32))
      (absf (addf raw (broadcastTo S128x128 (shapeCast S1x128 bias shapeCasts_S1x128_S1x128) broadcasts_S1x128_S128x128))))))

/-- The logarithms of the decays. -/
def decayOf (dt : FVec Ideal S128x128 .f32) (a : Vec Ideal S1x128 .f32) : FVec Ideal S128x128 .f32 :=
  mulf dt (broadcastTo S128x128 (shapeCast S1x128 a shapeCasts_S1x128_S1x128) broadcasts_S1x128_S128x128)

/-- The matrix of ones on and below the diagonal. -/
def lower : FVec Ideal S128x128 .bf16 := truncf .bf16 (sitofp (F := Ideal) .f32 (extui 32 causal natLt_1_32)) bitsLt_bf16_f32

def lowerTimes (v : FVec Ideal S128x128 .f32) : FVec Ideal S128x128 .f32 :=
  matmul dot_S128x128_S128x128_S128x128_1_0_0_1_n_n none lower (truncf .bf16 v bitsLt_bf16_f32) (constant S128x128 .f32 0x00000000#32)

/-- The sums of a column's entries up to each row, by the three parts of the numbers. -/
def sumUpTo (v : FVec Ideal S128x128 .f32) : FVec Ideal S128x128 .f32 :=
  addf (addf (addf (broadcast S128x128 (Scalar.ofBits (F := Ideal) .f32 0x00000000#32)) (lowerTimes (hi v)))
    (lowerTimes (hi (rest v)))) (lowerTimes (hi (rest (rest v))))

/-- The sums in the base-2 scale. -/
def logsOf (v : FVec Ideal S128x128 .f32) : FVec Ideal S128x128 .f32 :=
  mulf (sumUpTo v) (broadcast S128x128 (Named.named (F := Ideal) κ "ssd_log2e" (φ := .f32) 0x3FB8AA3B#32))

/-- The three parts of 64 lanes side by side. -/
def parts (v : FVec Ideal S128x128 .f32) : FVec Ideal S128x256 .bf16 :=
  truncf .bf16 (concatenate S128x256 1 [⟨S128x128, select lowHalf (hi v) (dynamicRotate 1 64#32 none (hi (rest v)) rotates_S128x128_d1)⟩,
    ⟨S128x128, hi (rest (rest v))⟩] concatenates_S128x128_S128x128_S128x256_d1) bitsLt_bf16_f32

/-- The step sizes over the summed logarithms. -/
def stacked (dt L : FVec Ideal S128x128 .f32) : FVec Ideal S256x256 .bf16 :=
  concatenate S256x256 0 [⟨S128x256, parts dt⟩, ⟨S128x256, parts L⟩] concatenates_S128x256_S128x256_S256x256_d0

/-- Each head's number on its 64 lanes. -/
def spread (s : FVec Ideal S256x256 .bf16) (e : Vec Ideal S256x512 .bf16) : FVec Ideal S256x512 .f32 :=
  matmul dot_S256x256_S256x512_S256x512_1_0_0_1_n_n none s (shapeCast S256x512 e shapeCasts_S256x512_S256x512 : FVec Ideal S256x512 .bf16) (constant S256x512 .f32 0x00000000#32)

def spreadStep (E : FVec Ideal S256x512 .f32) : FVec Ideal S128x512 .f32 := extractStridedSlice S128x512 ![0, 0] E slices_S256x512_o0_0_S128x512
def spreadLog (E : FVec Ideal S256x512 .f32) : FVec Ideal S128x512 .f32 := extractStridedSlice S128x512 ![128, 0] E slices_S256x512_o128_0_S128x512

/-- The values times the step sizes. -/
def scaled (E : FVec Ideal S256x512 .f32) (xs : Vec Ideal S128x512 .f32) : FVec Ideal S128x512 .f32 := mulf xs (spreadStep E)

/-- The decay since the chunk's begin. -/
def fromStart (E : FVec Ideal S256x512 .f32) : FVec Ideal S128x512 .f32 := exp2 (spreadLog E)
/-- The decay to the chunk's end. -/
def toEnd (E : FVec Ideal S256x512 .f32) : FVec Ideal S128x512 .f32 :=
  exp2 (subf (broadcastTo S128x512 (extractStridedSlice S1x512 ![127, 0] (spreadLog E) slices_S128x512_o127_0_S1x512) broadcasts_S1x512_S128x512)
    (spreadLog E))

/-- The products of every token's read vector with every token's write vector. -/
def crossed (B C : Vec Ideal S128x128 .f32) : FVec Ideal S128x128 .f32 :=
  matmul dot_S128x128_S128x128_S128x128_1_1_0_0_n_n none (truncf (F := Ideal) (φ := .f32) .bf16 C bitsLt_bf16_f32) (truncf (F := Ideal) (φ := .f32) .bf16 B bitsLt_bf16_f32)
    (constant S128x128 .f32 0x00000000#32)

/-- The weights of head `h` within the chunk. -/
def within (cb L : FVec Ideal S128x128 .f32) (h : Fin 64) : FVec Ideal S128x128 .bf16 :=
  truncf .bf16 (mulf cb (exp2 (select causal
    (subf (broadcastTo S128x128 (extractStridedSlice S128x1 ![0, h.val] L (slicesCol h)) broadcasts_S128x1_S128x128)
      (broadcastTo S128x128 (extractStridedSlice S1x128 ![h.val, 0] (transpose S128x128 [1, 0] L transposes_S128x128_p1_0_S128x128) (slicesRow h))
        broadcasts_S1x128_S128x128))
    (broadcast S128x128 (Scalar.ofBits (F := Ideal) .f32 0xFF800000#32))))) bitsLt_bf16_f32

/-- The two heads of a pair on their lanes, one over the other. -/
def paired (X : FVec Ideal S128x512 .f32) (r : Fin 4) : FVec Ideal S256x128 .bf16 :=
  truncf .bf16 (concatenate S256x128 0
    [⟨S128x128, select lowHalf (extractStridedSlice S128x128 ![0, 128 * r.val] X (slicesPair r))
        (broadcast S128x128 (Scalar.ofBits (F := Ideal) .f32 0x00000000#32))⟩,
      ⟨S128x128, select lowHalf (broadcast S128x128 (Scalar.ofBits (F := Ideal) .f32 0x00000000#32))
        (extractStridedSlice S128x128 ![0, 128 * r.val] X (slicesPair r))⟩] concatenates_S128x128_S128x128_S256x128_d0) bitsLt_bf16_f32

/-- The result of a pair within the chunk. -/
def pairOut (cb L : FVec Ideal S128x128 .f32) (X : FVec Ideal S128x512 .f32) (g : Fin 8) (r : Fin 4) : FVec Ideal S128x128 .f32 :=
  matmul dot_S128x256_S256x128_S128x128_1_0_0_1_n_n none
    (concatenate S128x256 1 [⟨S128x128, within cb L ⟨8 * g.val + 2 * r.val, by omega⟩⟩, ⟨S128x128, within cb L ⟨8 * g.val + 2 * r.val + 1, by omega⟩⟩]
      concatenates_S128x128_S128x128_S128x256_d1)
    (paired X r) (constant S128x128 .f32 0x00000000#32)

/-- The result within the chunk. -/
def diagonal (cb L : FVec Ideal S128x128 .f32) (X : FVec Ideal S128x512 .f32) (g : Fin 8) : FVec Ideal S128x512 .f32 :=
  concatenate S128x512 1 [⟨S128x128, pairOut cb L X g 0⟩, ⟨S128x128, pairOut cb L X g 1⟩, ⟨S128x128, pairOut cb L X g 2⟩, ⟨S128x128, pairOut cb L X g 3⟩]
    concatenates_S128x128_S128x128_S128x128_S128x128_S128x512_d1

/-- The state's matrix. -/
def flat (st : Vec Ideal S1x128x512 .f32) : FVec Ideal S128x512 .f32 := shapeCast S128x512 st shapeCasts_S1x128x512_S128x512

/-- What the state before the chunk adds. -/
def offDiagonal (C : Vec Ideal S128x128 .f32) (st : Vec Ideal S1x128x512 .f32) (E : FVec Ideal S256x512 .f32) : FVec Ideal S128x512 .f32 :=
  mulf (matmul dot_S128x128_S128x512_S128x512_1_0_0_1_n_n none (truncf (F := Ideal) (φ := .f32) .bf16 C bitsLt_bf16_f32) (truncf .bf16 (flat st) bitsLt_bf16_f32)
    (constant S128x512 .f32 0x00000000#32)) (fromStart E)

/-- The state after the chunk. -/
def newState (B : Vec Ideal S128x128 .f32) (st : Vec Ideal S1x128x512 .f32) (E : FVec Ideal S256x512 .f32) (X : FVec Ideal S128x512 .f32) :
    FVec Ideal S1x128x512 .f32 :=
  shapeCast S1x128x512 (addf
    (mulf (flat st) (broadcastTo S128x512 (extractStridedSlice S1x512 ![127, 0] (fromStart E) slices_S128x512_o127_0_S1x512) broadcasts_S1x512_S128x512))
    (matmul dot_S128x128_S128x512_S128x512_1_0_0_1_n_n none
      (truncf .bf16 (transpose S128x128 [1, 0] (B : FVec Ideal S128x128 .f32) transposes_S128x128_p1_0_S128x128) bitsLt_bf16_f32)
      (truncf .bf16 (mulf X (toEnd E)) bitsLt_bf16_f32) (constant S128x512 .f32 0x00000000#32))) shapeCasts_S128x512_S1x128x512

/-- The result before the norm: the skip added and the gate put on. -/
def gated (y : FVec Ideal S128x512 .f32) (d : Vec Ideal S1x512 .f32) (xs z : Vec Ideal S128x512 .f32) : FVec Ideal S128x512 .f32 :=
  mulf (addf y (mulf (broadcastTo S128x512 (shapeCast S1x512 d shapeCasts_S1x512_S1x512) broadcasts_S1x512_S128x512) xs)) z

/-- The group's norm. -/
def normed (y : FVec Ideal S128x512 .f32) (w : Vec Ideal S1x512 .f32) : FVec Ideal S128x512 .bf16 :=
  truncf .bf16 (mulf (mulf y (broadcastTo S128x512 (rsqrt (addf (divf
      (shapeCast S128x1 (multiReduction .add [1] S128 (mulf y y) 0x00000000#32 reduces_S128x512_S128 (.inl rfl) rfl) shapeCasts_S128_S128x1)
      (broadcast S128x1 (Scalar.ofBits (F := Ideal) .f32 0x44000000#32)))
      (broadcast S128x1 (Scalar.ofBits (F := Ideal) .f32 0x3727C5AC#32)))) broadcasts_S128x1_S128x512))
    (broadcastTo S128x512 (shapeCast S1x512 w shapeCasts_S1x512_S1x512) broadcasts_S1x512_S128x512)) bitsLt_bf16_f32

/-- What a chunk and a group read: the raw step sizes, their bias, the rates, the table that spreads the heads, the values, the
write and the read vectors, the skip, the gate and the norm's weight. -/
structure Reads where
  raw : Vec Ideal S128x128 .f32
  bias : Vec Ideal S1x128 .f32
  rate : Vec Ideal S1x128 .f32
  table : Vec Ideal S256x512 .bf16
  xs : Vec Ideal S128x512 .f32
  B : Vec Ideal S128x128 .f32
  C : Vec Ideal S128x128 .f32
  d : Vec Ideal S1x512 .f32
  z : Vec Ideal S128x512 .f32
  w : Vec Ideal S1x512 .f32

def Reads.dt (R : Reads) : FVec Ideal S128x128 .f32 := stepOf R.raw R.bias
def Reads.logs (R : Reads) : FVec Ideal S128x128 .f32 := logsOf (decayOf R.dt R.rate)
def Reads.E (R : Reads) : FVec Ideal S256x512 .f32 := spread (stacked R.dt R.logs) R.table
def Reads.X (R : Reads) : FVec Ideal S128x512 .f32 := scaled R.E R.xs

/-- The group's state after the chunk. -/
def stateOut (R : Reads) (st : Vec Ideal S1x128x512 .f32) : FVec Ideal S1x128x512 .f32 := newState R.B st R.E R.X

/-- The group's block of the result. -/
def groupOut (g : Fin 8) (R : Reads) (st : Vec Ideal S1x128x512 .f32) : FVec Ideal S128x512 .bf16 :=
  normed (gated (addf (diagonal (crossed R.B R.C) R.logs R.X g) (offDiagonal R.C st R.E)) R.d R.xs R.z) R.w

/-! ## The loads -/

theorem inbRaw : ∀ (q : Fin 2) (a : Fin S256x128.rank), (![128 * q.val, 0] : Fin 2 → Nat) a + S128x128.size a ≤ S256x128.size a := by decide +kernel
theorem inbHalf : ∀ (q : Fin 2) (a : Fin S256x4096.rank), (![128 * q.val, 0] : Fin 2 → Nat) a + S128x4096.size a ≤ S256x4096.size a := by decide +kernel
theorem inbHalfBC : ∀ (q : Fin 2) (a : Fin S256x2048.rank), (![128 * q.val, 0] : Fin 2 → Nat) a + S128x2048.size a ≤ S256x2048.size a := by decide +kernel
theorem inbCols : ∀ (g : Fin 8) (a : Fin S128x4096.rank), (![0, 512 * g.val] : Fin 2 → Nat) a + S128x512.size a ≤ S128x4096.size a := by decide +kernel
theorem inbB : ∀ (g : Fin 8) (a : Fin S128x2048.rank), (![0, 128 * g.val] : Fin 2 → Nat) a + S128x128.size a ≤ S128x2048.size a := by decide +kernel
theorem inbC : ∀ (g : Fin 8) (a : Fin S128x2048.rank), (![0, 1024 + 128 * g.val] : Fin 2 → Nat) a + S128x128.size a ≤ S128x2048.size a := by decide +kernel
theorem inbTable : ∀ (g : Fin 8) (a : Fin S256x4096.rank), (![0, 512 * g.val] : Fin 2 → Nat) a + S256x512.size a ≤ S256x4096.size a := by decide +kernel
theorem inbVec : ∀ (g : Fin 8) (a : Fin S1x4096.rank), (![0, 512 * g.val] : Fin 2 → Nat) a + S1x512.size a ≤ S1x4096.size a := by decide +kernel
theorem inbState : ∀ (g : Fin 8) (a : Fin S8x128x512.rank), (![g.val, 0, 0] : Fin 3 → Nat) a + S1x128x512.size a ≤ S8x128x512.size a := by decide +kernel
theorem inbOut : ∀ (q : Fin 2) (g : Fin 8) (a : Fin S256x4096.rank), (![128 * q.val, 512 * g.val] : Fin 2 → Nat) a + S128x512.size a ≤ S256x4096.size a := by
  decide +kernel

/-- The place of a group's state. -/
abbrev stateRect (g : Fin 8) : Rect S8x128x512 := Rect.unit (s := S8x128x512) ![g.val, 0, 0] S1x128x512.size (inbState g)
/-- The place of a group's block of the result. -/
abbrev outRect (q : Fin 2) (g : Fin 8) : Rect S256x4096 := Rect.unit (s := S256x4096) ![128 * q.val, 512 * g.val] S128x512.size (inbOut q g)

section
variable (arg2 : Memref sig .tc .vmem S256x4096 .f32) (harg2 : arg2.IsWhole) (arg3 : Memref sig .tc .vmem S256x4096 .f32) (harg3 : arg3.IsWhole)
  (arg4 : Memref sig .tc .vmem S256x2048 .f32) (harg4 : arg4.IsWhole) (arg5 : Memref sig .tc .vmem S256x128 .f32) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S256x4096 .bf16) (harg8 : arg8.IsWhole) (arg9 : Memref sig .tc .vmem S1x4096 .f32) (harg9 : arg9.IsWhole)
  (arg10 : Memref sig .tc .vmem S1x4096 .f32) (harg10 : arg10.IsWhole) (arg12 : Memref sig .tc .vmem S8x128x512 .f32) (harg12 : arg12.IsWhole)
  (x0 x1 : Vec Ideal S256x4096 .f32) (x2 : Vec Ideal S256x2048 .f32) (x3 : Vec Ideal S256x128 .f32) (x4 x5 : Vec Ideal S1x128 .f32)
  (x6 : Vec Ideal S256x4096 .bf16) (x7 x8 : Vec Ideal S1x4096 .f32) (xs0 : Vec Ideal S8x128x512 .f32)

/-- What chunk `q` and group `g` load from the buffers. -/
def readsOf (q : Fin 2) (g : Fin 8) : Reads where
  raw := View.readAt (Elt Ideal) arg5.view (Rect.unit (s := S256x128) ![128 * q.val, 0] S128x128.size (inbRaw q)).toLoadRect (harg5.unread x3)
  bias := View.readAt (Elt Ideal) arg6.view (Rect.unit (s := S1x128) ![0, 0] S1x128.size inb_S1x128_S1x128_0_0).toLoadRect (harg6.unread x4)
  rate := View.readAt (Elt Ideal) arg7.view (Rect.unit (s := S1x128) ![0, 0] S1x128.size inb_S1x128_S1x128_0_0).toLoadRect (harg7.unread x5)
  table := View.readAt (Elt Ideal) arg8.view (Rect.unit (s := S256x4096) ![0, 512 * g.val] S256x512.size (inbTable g)).toLoadRect (harg8.unread x6)
  xs := View.readAt (Elt Ideal) arg3.view ((Rect.unit (s := S256x4096) ![128 * q.val, 0] S128x4096.size (inbHalf q)).withinL
    (Rect.unit (s := S128x4096) ![0, 512 * g.val] S128x512.size (inbCols g)).toLoadRect (fun _ => rfl)) (harg3.unread x1)
  B := View.readAt (Elt Ideal) arg4.view ((Rect.unit (s := S256x2048) ![128 * q.val, 0] S128x2048.size (inbHalfBC q)).withinL
    (Rect.unit (s := S128x2048) ![0, 128 * g.val] S128x128.size (inbB g)).toLoadRect (fun _ => rfl)) (harg4.unread x2)
  C := View.readAt (Elt Ideal) arg4.view ((Rect.unit (s := S256x2048) ![128 * q.val, 0] S128x2048.size (inbHalfBC q)).withinL
    (Rect.unit (s := S128x2048) ![0, 1024 + 128 * g.val] S128x128.size (inbC g)).toLoadRect (fun _ => rfl)) (harg4.unread x2)
  d := View.readAt (Elt Ideal) arg9.view (Rect.unit (s := S1x4096) ![0, 512 * g.val] S1x512.size (inbVec g)).toLoadRect (harg9.unread x7)
  z := View.readAt (Elt Ideal) arg2.view ((Rect.unit (s := S256x4096) ![128 * q.val, 0] S128x4096.size (inbHalf q)).withinL
    (Rect.unit (s := S128x4096) ![0, 512 * g.val] S128x512.size (inbCols g)).toLoadRect (fun _ => rfl)) (harg2.unread x0)
  w := View.readAt (Elt Ideal) arg10.view (Rect.unit (s := S1x4096) ![0, 512 * g.val] S1x512.size (inbVec g)).toLoadRect (harg10.unread x8)

end

/-! ## The stores -/

/-- The group of the `n`-th store and its chunk. -/
def grp (n : Nat) : Fin 8 := ⟨n % 8, Nat.mod_lt _ (by decide)⟩
def chk (n : Nat) : Fin 2 := ⟨n / 8 % 2, Nat.mod_lt _ (by decide)⟩

section
variable (arg12 : Memref sig .tc .vmem S8x128x512 .f32) (R : Fin 2 → Fin 8 → Reads)

/-- The state's stores of a step that begins a sequence, the last first. -/
def storesA : Nat → List (View.Piece (Elt Ideal) S8x128x512 .f32)
  | 0 => [⟨Rect.unit (s := S8x128x512) ![0, 0, 0] S8x128x512.size inb_S8x128x512_S8x128x512_0_0_0,
      shapeCast S8x128x512 (broadcast S8x128x512 (Scalar.ofBits (F := Ideal) .f32 0x00000000#32) : FVec Ideal S8x128x512 .f32) shapeCasts_S8x128x512_S8x128x512⟩]
  | n + 1 => ⟨stateRect (grp n), stateOut (R (chk n) (grp n)) (arg12.view.readCov (storesA n) (stateRect (grp n)).toLoadRect)⟩ :: storesA n

/-- What a step that begins a sequence stores of the result, the last first. -/
def outsA : Nat → List (View.Piece (Elt Ideal) S256x4096 .bf16)
  | 0 => []
  | n + 1 => ⟨outRect (chk n) (grp n), groupOut (grp n) (R (chk n) (grp n)) (arg12.view.readCov (storesA arg12 R n) (stateRect (grp n)).toLoadRect)⟩ :: outsA n

variable (st0 : Fin 8 → Vec Ideal S1x128x512 .f32)

/-- What the `n`-th store of another step has read of the state. -/
def readB (L : List (View.Piece (Elt Ideal) S8x128x512 .f32)) (n : Nat) : Vec Ideal S1x128x512 .f32 :=
  if n < 8 then st0 (grp n) else arg12.view.readCov L (stateRect (grp n)).toLoadRect

/-- The state's stores of another step, the last first. -/
def storesB : Nat → List (View.Piece (Elt Ideal) S8x128x512 .f32)
  | 0 => []
  | n + 1 => ⟨stateRect (grp n), stateOut (R (chk n) (grp n)) (readB arg12 st0 (storesB n) n)⟩ :: storesB n

/-- What another step stores of the result, the last first. -/
def outsB : Nat → List (View.Piece (Elt Ideal) S256x4096 .bf16)
  | 0 => []
  | n + 1 => ⟨outRect (chk n) (grp n), groupOut (grp n) (R (chk n) (grp n)) (readB arg12 st0 (storesB arg12 R st0 n) n)⟩ :: outsB n

end

end Cert.Ssd

end
-- ==== Proof.SsdSpec.lean ====
/- The recurrence of the state as a function of its arrays, chunk by chunk and group by group. -/
module

public import proofs.«01_k».proof.Proof.AttnFinal
public import Idealize.ShloMosaic.Lib.Pointwise

@[expose] public section

set_option maxRecDepth 16384

noncomputable section

namespace Cert.Ssd

open Idealize.ShloMosaic

/-- The head of a lane of a group. -/
def head (g : Fin 8) (k : Fin 512) : Fin 64 := ⟨8 * g.val + k.val / 64, by omega⟩
/-- The column of a lane of a group. -/
def col (g : Fin 8) (k : Fin 512) : Fin 4096 := ⟨512 * g.val + k.val, by omega⟩
/-- The row of a token of a chunk of a sequence. -/
def row (b : Fin 4) (c : Fin 32) (l : Fin 128) : Fin 16384 := ⟨4096 * b.val + 128 * c.val + l.val, by omega⟩
/-- A chunk by its number. -/
def nth (c : Nat) : Fin 32 := ⟨c % 32, Nat.mod_lt _ (by decide)⟩

/-- The softplus. -/
def softplus (v : EReal) : EReal := max v 0 + Ideal.log1p (Ideal.exp (0 - max v (-v)))

theorem exp_nonneg (x : EReal) : 0 ≤ Ideal.exp x := by
  induction x using EReal.rec with
  | bot => exact le_refl _
  | top => exact le_top
  | coe r => rw [Ideal.exp_coe]; exact EReal.coe_nonneg.mpr (Real.exp_pos r).le

theorem log1p_nonneg {x : EReal} (h : 0 ≤ x) : 0 ≤ Ideal.log1p x := by
  unfold Ideal.log1p
  induction x using EReal.rec with
  | bot => exact absurd h (by simp)
  | top => rw [show (1 : EReal) + ⊤ = ⊤ from EReal.coe_add_top 1]; exact le_top
  | coe r =>
    have hr : 0 ≤ r := EReal.coe_nonneg.mp h
    rw [show (1 : EReal) + (r : EReal) = ((1 + r : ℝ) : EReal) by rw [EReal.coe_add, EReal.coe_one], Ideal.log_coe, if_neg (by linarith)]
    exact EReal.coe_nonneg.mpr (Real.log_nonneg (by linarith))

theorem softplus_nonneg (v : EReal) : 0 ≤ softplus v := add_nonneg (le_max_right _ _) (log1p_nonneg (exp_nonneg _))

variable (P : Fin 16384 → Fin 17408 → EReal) (bias al skip : Fin 64 → EReal) (w : Fin 4096 → EReal)

/-- The step size of a token and a head. -/
def dtAt (b : Fin 4) (c : Fin 32) (l : Fin 128) (h : Fin 64) : EReal := softplus (P (row b c l) ⟨10240 + h.val, by omega⟩ + bias h)
/-- The logarithm of the decay since the chunk's begin. -/
def cumAt (b : Fin 4) (c : Fin 32) (l : Fin 128) (h : Fin 64) : EReal :=
  ∑ s : Fin 128, if s.val ≤ l.val then dtAt P bias b c s h * (-Ideal.exp (al h)) else 0
def gateAt (b : Fin 4) (c : Fin 32) (g : Fin 8) (l : Fin 128) (k : Fin 512) : EReal := P (row b c l) ⟨512 * g.val + k.val, by omega⟩
def valAt (b : Fin 4) (c : Fin 32) (g : Fin 8) (l : Fin 128) (k : Fin 512) : EReal := P (row b c l) ⟨4096 + (512 * g.val + k.val), by omega⟩
def writeAt (b : Fin 4) (c : Fin 32) (g : Fin 8) (l n : Fin 128) : EReal := P (row b c l) ⟨8192 + (128 * g.val + n.val), by omega⟩
def readAt (b : Fin 4) (c : Fin 32) (g : Fin 8) (l n : Fin 128) : EReal := P (row b c l) ⟨9216 + (128 * g.val + n.val), by omega⟩
/-- The values times the step sizes. -/
def scaledAt (b : Fin 4) (c : Fin 32) (g : Fin 8) (l : Fin 128) (k : Fin 512) : EReal := valAt P b c g l k * dtAt P bias b c l (head g k)

/-- What a chunk adds to the state. -/
def addedAt (b : Fin 4) (c : Fin 32) (g : Fin 8) (n : Fin 128) (k : Fin 512) : EReal :=
  ∑ l : Fin 128, writeAt P b c g l n * (scaledAt P bias b c g l k * Ideal.exp (cumAt P bias al b c 127 (head g k) - cumAt P bias al b c l (head g k)))

/-- The state before a chunk. -/
def stateAt (b : Fin 4) : Nat → Fin 8 → Fin 128 → Fin 512 → EReal
  | 0, _, _, _ => 0
  | c + 1, g, n, k => stateAt b c g n k * Ideal.exp (cumAt P bias al b (nth c) 127 (head g k)) + addedAt P bias al b (nth c) g n k

/-- The result of a chunk from its own tokens. -/
def ownAt (b : Fin 4) (c : Fin 32) (g : Fin 8) (l : Fin 128) (k : Fin 512) : EReal :=
  ∑ s : Fin 128, (∑ n : Fin 128, readAt P b c g l n * writeAt P b c g s n)
    * Ideal.exp (if s.val ≤ l.val then cumAt P bias al b c l (head g k) - cumAt P bias al b c s (head g k) else ⊥) * scaledAt P bias b c g s k

/-- The result from a state before the chunk, with the skip and the gate. -/
def mixedAt (st : Fin 128 → Fin 512 → EReal) (b : Fin 4) (c : Fin 32) (g : Fin 8) (l : Fin 128) (k : Fin 512) : EReal :=
  (ownAt P bias al b c g l k + (∑ n : Fin 128, readAt P b c g l n * st n k) * Ideal.exp (cumAt P bias al b c l (head g k))
    + skip (head g k) * valAt P b c g l k) * gateAt P b c g l k

/-- The result: the group's norm of the gated result. -/
def resultAt (st : Fin 128 → Fin 512 → EReal) (b : Fin 4) (c : Fin 32) (g : Fin 8) (l : Fin 128) (k : Fin 512) : EReal :=
  mixedAt P bias al skip st b c g l k
    * Ideal.rsqrt (Ideal.div (∑ j : Fin 512, mixedAt P bias al skip st b c g l j * mixedAt P bias al skip st b c g l j) (Ideal.ofBits .f32 0x44000000#32)
      + Ideal.ofBits .f32 0x3727C5AC#32)
    * w (col g k)

theorem decay_nonpos (b c l h) : dtAt P bias b c l h * (-Ideal.exp (al h)) ≤ 0 := by
  rw [mul_neg, EReal.neg_le, neg_zero]
  exact mul_nonneg (softplus_nonneg _) (exp_nonneg _)

theorem cumAt_nonpos (b c l h) : cumAt P bias al b c l h ≤ 0 :=
  Finset.sum_nonpos fun s _ => by
    split
    · exact decay_nonpos P bias al _ _ _ _
    · exact le_refl _

/-! ### Equal, or both infinite -/

/-- Infinite, of either sign. -/
def Infinite (x : EReal) : Prop := x = ⊤ ∨ x = ⊥
/-- Equal, or both infinite. -/
def Twin (x y : EReal) : Prop := x = y ∨ (Infinite x ∧ Infinite y)

theorem Infinite.add_left {x : EReal} (h : Infinite x) (y : EReal) : Infinite (x + y) := by
  rcases h with rfl | rfl
  · by_cases hy : y = ⊥
    · subst hy; exact Or.inr (EReal.add_bot _)
    · exact Or.inl (EReal.top_add_of_ne_bot hy)
  · exact Or.inr (EReal.bot_add _)

theorem Infinite.mul_left {x y : EReal} (h : Infinite x) (hy : y ≠ 0) : Infinite (x * y) := by
  rcases lt_or_gt_of_ne hy with hy | hy <;> rcases h with rfl | rfl
  · exact Or.inr (EReal.top_mul_of_neg hy)
  · exact Or.inl (EReal.bot_mul_of_neg hy)
  · exact Or.inl (EReal.top_mul_of_pos hy)
  · exact Or.inr (EReal.bot_mul_of_pos hy)

theorem Infinite.ne_zero {x : EReal} (h : Infinite x) : x ≠ 0 := by rcases h with rfl | rfl <;> simp

theorem Infinite.sq {x : EReal} (h : Infinite x) : x * x = ⊤ := by rcases h with rfl | rfl <;> simp

theorem Twin.refl (x : EReal) : Twin x x := Or.inl rfl

theorem Twin.add {x y x' y' : EReal} (h : Twin x x') (h' : Twin y y') : Twin (x + y) (x' + y') := by
  rcases h with rfl | ⟨h, k⟩
  · rcases h' with rfl | ⟨h', k'⟩
    · exact Twin.refl _
    · rw [add_comm x y, add_comm x y']; exact Or.inr ⟨h'.add_left _, k'.add_left _⟩
  · exact Or.inr ⟨h.add_left _, k.add_left _⟩

theorem Twin.mul {x y x' y' : EReal} (h : Twin x x') (h' : Twin y y') : Twin (x * y) (x' * y') := by
  rcases h with rfl | ⟨h, k⟩
  · rcases h' with rfl | ⟨h', k'⟩
    · exact Twin.refl _
    · by_cases hx : x = 0
      · subst hx; rw [zero_mul, zero_mul]; exact Twin.refl _
      · rw [mul_comm x y, mul_comm x y']; exact Or.inr ⟨h'.mul_left hx, k'.mul_left hx⟩
  · rcases h' with rfl | ⟨h', k'⟩
    · by_cases hy : y = 0
      · subst hy; rw [mul_zero, mul_zero]; exact Twin.refl _
      · exact Or.inr ⟨h.mul_left hy, k.mul_left hy⟩
    · exact Or.inr ⟨h.mul_left h'.ne_zero, k.mul_left k'.ne_zero⟩

theorem Twin.sum {n : Nat} {f f' : Fin n → EReal} (h : ∀ i, Twin (f i) (f' i)) : Twin (∑ i, f i) (∑ i, f' i) := by
  have key : ∀ s : Finset (Fin n), Twin (∑ i ∈ s, f i) (∑ i ∈ s, f' i) := by
    classical
    intro s
    induction s using Finset.induction_on with
    | empty => exact Twin.refl _
    | insert a s ha ih => rw [Finset.sum_insert ha, Finset.sum_insert ha]; exact (h a).add ih
  exact key _

theorem Twin.sq {x y : EReal} (h : Twin x y) : x * x = y * y := by
  rcases h with rfl | ⟨h, k⟩
  · rfl
  · rw [h.sq, k.sq]

theorem sq_nonneg (x : EReal) : 0 ≤ x * x := by
  rcases le_total 0 x with h | h
  · exact mul_nonneg h h
  · rw [← neg_mul_neg]
    have h' : 0 ≤ -x := by rw [EReal.le_neg, neg_zero]; exact h
    exact mul_nonneg h' h'

/-- A row divided by its root mean square does not tell an infinite entry from another. -/
theorem Twin.normed {n : Nat} {f f' : Fin n → EReal} (h : ∀ i, Twin (f i) (f' i)) {d e : ℝ} (hd : 0 < d) (k : Fin n) :
    f k * Ideal.rsqrt (Ideal.div (∑ i, f i * f i) (d : EReal) + (e : EReal)) = f' k * Ideal.rsqrt (Ideal.div (∑ i, f' i * f' i) (d : EReal) + (e : EReal)) := by
  rw [Finset.sum_congr rfl fun i _ => (h i).sq]
  rcases h k with hk | ⟨_, hk⟩
  · rw [hk]
  · have ht : ∑ i, f' i * f' i = ⊤ := top_le_iff.mp (hk.sq ▸ Finset.single_le_sum (f := fun i => f' i * f' i) (fun i _ => sq_nonneg _) (Finset.mem_univ k))
    have hz : Ideal.rsqrt (Ideal.div ⊤ (d : EReal) + (e : EReal)) = 0 := by
      unfold Ideal.div
      rw [if_neg (by exact_mod_cast hd.ne'), ← EReal.coe_inv, EReal.top_mul_coe_of_pos (inv_pos.mpr hd), EReal.top_add_coe]
      rfl
    rw [ht, hz, mul_zero, mul_zero]

/-- The sum of the three parts of a value. -/
def three (x : EReal) : EReal := x + ((x - x) + ((x - x) - (x - x)))

theorem three_of_ne_top {x : EReal} (h : x ≠ ⊤) : three x = x := by
  unfold three
  induction x using EReal.rec with
  | bot => exact EReal.bot_add _
  | top => exact absurd rfl h
  | coe r => rw [← EReal.coe_sub, sub_self, EReal.coe_zero, sub_zero, add_zero, add_zero]

theorem three_twin (x : EReal) : Twin (three x) x := by
  by_cases h : x = ⊤
  · subst h; exact Or.inr ⟨Infinite.add_left (Or.inl rfl) _, Or.inl rfl⟩
  · exact Or.inl (three_of_ne_top h)

end Cert.Ssd

end
-- ==== Proof.SsdRead.lean ====
/- What a step of the recurrence computes, entry by entry. -/
module

public import proofs.«01_k».proof.Proof.SsdHead
public import proofs.«01_k».proof.Proof.SsdSpec
public import proofs.«01_k».proof.Proof.AttnRead
public import Idealize.ShloMosaic.Rules

@[expose] public section

set_option maxRecDepth 16384

noncomputable section

namespace Cert.Ssd

open Cert.SsdIdeal Cert.SsdIdeal.Gen Idealize.ShloMosaic Idealize.ShloMosaic.TcCoe

theorem sge_iota : ∀ l s : Fin 128, IntOp.cmpi CmpIPredicate.sge (BitVec.ofNat 32 l.val) (BitVec.ofNat 32 s.val)
    = if s.val ≤ l.val then (1#1 : BitVec 1) else 0#1 := by decide +kernel
theorem slt_iota : ∀ k : Fin 128, IntOp.cmpi CmpIPredicate.slt (BitVec.ofNat 32 k.val) 64#32 = if k.val < 64 then (1#1 : BitVec 1) else 0#1 := by
  decide +kernel

/-- A head's lane. -/
def lane (h : Fin 64) : Fin 128 := ⟨h.val, by omega⟩

theorem stepOf_apply (raw bias) (l h : Fin 128) : stepOf raw bias (ix2 l h) = softplus (raw (ix2 l h) + bias (ix2 0 h)) := by
  unfold stepOf
  pointwise [Consts.zero]
  rfl

theorem decayOf_apply (dt a) (l h : Fin 128) : decayOf dt a (ix2 l h) = dt (ix2 l h) * a (ix2 0 h) := by
  unfold decayOf
  pointwise

theorem lower_apply (l s : Fin 128) : lower (ix2 l s) = if s.val ≤ l.val then (1 : EReal) else 0 := by
  unfold lower causal
  pointwise
  rw [sge_iota]
  by_cases h : s.val ≤ l.val
  · rw [if_pos h, if_pos h]
    show ((((1#32 : BitVec 32).toInt : ℝ)) : EReal) = 1
    simp
  · rw [if_neg h, if_neg h]
    show ((((0#32 : BitVec 32).toInt : ℝ)) : EReal) = 0
    simp

theorem lowerTimes_apply (v) (l h : Fin 128) : lowerTimes v (ix2 l h) = ∑ s : Fin 128, if s.val ≤ l.val then v (ix2 s h) else (0 : EReal) := by
  unfold lowerTimes
  pointwise [Consts.zero, lower_apply]
  try rw [zero_add]
  exact Finset.sum_congr rfl fun s _ => by by_cases h : s.val ≤ l.val <;> simp [h]

theorem sumUpTo_apply (v) (l h : Fin 128) (hv : ∀ s, v (ix2 s h) ≠ (⊤ : EReal)) :
    sumUpTo v (ix2 l h) = ∑ s : Fin 128, if s.val ≤ l.val then v (ix2 s h) else (0 : EReal) := by
  unfold sumUpTo
  pointwise [Consts.zero]
  rw [lowerTimes_apply, lowerTimes_apply, lowerTimes_apply, add_assoc, ← Finset.sum_add_distrib, ← Finset.sum_add_distrib]
  refine Finset.sum_congr rfl fun s _ => ?_
  by_cases hs : s.val ≤ l.val
  · rw [if_pos hs, if_pos hs, if_pos hs, if_pos hs]
    exact three_of_ne_top (hv s)
  · rw [if_neg hs, if_neg hs, if_neg hs, if_neg hs, add_zero, add_zero]

/-- The named constant of the scale. -/
theorem log2e_eq : (Named.named (F := Ideal) κ "ssd_log2e" (φ := .f32) 0x3FB8AA3B#32 : EReal) = (((Real.log 2)⁻¹ : ℝ) : EReal) :=
  IdealRules.named_const.ideal_named_scalar _ _ _ _ rfl

theorem logsOf_apply (v) (l h : Fin 128) (hv : ∀ s, v (ix2 s h) ≠ (⊤ : EReal)) :
    logsOf v (ix2 l h) = (∑ s : Fin 128, if s.val ≤ l.val then v (ix2 s h) else (0 : EReal)) * (((Real.log 2)⁻¹ : ℝ) : EReal) := by
  unfold logsOf
  pointwise
  rw [sumUpTo_apply v l h hv]
  exact congrArg _ log2e_eq

/-! ### The heads on their lanes -/

theorem parts_head (v) (l : Fin 128) (h : Fin 64) : parts v (ix2 l ⟨h.val, by omega⟩) = v (ix2 l (lane h)) := by
  unfold parts lowHalf
  pointwise
  rw [dif_pos (by omega), slt_iota ⟨h.val, by omega⟩, if_pos (by simp only []; omega)]
  rfl

theorem parts_mid (v) (l : Fin 128) (h : Fin 64) : parts v (ix2 l ⟨64 + h.val, by omega⟩) = v (ix2 l (lane h)) - (v (ix2 l (lane h)) : EReal) := by
  unfold parts lowHalf
  pointwise
  rw [dif_pos (by omega), slt_iota ⟨64 + h.val, by omega⟩, if_neg (by simp only []; omega)]
  have e : (⟨(64 + h.val + 128 - 64) % 128, Nat.mod_lt _ (by decide)⟩ : Fin 128) = lane h := Fin.ext (by simp only [lane]; omega)
  refine (show _ = hi (rest v) (ix2 l ⟨(64 + h.val + 128 - 64) % 128, Nat.mod_lt _ (by decide)⟩) from rfl).trans ?_
  rw [e]
  rfl

theorem parts_last (v) (l : Fin 128) (h : Fin 64) : parts v (ix2 l ⟨128 + h.val, by omega⟩)
    = (v (ix2 l (lane h)) - v (ix2 l (lane h))) - (v (ix2 l (lane h)) - v (ix2 l (lane h)) : EReal) := by
  unfold parts lowHalf
  pointwise
  rfl

theorem stacked_step (v L) (l : Fin 128) (x : Fin 256) : stacked v L (ix2 ⟨l.val, by omega⟩ x) = parts v (ix2 l x) := by
  unfold stacked
  pointwise

theorem stacked_log (v L) (l : Fin 128) (x : Fin 256) : stacked v L (ix2 ⟨128 + l.val, by omega⟩ x) = parts L (ix2 l x) := by
  unfold stacked
  pointwise

theorem spread_apply (s e) (i : Fin 256) (k : Fin 512) : spread s e (ix2 i k) = ∑ x : Fin 256, s (ix2 i x) * e (ix2 x k) := by
  unfold spread
  pointwise [Consts.zero]

/-- The table's rows of a head. -/
def IsTable (e : Vec Ideal S256x512 .bf16) (g : Fin 8) : Prop :=
  ∀ (x : Fin 256) (k : Fin 512), e (ix2 x k) = if x.val < 192 ∧ x.val % 64 = (head g k).val then (1 : EReal) else 0

/-- The three parts of a row add up on the head's lanes. -/
theorem spread_head (s e) (g : Fin 8) (he : IsTable e g) (i : Fin 256) (k : Fin 512) (val : EReal)
    (h0 : s (ix2 i ⟨(head g k).val, by omega⟩) = val) (h1 : s (ix2 i ⟨64 + (head g k).val, by omega⟩) = val - val)
    (h2 : s (ix2 i ⟨128 + (head g k).val, by omega⟩) = (val - val) - (val - val)) : spread s e (ix2 i k) = three val := by
  have hone : ∀ x : Fin 256, x.val < 192 → x.val % 64 = (head g k).val → e (ix2 x k) = (1 : EReal) := fun x hx hx' => by rw [he, if_pos ⟨hx, hx'⟩]
  have d01 : (⟨(head g k).val, by omega⟩ : Fin 256) ≠ ⟨64 + (head g k).val, by omega⟩ := fun h => absurd (congrArg Fin.val h) (by simp only []; omega)
  have d02 : (⟨(head g k).val, by omega⟩ : Fin 256) ≠ ⟨128 + (head g k).val, by omega⟩ := fun h => absurd (congrArg Fin.val h) (by simp only []; omega)
  have d12 : (⟨64 + (head g k).val, by omega⟩ : Fin 256) ≠ ⟨128 + (head g k).val, by omega⟩ := fun h => absurd (congrArg Fin.val h) (by simp only []; omega)
  rw [spread_apply, ← Finset.sum_subset (Finset.subset_univ {⟨(head g k).val, by omega⟩, ⟨64 + (head g k).val, by omega⟩, ⟨128 + (head g k).val, by omega⟩}),
    Finset.sum_insert (by simp only [Finset.mem_insert, Finset.mem_singleton, not_or]; exact ⟨d01, d02⟩),
    Finset.sum_insert (by simp only [Finset.mem_singleton]; exact d12), Finset.sum_singleton, h0, h1, h2,
    hone _ (by simp only []; omega) (by simp only []; omega), hone _ (by simp only []; omega) (by simp only []; omega),
    hone _ (by simp only []; omega) (by simp only []; omega), mul_one, mul_one, mul_one]
  · rfl
  · intro x _ hx
    simp only [Finset.mem_insert, Finset.mem_singleton, not_or, Fin.ext_iff] at hx
    rw [he, if_neg (fun h => by omega), mul_zero]

theorem paired_low (X) (r : Fin 4) (s k : Fin 128) :
    paired X r (ix2 ⟨s.val, by omega⟩ k) = if k.val / 64 = 0 then X (ix2 s ⟨128 * r.val + k.val, by omega⟩) else (0 : EReal) := by
  unfold paired lowHalf
  pointwise [Consts.zero]
  rw [slt_iota]
  refine (Attn.select_ite _ _ _).trans ?_
  by_cases hk : k.val < 64
  · rw [if_pos hk, if_pos (by omega)]
  · rw [if_neg hk, if_neg (by omega)]

theorem paired_high (X) (r : Fin 4) (s k : Fin 128) :
    paired X r (ix2 ⟨128 + s.val, by omega⟩ k) = if k.val / 64 = 1 then X (ix2 s ⟨128 * r.val + k.val, by omega⟩) else (0 : EReal) := by
  unfold paired lowHalf
  pointwise [Consts.zero]
  rw [slt_iota]
  refine (Attn.select_ite _ _ _).trans ?_
  by_cases hk : k.val < 64
  · rw [if_pos hk, if_neg (by omega)]
  · rw [if_neg hk, if_pos (by omega)]

theorem within_apply (cb L) (h : Fin 64) (l s : Fin 128) : within cb L h (ix2 l s)
    = cb (ix2 l s) * Ideal.exp2 (if s.val ≤ l.val then L (ix2 l (lane h)) - L (ix2 s (lane h)) else ⊥) := by
  unfold within causal
  pointwise [Consts.negInf]
  rw [sge_iota, Attn.select_ite]
  rfl

theorem pairOut_apply (cb L X) (g : Fin 8) (r : Fin 4) (l k : Fin 128) : pairOut cb L X g r (ix2 l k)
    = ∑ s : Fin 128, within cb L ⟨8 * g.val + (128 * r.val + k.val) / 64, by omega⟩ (ix2 l s) * X (ix2 s ⟨128 * r.val + k.val, by omega⟩) := by
  unfold pairOut
  pointwise [Consts.zero]
  simp only [paired_low, paired_high]
  rcases (by omega : k.val / 64 = 0 ∨ k.val / 64 = 1) with h | h
  · rw [Finset.sum_eq_zero (s := Finset.univ) (f := fun s : Fin 128 => within cb L ⟨8 * g.val + 2 * r.val + 1, by omega⟩ (ix2 l s)
      * (if k.val / 64 = 1 then X (ix2 s ⟨128 * r.val + k.val, by omega⟩) else (0 : EReal))) (fun s _ => by rw [if_neg (by omega), mul_zero]), add_zero]
    have e : (⟨8 * g.val + 2 * r.val, by omega⟩ : Fin 64) = ⟨8 * g.val + (128 * r.val + k.val) / 64, by omega⟩ := Fin.ext (by simp only []; omega)
    rw [e]
    exact Finset.sum_congr rfl fun s _ => by rw [if_pos h]
  · rw [Finset.sum_eq_zero (s := Finset.univ) (f := fun s : Fin 128 => within cb L ⟨8 * g.val + 2 * r.val, by omega⟩ (ix2 l s)
      * (if k.val / 64 = 0 then X (ix2 s ⟨128 * r.val + k.val, by omega⟩) else (0 : EReal))) (fun s _ => by rw [if_neg (by omega), mul_zero]), zero_add]
    have e : (⟨8 * g.val + 2 * r.val + 1, by omega⟩ : Fin 64) = ⟨8 * g.val + (128 * r.val + k.val) / 64, by omega⟩ := Fin.ext (by simp only []; omega)
    rw [e]
    exact Finset.sum_congr rfl fun s _ => by rw [if_pos h]

theorem diagonal_apply (cb L X) (g : Fin 8) (l : Fin 128) (k : Fin 512) : diagonal cb L X g (ix2 l k)
    = ∑ s : Fin 128, within cb L (head g k) (ix2 l s) * X (ix2 s k) := by
  unfold diagonal
  pointwise
  have key : ∀ (r : Fin 4) (j : Fin 128), k.val = 128 * r.val + j.val → pairOut cb L X g r (ix2 l j)
      = ∑ s : Fin 128, within cb L (head g k) (ix2 l s) * X (ix2 s k) := by
    intro r j hk
    rw [pairOut_apply]
    have e1 : (⟨8 * g.val + (128 * r.val + j.val) / 64, by omega⟩ : Fin 64) = head g k := Fin.ext (by simp only [head]; omega)
    have e2 : (⟨128 * r.val + j.val, by omega⟩ : Fin 512) = k := Fin.ext hk.symm
    rw [e1, e2]
  split
  · exact key 0 _ (by simp)
  · split
    · exact key 1 _ (by simp only [Fin.val_one]; omega)
    · split
      · exact key 2 _ (by simp only [Fin.val_two]; omega)
      · exact key 3 _ (by show k.val = 128 * 3 + (k.val - 128 - 128 - 128); omega)

theorem crossed_apply (B C) (l s : Fin 128) : crossed B C (ix2 l s) = ∑ n : Fin 128, C (ix2 l n) * B (ix2 s n) := by
  unfold crossed
  pointwise [Consts.zero]

theorem scaled_apply (E xs) (l : Fin 128) (k : Fin 512) : scaled E xs (ix2 l k) = xs (ix2 l k) * E (ix2 ⟨l.val, by omega⟩ k) := by
  unfold scaled spreadStep
  pointwise

theorem newState_apply (B st E X) (n : Fin 128) (k : Fin 512) : newState B st E X (ix3 0 n k)
    = st (ix3 0 n k) * Ideal.exp2 (E (ix2 255 k))
      + ∑ l : Fin 128, B (ix2 l n) * (X (ix2 l k) * Ideal.exp2 (E (ix2 255 k) - E (ix2 ⟨128 + l.val, by omega⟩ k))) := by
  unfold newState fromStart toEnd spreadLog flat
  pointwise [Consts.zero]
  rfl

theorem offDiagonal_apply (C st E) (l : Fin 128) (k : Fin 512) : offDiagonal C st E (ix2 l k)
    = (∑ n : Fin 128, C (ix2 l n) * st (ix3 0 n k)) * Ideal.exp2 (E (ix2 ⟨128 + l.val, by omega⟩ k)) := by
  unfold offDiagonal flat fromStart spreadLog
  pointwise [Consts.zero]
  rfl

theorem gated_apply (y d xs z) (l : Fin 128) (k : Fin 512) : gated y d xs z (ix2 l k)
    = (y (ix2 l k) + d (ix2 0 k) * xs (ix2 l k)) * z (ix2 l k) := by
  unfold gated
  pointwise

theorem normed_apply (y w) (l : Fin 128) (k : Fin 512) : normed y w (ix2 l k)
    = y (ix2 l k) * Ideal.rsqrt (Ideal.div (∑ x : Fin 512, y (ix2 l x) * y (ix2 l x)) (Ideal.ofBits .f32 0x44000000#32) + Ideal.ofBits .f32 0x3727C5AC#32)
      * w (ix2 0 k) := by
  unfold normed
  pointwise [Consts.zero]

/-! ### A chunk and a group -/

/-- What is read are the entries of the arrays. -/
structure Reads.Of (R : Reads) (P : Fin 16384 → Fin 17408 → EReal) (bias al skip : Fin 64 → EReal) (w : Fin 4096 → EReal) (b : Fin 4) (c : Fin 32) (g : Fin 8) :
    Prop where
  raw : ∀ l (h : Fin 64), R.raw (ix2 l (lane h)) = P (row b c l) ⟨10240 + h.val, by omega⟩
  bias : ∀ h : Fin 64, R.bias (ix2 0 (lane h)) = bias h
  rate : ∀ h : Fin 64, R.rate (ix2 0 (lane h)) = -Ideal.exp (al h)
  table : IsTable R.table g
  xs : ∀ l k, R.xs (ix2 l k) = valAt P b c g l k
  B : ∀ l n, R.B (ix2 l n) = writeAt P b c g l n
  C : ∀ l n, R.C (ix2 l n) = readAt P b c g l n
  d : ∀ k, R.d (ix2 0 k) = skip (head g k)
  z : ∀ l k, R.z (ix2 l k) = gateAt P b c g l k
  w : ∀ k, R.w (ix2 0 k) = w (col g k)

theorem width_real : ∃ d : ℝ, 0 < d ∧ Ideal.ofBits .f32 0x44000000#32 = (d : EReal) := ⟨512, by norm_num, by simp [Ideal.ofBits, Ideal.ieee, -EReal.coe_mul]; norm_num⟩
theorem eps_real : ∃ e : ℝ, Ideal.ofBits .f32 0x3727C5AC#32 = (e : EReal) := ⟨_, by simp [Ideal.ofBits, Ideal.ieee, -EReal.coe_mul]; rfl⟩

section
variable {R : Reads} {P : Fin 16384 → Fin 17408 → EReal} {bias al skip : Fin 64 → EReal} {w : Fin 4096 → EReal} {b : Fin 4} {c : Fin 32} {g : Fin 8}
  (H : R.Of P bias al skip w b c g)
include H

theorem dt_apply (l : Fin 128) (h : Fin 64) : R.dt (ix2 l (lane h)) = dtAt P bias b c l h := by
  unfold Reads.dt
  rw [stepOf_apply, H.raw, H.bias]
  rfl

theorem decay_apply (l : Fin 128) (h : Fin 64) : decayOf R.dt R.rate (ix2 l (lane h)) = dtAt P bias b c l h * (-Ideal.exp (al h)) := by
  rw [decayOf_apply, dt_apply H, H.rate]

theorem logs_apply (l : Fin 128) (h : Fin 64) : R.logs (ix2 l (lane h)) = cumAt P bias al b c l h * (((Real.log 2)⁻¹ : ℝ) : EReal) := by
  unfold Reads.logs
  rw [logsOf_apply _ _ _ fun s => by rw [decay_apply H]; exact ((decay_nonpos P bias al _ _ _ _).trans_lt EReal.zero_lt_top).ne]
  simp only [decay_apply H]
  rfl

omit H in
theorem scaled_ne_top {x : EReal} (h : x ≠ ⊤) : x * (((Real.log 2)⁻¹ : ℝ) : EReal) ≠ ⊤ := by
  induction x using EReal.rec with
  | bot => rw [EReal.bot_mul_coe_of_pos (inv_pos.mpr (Real.log_pos one_lt_two))]; exact bot_ne_top
  | top => exact absurd rfl h
  | coe r => rw [← EReal.coe_mul]; exact EReal.coe_ne_top _

omit H in
theorem cumAt_ne_top (l : Fin 128) (h : Fin 64) : cumAt P bias al b c l h ≠ ⊤ := ((cumAt_nonpos P bias al _ _ _ _).trans_lt EReal.zero_lt_top).ne

theorem E_step (l : Fin 128) (k : Fin 512) : Twin (R.E (ix2 ⟨l.val, by omega⟩ k)) (dtAt P bias b c l (head g k)) := by
  have h := spread_head (stacked R.dt R.logs) R.table g H.table ⟨l.val, by omega⟩ k _ ((stacked_step _ _ _ _).trans (parts_head _ _ _))
    ((stacked_step _ _ _ _).trans (parts_mid _ _ _)) ((stacked_step _ _ _ _).trans (parts_last _ _ _))
  rw [dt_apply H] at h
  rw [show R.E (ix2 ⟨l.val, by omega⟩ k) = _ from h]
  exact three_twin _

theorem E_log (l : Fin 128) (k : Fin 512) : R.E (ix2 ⟨128 + l.val, by omega⟩ k) = cumAt P bias al b c l (head g k) * (((Real.log 2)⁻¹ : ℝ) : EReal) := by
  have h := spread_head (stacked R.dt R.logs) R.table g H.table ⟨128 + l.val, by omega⟩ k _ ((stacked_log _ _ _ _).trans (parts_head _ _ _))
    ((stacked_log _ _ _ _).trans (parts_mid _ _ _)) ((stacked_log _ _ _ _).trans (parts_last _ _ _))
  rw [logs_apply H, three_of_ne_top (scaled_ne_top (cumAt_ne_top _ _))] at h
  exact h

theorem X_apply (l : Fin 128) (k : Fin 512) : Twin (R.X (ix2 l k)) (scaledAt P bias b c g l k) := by
  unfold Reads.X
  rw [scaled_apply, H.xs]
  exact (Twin.refl _).mul (E_step H l k)

omit H in
theorem exp2_sub {x y : EReal} (hx : x ≠ ⊤) (hy : y ≠ ⊤) :
    Ideal.exp2 (x * (((Real.log 2)⁻¹ : ℝ) : EReal) - y * (((Real.log 2)⁻¹ : ℝ) : EReal)) = Ideal.exp (x - y) := by
  have hp : (0 : ℝ) < (Real.log 2)⁻¹ := inv_pos.mpr (Real.log_pos one_lt_two)
  induction y using EReal.rec with
  | top => exact absurd rfl hy
  | coe e => exact Attn.exp2_scaled hx e
  | bot =>
    rw [EReal.bot_mul_coe_of_pos hp]
    induction x using EReal.rec with
    | top => exact absurd rfl hx
    | bot => rw [EReal.bot_mul_coe_of_pos hp]; rfl
    | coe r => rw [← EReal.coe_mul]; rfl

omit H in
theorem exp2_one {x : EReal} (hx : x ≠ ⊤) : Ideal.exp2 (x * (((Real.log 2)⁻¹ : ℝ) : EReal)) = Ideal.exp x := by
  have h := exp2_sub hx (y := 0) EReal.zero_ne_top
  rwa [zero_mul, sub_zero, sub_zero] at h

omit H in
theorem exp2_bot : Ideal.exp2 (⊥ : EReal) = Ideal.exp ⊥ := rfl

/-- The state after the chunk. -/
theorem stateOut_apply (st : Vec Ideal S1x128x512 .f32) (st' : Fin 128 → Fin 512 → EReal) (hst : ∀ n k, Twin (st (ix3 0 n k)) (st' n k)) (n : Fin 128) (k : Fin 512) :
    Twin (stateOut R st (ix3 0 n k)) (st' n k * Ideal.exp (cumAt P bias al b c 127 (head g k)) + addedAt P bias al b c g n k) := by
  have hc := fun l => cumAt_ne_top (P := P) (bias := bias) (al := al) (b := b) (c := c) l (head g k)
  have h255 : R.E (ix2 255 k) = cumAt P bias al b c 127 (head g k) * (((Real.log 2)⁻¹ : ℝ) : EReal) := E_log H 127 k
  unfold stateOut
  rw [newState_apply, h255, exp2_one (hc 127)]
  refine ((hst n k).mul (Twin.refl _)).add (Twin.sum fun l => ?_)
  rw [E_log H, exp2_sub (hc 127) (hc l), H.B]
  exact (Twin.refl _).mul ((X_apply H l k).mul (Twin.refl _))

theorem within_eq (l s : Fin 128) (k : Fin 512) : within (crossed R.B R.C) R.logs (head g k) (ix2 l s)
    = (∑ n : Fin 128, readAt P b c g l n * writeAt P b c g s n)
      * Ideal.exp (if s.val ≤ l.val then cumAt P bias al b c l (head g k) - cumAt P bias al b c s (head g k) else ⊥) := by
  have hc := fun l => cumAt_ne_top (P := P) (bias := bias) (al := al) (b := b) (c := c) l (head g k)
  rw [within_apply, crossed_apply, logs_apply H, logs_apply H]
  simp only [H.B, H.C]
  refine congrArg _ ?_
  by_cases h : s.val ≤ l.val
  · rw [if_pos h, if_pos h, exp2_sub (hc l) (hc s)]
  · rw [if_neg h, if_neg h, exp2_bot]

/-- What is normed. -/
theorem mixed_apply (st : Vec Ideal S1x128x512 .f32) (st' : Fin 128 → Fin 512 → EReal) (hst : ∀ n k, Twin (st (ix3 0 n k)) (st' n k)) (l : Fin 128) (k : Fin 512) :
    Twin (gated (addf (diagonal (crossed R.B R.C) R.logs R.X g) (offDiagonal R.C st R.E)) R.d R.xs R.z (ix2 l k))
      (mixedAt P bias al skip st' b c g l k) := by
  have hc := fun l => cumAt_ne_top (P := P) (bias := bias) (al := al) (b := b) (c := c) l (head g k)
  have e1 : Twin (diagonal (crossed R.B R.C) R.logs R.X g (ix2 l k)) (ownAt P bias al b c g l k) := by
    rw [diagonal_apply]
    exact Twin.sum fun s => by rw [within_eq H]; exact (Twin.refl _).mul (X_apply H s k)
  have e2 : Twin (offDiagonal R.C st R.E (ix2 l k)) ((∑ n : Fin 128, readAt P b c g l n * st' n k) * Ideal.exp (cumAt P bias al b c l (head g k))) := by
    rw [offDiagonal_apply, E_log H, exp2_one (hc l)]
    simp only [H.C]
    exact (Twin.sum fun n => (Twin.refl _).mul (hst n k)).mul (Twin.refl _)
  rw [gated_apply, H.d, H.xs, H.z]
  exact ((e1.add e2).add (Twin.refl _)).mul (Twin.refl _)

/-- The group's block of the result. -/
theorem groupOut_apply (st : Vec Ideal S1x128x512 .f32) (st' : Fin 128 → Fin 512 → EReal) (hst : ∀ n k, Twin (st (ix3 0 n k)) (st' n k)) (l : Fin 128) (k : Fin 512) :
    groupOut g R st (ix2 l k) = resultAt P bias al skip w st' b c g l k := by
  obtain ⟨d, hd, ed⟩ := width_real
  obtain ⟨e, ee⟩ := eps_real
  unfold groupOut resultAt
  rw [normed_apply, H.w, ed, ee]
  exact congrArg (· * _) (Twin.normed (fun k => mixed_apply H st st' hst l k) hd k)

end

end Cert.Ssd

end
-- ==== Proof.SsdPieces.lean ====
/- What one step of the recurrence's kernel stores is the lists of stores. -/
module

public import proofs.«01_k».proof.Proof.SsdHead

@[expose] public section

set_option maxRecDepth 16384

noncomputable section

namespace Cert.Ssd

open Cert.SsdIdeal Cert.SsdIdeal.Gen Idealize.ShloMosaic Idealize.ShloMosaic.TcCoe

variable (c : Dev nD) (i : grid0.Coords) (arg2 : Memref sig .tc .vmem S256x4096 .f32) (harg2 : arg2.IsWhole) (arg3 : Memref sig .tc .vmem S256x4096 .f32) (harg3 : arg3.IsWhole)
  (arg4 : Memref sig .tc .vmem S256x2048 .f32) (harg4 : arg4.IsWhole) (arg5 : Memref sig .tc .vmem S256x128 .f32) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S256x4096 .bf16) (harg8 : arg8.IsWhole) (arg9 : Memref sig .tc .vmem S1x4096 .f32) (harg9 : arg9.IsWhole)
  (arg10 : Memref sig .tc .vmem S1x4096 .f32) (harg10 : arg10.IsWhole) (arg11 : Memref sig .tc .vmem S256x4096 .bf16) (harg11 : arg11.IsWhole)
  (arg12 : Memref sig .tc .vmem S8x128x512 .f32) (harg12 : arg12.IsWhole)
  (x0 x1 : Vec Ideal S256x4096 .f32) (x2 : Vec Ideal S256x2048 .f32) (x3 : Vec Ideal S256x128 .f32) (x4 x5 : Vec Ideal S1x128 .f32)
  (x6 : Vec Ideal S256x4096 .bf16) (x7 x8 : Vec Ideal S1x4096 .f32) (xs0 : Vec Ideal S8x128x512 .f32)

theorem runA_state (hc : cond0_0 i) : (kernelRun0_A (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8).2.1
    = storesA arg12 (readsOf arg2 harg2 arg3 harg3 arg4 harg4 arg5 harg5 arg6 harg6 arg7 harg7 arg8 harg8 arg9 harg9 arg10 harg10 x0 x1 x2 x3 x4 x5 x6 x7 x8) 16 := by sl_kernel_rfl

theorem runA_out (hc : cond0_0 i) : (kernelRun0_A (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8).1
    = outsA arg12 (readsOf arg2 harg2 arg3 harg3 arg4 harg4 arg5 harg5 arg6 harg6 arg7 harg7 arg8 harg8 arg9 harg9 arg10 harg10 x0 x1 x2 x3 x4 x5 x6 x7 x8) 16 := by sl_kernel_rfl

/-- The state's blocks as a step that goes on finds them. -/
def startOf (g : Fin 8) : Vec Ideal S1x128x512 .f32 :=
  View.readAt (Elt Ideal) arg12.view (stateRect g).toLoadRect (harg12.unread xs0)

theorem runB_state (hc : ¬ cond0_0 i) : (kernelRun0_B (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8 xs0).2.1
    = storesB arg12 (readsOf arg2 harg2 arg3 harg3 arg4 harg4 arg5 harg5 arg6 harg6 arg7 harg7 arg8 harg8 arg9 harg9 arg10 harg10 x0 x1 x2 x3 x4 x5 x6 x7 x8) (startOf arg12 harg12 xs0) 16 := by sl_kernel_rfl

theorem runB_out (hc : ¬ cond0_0 i) : (kernelRun0_B (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8 xs0).1
    = outsB arg12 (readsOf arg2 harg2 arg3 harg3 arg4 harg4 arg5 harg5 arg6 harg6 arg7 harg7 arg8 harg8 arg9 harg9 arg10 harg10 x0 x1 x2 x3 x4 x5 x6 x7 x8) (startOf arg12 harg12 xs0) 16 := by sl_kernel_rfl

end Cert.Ssd

end
-- ==== Proof.SsdStep.lean ====
/- What one step of the recurrence's kernel leaves: each group's state after its two chunks, and each group's block of the result. -/
module

public import proofs.«01_k».proof.Proof.SsdPieces
public import Idealize.ShloMosaic.Lib.Pipeline.Value
public import Idealize.ShloMosaic.Lib.WholeRead

@[expose] public section

set_option maxRecDepth 16384

noncomputable section

namespace Cert.Ssd

open Cert.SsdIdeal Cert.SsdIdeal.Gen Idealize.ShloMosaic Idealize.ShloMosaic.TcCoe

attribute [local irreducible] stateOut groupOut

/-- Group `g`'s matrix of the state. -/
def blockOf (s : Vec Ideal S8x128x512 .f32) (g : Fin 8) : Vec Ideal S1x128x512 .f32 := fun x => s ((stateRect g).emb x)

section
variable (R : Fin 2 → Fin 8 → Reads) (st0 : Fin 8 → Vec Ideal S1x128x512 .f32)

/-- Group `g`'s state after `n` stores. -/
def afterN : Nat → Fin 8 → Vec Ideal S1x128x512 .f32
  | 0, g => st0 g
  | n + 1, g => if grp n = g then stateOut (R (chk n) g) (afterN n g) else afterN n g

/-- Group `g`'s state before chunk `q`. -/
def before (q : Fin 2) (g : Fin 8) : Vec Ideal S1x128x512 .f32 := if q = 0 then st0 g else stateOut (R 0 g) (st0 g)

theorem afterN_hit (n : Nat) : afterN R st0 (n + 1) (grp n) = stateOut (R (chk n) (grp n)) (afterN R st0 n (grp n)) := if_pos rfl
theorem afterN_miss (n : Nat) {g : Fin 8} (h : grp n ≠ g) : afterN R st0 (n + 1) g = afterN R st0 n g := if_neg h

theorem afterN_eq (g : Fin 8) : ∀ n, n ≤ 16 → afterN R st0 n g = if n ≤ g.val then st0 g else if n ≤ 8 + g.val then stateOut (R 0 g) (st0 g)
    else stateOut (R 1 g) (stateOut (R 0 g) (st0 g))
  | 0, _ => by simp [afterN]
  | n + 1, h => by
    have ih := afterN_eq g n (by omega)
    unfold afterN
    by_cases e : grp n = g
    · have ev : n % 8 = g.val := congrArg Fin.val e
      rw [if_pos e, ih]
      by_cases h8 : n < 8
      · have hc : chk n = 0 := Fin.ext (by show n / 8 % 2 = 0; omega)
        rw [hc, if_pos (by omega), if_neg (by omega), if_pos (by omega)]
      · have hc : chk n = 1 := Fin.ext (by show n / 8 % 2 = 1; omega)
        rw [hc, if_neg (by omega), if_pos (by omega), if_neg (by omega), if_neg (by omega)]
    · have ev : n % 8 ≠ g.val := fun h => e (Fin.ext h)
      rw [if_neg e, ih]
      by_cases h1 : n ≤ g.val
      · rw [if_pos h1, if_pos (by omega)]
      · by_cases h2 : n ≤ 8 + g.val
        · rw [if_neg h1, if_pos h2, if_neg (by omega), if_pos (by omega)]
        · rw [if_neg h1, if_neg h2, if_neg (by omega), if_neg (by omega)]

theorem afterN_before (n : Nat) (h : n < 16) : afterN R st0 n (grp n) = before R st0 (chk n) (grp n) := by
  rw [afterN_eq R st0 (grp n) n (by omega)]
  have hg : (grp n).val = n % 8 := rfl
  unfold before
  by_cases h8 : n < 8
  · have hc : chk n = 0 := Fin.ext (by show n / 8 % 2 = 0; omega)
    rw [hc, if_pos rfl, if_pos (by omega)]
  · have hc : chk n = 1 := Fin.ext (by show n / 8 % 2 = 1; omega)
    rw [hc, if_neg (by omega), if_pos (by omega), if_neg (by decide)]

theorem afterN_last (g : Fin 8) : afterN R st0 16 g = stateOut (R 1 g) (before R st0 1 g) := by
  rw [afterN_eq R st0 g 16 (by omega), if_neg (by omega), if_neg (by omega)]; rfl

end

theorem not_mem_rect {g g' : Fin 8} (h : g ≠ g') (x : S1x128x512.Idx) : (stateRect g').emb x ∉ (stateRect g).set := by
  intro hm
  obtain ⟨y, hy⟩ := (stateRect g).exists_idx_of_mem hm
  have h0 := congrArg Fin.val (congrFun hy 0)
  have hx : (x 0).val < 1 := (x 0).isLt
  have hyy : (y 0).val < 1 := (y 0).isLt
  have h1 : g.val + 1 * (y 0).val = g'.val + 1 * (x 0).val := h0
  exact h (Fin.ext (by omega))

theorem canon_miss {g g' : Fin 8} (h : g ≠ g') (w : S1x128x512.Idx → Elt Ideal .f32) (L : List (View.Piece (Elt Ideal) S8x128x512 .f32)) (x : S1x128x512.Idx) :
    View.canon ((⟨stateRect g, w⟩ : View.Piece (Elt Ideal) S8x128x512 .f32) :: L) ((stateRect g').emb x) = View.canon L ((stateRect g').emb x) :=
  View.canon_cons_of_not_mem (⟨stateRect g, w⟩ : View.Piece (Elt Ideal) S8x128x512 .f32) L (not_mem_rect h x)

theorem canon_hit (g : Fin 8) (w : S1x128x512.Idx → Elt Ideal .f32) (L : List (View.Piece (Elt Ideal) S8x128x512 .f32)) (x : S1x128x512.Idx) :
    View.canon ((⟨stateRect g, w⟩ : View.Piece (Elt Ideal) S8x128x512 .f32) :: L) ((stateRect g).emb x) = w x :=
  View.canon_cons_emb (stateRect g) w L x

section
variable (arg12 : Memref sig .tc .vmem S8x128x512 .f32) (R : Fin 2 → Fin 8 → Reads)

/-- No state before a sequence. -/
def noState (_ : Fin 8) : Vec Ideal S1x128x512 .f32 := fun _ => Scalar.ofBits (F := Ideal) .f32 0x00000000#32

theorem storesA_zero (y : S8x128x512.Idx) : View.canon (storesA arg12 R 0) y = Scalar.ofBits (F := Ideal) .f32 0x00000000#32 := by
  have e : storesA arg12 R 0 = [⟨Rect.unit (s := S8x128x512) ![0, 0, 0] S8x128x512.size inb_S8x128x512_S8x128x512_0_0_0,
      shapeCast S8x128x512 (broadcast S8x128x512 (Scalar.ofBits (F := Ideal) .f32 0x00000000#32) : FVec Ideal S8x128x512 .f32) shapeCasts_S8x128x512_S8x128x512⟩] := rfl
  rw [e, View.canon_cons_unit_zero (by funext a; fin_cases a <;> rfl)]
  rfl

theorem storesA_succ (n : Nat) : storesA arg12 R (n + 1)
    = ⟨stateRect (grp n), stateOut (R (chk n) (grp n)) (arg12.view.readCov (storesA arg12 R n) (stateRect (grp n)).toLoadRect)⟩ :: storesA arg12 R n := rfl

theorem storesB_succ (st0 : Fin 8 → Vec Ideal S1x128x512 .f32) (n : Nat) : storesB arg12 R st0 (n + 1)
    = ⟨stateRect (grp n), stateOut (R (chk n) (grp n)) (readB arg12 st0 (storesB arg12 R st0 n) n)⟩ :: storesB arg12 R st0 n := rfl

theorem storesA_apply : ∀ (n : Nat) (g : Fin 8) (x : S1x128x512.Idx), View.canon (storesA arg12 R n) ((stateRect g).emb x) = afterN R noState n g x
  | 0, g, x => storesA_zero arg12 R _
  | n + 1, g, x => by
    by_cases e : grp n = g
    · subst e
      rw [storesA_succ, canon_hit, afterN_hit R noState n, View.readCov_eq_canon']
      refine congrFun (congrArg (stateOut _) ?_) x
      funext j
      exact storesA_apply n (grp n) j
    · rw [storesA_succ, canon_miss e, afterN_miss R noState n e]
      exact storesA_apply n g x

theorem blockOf_storesA (n : Nat) (g : Fin 8) : blockOf (View.canon (storesA arg12 R n)) g = afterN R noState n g :=
  funext fun x => storesA_apply arg12 R n g x

theorem readA_eq (n : Nat) (h : n < 16) : arg12.view.readCov (storesA arg12 R n) (stateRect (grp n)).toLoadRect = before R noState (chk n) (grp n) := by
  rw [View.readCov_eq_canon', ← afterN_before R noState n h]
  funext j
  exact storesA_apply arg12 R n (grp n) j

variable (st0 : Fin 8 → Vec Ideal S1x128x512 .f32)

theorem storesB_apply : ∀ (n : Nat), n ≤ 16 → ∀ (g : Fin 8) (x : S1x128x512.Idx), g.val < n →
    View.canon (storesB arg12 R st0 n) ((stateRect g).emb x) = afterN R st0 n g x
  | 0, _, _, _, h => absurd h (Nat.not_lt_zero _)
  | n + 1, hn, g, x, hg => by
    by_cases e : grp n = g
    · subst e
      rw [storesB_succ, canon_hit, afterN_hit]
      refine congrFun (congrArg (stateOut _) ?_) x
      unfold readB
      by_cases h8 : n < 8
      · rw [if_pos h8, afterN_eq R st0 _ n (by omega), if_pos (by show n ≤ n % 8; omega)]
      · rw [if_neg h8, View.readCov_eq_canon']
        funext j
        exact storesB_apply n (by omega) (grp n) j (by show n % 8 < n; omega)
    · have ev : n % 8 ≠ g.val := fun h => e (Fin.ext h)
      rw [storesB_succ, canon_miss e, afterN_miss R _ n e]
      exact storesB_apply n (by omega) g x (by omega)

theorem blockOf_storesB (n : Nat) (hn : n ≤ 16) (g : Fin 8) (hg : g.val < n) : blockOf (View.canon (storesB arg12 R st0 n)) g = afterN R st0 n g :=
  funext fun x => storesB_apply arg12 R st0 n hn g x hg

theorem readB_eq (n : Nat) (h : n < 16) : readB arg12 st0 (storesB arg12 R st0 n) n = before R st0 (chk n) (grp n) := by
  rw [← afterN_before R st0 n h]
  unfold readB
  by_cases h8 : n < 8
  · rw [if_pos h8, afterN_eq R st0 _ n (by omega), if_pos (by show n ≤ n % 8; omega)]
  · rw [if_neg h8, View.readCov_eq_canon']
    funext j
    exact storesB_apply arg12 R st0 n (by omega) (grp n) j (by show n % 8 < n; omega)

/-- The result's block as one function of the index. -/
def stepOut (y : S256x4096.Idx) : EReal :=
  groupOut ⟨(y 1).val / 512, by have : (y 1).val < 4096 := (y 1).isLt; omega⟩
    (R ⟨(y 0).val / 128, by have : (y 0).val < 256 := (y 0).isLt; omega⟩ ⟨(y 1).val / 512, by have : (y 1).val < 4096 := (y 1).isLt; omega⟩)
    (before R st0 ⟨(y 0).val / 128, by have : (y 0).val < 256 := (y 0).isLt; omega⟩ ⟨(y 1).val / 512, by have : (y 1).val < 4096 := (y 1).isLt; omega⟩)
    (ix2 ⟨(y 0).val % 128, by omega⟩ ⟨(y 1).val % 512, by omega⟩)

theorem stepOut_emb (q : Fin 2) (g : Fin 8) (x : S128x512.Idx) :
    groupOut g (R q g) (before R st0 q g) x = stepOut R st0 ((outRect q g).emb x) := by
  have hx0 : (x 0).val < 128 := (x 0).isLt
  have hx1 : (x 1).val < 512 := (x 1).isLt
  have e0 : (((outRect q g).emb x) 0).val = 128 * q.val + 1 * (x 0).val := rfl
  have e1 : (((outRect q g).emb x) 1).val = 512 * g.val + 1 * (x 1).val := rfl
  unfold stepOut
  have h0 : (⟨(((outRect q g).emb x) 0).val / 128, by have : (((outRect q g).emb x) 0).val < 256 := (((outRect q g).emb x) 0).isLt; omega⟩ : Fin 2) = q :=
    Fin.ext (by show (((outRect q g).emb x) 0).val / 128 = _; omega)
  have h1 : (⟨(((outRect q g).emb x) 1).val / 512, by have : (((outRect q g).emb x) 1).val < 4096 := (((outRect q g).emb x) 1).isLt; omega⟩ : Fin 8) = g :=
    Fin.ext (by show (((outRect q g).emb x) 1).val / 512 = _; omega)
  rw [h0, h1]
  refine congrArg _ ?_
  funext a
  match a with
  | ⟨0, _⟩ => exact Fin.ext (by show (x 0).val = (((outRect q g).emb x) 0).val % 128; omega)
  | ⟨1, _⟩ => exact Fin.ext (by show (x 1).val = (((outRect q g).emb x) 1).val % 512; omega)

theorem outsA_pieces : ∀ n, n ≤ 16 → ∀ p ∈ outsA arg12 R n, ∀ x : p.1.shape.Idx, p.2 x = stepOut R noState (p.1.emb x)
  | 0, _, p, hp, _ => absurd hp List.not_mem_nil
  | n + 1, hn, p, hp, x => by
    rcases List.mem_cons.mp hp with rfl | h
    · show groupOut (grp n) (R (chk n) (grp n)) _ x = _
      rw [readA_eq arg12 R n (by omega)]
      exact stepOut_emb R noState (chk n) (grp n) x
    · exact outsA_pieces n (by omega) p h x

theorem outsB_pieces : ∀ n, n ≤ 16 → ∀ p ∈ outsB arg12 R st0 n, ∀ x : p.1.shape.Idx, p.2 x = stepOut R st0 (p.1.emb x)
  | 0, _, p, hp, _ => absurd hp List.not_mem_nil
  | n + 1, hn, p, hp, x => by
    rcases List.mem_cons.mp hp with rfl | h
    · show groupOut (grp n) (R (chk n) (grp n)) _ x = _
      rw [readB_eq arg12 R st0 n (by omega)]
      exact stepOut_emb R st0 (chk n) (grp n) x
    · exact outsB_pieces n (by omega) p h x

end

section
variable (c : Dev nD) (i : grid0.Coords) (arg2 : Memref sig .tc .vmem S256x4096 .f32) (harg2 : arg2.IsWhole) (arg3 : Memref sig .tc .vmem S256x4096 .f32) (harg3 : arg3.IsWhole)
  (arg4 : Memref sig .tc .vmem S256x2048 .f32) (harg4 : arg4.IsWhole) (arg5 : Memref sig .tc .vmem S256x128 .f32) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S256x4096 .bf16) (harg8 : arg8.IsWhole) (arg9 : Memref sig .tc .vmem S1x4096 .f32) (harg9 : arg9.IsWhole)
  (arg10 : Memref sig .tc .vmem S1x4096 .f32) (harg10 : arg10.IsWhole) (arg11 : Memref sig .tc .vmem S256x4096 .bf16) (harg11 : arg11.IsWhole)
  (arg12 : Memref sig .tc .vmem S8x128x512 .f32) (harg12 : arg12.IsWhole)
  (x0 x1 : Vec Ideal S256x4096 .f32) (x2 : Vec Ideal S256x2048 .f32) (x3 : Vec Ideal S256x128 .f32) (x4 x5 : Vec Ideal S1x128 .f32)
  (x6 : Vec Ideal S256x4096 .bf16) (x7 x8 : Vec Ideal S1x4096 .f32) (xs0 : Vec Ideal S8x128x512 .f32)

theorem outA_eq (hc : cond0_0 i) : out0_A_9 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8 = stepOut (readsOf arg2 harg2 arg3 harg3 arg4 harg4 arg5 harg5 arg6 harg6 arg7 harg7 arg8 harg8 arg9 harg9 arg10 harg10 x0 x1 x2 x3 x4 x5 x6 x7 x8) noState := by
  have hcov := cover0_A_9 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8
  have h1 : out0_A_9 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8 = View.canon (kernelRun0_A (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8).1 := View.read_writes_eq_canon _ _ _ hcov
  rw [h1]
  rw [runA_out] at hcov ⊢
  funext y
  exact View.canon_apply_of_pieces _ _ (outsA_pieces arg12 _ 16 le_rfl) y (hcov y)

theorem outB_eq (hc : ¬ cond0_0 i) : out0_B_9 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8 xs0 = stepOut (readsOf arg2 harg2 arg3 harg3 arg4 harg4 arg5 harg5 arg6 harg6 arg7 harg7 arg8 harg8 arg9 harg9 arg10 harg10 x0 x1 x2 x3 x4 x5 x6 x7 x8) (blockOf xs0) := by
  have hcov := cover0_B_9 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8 xs0
  have h1 : out0_B_9 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8 xs0 = View.canon (kernelRun0_B (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8 xs0).1 := View.read_writes_eq_canon _ _ _ hcov
  rw [h1]
  rw [runB_out] at hcov ⊢
  have e : startOf arg12 harg12 xs0 = blockOf xs0 := funext fun g => funext fun x => harg12.readAt_unread xs0 (stateRect g).toLoadRect x
  rw [e] at hcov ⊢
  funext y
  exact View.canon_apply_of_pieces _ _ (outsB_pieces arg12 _ (blockOf xs0) 16 le_rfl) y (hcov y)

theorem stateA_eq (hc : cond0_0 i) (g : Fin 8) : blockOf (sout0_A_0 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8) g
    = stateOut ((readsOf arg2 harg2 arg3 harg3 arg4 harg4 arg5 harg5 arg6 harg6 arg7 harg7 arg8 harg8 arg9 harg9 arg10 harg10 x0 x1 x2 x3 x4 x5 x6 x7 x8) 1 g) (before (readsOf arg2 harg2 arg3 harg3 arg4 harg4 arg5 harg5 arg6 harg6 arg7 harg7 arg8 harg8 arg9 harg9 arg10 harg10 x0 x1 x2 x3 x4 x5 x6 x7 x8) noState 1 g) := by
  have hcov := scover0_A_0 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8
  have h1 : sout0_A_0 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8 = View.canon (kernelRun0_A (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8).2.1 := View.read_writes_eq_canon _ _ _ hcov
  rw [h1, runA_state, ← afterN_last]
  exact blockOf_storesA arg12 _ 16 g

theorem stateB_eq (hc : ¬ cond0_0 i) (g : Fin 8) : blockOf (sout0_B_0 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8 xs0) g
    = stateOut ((readsOf arg2 harg2 arg3 harg3 arg4 harg4 arg5 harg5 arg6 harg6 arg7 harg7 arg8 harg8 arg9 harg9 arg10 harg10 x0 x1 x2 x3 x4 x5 x6 x7 x8) 1 g) (before (readsOf arg2 harg2 arg3 harg3 arg4 harg4 arg5 harg5 arg6 harg6 arg7 harg7 arg8 harg8 arg9 harg9 arg10 harg10 x0 x1 x2 x3 x4 x5 x6 x7 x8) (blockOf xs0) 1 g) := by
  have hcov := scover0_B_0 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8 xs0
  have h1 : sout0_B_0 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8 xs0 = View.canon (kernelRun0_B (F := Ideal) c i arg2 harg2 arg3 harg3 arg4 harg4 arg5 harg5 arg6 harg6 arg7 harg7 arg8 harg8 arg9 harg9 arg10 harg10 arg11 harg11 arg12 harg12 hc x0 x1 x2 x3 x4 x5 x6 x7 x8 xs0).2.1 := View.read_writes_eq_canon _ _ _ hcov
  rw [h1, runB_state, ← afterN_last]
  have e : startOf arg12 harg12 xs0 = blockOf xs0 := funext fun g => funext fun x => harg12.readAt_unread xs0 (stateRect g).toLoadRect x
  rw [e]
  exact blockOf_storesB arg12 _ (blockOf xs0) 16 le_rfl g (by omega)

end

end Cert.Ssd

end
-- ==== Proof.SsdBlocks.lean ====
/- The recurrence's input blocks, as entries of the arguments. -/
module

public import proofs.«01_k».proof.Proof.SsdRead
public import proofs.«01_k».proof.Proof.SsdStep
public import proofs.«01_k».proof.Proof.Gen.SsdIdeal.Value
public import Idealize.ShloMosaic.Lib.Claim
public import Idealize.ShloMosaic.Lib.Pipeline.Value
public import Idealize.ShloMosaic.Lib.Pipeline.ValueKit

@[expose] public section

set_option maxRecDepth 16384

noncomputable section

namespace Cert.Ssd

open Cert.SsdIdeal Cert.SsdIdeal.Gen Idealize.ShloMosaic Idealize.ShloMosaic.TcCoe Idealize.SL.Sem

variable (m : (ℓ : Loc nD τ sig) → Buf (Elt Ideal) ℓ)

/-! ### The arrays of a head or a column -/

theorem bias_entry (c : Dev nD) (h : Fin 64) : V m c main_v2 (ix2 0 (lane h)) = m ((c : Thread nD τ).loc main_arg1) (ix2 0 h) := by
  simp only [V, hostOps0, hostOps0_1, hostOps0_2, hostOps0_3, hostOps0_4, hostOps0_5, hostOps0_6, List.flatten_cons, List.flatten_nil, List.append_nil,
    List.cons_append, List.nil_append]
  entry_read
  simp only [StableHlo.TRef.of, StableHlo.TRef.ofBuf, StableHlo.TRef.toBuf, cast_eq, id_eq]
  unfold lane
  pointwise
  try rw [dif_pos (by omega)]
  try rfl

theorem rate_entry (c : Dev nD) (h : Fin 64) : V m c main_v7 (ix2 0 (lane h)) = -Ideal.exp (m ((c : Thread nD τ).loc main_arg2) (ix2 0 h)) := by
  simp only [V, hostOps0, hostOps0_1, hostOps0_2, hostOps0_3, hostOps0_4, hostOps0_5, hostOps0_6, List.flatten_cons, List.flatten_nil, List.append_nil,
    List.cons_append, List.nil_append]
  entry_read
  simp only [StableHlo.TRef.of, StableHlo.TRef.ofBuf, StableHlo.TRef.toBuf, cast_eq, id_eq]
  unfold lane
  pointwise
  try rw [dif_pos (by omega)]
  try rfl

theorem skip_entry (c : Dev nD) (j : Fin 4096) : V m c main_v11 (ix2 0 j) = m ((c : Thread nD τ).loc main_arg3) (ix2 0 ⟨j.val / 64, by omega⟩) := by
  simp only [V, hostOps0, hostOps0_1, hostOps0_2, hostOps0_3, hostOps0_4, hostOps0_5, hostOps0_6, List.flatten_cons, List.flatten_nil, List.append_nil,
    List.cons_append, List.nil_append]
  entry_read
  try simp only [StableHlo.TRef.of, StableHlo.TRef.ofBuf, StableHlo.TRef.toBuf, cast_eq, id_eq]
  pointwise

theorem weight_entry (c : Dev nD) (j : Fin 4096) : V m c main_v13 (ix2 0 j) = m ((c : Thread nD τ).loc main_arg4) (ix2 0 j) := by
  simp only [V, hostOps0, hostOps0_1, hostOps0_2, hostOps0_3, hostOps0_4, hostOps0_5, hostOps0_6, List.flatten_cons, List.flatten_nil, List.append_nil,
    List.cons_append, List.nil_append]
  entry_read
  try simp only [StableHlo.TRef.of, StableHlo.TRef.ofBuf, StableHlo.TRef.toBuf, cast_eq, id_eq]
  pointwise

theorem one : Ideal.ofBits .f32 0x3F800000#32 = 1 := by simp [Ideal.ofBits, Ideal.ieee, -EReal.coe_mul]; norm_num

theorem eq_word : ∀ a b : Fin 64, IntOp.cmpi CmpIPredicate.eq (BitVec.ofNat 32 a.val) (BitVec.ofNat 32 b.val) = if a.val = b.val then (1#1 : BitVec 1) else 0#1 := by
  decide +kernel
theorem slt_word : ∀ a : Fin 4, IntOp.cmpi CmpIPredicate.slt (BitVec.ofNat 32 a.val) 3#32 = if a.val < 3 then (1#1 : BitVec 1) else 0#1 := by
  decide +kernel

theorem table_entry (c : Dev nD) (x : Fin 256) (j : Fin 4096) :
    V m c main_v23 (ix2 x j) = if x.val < 192 ∧ x.val % 64 = j.val / 64 then (1 : EReal) else 0 := by
  simp only [V, hostOps0, hostOps0_1, hostOps0_2, hostOps0_3, hostOps0_4, hostOps0_5, hostOps0_6, List.flatten_cons, List.flatten_nil, List.append_nil,
    List.cons_append, List.nil_append]
  entry_read
  simp only [StableHlo.TRef.of, StableHlo.TRef.ofBuf, StableHlo.TRef.toBuf, cast_eq, id_eq]
  pointwise [Consts.zero, one]
  have e1 := eq_word ⟨x.val % 64, by omega⟩ ⟨j.val / 64, by omega⟩
  have e2 := slt_word ⟨x.val / 64, by omega⟩
  simp only [] at e1 e2
  rw [e1, e2]
  by_cases h1 : x.val % 64 = j.val / 64 <;> by_cases h2 : x.val / 64 < 3
  · rw [if_pos h1, if_pos h2, if_pos ⟨by omega, h1⟩]; rfl
  · rw [if_pos h1, if_neg h2, if_neg (fun h => h2 (by omega))]; rfl
  · rw [if_neg h1, if_pos h2, if_neg (fun h => h1 h.2)]; rfl
  · rw [if_neg h1, if_neg h2, if_neg (fun h => h1 h.2)]; rfl

/-! ### The blocks -/

theorem idx : ∀ t : Fin cfg0.N, win0_0.index t = ![t.val, 0] ∧ win0_1.index t = ![t.val, 1] ∧ win0_2.index t = ![t.val, 4]
    ∧ win0_3.index t = ![t.val, 80] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, win0_0.index t = ![t.val, 0] ∧ win0_1.index t = ![t.val, 1] ∧ win0_2.index t = ![t.val, 4]
    ∧ win0_3.index t = ![t.val, 80] ∧ win0_4.index t = ![0, 0] ∧ win0_5.index t = ![0, 0] ∧ win0_6.index t = ![0, 0]
    ∧ win0_7.index t = ![0, 0] ∧ win0_8.index t = ![0, 0] ∧ win0_9.index t = ![t.val, 0])

theorem lt64 (t : Fin cfg0.N) : t.val < 64 := lt_of_lt_of_eq t.isLt N_0

theorem gateBlock (c : Dev nD) (t : Fin cfg0.N) (l : Fin 256) (n : Fin 4096) :
    X0_0 m c t (ix2 l n) = m ((c : Thread nD τ).loc main_arg0) (ix2 ⟨256 * t.val + l.val, by have := lt64 t; omega⟩ ⟨n.val, by omega⟩) := by
  refine Eq.trans ?_ (congrFun (V_main_arg0 m c) _)
  unfold X0_0 Pipeline.Window.fill
  rw [dif_pos (moved0_0 t _)]
  blk_ext [iblk, idx t]

theorem valBlock (c : Dev nD) (t : Fin cfg0.N) (l : Fin 256) (n : Fin 4096) :
    X0_1 m c t (ix2 l n) = m ((c : Thread nD τ).loc main_arg0) (ix2 ⟨256 * t.val + l.val, by have := lt64 t; omega⟩ ⟨4096 + n.val, by omega⟩) := by
  refine Eq.trans ?_ (congrFun (V_main_arg0 m c) _)
  unfold X0_1 Pipeline.Window.fill
  rw [dif_pos (moved0_1 t _)]
  blk_ext [iblk, idx t]

theorem vecBlock (c : Dev nD) (t : Fin cfg0.N) (l : Fin 256) (n : Fin 2048) :
    X0_2 m c t (ix2 l n) = m ((c : Thread nD τ).loc main_arg0) (ix2 ⟨256 * t.val + l.val, by have := lt64 t; omega⟩ ⟨8192 + n.val, by omega⟩) := by
  refine Eq.trans ?_ (congrFun (V_main_arg0 m c) _)
  unfold X0_2 Pipeline.Window.fill
  rw [dif_pos (moved0_2 t _)]
  blk_ext [iblk, idx t]

theorem stepBlock (c : Dev nD) (t : Fin cfg0.N) (l : Fin 256) (n : Fin 128) :
    iblk m c 3 t (ix2 l n) = m ((c : Thread nD τ).loc main_arg0) (ix2 ⟨256 * t.val + l.val, by have := lt64 t; omega⟩ ⟨10240 + n.val, by omega⟩) := by
  refine Eq.trans ?_ (congrFun (V_main_arg0 m c) _)
  blk_ext [iblk, idx t]

theorem biasBlock (c : Dev nD) (t : Fin cfg0.N) (h : Fin 64) : iblk m c 4 t (ix2 0 (lane h)) = m ((c : Thread nD τ).loc main_arg1) (ix2 0 h) := by
  refine Eq.trans ?_ (bias_entry m c h)
  blk_ext [iblk, idx t]

theorem rateBlock (c : Dev nD) (t : Fin cfg0.N) (h : Fin 64) : iblk m c 5 t (ix2 0 (lane h)) = -Ideal.exp (m ((c : Thread nD τ).loc main_arg2) (ix2 0 h)) := by
  refine Eq.trans ?_ (rate_entry m c h)
  blk_ext [iblk, idx t]

theorem tableBlock (c : Dev nD) (t : Fin cfg0.N) (x : Fin 256) (j : Fin 4096) :
    iblk m c 6 t (ix2 x j) = if x.val < 192 ∧ x.val % 64 = j.val / 64 then (1 : EReal) else 0 := by
  refine Eq.trans ?_ (table_entry m c x j)
  blk_ext [iblk, idx t]

theorem skipBlock (c : Dev nD) (t : Fin cfg0.N) (j : Fin 4096) : iblk m c 7 t (ix2 0 j) = m ((c : Thread nD τ).loc main_arg3) (ix2 0 ⟨j.val / 64, by omega⟩) := by
  refine Eq.trans ?_ (skip_entry m c j)
  blk_ext [iblk, idx t]

theorem weightBlock (c : Dev nD) (t : Fin cfg0.N) (j : Fin 4096) : iblk m c 8 t (ix2 0 j) = m ((c : Thread nD τ).loc main_arg4) (ix2 0 j) := by
  refine Eq.trans ?_ (weight_entry m c j)
  blk_ext [iblk, idx t]

/-- What a chunk and a group load, from the blocks' entries. -/
theorem readsOf_of (arg2 : Memref sig .tc .vmem S256x4096 .f32) (harg2 : arg2.IsWhole) (arg3 : Memref sig .tc .vmem S256x4096 .f32) (harg3 : arg3.IsWhole)
    (arg4 : Memref sig .tc .vmem S256x2048 .f32) (harg4 : arg4.IsWhole) (arg5 : Memref sig .tc .vmem S256x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S256x4096 .bf16) (harg8 : arg8.IsWhole) (arg9 : Memref sig .tc .vmem S1x4096 .f32) (harg9 : arg9.IsWhole)
    (arg10 : Memref sig .tc .vmem S1x4096 .f32) (harg10 : arg10.IsWhole) (c : Dev nD) (t : Fin cfg0.N) (q : Fin 2) (g : Fin 8) :
    (readsOf arg2 harg2 arg3 harg3 arg4 harg4 arg5 harg5 arg6 harg6 arg7 harg7 arg8 harg8 arg9 harg9 arg10 harg10
      (X0_0 m c t) (X0_1 m c t) (X0_2 m c t) (iblk m c 3 t) (iblk m c 4 t) (iblk m c 5 t) (iblk m c 6 t) (iblk m c 7 t) (iblk m c 8 t) q g).Of
      (fun i j => m ((c : Thread nD τ).loc main_arg0) (ix2 i j)) (fun h => m ((c : Thread nD τ).loc main_arg1) (ix2 0 h))
      (fun h => m ((c : Thread nD τ).loc main_arg2) (ix2 0 h)) (fun h => m ((c : Thread nD τ).loc main_arg3) (ix2 0 h))
      (fun j => m ((c : Thread nD τ).loc main_arg4) (ix2 0 j))
      ⟨t.val / 16, by have := lt64 t; omega⟩ (nth (2 * (t.val % 16) + q.val)) g := by
  have ht := lt64 t
  have rowEq : ∀ l : Fin 128, (⟨256 * t.val + (128 * q.val + l.val), by omega⟩ : Fin 16384)
      = row ⟨t.val / 16, by omega⟩ (nth (2 * (t.val % 16) + q.val)) l := fun l => Fin.ext (by simp only [row, nth]; omega)
  constructor
  · intro l h
    refine (harg5.readAt_unread _ _ _).trans (Eq.trans (congrArg (iblk m c 3 t) (a₂ := ix2 ⟨128 * q.val + l.val, by omega⟩ ⟨h.val, by omega⟩) ?_) ((stepBlock m c t _ _).trans ?_))
    · funext a; refine Fin.ext ?_
      match a with
      | ⟨0, _⟩ => show 128 * q.val + 1 * l.val = _; rw [Nat.one_mul]; rfl
      | ⟨1, _⟩ => show 0 + 1 * h.val = h.val; omega
    · rw [← rowEq l]
  · intro h
    refine (harg6.readAt_unread _ _ _).trans (Eq.trans (congrArg (iblk m c 4 t) (a₂ := ix2 0 (lane h)) ?_) (biasBlock m c t h))
    funext a; refine Fin.ext ?_
    match a with
    | ⟨0, _⟩ => rfl
    | ⟨1, _⟩ => show 0 + 1 * h.val = h.val; omega
  · intro h
    refine (harg7.readAt_unread _ _ _).trans (Eq.trans (congrArg (iblk m c 5 t) (a₂ := ix2 0 (lane h)) ?_) (rateBlock m c t h))
    funext a; refine Fin.ext ?_
    match a with
    | ⟨0, _⟩ => rfl
    | ⟨1, _⟩ => show 0 + 1 * h.val = h.val; omega
  · intro x k
    refine (harg8.readAt_unread _ _ _).trans (Eq.trans (congrArg (iblk m c 6 t) (a₂ := ix2 x (col g k)) ?_) ((tableBlock m c t x (col g k)).trans ?_))
    · funext a; refine Fin.ext ?_
      match a with
      | ⟨0, _⟩ => show 0 + 1 * x.val = x.val; omega
      | ⟨1, _⟩ => show 512 * g.val + 1 * k.val = _; rw [Nat.one_mul]; rfl
    · have e : (col g k).val / 64 = (head g k).val := by simp only [col, head]; omega
      rw [e]
  · intro l k
    refine (harg3.readAt_unread _ _ _).trans (Eq.trans (congrArg (X0_1 m c t) (a₂ := ix2 ⟨128 * q.val + l.val, by omega⟩ (col g k)) ?_) ((valBlock m c t _ _).trans ?_))
    · refine (Rect.idx_withinL _ _ _ _).trans (funext fun a => Fin.ext ?_)
      match a with
      | ⟨0, _⟩ => show 128 * q.val + 1 * (0 + 1 * l.val) = 128 * q.val + l.val; omega
      | ⟨1, _⟩ => show 0 + 1 * (512 * g.val + 1 * k.val) = 512 * g.val + k.val; omega
    · unfold valAt; rw [← rowEq l]; rfl
  · intro l k
    refine (harg4.readAt_unread _ _ _).trans (Eq.trans (congrArg (X0_2 m c t) (a₂ := ix2 ⟨128 * q.val + l.val, by omega⟩ ⟨128 * g.val + k.val, by omega⟩) ?_) ((vecBlock m c t _ _).trans ?_))
    · refine (Rect.idx_withinL _ _ _ _).trans (funext fun a => Fin.ext ?_)
      match a with
      | ⟨0, _⟩ => show 128 * q.val + 1 * (0 + 1 * l.val) = 128 * q.val + l.val; omega
      | ⟨1, _⟩ => show 0 + 1 * (128 * g.val + 1 * k.val) = 128 * g.val + k.val; omega
    · unfold writeAt; rw [← rowEq l]
  · intro l k
    refine (harg4.readAt_unread _ _ _).trans (Eq.trans (congrArg (X0_2 m c t) (a₂ := ix2 ⟨128 * q.val + l.val, by omega⟩ ⟨1024 + (128 * g.val + k.val), by omega⟩) ?_) ((vecBlock m c t _ _).trans ?_))
    · refine (Rect.idx_withinL _ _ _ _).trans (funext fun a => Fin.ext ?_)
      match a with
      | ⟨0, _⟩ => show 128 * q.val + 1 * (0 + 1 * l.val) = 128 * q.val + l.val; omega
      | ⟨1, _⟩ => show 0 + 1 * (1024 + 128 * g.val + 1 * k.val) = 1024 + (128 * g.val + k.val); omega
    · have e : (⟨8192 + (1024 + (128 * g.val + k.val)), by omega⟩ : Fin 17408) = ⟨9216 + (128 * g.val + k.val), by omega⟩ := Fin.ext (by simp only []; omega)
      unfold readAt; rw [← rowEq l]
      exact congrArg (fun j : Fin 17408 => m ((c : Thread nD τ).loc main_arg0) (ix2 _ j)) e
  · intro k
    refine (harg9.readAt_unread _ _ _).trans (Eq.trans (congrArg (iblk m c 7 t) (a₂ := ix2 0 (col g k)) ?_) ((skipBlock m c t _).trans ?_))
    · funext a; refine Fin.ext ?_
      match a with
      | ⟨0, _⟩ => rfl
      | ⟨1, _⟩ => show 512 * g.val + 1 * k.val = _; rw [Nat.one_mul]; rfl
    · have e : (⟨(col g k).val / 64, by omega⟩ : Fin 64) = head g k := Fin.ext (by simp only [col, head]; omega)
      rw [e]
  · intro l k
    refine (harg2.readAt_unread _ _ _).trans (Eq.trans (congrArg (X0_0 m c t) (a₂ := ix2 ⟨128 * q.val + l.val, by omega⟩ (col g k)) ?_) ((gateBlock m c t _ _).trans ?_))
    · refine (Rect.idx_withinL _ _ _ _).trans (funext fun a => Fin.ext ?_)
      match a with
      | ⟨0, _⟩ => show 128 * q.val + 1 * (0 + 1 * l.val) = 128 * q.val + l.val; omega
      | ⟨1, _⟩ => show 0 + 1 * (512 * g.val + 1 * k.val) = 512 * g.val + k.val; omega
    · unfold gateAt; rw [← rowEq l]; rfl
  · intro k
    refine (harg10.readAt_unread _ _ _).trans (Eq.trans (congrArg (iblk m c 8 t) (a₂ := ix2 0 (col g k)) ?_) (weightBlock m c t _))
    funext a; refine Fin.ext ?_
    match a with
    | ⟨0, _⟩ => rfl
    | ⟨1, _⟩ => show 512 * g.val + 1 * k.val = _; rw [Nat.one_mul]; rfl

end Cert.Ssd

end
-- ==== Proof.SsdKernel.lean ====
/- The recurrence's carried state over the grid, and its result's array, by the specification. -/
module

public import proofs.«01_k».proof.Proof.SsdBlocks

@[expose] public section

set_option maxRecDepth 16384

noncomputable section

namespace Cert.Ssd

open Cert.SsdIdeal Cert.SsdIdeal.Gen Idealize.ShloMosaic Idealize.ShloMosaic.TcCoe Idealize.SL.Sem

/-! ### One grid step -/

section
variable {P : Fin 16384 → Fin 17408 → EReal} {bias al skip : Fin 64 → EReal} {w : Fin 4096 → EReal}
variable {b : Fin 4} {j : Nat} {R : Fin 2 → Fin 8 → Reads} (hR : ∀ q g, (R q g).Of P bias al skip w b (nth (j + q.val)) g)
variable {st0 : Fin 8 → Vec Ideal S1x128x512 .f32} (hst : ∀ g n k, Twin (st0 g (ix3 0 n k)) (stateAt P bias al b j g n k))
include hR hst

theorem before_apply (q : Fin 2) (g : Fin 8) (n : Fin 128) (k : Fin 512) :
    Twin (before R st0 q g (ix3 0 n k)) (stateAt P bias al b (j + q.val) g n k) := by
  unfold before
  by_cases h : q = 0
  · subst h
    rw [if_pos rfl]; exact hst g n k
  · obtain rfl : q = 1 := by omega
    rw [if_neg h]
    exact stateOut_apply (hR 0 g) (st0 g) _ (hst g) n k

theorem after_apply (g : Fin 8) (n : Fin 128) (k : Fin 512) :
    Twin (stateOut (R 1 g) (before R st0 1 g) (ix3 0 n k)) (stateAt P bias al b (j + 2) g n k) :=
  stateOut_apply (hR 1 g) _ _ (before_apply hR hst 1 g) n k

theorem stepOut_apply (q : Fin 2) (l : Fin 128) (g : Fin 8) (k : Fin 512) :
    stepOut R st0 (ix2 ⟨128 * q.val + l.val, by omega⟩ (col g k)) = resultAt P bias al skip w (fun n k => stateAt P bias al b (j + q.val) g n k) b (nth (j + q.val)) g l k := by
  have e : (outRect q g).emb (ix2 l k) = ix2 ⟨128 * q.val + l.val, by omega⟩ (col g k) := by
    funext a; refine Fin.ext ?_
    match a with
    | ⟨0, _⟩ => show 128 * q.val + 1 * l.val = 128 * q.val + l.val; omega
    | ⟨1, _⟩ => show 512 * g.val + 1 * k.val = 512 * g.val + k.val; omega
  have h0 : stepOut R st0 (ix2 ⟨128 * q.val + l.val, by omega⟩ (col g k)) = groupOut g (R q g) (before R st0 q g) (ix2 l k) :=
    (congrArg (stepOut R st0) e).symm.trans (stepOut_emb R st0 q g (ix2 l k)).symm
  exact h0.trans (groupOut_apply (hR q g) _ _ (before_apply hR hst q g) l k)

end

/-! ### Over the grid -/

variable (m : (ℓ : Loc nD τ sig) → Buf (Elt Ideal) ℓ) (c : Dev nD)

abbrev mA (i : Fin 16384) (j : Fin 17408) : EReal := m ((c : Thread nD τ).loc main_arg0) (ix2 i j)
abbrev mB (h : Fin 64) : EReal := m ((c : Thread nD τ).loc main_arg1) (ix2 0 h)
abbrev mL (h : Fin 64) : EReal := m ((c : Thread nD τ).loc main_arg2) (ix2 0 h)
abbrev mK (h : Fin 64) : EReal := m ((c : Thread nD τ).loc main_arg3) (ix2 0 h)
abbrev mW (j : Fin 4096) : EReal := m ((c : Thread nD τ).loc main_arg4) (ix2 0 j)

/-- A grid step's sequence. -/
def seqOf (t : Nat) : Fin 4 := ⟨t / 16 % 4, by omega⟩

theorem seqOf_eq (t : Fin cfg0.N) (h) : (⟨t.val / 16, h⟩ : Fin 4) = seqOf t.val := Fin.ext (by have := lt64 t; simp only [seqOf]; omega)

theorem none_apply (b : Fin 4) (g : Fin 8) (n : Fin 128) (k : Fin 512) : Twin (noState g (ix3 0 n k)) (stateAt (mA m c) (mB m c) (mL m c) b 0 g n k) := Or.inl Consts.zero

/-- The carried state after a grid step. -/
theorem carried : ∀ (n : Nat) (hn : n < cfg0.N) (g : Fin 8) (x : Fin 128) (k : Fin 512),
    Twin (blockOf (outsAt0 m c n hn).2 g (ix3 0 x k)) (stateAt (mA m c) (mB m c) (mL m c) (seqOf n) (2 * (n % 16) + 2) g x k) := by
  intro n
  induction n using Nat.strong_induction_on with
  | _ n ih =>
    intro hn g x k
    by_cases h0 : n % 16 = 0
    · rw [show outsAt0 m c n hn = _ from outsAt0_A m c ⟨n, hn⟩ h0]
      dsimp only
      rw [stateA_eq, h0]
      refine after_apply (skip := mK m c) (w := mW m c) (b := seqOf n) (j := 2 * 0) (fun q g => ?_) (fun g x k => none_apply m c _ g x k) g x k
      have H := readsOf_of m _ (hs0_0 ⟨n, hn⟩) _ (hs0_1 ⟨n, hn⟩) _ (hs0_2 ⟨n, hn⟩) _ (hs0_3 ⟨n, hn⟩) _ (hs0_4 ⟨n, hn⟩) _ (hs0_5 ⟨n, hn⟩) _ (hs0_6 ⟨n, hn⟩) _ (hs0_7 ⟨n, hn⟩) _ (hs0_8 ⟨n, hn⟩) c ⟨n, hn⟩ q g
      rw [seqOf_eq ⟨n, hn⟩, show (⟨n, hn⟩ : Fin cfg0.N).val % 16 = 0 from h0] at H
      exact H
    · rw [show outsAt0 m c n hn = _ from outsAt0_B m c ⟨n, hn⟩ h0]
      dsimp only
      rw [stateB_eq]
      refine after_apply (skip := mK m c) (w := mW m c) (b := seqOf n) (j := 2 * (n % 16)) (fun q g => ?_) (fun g x k => ?_) g x k
      · have H := readsOf_of m _ (hs0_0 ⟨n, hn⟩) _ (hs0_1 ⟨n, hn⟩) _ (hs0_2 ⟨n, hn⟩) _ (hs0_3 ⟨n, hn⟩) _ (hs0_4 ⟨n, hn⟩) _ (hs0_5 ⟨n, hn⟩) _ (hs0_6 ⟨n, hn⟩) _ (hs0_7 ⟨n, hn⟩) _ (hs0_8 ⟨n, hn⟩) c ⟨n, hn⟩ q g
        rw [seqOf_eq ⟨n, hn⟩] at H
        exact H
      · have hi := ih (n - 1) (by omega) (by omega) g x k
        rw [show seqOf (n - 1) = seqOf n from Fin.ext (by simp only [seqOf]; omega), show 2 * ((n - 1) % 16) + 2 = 2 * (n % 16) by omega] at hi
        exact hi

/-- The result's block of a grid step. -/
theorem block_apply (t : Fin cfg0.N) (q : Fin 2) (l : Fin 128) (g : Fin 8) (k : Fin 512) :
    (outsAt0 m c t.val t.isLt).1 (ix2 ⟨128 * q.val + l.val, by omega⟩ (col g k))
      = resultAt (mA m c) (mB m c) (mL m c) (mK m c) (mW m c) (fun n k => stateAt (mA m c) (mB m c) (mL m c) (seqOf t.val) (2 * (t.val % 16) + q.val) g n k)
        (seqOf t.val) (nth (2 * (t.val % 16) + q.val)) g l k := by
  have HR := fun q g => readsOf_of m _ (hs0_0 t) _ (hs0_1 t) _ (hs0_2 t) _ (hs0_3 t) _ (hs0_4 t) _ (hs0_5 t) _ (hs0_6 t) _ (hs0_7 t) _ (hs0_8 t) c t q g
  rw [seqOf_eq t] at HR
  by_cases h0 : t.val % 16 = 0
  · rw [outsAt0_A m c t h0]
    dsimp only
    rw [outA_eq]
    refine stepOut_apply (b := seqOf t.val) (j := 2 * (t.val % 16)) HR (fun g x k => ?_) q l g k
    rw [h0]
    exact none_apply m c _ g x k
  · rw [outsAt0_B m c t h0]
    dsimp only
    rw [outB_eq]
    refine stepOut_apply (b := seqOf t.val) (j := 2 * (t.val % 16)) HR (fun g x k => ?_) q l g k
    have hi := carried m c (t.val - 1) (by omega) g x k
    rw [show seqOf (t.val - 1) = seqOf t.val from Fin.ext (by simp only [seqOf]; omega), show 2 * ((t.val - 1) % 16) + 2 = 2 * (t.val % 16) by omega] at hi
    exact hi

/-- The result's array. -/
theorem array_apply (b : Fin 4) (d : Fin 32) (l : Fin 128) (g : Fin 8) (k : Fin 512) :
    ((dats m 0 c).arrAt 9 cfg0.N : S16384x4096.Idx → EReal) (ix2 (row b d l) (col g k))
      = resultAt (mA m c) (mB m c) (mL m c) (mK m c) (mW m c) (fun n k => stateAt (mA m c) (mB m c) (mL m c) b d.val g n k) b d g l k := by
  have hlt : 16 * b.val + d.val / 2 < cfg0.N := lt_of_lt_of_eq (show 16 * b.val + d.val / 2 < 64 by omega) N_0.symm
  have hp : Value.pt9Of (ix2 (row b d l) (col g k)) = 16 * b.val + d.val / 2 := by
    show 1 * ((row b d l).val / 256 - 0) + 1 * ((col g k).val / 4096 - 0) = _
    simp only [row, col]; omega
  have hpt : Value.pt9Of (ix2 (row b d l) (col g k)) < cfg0.N := lt_of_eq_of_lt hp hlt
  have hloc : Value.loc9Of (ix2 (row b d l) (col g k)) = ix2 ⟨128 * (d.val % 2) + l.val, by omega⟩ (col g k) := by
    funext a; refine Fin.ext ?_
    match a with
    | ⟨0, _⟩ => show (row b d l).val % 256 = 128 * (d.val % 2) + l.val; simp only [row]; omega
    | ⟨1, _⟩ => show (col g k).val % 4096 = (col g k).val; exact Nat.mod_eq_of_lt (col g k).isLt
  have key := block_apply m c ⟨16 * b.val + d.val / 2, hlt⟩ ⟨d.val % 2, by omega⟩ l g k
  have es : seqOf (16 * b.val + d.val / 2) = b := Fin.ext (by simp only [seqOf]; omega)
  have ed : 2 * ((16 * b.val + d.val / 2) % 16) + d.val % 2 = d.val := by omega
  have en : nth d.val = d := Fin.ext (Nat.mod_eq_of_lt d.isLt)
  simp only [es, ed, en] at key
  rw [Value.final9]
  refine (dif_pos hpt).trans (Eq.trans ?_ key)
  rw [hloc, Value.fold0_congr m c _ (by omega) _ (by omega) hp, ← Value.outsAt0_sweep m c _ hlt]

end Cert.Ssd

end
-- ==== Proof.SsdRefStage.lean ====
/- The reference's recurrence, cut into named stages, and each stage at an index. -/
module

public import proofs.«01_k».proof.Proof.Gen.SsdReferenceIdeal.Run
public import proofs.«01_k».proof.Proof.Consts
public import Idealize.ShloMosaic.Lib.Pointwise

@[expose] public section

set_option maxRecDepth 16384

noncomputable section

namespace Cert.SsdRef

open Cert.SsdReferenceIdeal Cert.SsdReferenceIdeal.Gen Cert.SsdReferenceIdeal.Value Idealize.ShloMosaic Idealize.ShloMosaic.TcCoe

/-- The projections, one row of tokens for every sequence. -/
def rows (A : S16384x17408.Idx → EReal) : S4x4096x17408.Idx → EReal := shapeCast _ A shapeCasts_S16384x17408_S4x4096x17408

def gates (A : S16384x17408.Idx → EReal) : S4x4096x4096.Idx → EReal :=
  extractStridedSlice S4x4096x4096 ![0, 0, 0] (rows A) slices_S4x4096x17408_S4x4096x4096_0_0_0

def vals (A : S16384x17408.Idx → EReal) : S4x4096x64x64.Idx → EReal :=
  shapeCast _ (extractStridedSlice S4x4096x4096 ![0, 0, 4096] (rows A) slices_S4x4096x17408_S4x4096x4096_0_0_4096) shapeCasts_S4x4096x4096_S4x4096x64x64

def writes (A : S16384x17408.Idx → EReal) : S4x32x128x8x128.Idx → EReal :=
  shapeCast _ (extractStridedSlice S4x4096x1024 ![0, 0, 8192] (rows A) slices_S4x4096x17408_S4x4096x1024_0_0_8192) shapeCasts_S4x4096x1024_S4x32x128x8x128

def reads (A : S16384x17408.Idx → EReal) : S4x32x128x8x128.Idx → EReal :=
  shapeCast _ (extractStridedSlice S4x4096x1024 ![0, 0, 9216] (rows A) slices_S4x4096x17408_S4x4096x1024_0_0_9216) shapeCasts_S4x4096x1024_S4x32x128x8x128

/-- The step sizes before the softplus. -/
def raws (A : S16384x17408.Idx → EReal) (B : S1x64.Idx → EReal) : S4x4096x64.Idx → EReal :=
  addf (F := Ideal) (φ := .f32) (extractStridedSlice S4x4096x64 ![0, 0, 10240] (rows A) slices_S4x4096x17408_S4x4096x64_0_0_10240)
    (broadcastInDim S4x4096x64 ![0, 1, 2] bcast_S1x1x64_S4x4096x64_0_1_2 (broadcastInDim S1x1x64 ![2] bcast_S64_S1x1x64_2 (shapeCast _ B shapeCasts_S1x64_S64)))

def zeros : S4x4096x64.Idx → EReal := broadcastInDim S4x4096x64 ![] bcast_S_S4x4096x64 (constant (F := Ideal) S_ .f32 0x00000000#32)

/-- The softplus. -/
def softs (v : S4x4096x64.Idx → EReal) : S4x4096x64.Idx → EReal :=
  select (cmpf (F := Ideal) (φ := .f32) .une (subf (F := Ideal) (φ := .f32) v zeros) (subf (F := Ideal) (φ := .f32) v zeros)) (addf (F := Ideal) (φ := .f32) v zeros)
    (addf (F := Ideal) (φ := .f32) (maximumf (F := Ideal) (φ := .f32) v zeros)
      (Host.log1p (F := Ideal) (φ := .f32) (Host.exp (F := Ideal) (φ := .f32) (Host.negf (F := Ideal) (φ := .f32) (Host.absf (F := Ideal) (φ := .f32) (subf (F := Ideal) (φ := .f32) v zeros))))))

/-- The values times the step sizes. -/
def scaled (X : S4x4096x64x64.Idx → EReal) (D : S4x4096x64.Idx → EReal) : S4x32x128x8x8x64.Idx → EReal :=
  shapeCast _ (mulf (F := Ideal) (φ := .f32) X (broadcastInDim S4x4096x64x64 ![0, 1, 2, 3] bcast_S4x4096x64x1_S4x4096x64x64_0_1_2_3
    (broadcastInDim S4x4096x64x1 ![0, 1, 2] bcast_S4x4096x64_S4x4096x64x1_0_1_2 D))) shapeCasts_S4x4096x64x64_S4x32x128x8x8x64

/-- The step sizes times the rates. -/
def logs (D : S4x4096x64.Idx → EReal) (L : S1x64.Idx → EReal) : S4x8x8x32x128.Idx → EReal :=
  transpose S4x8x8x32x128 [0, 3, 4, 1, 2] (shapeCast S4x32x128x8x8 (mulf (F := Ideal) (φ := .f32) D (broadcastInDim S4x4096x64 ![0, 1, 2] bcast_S1x1x64_S4x4096x64_0_1_2
    (broadcastInDim S1x1x64 ![2] bcast_S64_S1x1x64_2 (Host.negf (F := Ideal) (φ := .f32) (Host.exp (F := Ideal) (φ := .f32) (shapeCast S64 L shapeCasts_S1x64_S64))))))
    shapeCasts_S4x4096x64_S4x32x128x8x8) transposes_S4x32x128x8x8_S4x8x8x32x128_0_3_4_1_2

/-- The running sums. -/
def cums (G : S4x8x8x32x128.Idx → EReal) : S4x8x8x32x128.Idx → EReal :=
  Host.reduceWindowAdd (F := Ideal) (φ := .f32) ![1, 1, 1, 1, 128] ![1, 1, 1, 1, 1] ![0, 0, 0, 0, 127] ![0, 0, 0, 0, 0] G
    (broadcastInDim S_ ![] bcast_S_S_ (constant (F := Ideal) S_ .f32 0x00000000#32))
    reduceWindows_S4x8x8x32x128_S4x8x8x32x128_w1s1p0_0_w1s1p0_0_w1s1p0_0_w1s1p0_0_w128s1p127_0 h_S_

def below : S128x128.Idx → BitVec 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

def gaps (C : S4x8x8x32x128.Idx → EReal) : S4x8x8x32x128x128.Idx → EReal :=
  subf (F := Ideal) (φ := .f32)
    (broadcastInDim S4x8x8x32x128x128 ![0, 1, 2, 3, 4, 5] bcast_S4x8x8x32x128x1_S4x8x8x32x128x128_0_1_2_3_4_5 (broadcastInDim S4x8x8x32x128x1 ![0, 1, 2, 3, 4] bcast_S4x8x8x32x128_S4x8x8x32x128x1_0_1_2_3_4 C))
    (broadcastInDim S4x8x8x32x128x128 ![0, 1, 2, 3, 4, 5] bcast_S4x8x8x32x1x128_S4x8x8x32x128x128_0_1_2_3_4_5 (broadcastInDim S4x8x8x32x1x128 ![0, 1, 2, 3, 5] bcast_S4x8x8x32x128_S4x8x8x32x1x128_0_1_2_3_5 C))

def masked (C : S4x8x8x32x128.Idx → EReal) : S4x8x8x32x128x128.Idx → EReal :=
  select (broadcastInDim S4x8x8x32x128x128 ![4, 5] bcast_S128x128_S4x8x8x32x128x128_4_5 below) (gaps C)
    (broadcastInDim S4x8x8x32x128x128 ![] bcast_S_S4x8x8x32x128x128 (constant (F := Ideal) S_ .f32 0xFF800000#32))

def grams (W R : S4x32x128x8x128.Idx → EReal) : S4x32x8x128x128.Idx → EReal :=
  Host.dotGeneral (F := Ideal) (φ₁ := .f32) (φ₂ := .f32) dot_S4x32x128x8x128_S4x32x128x8x128_S4x32x8x128x128_4_4_2_2_013_013 none R W

/-- A chunk's result from its own tokens. -/
def owns (X : S4x32x128x8x8x64.Idx → EReal) (W R : S4x32x128x8x128.Idx → EReal) (C : S4x8x8x32x128.Idx → EReal) : S4x32x128x8x8x64.Idx → EReal :=
  transpose S4x32x128x8x8x64 [0, 1, 5, 2, 3, 4] (Host.dotGeneral (F := Ideal) (φ₁ := .f32) (φ₂ := .f32) dot_S4x32x128x8x8x64_S4x8x8x32x128x128_S4x32x8x8x64x128_2_5_5_4_0134_0312 none X
    (mulf (F := Ideal) (φ := .f32) (broadcastInDim S4x8x8x32x128x128 ![0, 1, 2, 3, 4, 5] bcast_S4x8x1x32x128x128_S4x8x8x32x128x128_0_1_2_3_4_5
      (broadcastInDim S4x8x1x32x128x128 ![0, 1, 3, 4, 5] bcast_S4x8x32x128x128_S4x8x1x32x128x128_0_1_3_4_5
        (transpose S4x8x32x128x128 [0, 2, 1, 3, 4] (grams W R) transposes_S4x32x8x128x128_S4x8x32x128x128_0_2_1_3_4)))
      (Host.exp (F := Ideal) (φ := .f32) (masked C)))) transposes_S4x32x8x8x64x128_S4x32x128x8x8x64_0_1_5_2_3_4

def lasts (C : S4x8x8x32x128.Idx → EReal) : S4x8x8x32x1.Idx → EReal :=
  extractStridedSlice S4x8x8x32x1 ![0, 0, 0, 0, 127] C slices_S4x8x8x32x128_S4x8x8x32x1_0_0_0_0_127

/-- A factor of every token and head, over the head's channels. -/
def spread (E : S4x8x8x32x128.Idx → EReal) : S4x32x128x8x8x64.Idx → EReal :=
  broadcastInDim S4x32x128x8x8x64 ![0, 1, 2, 3, 4, 5] bcast_S4x32x128x8x8x1_S4x32x128x8x8x64_0_1_2_3_4_5 (broadcastInDim S4x32x128x8x8x1 ![0, 1, 2, 3, 4] bcast_S4x32x128x8x8_S4x32x128x8x8x1_0_1_2_3_4
    (transpose S4x32x128x8x8 [0, 3, 4, 1, 2] E transposes_S4x8x8x32x128_S4x32x128x8x8_0_3_4_1_2))

/-- What a chunk adds to the state. -/
def addeds (X : S4x32x128x8x8x64.Idx → EReal) (W : S4x32x128x8x128.Idx → EReal) (C : S4x8x8x32x128.Idx → EReal) : S32x4x8x8x64x128.Idx → EReal :=
  Host.dotGeneral (F := Ideal) (φ₁ := .f32) (φ₂ := .f32) dot_S4x32x128x8x8x64_S4x32x128x8x128_S32x4x8x8x64x128_2_2_45_4_103_103 none
    (mulf (F := Ideal) (φ := .f32) (spread (Host.exp (F := Ideal) (φ := .f32) (subf (F := Ideal) (φ := .f32)
      (broadcastInDim S4x8x8x32x128 ![0, 1, 2, 3, 4] bcast_S4x8x8x32x1_S4x8x8x32x128_0_1_2_3_4 (lasts C)) C))) X) W

/-- The decay of a chunk. -/
def decays (C : S4x8x8x32x128.Idx → EReal) : S32x4x8x8.Idx → EReal :=
  transpose S32x4x8x8 [3, 0, 1, 2] (Host.exp (F := Ideal) (φ := .f32) (shapeCast S4x8x8x32 (lasts C) shapeCasts_S4x8x8x32x1_S4x8x8x32)) transposes_S4x8x8x32_S32x4x8x8_3_0_1_2

/-- The gated result from the states before the chunks. -/
def mixed (S : S32x4x8x8x64x128.Idx → EReal) (R : S4x32x128x8x128.Idx → EReal) (C : S4x8x8x32x128.Idx → EReal) (O : S4x32x128x8x8x64.Idx → EReal)
    (X : S4x4096x64x64.Idx → EReal) (G : S4x4096x4096.Idx → EReal) (K : S1x64.Idx → EReal) : S4x4096x8x512.Idx → EReal :=
  mulf (F := Ideal) (φ := .f32) (shapeCast S4x4096x8x512 (addf (F := Ideal) (φ := .f32)
    (shapeCast S4x4096x64x64 (addf (F := Ideal) (φ := .f32) O (mulf (F := Ideal) (φ := .f32)
      (transpose S4x32x128x8x8x64 [0, 1, 5, 2, 3, 4] (Host.dotGeneral (F := Ideal) (φ₁ := .f32) (φ₂ := .f32) dot_S32x4x8x8x64x128_S4x32x128x8x128_S4x32x8x8x64x128_5_4_34_2_102_013 none S R)
        transposes_S4x32x8x8x64x128_S4x32x128x8x8x64_0_1_5_2_3_4)
      (spread (Host.exp (F := Ideal) (φ := .f32) C)))) shapeCasts_S4x32x128x8x8x64_S4x4096x64x64)
    (mulf (F := Ideal) (φ := .f32) (broadcastInDim S4x4096x64x64 ![0, 1, 2, 3] bcast_S1x1x64x1_S4x4096x64x64_0_1_2_3 (broadcastInDim S1x1x64x1 ![2, 3] bcast_S64x1_S1x1x64x1_2_3
      (broadcastInDim S64x1 ![0] bcast_S64_S64x1_0 (shapeCast S64 K shapeCasts_S1x64_S64)))) X)) shapeCasts_S4x4096x64x64_S4x4096x8x512)
    (shapeCast S4x4096x8x512 G shapeCasts_S4x4096x4096_S4x4096x8x512)

def squares (M : S4x4096x8x512.Idx → EReal) : S4x4096x8.Idx → EReal :=
  Host.reduceAdd (F := Ideal) (φ := .f32) (mulf (F := Ideal) (φ := .f32) M M) (constant S_ .f32 0x00000000#32) reducesTo_S4x4096x8x512_S4x4096x8_d3 h_S_

/-- The group's norm. -/
def normed (M : S4x4096x8x512.Idx → EReal) (W : S1x4096.Idx → EReal) : S16384x4096.Idx → EReal :=
  truncf (F := Ideal) .bf16 (shapeCast _ (mulf (F := Ideal) (φ := .f32) (shapeCast S4x4096x4096 (mulf (F := Ideal) (φ := .f32) M
    (broadcastInDim S4x4096x8x512 ![0, 1, 2, 3] bcast_S4x4096x8x1_S4x4096x8x512_0_1_2_3 (Host.rsqrt (F := Ideal) (φ := .f32) (addf (F := Ideal) (φ := .f32)
      (Host.divf (F := Ideal) (φ := .f32) (broadcastInDim S4x4096x8x1 ![0, 1, 2] bcast_S4x4096x8_S4x4096x8x1_0_1_2 (squares M))
        (broadcastInDim S4x4096x8x1 ![] bcast_S_S4x4096x8x1 (constant S_ .f32 0x44000000#32)))
      (broadcastInDim S4x4096x8x1 ![] bcast_S_S4x4096x8x1 (constant S_ .f32 0x3727C5AC#32)))))) shapeCasts_S4x4096x8x512_S4x4096x4096)
    (broadcastInDim S4x4096x4096 ![0, 1, 2] bcast_S1x1x4096_S4x4096x4096_0_1_2 (broadcastInDim S1x1x4096 ![2] bcast_S4096_S1x1x4096_2
      (shapeCast S4096 W shapeCasts_S1x4096_S4096)))) shapeCasts_S4x4096x4096_S16384x4096) bitsLt_bf16_f32

/-! ### The stages at an index -/

theorem vals_apply (A) (b : Fin 4) (i : Fin 4096) (h k : Fin 64) :
    vals A (ix4 b i h k) = A (ix2 ⟨b.val * 4096 + i.val, by omega⟩ ⟨4096 + (h.val * 64 + k.val), by omega⟩) := by
  unfold vals rows; pointwise

theorem gates_apply (A) (b : Fin 4) (i n : Fin 4096) : gates A (ix3 b i n) = A (ix2 ⟨b.val * 4096 + i.val, by omega⟩ ⟨n.val, by omega⟩) := by
  unfold gates rows; pointwise

theorem writes_apply (A) (b : Fin 4) (c : Fin 32) (l : Fin 128) (g : Fin 8) (n : Fin 128) :
    writes A (ix5 b c l g n) = A (ix2 ⟨b.val * 4096 + (c.val * 128 + l.val), by omega⟩ ⟨8192 + (g.val * 128 + n.val), by omega⟩) := by
  unfold writes rows; pointwise

theorem reads_apply (A) (b : Fin 4) (c : Fin 32) (l : Fin 128) (g : Fin 8) (n : Fin 128) :
    reads A (ix5 b c l g n) = A (ix2 ⟨b.val * 4096 + (c.val * 128 + l.val), by omega⟩ ⟨9216 + (g.val * 128 + n.val), by omega⟩) := by
  unfold reads rows; pointwise

theorem raws_apply (A B) (b : Fin 4) (i : Fin 4096) (h : Fin 64) :
    raws A B (ix3 b i h) = A (ix2 ⟨b.val * 4096 + i.val, by omega⟩ ⟨10240 + h.val, by omega⟩) + B (ix2 0 h) := by
  unfold raws rows; pointwise

theorem softs_apply (v) (b : Fin 4) (i : Fin 4096) (h : Fin 64) :
    softs v (ix3 b i h) = max (v (ix3 b i h)) 0 + Ideal.log1p (Ideal.exp (0 - max (v (ix3 b i h)) (-(v (ix3 b i h))))) := by
  unfold softs zeros; pointwise [Consts.zero]
  rw [if_neg (fun h => h rfl), zero_sub]
  rfl

theorem scaled_apply (X D) (b : Fin 4) (c : Fin 32) (l : Fin 128) (g r : Fin 8) (k : Fin 64) :
    scaled X D (ix6 b c l g r k) = X (ix4 b ⟨c.val * 128 + l.val, by omega⟩ ⟨g.val * 8 + r.val, by omega⟩ k) * D (ix3 b ⟨c.val * 128 + l.val, by omega⟩ ⟨g.val * 8 + r.val, by omega⟩) := by
  unfold scaled; pointwise

theorem logs_apply (D L) (b : Fin 4) (g r : Fin 8) (c : Fin 32) (l : Fin 128) :
    logs D L (ix5 b g r c l) = D (ix3 b ⟨c.val * 128 + l.val, by omega⟩ ⟨g.val * 8 + r.val, by omega⟩) * (-Ideal.exp (L (ix2 0 ⟨g.val * 8 + r.val, by omega⟩))) := by
  unfold logs; pointwise

theorem grams_apply (W R) (b : Fin 4) (c : Fin 32) (g : Fin 8) (l s : Fin 128) :
    grams W R (ix5 b c g l s) = ∑ n : Fin 128, R (ix5 b c l g n) * W (ix5 b c s g n) := by
  unfold grams; pointwise

theorem word_below : ∀ l s : Fin 128, IntOp.cmpi CmpIPredicate.sge (IntOp.addi (BitVec.ofNat 32 l.val) 0#32) (BitVec.ofNat 32 s.val) = if s.val ≤ l.val then (1#1 : BitVec 1) else 0#1 := by
  decide +kernel

theorem below_apply (l s : Fin 128) : below (ix2 l s) = if s.val ≤ l.val then (1#1 : BitVec 1) else 0#1 := by
  unfold below; pointwise
  rw [word_below]
  split <;> rfl

theorem masked_apply (C) (b : Fin 4) (g r : Fin 8) (c : Fin 32) (l s : Fin 128) :
    masked C (ix6 b g r c l s) = if s.val ≤ l.val then C (ix5 b g r c l) - C (ix5 b g r c s) else ⊥ := by
  unfold masked gaps; pointwise [below_apply]
  split
  · rfl
  · exact Consts.negInf

theorem owns_apply (X W R C) (b : Fin 4) (c : Fin 32) (l : Fin 128) (g r : Fin 8) (k : Fin 64) :
    owns X W R C (ix6 b c l g r k) = ∑ s : Fin 128, X (ix6 b c s g r k) * (grams W R (ix5 b c g l s) * Ideal.exp (masked C (ix6 b g r c l s))) := by
  unfold owns; pointwise

theorem spread_apply (E) (b : Fin 4) (c : Fin 32) (l : Fin 128) (g r : Fin 8) (k : Fin 64) : spread E (ix6 b c l g r k) = E (ix5 b g r c l) := by
  unfold spread; pointwise

theorem lasts_apply (C) (b : Fin 4) (g r : Fin 8) (c : Fin 32) : lasts C (ix5 b g r c 0) = C (ix5 b g r c 127) := by
  unfold lasts; pointwise

theorem addeds_apply (X W C) (c : Fin 32) (b : Fin 4) (g r : Fin 8) (k : Fin 64) (n : Fin 128) :
    addeds X W C (ix6 c b g r k n) = ∑ l : Fin 128, Ideal.exp (C (ix5 b g r c 127) - C (ix5 b g r c l)) * X (ix6 b c l g r k) * W (ix5 b c l g n) := by
  unfold addeds; pointwise [spread_apply, lasts_apply]

theorem decays_apply (C) (c : Fin 32) (b : Fin 4) (g r : Fin 8) : decays C (ix4 c b g r) = Ideal.exp (C (ix5 b g r c 127)) := by
  unfold decays; pointwise [lasts_apply]

theorem mixed_apply (S R C O X G K) (b : Fin 4) (c : Fin 32) (l : Fin 128) (g r : Fin 8) (k : Fin 64) :
    mixed S R C O X G K (ix4 b ⟨c.val * 128 + l.val, by omega⟩ g ⟨r.val * 64 + k.val, by omega⟩)
      = (O (ix6 b c l g r k) + (∑ n : Fin 128, S (ix6 c b g r k n) * R (ix5 b c l g n)) * Ideal.exp (C (ix5 b g r c l))
        + K (ix2 0 ⟨g.val * 8 + r.val, by omega⟩) * X (ix4 b ⟨c.val * 128 + l.val, by omega⟩ ⟨g.val * 8 + r.val, by omega⟩ k))
        * G (ix3 b ⟨c.val * 128 + l.val, by omega⟩ ⟨g.val * 512 + (r.val * 64 + k.val), by omega⟩) := by
  unfold mixed; pointwise [spread_apply]
  have e : (r.val * 64 + k.val) / 64 = r.val := by omega
  simp only [e]

theorem lift_last (h : S4x4096x8x512.Reduces [3] S4x4096x8) (a : Fin 4) (b : Fin 4096) (g : Fin 8) (k : Fin 512) : h.lift (ix3 a b g) k = ix4 a b g k := by
  funext x; apply Fin.ext
  match x with
  | ⟨0, _⟩ => rfl
  | ⟨1, _⟩ => rfl
  | ⟨2, _⟩ => rfl
  | ⟨3, _⟩ => rfl

theorem squares_apply (M) (b : Fin 4) (t : Fin 4096) (g : Fin 8) : squares M (ix3 b t g) = ∑ k : Fin 512, M (ix4 b t g k) * M (ix4 b t g k) := by
  refine (Ideal.hostReduceAdd_single reducesTo_S4x4096x8x512_S4x4096x8_d3 (by decide) _ _ _).trans ?_
  refine (congrArg (· + _) Consts.zero).trans ((zero_add _).trans ?_)
  exact Finset.sum_congr rfl fun k _ => congrArg (mulf (F := Ideal) (φ := .f32) M M) (lift_last (by decide) b t g k)

theorem normed_apply (M W) (b : Fin 4) (t : Fin 4096) (g : Fin 8) (k : Fin 512) :
    normed M W (ix2 ⟨b.val * 4096 + t.val, by omega⟩ ⟨g.val * 512 + k.val, by omega⟩)
      = M (ix4 b t g k) * Ideal.rsqrt (Ideal.div (∑ k : Fin 512, M (ix4 b t g k) * M (ix4 b t g k)) (Ideal.ofBits .f32 0x44000000#32) + Ideal.ofBits .f32 0x3727C5AC#32)
        * W (ix2 0 ⟨g.val * 512 + k.val, by omega⟩) := by
  unfold normed; pointwise [squares_apply]

/-! ### The running sums -/

theorem foldl_add {α : Type} (f : α → EReal) (L : List α) (v : EReal) : L.foldl (fun r n => r + f n) v = v + (L.map f).sum := by
  induction L generalizing v with
  | nil => simp
  | cons a L ih => rw [List.foldl_cons, ih, List.map_cons, List.sum_cons, add_assoc]

/-- The window's positions. -/
def lane : Fin 128 ≃ (⟨5, ![1, 1, 1, 1, 128]⟩ : Shape).Idx where
  toFun w := ix5 0 0 0 0 w
  invFun i := i 4
  left_inv _ := rfl
  right_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Subsingleton.elim (α := Fin 1) _ _
    | ⟨4, _⟩ => rfl

theorem sum_window (x : Fin 128 → EReal) (l : Fin 128) :
    (∑ w : Fin 128, if h : 127 ≤ l.val + w.val then x ⟨l.val + w.val - 127, by omega⟩ else 0) = ∑ s : Fin 128, if s.val ≤ l.val then x s else 0 := by
  rw [← Finset.sum_filter]
  have e : ∀ w : Fin 128, (if h : 127 ≤ l.val + w.val then x ⟨l.val + w.val - 127, by omega⟩ else 0)
      = if 127 ≤ l.val + w.val then x ⟨l.val + w.val - 127, by omega⟩ else 0 := fun w => by split <;> rfl
  rw [Finset.sum_congr rfl fun w _ => e w, ← Finset.sum_filter]
  refine Finset.sum_bij' (fun w _ => ⟨l.val + w.val - 127, by omega⟩) (fun s _ => ⟨(s.val + 127 - l.val) % 128, by omega⟩) ?_ ?_ ?_ ?_ ?_
  · intro w hw; simp only [Finset.mem_filter, Finset.mem_univ, true_and] at hw ⊢; omega
  · intro s hs; simp only [Finset.mem_filter, Finset.mem_univ, true_and] at hs ⊢; omega
  · intro w hw; simp only [Finset.mem_filter, Finset.mem_univ, true_and] at hw; apply Fin.ext; simp only []; omega
  · intro s hs; simp only [Finset.mem_filter, Finset.mem_univ, true_and] at hs; apply Fin.ext; simp only []; omega
  · intro w hw; rfl

theorem cums_apply (G) (b : Fin 4) (g r : Fin 8) (c : Fin 32) (l : Fin 128) :
    cums G (ix5 b g r c l) = ∑ s : Fin 128, if s.val ≤ l.val then G (ix5 b g r c s) else 0 := by
  refine Eq.trans ?_ (sum_window (fun s => G (ix5 b g r c s)) l)
  unfold cums Host.reduceWindowAdd
  rw [Ideal.hostReduceWindowAdd_def]
  unfold Ideal.hostReduceWindowAdd Host.reduceWindow
  refine (foldl_add _ _ _).trans ((congrArg (· + _) Consts.zero).trans ((zero_add _).trans ?_))
  rw [← List.ofFn_eq_map, List.sum_ofFn]
  refine ((Equiv.sum_comp (lane.trans (Shape.rowMajor _)) _).symm).trans (Finset.sum_congr rfl fun w _ => ?_)
  have hw : (⟨5, ![1, 1, 1, 1, 128]⟩ : Shape).rowMajor.symm ((lane.trans (⟨5, ![1, 1, 1, 1, 128]⟩ : Shape).rowMajor) w) = lane w := Equiv.symm_apply_apply _ _
  have hw0 : ∀ a : Fin 5, (((⟨5, ![1, 1, 1, 1, 128]⟩ : Shape).rowMajor.symm ((lane.trans (⟨5, ![1, 1, 1, 1, 128]⟩ : Shape).rowMajor) w)) a).val = (lane w a).val :=
    fun a => congrArg (fun i : (⟨5, ![1, 1, 1, 1, 128]⟩ : Shape).Idx => (i a).val) hw
  have hl := l.isLt
  have hn := w.isLt
  by_cases h : 127 ≤ l.val + w.val
  · rw [dif_pos h, dif_pos (fun a => ?_)]
    · refine congrArg G (funext fun a => Fin.ext ?_)
      match a with
      | ⟨0, _⟩ => exact congrArg (fun n => b.val * 1 + n - 0) (hw0 0) |>.trans (Nat.mul_one _)
      | ⟨1, _⟩ => exact congrArg (fun n => g.val * 1 + n - 0) (hw0 1) |>.trans (Nat.mul_one _)
      | ⟨2, _⟩ => exact congrArg (fun n => r.val * 1 + n - 0) (hw0 2) |>.trans (Nat.mul_one _)
      | ⟨3, _⟩ => exact congrArg (fun n => c.val * 1 + n - 0) (hw0 3) |>.trans (Nat.mul_one _)
      | ⟨4, _⟩ => exact congrArg (fun n => l.val * 1 + n - 127) (hw0 4) |>.trans (show l.val * 1 + w.val - 127 = _ by rw [Nat.mul_one]; rfl)
    · match a with
      | ⟨0, _⟩ => exact ⟨Nat.zero_le _, lt_of_eq_of_lt (congrArg (fun n => b.val * 1 + n - 0) (hw0 0) |>.trans (Nat.mul_one _)) b.isLt⟩
      | ⟨1, _⟩ => exact ⟨Nat.zero_le _, lt_of_eq_of_lt (congrArg (fun n => g.val * 1 + n - 0) (hw0 1) |>.trans (Nat.mul_one _)) g.isLt⟩
      | ⟨2, _⟩ => exact ⟨Nat.zero_le _, lt_of_eq_of_lt (congrArg (fun n => r.val * 1 + n - 0) (hw0 2) |>.trans (Nat.mul_one _)) r.isLt⟩
      | ⟨3, _⟩ => exact ⟨Nat.zero_le _, lt_of_eq_of_lt (congrArg (fun n => c.val * 1 + n - 0) (hw0 3) |>.trans (Nat.mul_one _)) c.isLt⟩
      | ⟨4, _⟩ =>
        have e := congrArg (fun n => l.val * 1 + n) (hw0 4)
        have e' : (lane w 4).val = w.val := rfl
        refine ⟨le_of_le_of_eq (show 127 ≤ l.val * 1 + (lane w 4).val by rw [e']; omega) e.symm, lt_of_eq_of_lt (congrArg (fun n => n - 127) e) ?_⟩
        show l.val * 1 + (lane w 4).val - 127 < 128
        rw [e']; omega
  · rw [dif_neg h, dif_neg (fun H => h ?_)]
    · exact Consts.zero
    · have e := congrArg (fun n => l.val * 1 + n) (hw0 4)
      have e' : (lane w 4).val = w.val := rfl
      have := le_of_le_of_eq (H 4).1 e
      change 127 ≤ l.val * 1 + (lane w 4).val at this
      rw [e'] at this; omega

end Cert.SsdRef

end
-- ==== Proof.SsdRefLoop.lean ====
/- The reference's buffers: before its loop over the chunks, through the loop, and after it. -/
module

public import proofs.«01_k».proof.Proof.SsdRefStage
public import proofs.«01_k».proof.Proof.SsdSpec
public import Idealize.ShloMosaic.Lib.Pipeline.Value
public import Idealize.ShloMosaic.Lib.WordCmp
public import Idealize.ShloMosaic.Lib.DynamicIndex

@[expose] public section

set_option maxRecDepth 16384

noncomputable section

namespace Cert.SsdRef

open Cert.SsdReferenceIdeal Cert.SsdReferenceIdeal.Gen Cert.SsdReferenceIdeal.Value Idealize.ShloMosaic Idealize.ShloMosaic.TcCoe
open Idealize.ShloMosaic.StableHlo Cert.Ssd

/-! ### Each stretch before the loop, from any contents -/

variable (V : Valuation τ sig (Elt Ideal))

theorem w0_gates : after (hostOps0 (F := Ideal)) V (Proc.devRef .tc main_v1) = gates (V (Proc.devRef .tc main_arg0)) := by after_results <;> rfl
theorem w0_vals : after (hostOps0 (F := Ideal)) V (Proc.devRef .tc main_v2)
    = extractStridedSlice S4x4096x4096 ![0, 0, 4096] (rows (V (Proc.devRef .tc main_arg0))) slices_S4x4096x17408_S4x4096x4096_0_0_4096 := by after_results <;> rfl
theorem w0_writes : after (hostOps0 (F := Ideal)) V (Proc.devRef .tc main_v3)
    = extractStridedSlice S4x4096x1024 ![0, 0, 8192] (rows (V (Proc.devRef .tc main_arg0))) slices_S4x4096x17408_S4x4096x1024_0_0_8192 := by after_results <;> rfl
theorem w0_reads : after (hostOps0 (F := Ideal)) V (Proc.devRef .tc main_v4)
    = extractStridedSlice S4x4096x1024 ![0, 0, 9216] (rows (V (Proc.devRef .tc main_arg0))) slices_S4x4096x17408_S4x4096x1024_0_0_9216 := by after_results <;> rfl
theorem w0_raws : after (hostOps0 (F := Ideal)) V (Proc.devRef .tc main_v9) = raws (V (Proc.devRef .tc main_arg0)) (V (Proc.devRef .tc main_arg1)) := by
  after_results <;> rfl

theorem w1_softs : after (hostOps0_1 (F := Ideal)) V (Proc.devRef .tc main_v10) = softs (V (Proc.devRef .tc main_v9)) := by
  after_results <;> rfl

theorem w2_vals : after (hostOps0_2 (F := Ideal)) V (Proc.devRef .tc main_v14) = shapeCast _ (V (Proc.devRef .tc main_v2)) shapeCasts_S4x4096x4096_S4x4096x64x64 := by
  after_results <;> rfl
theorem w2_scaled : after (hostOps0_2 (F := Ideal)) V (Proc.devRef .tc main_v18)
    = scaled (shapeCast _ (V (Proc.devRef .tc main_v2)) shapeCasts_S4x4096x4096_S4x4096x64x64) (V (Proc.devRef .tc main_v10)) := by after_results <;> rfl
theorem w2_logs : after (hostOps0_2 (F := Ideal)) V (Proc.devRef .tc main_v23) = logs (V (Proc.devRef .tc main_v10)) (V (Proc.devRef .tc main_arg2)) := by
  after_results <;> rfl
theorem w2_writes : after (hostOps0_2 (F := Ideal)) V (Proc.devRef .tc main_v24)
    = shapeCast _ (V (Proc.devRef .tc main_v3)) shapeCasts_S4x4096x1024_S4x32x128x8x128 := by after_results <;> rfl
theorem w2_reads : after (hostOps0_2 (F := Ideal)) V (Proc.devRef .tc main_v25)
    = shapeCast _ (V (Proc.devRef .tc main_v4)) shapeCasts_S4x4096x1024_S4x32x128x8x128 := by after_results <;> rfl

theorem w3_cums : after (hostOps0_3 (F := Ideal)) V (Proc.devRef .tc main_v26) = cums (V (Proc.devRef .tc main_v23)) := by after_results <;> rfl

theorem w5_below : after (hostOps0_5 (F := Ideal)) (after (hostOps0_4 (F := Ideal)) V) (Proc.devRef .tc main_v28) = below := by after_results <;> rfl

theorem w6_gaps : after (hostOps0_6 (F := Ideal)) V (Proc.devRef .tc main_v33) = gaps (V (Proc.devRef .tc main_v26)) := by after_results <;> rfl
theorem w6_inf : after (hostOps0_6 (F := Ideal)) V (Proc.devRef .tc main_cst) = constant (F := Ideal) S_ .f32 0xFF800000#32 := by after_results <;> rfl

theorem w7_masked : after (hostOps0_7 (F := Ideal)) V (Proc.devRef .tc main_v34)
    = select (broadcastInDim S4x8x8x32x128x128 ![4, 5] bcast_S128x128_S4x8x8x32x128x128_4_5 (V (Proc.devRef .tc main_v28))) (V (Proc.devRef .tc main_v33))
      (broadcastInDim S4x8x8x32x128x128 ![] bcast_S_S4x8x8x32x128x128 (V (Proc.devRef .tc main_cst))) := by after_results <;> rfl

theorem w8_owns (X W R C) (h0 : V (Proc.devRef .tc main_v18) = X) (h1 : V (Proc.devRef .tc main_v24) = W) (h2 : V (Proc.devRef .tc main_v25) = R)
    (h3 : V (Proc.devRef .tc main_v34) = masked C) : after (hostOps0_8 (F := Ideal)) V (Proc.devRef .tc main_v42) = owns X W R C := by
  subst h0 h1 h2
  unfold owns
  rw [← h3]
  after_results <;> rfl
theorem w8_addeds : after (hostOps0_8 (F := Ideal)) V (Proc.devRef .tc main_v58_0)
    = addeds (V (Proc.devRef .tc main_v18)) (V (Proc.devRef .tc main_v24)) (V (Proc.devRef .tc main_v26)) := by after_results <;> rfl
theorem w8_decays : after (hostOps0_8 (F := Ideal)) V (Proc.devRef .tc main_v58_1) = decays (V (Proc.devRef .tc main_v26)) := by after_results <;> rfl
theorem w8_start : after (hostOps0_8 (F := Ideal)) V (Proc.devRef .tc main_v58_3) = fun _ => Ideal.ofBits .f32 0x00000000#32 := by after_results <;> rfl

theorem w9_result (M) (hM : mixed (V (Proc.devRef .tc main_v58_4)) (V (Proc.devRef .tc main_v25)) (V (Proc.devRef .tc main_v26)) (V (Proc.devRef .tc main_v42))
      (V (Proc.devRef .tc main_v14)) (V (Proc.devRef .tc main_v1)) (V (Proc.devRef .tc main_arg3)) = M) :
    after (hostOps0_9 (F := Ideal)) V (Proc.devRef .tc main_v93) = normed M (V (Proc.devRef .tc main_arg4)) := by
  subst hM
  after_results <;> rfl

/-! ### What each stretch keeps -/

theorem k0 (r : Ref sig .tc) (h : r ∉ hostOps0_W) : after (hostOps0 (F := Ideal)) V (Proc.devRef .tc r) = V (Proc.devRef .tc r) := after_of_writes_sub _ V hostOps0_writes h
theorem k1 (r : Ref sig .tc) (h : r ∉ hostOps0_1_W) : after (hostOps0_1 (F := Ideal)) V (Proc.devRef .tc r) = V (Proc.devRef .tc r) := after_of_writes_sub _ V hostOps0_1_writes h
theorem k2 (r : Ref sig .tc) (h : r ∉ hostOps0_2_W) : after (hostOps0_2 (F := Ideal)) V (Proc.devRef .tc r) = V (Proc.devRef .tc r) := after_of_writes_sub _ V hostOps0_2_writes h
theorem k3 (r : Ref sig .tc) (h : r ∉ hostOps0_3_W) : after (hostOps0_3 (F := Ideal)) V (Proc.devRef .tc r) = V (Proc.devRef .tc r) := after_of_writes_sub _ V hostOps0_3_writes h
theorem k4 (r : Ref sig .tc) (h : r ∉ hostOps0_4_W) : after (hostOps0_4 (F := Ideal)) V (Proc.devRef .tc r) = V (Proc.devRef .tc r) := after_of_writes_sub _ V hostOps0_4_writes h
theorem k5 (r : Ref sig .tc) (h : r ∉ hostOps0_5_W) : after (hostOps0_5 (F := Ideal)) V (Proc.devRef .tc r) = V (Proc.devRef .tc r) := after_of_writes_sub _ V hostOps0_5_writes h
theorem k6 (r : Ref sig .tc) (h : r ∉ hostOps0_6_W) : after (hostOps0_6 (F := Ideal)) V (Proc.devRef .tc r) = V (Proc.devRef .tc r) := after_of_writes_sub _ V hostOps0_6_writes h
theorem k7 (r : Ref sig .tc) (h : r ∉ hostOps0_7_W) : after (hostOps0_7 (F := Ideal)) V (Proc.devRef .tc r) = V (Proc.devRef .tc r) := after_of_writes_sub _ V hostOps0_7_writes h
theorem k8 (r : Ref sig .tc) (h : r ∉ hostOps0_8_W) : after (hostOps0_8 (F := Ideal)) V (Proc.devRef .tc r) = V (Proc.devRef .tc r) := after_of_writes_sub _ V hostOps0_8_writes h

/-! ### The contents at the loop's entry -/

variable (m : (ℓ : Loc nD τ sig) → Buf (Elt Ideal) ℓ) (c : Dev nD)

def s0 : Valuation τ sig (Elt Ideal) := after hostOps0 (launchContents m c)
def s1 : Valuation τ sig (Elt Ideal) := after hostOps0_1 (s0 m c)
def s2 : Valuation τ sig (Elt Ideal) := after hostOps0_2 (s1 m c)
def s3 : Valuation τ sig (Elt Ideal) := after hostOps0_3 (s2 m c)
def s4 : Valuation τ sig (Elt Ideal) := after hostOps0_4 (s3 m c)
def s5 : Valuation τ sig (Elt Ideal) := after hostOps0_5 (s4 m c)
def s6 : Valuation τ sig (Elt Ideal) := after hostOps0_6 (s5 m c)
def s7 : Valuation τ sig (Elt Ideal) := after hostOps0_7 (s6 m c)
def s8 : Valuation τ sig (Elt Ideal) := after hostOps0_8 (s7 m c)

theorem entry_eq : entryContents preI m c = s8 m c := rfl

abbrev inA : S16384x17408.Idx → EReal := m ((c : Thread nD τ).loc main_arg0)
abbrev inB : S1x64.Idx → EReal := m ((c : Thread nD τ).loc main_arg1)
abbrev inL : S1x64.Idx → EReal := m ((c : Thread nD τ).loc main_arg2)
abbrev inK : S1x64.Idx → EReal := m ((c : Thread nD τ).loc main_arg3)
abbrev inW : S1x4096.Idx → EReal := m ((c : Thread nD τ).loc main_arg4)

/-- The step sizes. -/
def dts : S4x4096x64.Idx → EReal := softs (raws (inA m c) (inB m c))
/-- The running sums of the decays' logarithms. -/
def sums : S4x8x8x32x128.Idx → EReal := cums (logs (dts m c) (inL m c))
def scaleds : S4x32x128x8x8x64.Idx → EReal := scaled (vals (inA m c)) (dts m c)

theorem s1_dts : s1 m c (Proc.devRef .tc main_v10) = dts m c := (w1_softs _).trans (congrArg softs (w0_raws _))
theorem s2_vals : s2 m c (Proc.devRef .tc main_v14) = vals (inA m c) :=
  (w2_vals _).trans (congrArg (shapeCast _ · shapeCasts_S4x4096x4096_S4x4096x64x64) ((k1 _ main_v2 (by decide)).trans (w0_vals _)))
theorem s2_scaled : s2 m c (Proc.devRef .tc main_v18) = scaleds m c :=
  (w2_scaled _).trans (congrArg₂ scaled (congrArg (shapeCast _ · shapeCasts_S4x4096x4096_S4x4096x64x64) ((k1 _ main_v2 (by decide)).trans (w0_vals _))) (s1_dts m c))
theorem s2_logs : s2 m c (Proc.devRef .tc main_v23) = logs (dts m c) (inL m c) :=
  (w2_logs _).trans (congrArg₂ logs (s1_dts m c) ((k1 _ main_arg2 (by decide)).trans (k0 _ main_arg2 (by decide))))
theorem s2_writes : s2 m c (Proc.devRef .tc main_v24) = writes (inA m c) :=
  (w2_writes _).trans (congrArg (shapeCast _ · shapeCasts_S4x4096x1024_S4x32x128x8x128) ((k1 _ main_v3 (by decide)).trans (w0_writes _)))
theorem s2_reads : s2 m c (Proc.devRef .tc main_v25) = reads (inA m c) :=
  (w2_reads _).trans (congrArg (shapeCast _ · shapeCasts_S4x4096x1024_S4x32x128x8x128) ((k1 _ main_v4 (by decide)).trans (w0_reads _)))
theorem s3_sums : s3 m c (Proc.devRef .tc main_v26) = sums m c := (w3_cums _).trans (congrArg cums (s2_logs m c))

/-- What the stretches after the running sums keep, up to the last before the loop. -/
theorem s7_keep (r : Ref sig .tc) (h4 : r ∉ hostOps0_4_W) (h5 : r ∉ hostOps0_5_W) (h6 : r ∉ hostOps0_6_W) (h7 : r ∉ hostOps0_7_W) :
    s7 m c (Proc.devRef .tc r) = s3 m c (Proc.devRef .tc r) :=
  (k7 _ r h7).trans ((k6 _ r h6).trans ((k5 _ r h5).trans (k4 _ r h4)))

theorem s7_sums : s7 m c (Proc.devRef .tc main_v26) = sums m c := (s7_keep m c _ (by decide) (by decide) (by decide) (by decide)).trans (s3_sums m c)
theorem s7_scaled : s7 m c (Proc.devRef .tc main_v18) = scaleds m c :=
  (s7_keep m c _ (by decide) (by decide) (by decide) (by decide)).trans ((k3 _ _ (by decide)).trans (s2_scaled m c))
theorem s7_writes : s7 m c (Proc.devRef .tc main_v24) = writes (inA m c) :=
  (s7_keep m c _ (by decide) (by decide) (by decide) (by decide)).trans ((k3 _ _ (by decide)).trans (s2_writes m c))
theorem s7_reads : s7 m c (Proc.devRef .tc main_v25) = reads (inA m c) :=
  (s7_keep m c _ (by decide) (by decide) (by decide) (by decide)).trans ((k3 _ _ (by decide)).trans (s2_reads m c))
theorem s7_vals : s7 m c (Proc.devRef .tc main_v14) = vals (inA m c) :=
  (s7_keep m c _ (by decide) (by decide) (by decide) (by decide)).trans ((k3 _ _ (by decide)).trans (s2_vals m c))
theorem s7_gates : s7 m c (Proc.devRef .tc main_v1) = gates (inA m c) :=
  (s7_keep m c _ (by decide) (by decide) (by decide) (by decide)).trans ((k3 _ _ (by decide)).trans ((k2 _ _ (by decide)).trans ((k1 _ _ (by decide)).trans (w0_gates _))))
theorem s7_masked : s7 m c (Proc.devRef .tc main_v34) = masked (sums m c) := by
  have h1 : s6 m c (Proc.devRef .tc main_v28) = below := (k6 _ _ (by decide)).trans (w5_below _)
  have h2 : s6 m c (Proc.devRef .tc main_v33) = gaps (sums m c) := (w6_gaps _).trans (congrArg gaps ((k5 _ _ (by decide)).trans ((k4 _ _ (by decide)).trans (s3_sums m c))))
  refine (w7_masked _).trans ?_
  rw [h1, h2, show s6 m c (Proc.devRef .tc main_cst) = _ from w6_inf _]
  rfl

def ownAll : S4x32x128x8x8x64.Idx → EReal := owns (scaleds m c) (writes (inA m c)) (reads (inA m c)) (sums m c)
def addAll : S32x4x8x8x64x128.Idx → EReal := addeds (scaleds m c) (writes (inA m c)) (sums m c)
def decayAll : S32x4x8x8.Idx → EReal := decays (sums m c)

theorem e_owns : entryContents preI m c (Proc.devRef .tc main_v42) = ownAll m c :=
  w8_owns _ _ _ _ _ (s7_scaled m c) (s7_writes m c) (s7_reads m c) (s7_masked m c)
theorem e_addeds : entryContents preI m c (Proc.devRef .tc main_v58_0) = addAll m c := by
  refine (w8_addeds (s7 m c)).trans ?_
  rw [s7_scaled, s7_writes, s7_sums]; rfl
theorem e_decays : entryContents preI m c (Proc.devRef .tc main_v58_1) = decayAll m c := (w8_decays (s7 m c)).trans (congrArg decays (s7_sums m c))
theorem e_start : entryContents preI m c (Proc.devRef .tc main_v58_3) = fun _ => (0 : EReal) := (w8_start (s7 m c)).trans (funext fun _ => Consts.zero)
theorem e_sums : entryContents preI m c (Proc.devRef .tc main_v26) = sums m c := (k8 _ _ (by decide)).trans (s7_sums m c)
theorem e_reads : entryContents preI m c (Proc.devRef .tc main_v25) = reads (inA m c) := (k8 _ _ (by decide)).trans (s7_reads m c)
theorem e_vals : entryContents preI m c (Proc.devRef .tc main_v14) = vals (inA m c) := (k8 _ _ (by decide)).trans (s7_vals m c)
theorem e_gates : entryContents preI m c (Proc.devRef .tc main_v1) = gates (inA m c) := (k8 _ _ (by decide)).trans (s7_gates m c)

/-- The stretches before the loop keep an argument. -/
theorem e_keep (r : Ref sig .tc) (h0 : r ∉ hostOps0_W) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h7 : r ∉ hostOps0_7_W) (h8 : r ∉ hostOps0_8_W) :
    entryContents preI m c (Proc.devRef .tc r) = m ((c : Thread nD τ).loc r) :=
  (k8 _ r h8).trans ((s7_keep m c r h4 h5 h6 h7).trans ((k3 _ r h3).trans ((k2 _ r h2).trans ((k1 _ r h1).trans (k0 _ r h0)))))

/-! ### The loop -/

/-- One trip keeps what its stretches do not write. -/
theorem trip_keep (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, after_of_writes_sub _ _ condOps_writes hc,
      trip_keep r hc h0 h1 h2 h3 h4 k]
    rfl

theorem iv_nat : ∀ k : Fin 32, (Scf.iv 0#32 1#32 k.val).toInt = k.val := by decide +kernel

theorem fits4 (k : Fin 32) : S32x4x8x8.Slices ![k.val, 0, 0, 0] S1x4x8x8 := ⟨rfl, fun a => by
  have := k.isLt
  match a with
  | ⟨0, _⟩ => show k.val + 1 ≤ 32; omega
  | ⟨1, _⟩ => exact Nat.le_refl 4
  | ⟨2, _⟩ => exact Nat.le_refl 8
  | ⟨3, _⟩ => exact Nat.le_refl 8⟩

theorem fits6 (k : Fin 32) : S32x4x8x8x64x128.Slices ![k.val, 0, 0, 0, 0, 0] S1x4x8x8x64x128 := ⟨rfl, fun a => by
  have := k.isLt
  match a with
  | ⟨0, _⟩ => show k.val + 1 ≤ 32; omega
  | ⟨1, _⟩ => exact Nat.le_refl 4
  | ⟨2, _⟩ => exact Nat.le_refl 8
  | ⟨3, _⟩ => exact Nat.le_refl 8
  | ⟨4, _⟩ => exact Nat.le_refl 64
  | ⟨5, _⟩ => exact Nat.le_refl 128⟩

theorem start4 (k : Fin 32) (v : S_.Idx → BitVec 32) (hv : v = fun _ => Scf.iv 0#32 1#32 k.val) (a : Fin 4) :
    ((![v, constantI S_ 32 0#32, constantI S_ 32 0#32, constantI S_ 32 0#32] : Fin 4 → (⟨S_, .i32⟩ : BufTy).Contents (Elt Ideal)) a (Shape.Idx.first h_S_)).toInt
      = ((![k.val, 0, 0, 0] : Fin 4 → Nat) a : Int) := by
  subst hv
  match a with
  | ⟨0, _⟩ => exact iv_nat k
  | ⟨1, _⟩ => rfl
  | ⟨2, _⟩ => rfl
  | ⟨3, _⟩ => rfl

theorem start6 (k : Fin 32) (v : S_.Idx → BitVec 32) (hv : v = fun _ => Scf.iv 0#32 1#32 k.val) (a : Fin 6) :
    ((![v, constantI S_ 32 0#32, constantI S_ 32 0#32, constantI S_ 32 0#32, constantI S_ 32 0#32, constantI S_ 32 0#32] : Fin 6 → (⟨S_, .i32⟩ : BufTy).Contents (Elt Ideal)) a (Shape.Idx.first h_S_)).toInt
      = ((![k.val, 0, 0, 0, 0, 0] : Fin 6 → Nat) a : Int) := by
  subst hv
  match a with
  | ⟨0, _⟩ => exact iv_nat k
  | ⟨1, _⟩ => rfl
  | ⟨2, _⟩ => rfl
  | ⟨3, _⟩ => rfl
  | ⟨4, _⟩ => rfl
  | ⟨5, _⟩ => rfl

/-- One trip's state, from where it reads. -/
def nextState (S : S4x8x8x64x128.Idx → EReal) (D : S32x4x8x8.Idx → EReal) (E : S32x4x8x8x64x128.Idx → EReal) (p4 : Fin 4 → Int) (p6 : Fin 6 → Int) : S4x8x8x64x128.Idx → EReal :=
  addf (F := Ideal) (φ := .f32) (mulf (F := Ideal) (φ := .f32) S (broadcastInDim S4x8x8x64x128 ![0, 1, 2, 3, 4] bcast_S4x8x8x1x1_S4x8x8x64x128_0_1_2_3_4
    (broadcastInDim S4x8x8x1x1 ![0, 1, 2] bcast_S4x8x8_S4x8x8x1x1_0_1_2 (shapeCast S4x8x8 (Host.dynamicSlice S1x4x8x8 D p4 sliceFits_S32x4x8x8_S1x4x8x8) shapeCasts_S1x4x8x8_S4x8x8))))
    (shapeCast S4x8x8x64x128 (Host.dynamicSlice S1x4x8x8x64x128 E p6 sliceFits_S32x4x8x8x64x128_S1x4x8x8x64x128) shapeCasts_S1x4x8x8x64x128_S4x8x8x64x128)

theorem nextState_apply (S D E) (p4 : Fin 4 → Int) (p6 : Fin 6 → Int) (k : Fin 32) (h4 : ∀ a, p4 a = ((![k.val, 0, 0, 0] : Fin 4 → Nat) a : Int))
    (h6 : ∀ a, p6 a = ((![k.val, 0, 0, 0, 0, 0] : Fin 6 → Nat) a : Int)) (b : Fin 4) (g r : Fin 8) (d : Fin 64) (n : Fin 128) :
    nextState S D E p4 p6 (ix5 b g r d n) = S (ix5 b g r d n) * D (ix4 k b g r) + E (ix6 k b g r d n) := by
  have hk := k.isLt
  unfold nextState
  rw [Host.dynamicSlice_eq_extractStridedSlice S1x4x8x8 D p4 _ sliceFits_S32x4x8x8_S1x4x8x8 (fits4 k) h4,
    Host.dynamicSlice_eq_extractStridedSlice S1x4x8x8x64x128 E p6 _ sliceFits_S32x4x8x8x64x128_S1x4x8x8x64x128 (fits6 k) h6]
  pointwise

/-- The state after one trip. -/
theorem step_state (k : Fin 32) (hV : V (Proc.devRef .tc main_v58_2) = fun _ => Scf.iv 0#32 1#32 k.val) (D : S32x4x8x8.Idx → EReal) (hD : V (Proc.devRef .tc main_v58_1) = D)
    (E : S32x4x8x8x64x128.Idx → EReal) (hE : V (Proc.devRef .tc main_v58_0) = E) (S : S4x8x8x64x128.Idx → EReal) (hS : V (Proc.devRef .tc main_v58_3) = S)
    (b : Fin 4) (g r : Fin 8) (d : Fin 64) (n : Fin 128) :
    step_main_v58_3 V (ix5 b g r d n) = S (ix5 b g r d n) * D (ix4 k b g r) + E (ix6 k b g r d n) := by
  subst hD hE hS
  exact nextState_apply _ _ _ _ _ k (start4 k _ hV) (start6 k _ hV) b g r d n

/-- The states before the chunks with one put in. -/
def putBefore (Q : S32x4x8x8x64x128.Idx → EReal) (S : S4x8x8x64x128.Idx → EReal) (p6 : Fin 6 → Int) : S32x4x8x8x64x128.Idx → EReal :=
  Host.dynamicUpdateSlice Q (broadcastInDim S1x4x8x8x64x128 ![1, 2, 3, 4, 5] bcast_S4x8x8x64x128_S1x4x8x8x64x128_1_2_3_4_5 S) p6 updateFits_S32x4x8x8x64x128_S1x4x8x8x64x128

theorem putBefore_apply (Q S) (p6 : Fin 6 → Int) (k : Fin 32)
    (h6 : ∀ a, p6 a = ((![k.val, 0, 0, 0, 0, 0] : Fin 6 → Nat) a : Int)) (j : Fin 32) (b : Fin 4) (g r : Fin 8) (d : Fin 64) (n : Fin 128) :
    putBefore Q S p6 (ix6 j b g r d n) = if j = k then S (ix5 b g r d n) else Q (ix6 j b g r d n) := by
  have hk := k.isLt
  have hj := j.isLt
  unfold putBefore
  rw [Host.dynamicUpdateSlice_eq_updateSlice Q _ p6 updateFits_S32x4x8x8x64x128_S1x4x8x8x64x128 ![k.val, 0, 0, 0, 0, 0]
    (fun a => by have := (fits6 k).2 a; rw [h6 a]; omega) (fits6 k)]
  pointwise
  by_cases e : j = k
  · rw [if_pos e, dif_pos (by rw [e]; omega)]
  · rw [if_neg e, dif_neg (fun h => e (Fin.ext (by omega)))]

/-- The states before the chunks after one trip. -/
theorem step_before (k : Fin 32) (hV : V (Proc.devRef .tc main_v58_2) = fun _ => Scf.iv 0#32 1#32 k.val) (Q : S32x4x8x8x64x128.Idx → EReal)
    (hQ : V (Proc.devRef .tc main_v58_4) = Q) (S : S4x8x8x64x128.Idx → EReal) (hS : V (Proc.devRef .tc main_v58_3) = S)
    (j : Fin 32) (b : Fin 4) (g r : Fin 8) (d : Fin 64) (n : Fin 128) :
    step_main_v58_4 V (ix6 j b g r d n) = if j = k then S (ix5 b g r d n) else Q (ix6 j b g r d n) := by
  subst hQ hS
  exact putBefore_apply _ _ _ k (start6 k _ hV) j b g r d n

/-- The state before a chunk, from the decays and what the chunks add. -/
def stateR (D : S32x4x8x8.Idx → EReal) (E : S32x4x8x8x64x128.Idx → EReal) (b : Fin 4) (g r : Fin 8) (d : Fin 64) (n : Fin 128) : Nat → EReal
  | 0 => 0
  | k + 1 => stateR D E b g r d n k * D (ix4 (nth k) b g r) + E (ix6 (nth k) b g r d n)

theorem nth_val (k : Fin 32) : nth k.val = k := Fin.ext (Nat.mod_eq_of_lt k.isLt)

theorem loop_addeds (k : Nat) : atK m k c (Proc.devRef .tc main_v58_0) = addAll m c :=
  (trip_keep m c _ (by decide) (by decide) (by decide) (by decide) (by decide) (by decide) k).trans (e_addeds m c)
theorem loop_decays (k : Nat) : atK m k c (Proc.devRef .tc main_v58_1) = decayAll m c :=
  (trip_keep m c _ (by decide) (by decide) (by decide) (by decide) (by decide) (by decide) k).trans (e_decays m c)

theorem trip_state (k : Nat) : atK m (k + 1) c (Proc.devRef .tc main_v58_3) = step_main_v58_3 (atK m k c) :=
  (trip_main_v58_3 (after condOps (atK m k c))).trans (step_main_v58_3_congr (cond_keeps (atK m k c)))
theorem trip_before (k : Nat) : atK m (k + 1) c (Proc.devRef .tc main_v58_4) = step_main_v58_4 (atK m k c) :=
  (trip_main_v58_4 (after condOps (atK m k c))).trans (step_main_v58_4_congr (cond_keeps (atK m k c)))

theorem loop_state (b : Fin 4) (g r : Fin 8) (d : Fin 64) (n : Fin 128) : ∀ k, k ≤ 32 →
    (atK m k c (Proc.devRef .tc main_v58_3) : S4x8x8x64x128.Idx → EReal) (ix5 b g r d n) = stateR (decayAll m c) (addAll m c) b g r d n k
  | 0, _ => congrFun (e_start m c) _
  | k + 1, hk => by
    rw [trip_state]
    refine (step_state _ ⟨k, hk⟩ (atK_ctr m c k) _ (loop_decays m c k) _ (loop_addeds m c k) _ rfl b g r d n).trans ?_
    rw [loop_state b g r d n k (by omega)]
    show _ = stateR _ _ b g r d n k * decayAll m c (ix4 (nth k) b g r) + addAll m c (ix6 (nth k) b g r d n)
    rw [show nth k = ⟨k, hk⟩ from nth_val ⟨k, hk⟩]

theorem loop_before (b : Fin 4) (g r : Fin 8) (d : Fin 64) (n : Fin 128) (j : Fin 32) : ∀ k, k ≤ 32 → j.val < k →
    (atK m k c (Proc.devRef .tc main_v58_4) : S32x4x8x8x64x128.Idx → EReal) (ix6 j b g r d n) = stateR (decayAll m c) (addAll m c) b g r d n j.val
  | 0, _, h => absurd h (Nat.not_lt_zero _)
  | k + 1, hk, h => by
    rw [trip_before]
    refine (step_before _ ⟨k, hk⟩ (atK_ctr m c k) _ rfl _ rfl j b g r d n).trans ?_
    by_cases e : j = ⟨k, hk⟩
    · rw [if_pos e, e]
      exact loop_state m c b g r d n k (by omega)
    · rw [if_neg e]
      exact loop_before b g r d n j k (by omega) (by have : j.val ≠ k := fun q => e (Fin.ext q); omega)

/-! ### After the loop -/

/-- The contents at the end. -/
theorem end_result : ∃ S : S32x4x8x8x64x128.Idx → EReal,
    (∀ (j : Fin 32) b g r d n, S (ix6 j b g r d n) = stateR (decayAll m c) (addAll m c) b g r d n j.val)
    ∧ finalContents condOps preI bodyI postI 32 m c (Proc.devRef .tc main_v93)
      = normed (mixed S (reads (inA m c)) (sums m c) (ownAll m c) (vals (inA m c)) (gates (inA m c)) (inK m c)) (inW m c) := by
  have hk : ∀ r : Ref sig .tc, r ∉ condOps_W → r ∉ while0Ops0_W → r ∉ while0Ops0_1_W → r ∉ while0Ops0_2_W → r ∉ while0Ops0_3_W → r ∉ while0Ops0_4_W →
      after condOps (atK m 32 c) (Proc.devRef .tc r) = entryContents preI m c (Proc.devRef .tc r) := fun r hc h0 h1 h2 h3 h4 =>
    (after_of_writes_sub _ _ condOps_writes hc).trans (trip_keep m c r hc h0 h1 h2 h3 h4 32)
  refine ⟨atK m 32 c (Proc.devRef .tc main_v58_4), fun j b g r d n => loop_before m c b g r d n j 32 (Nat.le_refl _) j.isLt, ?_⟩
  refine (w9_result (after condOps (atK m 32 c)) _ rfl).trans ?_
  rw [hk main_v25 (by decide) (by decide) (by decide) (by decide) (by decide) (by decide), e_reads,
    hk main_v26 (by decide) (by decide) (by decide) (by decide) (by decide) (by decide), e_sums,
    hk main_v42 (by decide) (by decide) (by decide) (by decide) (by decide) (by decide), e_owns,
    hk main_v14 (by decide) (by decide) (by decide) (by decide) (by decide) (by decide), e_vals,
    hk main_v1 (by decide) (by decide) (by decide) (by decide) (by decide) (by decide), e_gates,
    hk main_arg3 (by decide) (by decide) (by decide) (by decide) (by decide) (by decide),
    hk main_arg4 (by decide) (by decide) (by decide) (by decide) (by decide) (by decide),
    e_keep m c main_arg3 (by decide) (by decide) (by decide) (by decide) (by decide) (by decide) (by decide) (by decide) (by decide),
    e_keep m c main_arg4 (by decide) (by decide) (by decide) (by decide) (by decide) (by decide) (by decide) (by decide) (by decide),
    after_of_writes_sub condOps (atK m 32 c) condOps_writes (r := main_v58_4) (by decide)]

/-- The references the stretch after the loop writes. -/
abbrev lastW : List (Ref sig .tc) := [main_v59, main_v60, main_v61, main_v62, main_v63, main_v64, main_v65, main_v66, main_v67, main_v68, main_v69, main_v70, main_v71, main_v72, main_v73, main_v74, main_v75, main_v76, main_v77, main_cst_3, main_v78, main_v79, main_cst_4, main_v80, main_v81, main_cst_5, main_v82, main_v83, main_v84, main_v85, main_v86, main_v87, main_v88, main_v89, main_v90, main_v91, main_v92, main_v93]
theorem last_writes : (hostOps0_9 : List (HloOp τ sig (Elt Ideal))).Forall fun op => op.writes ⊆ (lastW.map (Proc.devRef (τ := τ) .tc)).toFinset :=
  forall_writes_sub_of_map rfl

/-- An argument at the end. -/
theorem end_keep (r : Ref sig .tc) (h0 : r ∉ hostOps0_W) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h7 : r ∉ hostOps0_7_W) (h8 : r ∉ hostOps0_8_W) (h9 : r ∉ lastW)
    (hc : r ∉ condOps_W) (i0 : r ∉ while0Ops0_W) (i1 : r ∉ while0Ops0_1_W) (i2 : r ∉ while0Ops0_2_W) (i3 : r ∉ while0Ops0_3_W) (i4 : r ∉ while0Ops0_4_W) :
    finalContents condOps preI bodyI postI 32 m c (Proc.devRef .tc r) = m ((c : Thread nD τ).loc r) :=
  (after_of_writes_sub hostOps0_9 _ last_writes h9).trans ((after_of_writes_sub _ _ condOps_writes hc).trans
    ((trip_keep m c r hc i0 i1 i2 i3 i4 32).trans (e_keep m c r h0 h1 h2 h3 h4 h5 h6 h7 h8)))

end Cert.SsdRef

end
-- ==== Proof.SsdRefRead.lean ====
/- The reference's recurrence at an index, by the specification. -/
module

public import proofs.«01_k».proof.Proof.SsdRefLoop

@[expose] public section

set_option maxRecDepth 16384

noncomputable section

namespace Cert.SsdRef

open Cert.SsdReferenceIdeal Cert.SsdReferenceIdeal.Gen Cert.SsdReferenceIdeal.Value Idealize.ShloMosaic Idealize.ShloMosaic.TcCoe
open Idealize.ShloMosaic.StableHlo Cert.Ssd

variable (m : (ℓ : Loc nD τ sig) → Buf (Elt Ideal) ℓ) (d : Dev nD)

abbrev pA (i : Fin 16384) (j : Fin 17408) : EReal := inA m d (ix2 i j)
abbrev pB (h : Fin 64) : EReal := inB m d (ix2 0 h)
abbrev pL (h : Fin 64) : EReal := inL m d (ix2 0 h)
abbrev pK (h : Fin 64) : EReal := inK m d (ix2 0 h)
abbrev pW (j : Fin 4096) : EReal := inW m d (ix2 0 j)

/-- A head of a group. -/
def hd (g r : Fin 8) : Fin 64 := ⟨g.val * 8 + r.val, by omega⟩
/-- A channel of a head of a group. -/
def ch (r : Fin 8) (e : Fin 64) : Fin 512 := ⟨r.val * 64 + e.val, by omega⟩

theorem head_ch (g r : Fin 8) (e : Fin 64) : head g (ch r e) = hd g r := Fin.ext (by simp only [head, ch, hd]; omega)
theorem ch_surj (k : Fin 512) : ∃ r e, k = ch r e := ⟨⟨k.val / 64, by omega⟩, ⟨k.val % 64, by omega⟩, Fin.ext (by simp only [ch]; omega)⟩

theorem at_eq (b : Fin 4) (c : Fin 32) (l : Fin 128) (i : Fin 16384) (j j' : Fin 17408) (hi : i.val = b.val * 4096 + (c.val * 128 + l.val)) (hj : j.val = j'.val) :
    inA m d (ix2 i j) = pA m d (row b c l) j' := by
  have h1 : i = row b c l := Fin.ext (by simp only [row]; omega)
  have h2 : j = j' := Fin.ext hj
  rw [h1, h2]

theorem dts_eq (b : Fin 4) (c : Fin 32) (l : Fin 128) (g r : Fin 8) :
    dts m d (ix3 b ⟨c.val * 128 + l.val, by omega⟩ ⟨g.val * 8 + r.val, by omega⟩) = dtAt (pA m d) (pB m d) b c l (hd g r) := by
  refine (softs_apply _ _ _ _).trans (congrArg softplus ?_)
  refine (raws_apply _ _ _ _ _).trans (congrArg (· + _) ?_)
  exact at_eq m d b c l _ _ _ rfl rfl

theorem sums_eq (b : Fin 4) (g r : Fin 8) (c : Fin 32) (l : Fin 128) :
    sums m d (ix5 b g r c l) = cumAt (pA m d) (pB m d) (pL m d) b c l (hd g r) := by
  refine (cums_apply _ _ _ _ _ _).trans (Finset.sum_congr rfl fun s _ => ?_)
  rw [logs_apply, dts_eq]
  rfl

theorem writes_eq (b : Fin 4) (c : Fin 32) (l : Fin 128) (g : Fin 8) (n : Fin 128) : writes (inA m d) (ix5 b c l g n) = writeAt (pA m d) b c g l n :=
  (writes_apply _ _ _ _ _ _).trans (at_eq m d b c l _ _ _ rfl (by simp only []; omega))

theorem reads_eq (b : Fin 4) (c : Fin 32) (l : Fin 128) (g : Fin 8) (n : Fin 128) : reads (inA m d) (ix5 b c l g n) = readAt (pA m d) b c g l n :=
  (reads_apply _ _ _ _ _ _).trans (at_eq m d b c l _ _ _ rfl (by simp only []; omega))

theorem vals_eq (b : Fin 4) (c : Fin 32) (l : Fin 128) (g r : Fin 8) (e : Fin 64) :
    vals (inA m d) (ix4 b ⟨c.val * 128 + l.val, by omega⟩ ⟨g.val * 8 + r.val, by omega⟩ e) = valAt (pA m d) b c g l (ch r e) :=
  (vals_apply _ _ _ _ _).trans (at_eq m d b c l _ _ _ rfl (by simp only [ch]; omega))

theorem gates_eq (b : Fin 4) (c : Fin 32) (l : Fin 128) (g r : Fin 8) (e : Fin 64) :
    gates (inA m d) (ix3 b ⟨c.val * 128 + l.val, by omega⟩ ⟨g.val * 512 + (r.val * 64 + e.val), by omega⟩) = gateAt (pA m d) b c g l (ch r e) :=
  (gates_apply _ _ _ _).trans (at_eq m d b c l _ _ _ rfl (by simp only [ch]; omega))

theorem scaled_eq (b : Fin 4) (c : Fin 32) (l : Fin 128) (g r : Fin 8) (e : Fin 64) :
    scaleds m d (ix6 b c l g r e) = scaledAt (pA m d) (pB m d) b c g l (ch r e) := by
  refine (scaled_apply _ _ _ _ _ _ _ _).trans ?_
  rw [vals_eq, dts_eq]
  unfold scaledAt
  rw [head_ch]

theorem own_eq (b : Fin 4) (c : Fin 32) (l : Fin 128) (g r : Fin 8) (e : Fin 64) :
    ownAll m d (ix6 b c l g r e) = ownAt (pA m d) (pB m d) (pL m d) b c g l (ch r e) := by
  refine (owns_apply _ _ _ _ _ _ _ _ _ _).trans (Finset.sum_congr rfl fun s _ => ?_)
  rw [scaled_eq, grams_apply, masked_apply, sums_eq, sums_eq, head_ch, mul_comm]
  refine congrArg (· * _ * _) (Finset.sum_congr rfl fun n _ => ?_)
  rw [reads_eq, writes_eq]

theorem added_eq (c : Fin 32) (b : Fin 4) (g r : Fin 8) (e : Fin 64) (n : Fin 128) :
    addAll m d (ix6 c b g r e n) = addedAt (pA m d) (pB m d) (pL m d) b c g n (ch r e) := by
  refine (addeds_apply _ _ _ _ _ _ _ _ _).trans (Finset.sum_congr rfl fun l _ => ?_)
  rw [scaled_eq, sums_eq, sums_eq, writes_eq, head_ch, mul_comm]
  exact congrArg (_ * ·) (mul_comm _ _)

theorem decay_eq (c : Fin 32) (b : Fin 4) (g r : Fin 8) : decayAll m d (ix4 c b g r) = Ideal.exp (cumAt (pA m d) (pB m d) (pL m d) b c 127 (hd g r)) :=
  (decays_apply _ _ _ _ _).trans (congrArg Ideal.exp (sums_eq m d _ _ _ _ _))

theorem state_eq (b : Fin 4) (g r : Fin 8) (e : Fin 64) (n : Fin 128) : ∀ k,
    stateR (decayAll m d) (addAll m d) b g r e n k = stateAt (pA m d) (pB m d) (pL m d) b k g n (ch r e)
  | 0 => rfl
  | k + 1 => by
    show stateR _ _ b g r e n k * _ + _ = stateAt _ _ _ b k g n (ch r e) * _ + _
    rw [state_eq b g r e n k, decay_eq, added_eq, head_ch]

/-- The state before a chunk, as a table. -/
abbrev tab (b : Fin 4) (c : Fin 32) (g : Fin 8) : Fin 128 → Fin 512 → EReal := fun n k => stateAt (pA m d) (pB m d) (pL m d) b c.val g n k

theorem mixed_eq (S : S32x4x8x8x64x128.Idx → EReal)
    (hS : ∀ (j : Fin 32) (b : Fin 4) (g r : Fin 8) (e : Fin 64) (n : Fin 128), S (ix6 j b g r e n) = stateR (decayAll m d) (addAll m d) b g r e n j.val)
    (b : Fin 4) (c : Fin 32) (l : Fin 128) (g : Fin 8) (k : Fin 512) :
    mixed S (reads (inA m d)) (sums m d) (ownAll m d) (vals (inA m d)) (gates (inA m d)) (inK m d) (ix4 b ⟨c.val * 128 + l.val, by omega⟩ g k)
      = mixedAt (pA m d) (pB m d) (pL m d) (pK m d) (tab m d b c g) b c g l k := by
  obtain ⟨r, e, rfl⟩ := ch_surj k
  refine (mixed_apply _ _ _ _ _ _ _ _ _ _ _ _ _).trans ?_
  have hsum : (∑ n : Fin 128, S (ix6 c b g r e n) * reads (inA m d) (ix5 b c l g n)) = ∑ n : Fin 128, readAt (pA m d) b c g l n * tab m d b c g n (ch r e) :=
    Finset.sum_congr rfl fun n _ => by rw [hS, state_eq, reads_eq, mul_comm]
  rw [hsum, own_eq, sums_eq, vals_eq, gates_eq]
  unfold mixedAt
  rw [head_ch]
  rfl

/-- The reference's result at an index. -/
theorem result_eq (b : Fin 4) (c : Fin 32) (l : Fin 128) (g : Fin 8) (k : Fin 512) :
    (finalContents condOps preI bodyI postI 32 m d (Proc.devRef .tc main_v93) : S16384x4096.Idx → EReal) (ix2 (row b c l) (col g k))
      = resultAt (pA m d) (pB m d) (pL m d) (pK m d) (pW m d) (tab m d b c g) b c g l k := by
  obtain ⟨S, hS, h⟩ := end_result m d
  have e1 : row b c l = ⟨b.val * 4096 + (⟨c.val * 128 + l.val, by omega⟩ : Fin 4096).val, by simp only []; omega⟩ := Fin.ext (by simp only [row]; omega)
  have e2 : col g k = ⟨g.val * 512 + k.val, by omega⟩ := Fin.ext (by simp only [col]; omega)
  rw [h, e1, e2]
  refine (normed_apply _ _ _ _ _ _).trans ?_
  rw [mixed_eq m d S hS, Finset.sum_congr rfl fun k _ => by rw [mixed_eq m d S hS]]
  unfold resultAt
  rw [e2]

end Cert.SsdRef

end
-- ==== Proof.SsdClaim.lean ====
/- The claims about the recurrence. -/
module

public import proofs.«01_k».proof.Proof.SsdKernel
public import proofs.«01_k».proof.Proof.SsdRefRead
public import proofs.«01_k».proof.Defs
public import proofs.«01_k».proof.Proof.Gen.Ssd.Frame
public import proofs.«01_k».proof.Proof.Gen.SsdIdeal.Frame
public import proofs.«01_k».proof.Proof.Gen.SsdIdeal.Value
public import proofs.«01_k».proof.Proof.Gen.SsdReferenceIdeal.Run
public import Idealize.ShloMosaic.Adequacy
public import Idealize.ShloMosaic.Init

@[expose] public section

set_option maxRecDepth 16384

noncomputable section

namespace Cert.SsdClaim

open Idealize.ShloMosaic Idealize.ShloMosaic.TcCoe Idealize.SL.Sem Idealize.ShloMosaic.StableHlo
open Cert.Ssd (row col)
open Cert.SsdIdeal (S16384x4096)

theorem frame_p : Cert.quiescent_Ssd := fun m ρ _ => Cert.Ssd.Gen.frame m ρ
theorem frame_pi : Cert.quiescent_SsdIdeal := fun m ρ _ => Cert.SsdIdeal.Gen.frame m ρ

/-- The reference's run: its result, and the arguments kept. -/
theorem run (m : (ℓ : Loc Cert.SsdReferenceIdeal.nD Cert.SsdReferenceIdeal.τ Cert.SsdReferenceIdeal.sig) → Buf (Elt Ideal) ℓ) (ρ : Dev Cert.SsdReferenceIdeal.nD → PrngReg) :
    θ_run (Cert.SsdReferenceIdeal.defs (F := Ideal)) (onTc (τ := Cert.SsdReferenceIdeal.τ) (Cert.SsdReferenceIdeal.main (F := Ideal))) ⟨m, fun _ => 0, ρ⟩
      (fun r => ∀ c : Dev Cert.SsdReferenceIdeal.nD,
        r.2.mem ((c.tc : Thread Cert.SsdReferenceIdeal.nD Cert.SsdReferenceIdeal.τ).loc Cert.SsdReferenceIdeal.main_v93)
          = finalContents Cert.SsdReferenceIdeal.Value.condOps Cert.SsdReferenceIdeal.Value.preI Cert.SsdReferenceIdeal.Value.bodyI Cert.SsdReferenceIdeal.Value.postI 32 m c
              (Proc.devRef .tc Cert.SsdReferenceIdeal.main_v93)
        ∧ r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
        ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
        ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
        ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
        ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)) := by
  refine (θ_run Cert.SsdReferenceIdeal.defs _ _).mono (fun r h c => ?_) (Cert.SsdReferenceIdeal.Value.run_fold (F := Ideal) m ρ)
  exact ⟨h c Cert.SsdReferenceIdeal.main_v93 (by decide),
    (h c Cert.SsdReferenceIdeal.main_arg0 (by decide)).trans (SsdRef.end_keep m c Cert.SsdReferenceIdeal.main_arg0 (by decide) (by decide) (by decide) (by decide) (by decide) (by decide) (by decide) (by decide) (by decide) (by decide) (by decide) (by decide) (by decide) (by decide) (by decide) (by decide)),
    (h c Cert.SsdReferenceIdeal.main_arg1 (by decide)).trans (SsdRef.end_keep m c Cert.SsdReferenceIdeal.main_arg1 (by decide) (by decide) (by decide) (by decide) (by decide) (by decide) (by decide) (by decide) (by decide) (by decide) (by decide) (by decide) (by decide) (by decide) (by decide) (by decide)),
    (h c Cert.SsdReferenceIdeal.main_arg2 (by decide)).trans (SsdRef.end_keep m c Cert.SsdReferenceIdeal.main_arg2 (by decide) (by decide) (by decide) (by decide) (by decide) (by decide) (by decide) (by decide) (by decide) (by decide) (by decide) (by decide) (by decide) (by decide) (by decide) (by decide)),
    (h c Cert.SsdReferenceIdeal.main_arg3 (by decide)).trans (SsdRef.end_keep m c Cert.SsdReferenceIdeal.main_arg3 (by decide) (by decide) (by decide) (by decide) (by decide) (by decide) (by decide) (by decide) (by decide) (by decide) (by decide) (by decide) (by decide) (by decide) (by decide) (by decide)),
    (h c Cert.SsdReferenceIdeal.main_arg4 (by decide)).trans (SsdRef.end_keep m c Cert.SsdReferenceIdeal.main_arg4 (by decide) (by decide) (by decide) (by decide) (by decide) (by decide) (by decide) (by decide) (by decide) (by decide) (by decide) (by decide) (by decide) (by decide) (by decide) (by decide))⟩

theorem frame_ri : Cert.quiescent_SsdReferenceIdeal := fun m ρ _ =>
  (θ_run Cert.SsdReferenceIdeal.defs _ _).mono (fun r h => ⟨fun c => (h c).2, sem_eq_zero_of_no_sems (by decide) r.2⟩) (run m ρ)

theorem preserves : Cert.preserves_Ssd_SsdIdeal := IdealRules.named_const.statement Cert.SsdIdeal.κ "ssd_log2e" .f32 0x3FB8AA3B#32 _ rfl

/-- Every index of the result is a time of a chunk of a sequence and a channel of a group. -/
theorem split (y : S16384x4096.Idx) : ∃ (b : Fin 4) (c : Fin 32) (l : Fin 128) (g : Fin 8) (k : Fin 512), y = ix2 (row b c l) (col g k) := by
  obtain ⟨r, f, rfl⟩ : ∃ (r : Fin 16384) (f : Fin 4096), y = ix2 r f := ⟨y 0, y 1, eq_ix2 _⟩
  refine ⟨⟨r.val / 4096, by omega⟩, ⟨r.val / 128 % 32, by omega⟩, ⟨r.val % 128, by omega⟩, ⟨f.val / 512, by omega⟩, ⟨f.val % 512, by omega⟩, ?_⟩
  exact congrArg₂ ix2 (Fin.ext (by simp only [row]; omega)) (Fin.ext (by simp only [col]; omega))

theorem algebraic : Cert.algebraic_SsdIdeal_SsdReferenceIdeal := by
  intro m g m' g' _ hag
  refine ⟨fun c => (Cert.SsdIdeal.Gen.dats m 0 c).arrAt 9 Cert.SsdIdeal.cfg0.N, Cert.SsdIdeal.Value.run_blocks m g, ?_⟩
  refine (θ_run Cert.SsdReferenceIdeal.defs _ _).mono (fun r h c => ⟨(h c).1.trans ?_, (h c).2⟩) (run m' g')
  obtain ⟨h0, h1, h2, h3, h4⟩ := hag c
  have eA : SsdRef.pA m' c = Cert.Ssd.mA m c := funext fun i => funext fun j => congrFun h0 (ix2 i j)
  have eB : SsdRef.pB m' c = Cert.Ssd.mB m c := funext fun i => congrFun h1 (ix2 0 i)
  have eL : SsdRef.pL m' c = Cert.Ssd.mL m c := funext fun i => congrFun h2 (ix2 0 i)
  have eK : SsdRef.pK m' c = Cert.Ssd.mK m c := funext fun i => congrFun h3 (ix2 0 i)
  have eW : SsdRef.pW m' c = Cert.Ssd.mW m c := funext fun i => congrFun h4 (ix2 0 i)
  refine funext fun (y : S16384x4096.Idx) => ?_
  obtain ⟨b, n, l, q, k, rfl⟩ := split y
  refine (SsdRef.result_eq m' c b n l q k).trans (Eq.trans ?_ (Cert.Ssd.array_apply m c b n l q k).symm)
  unfold SsdRef.tab
  rw [eA, eB, eL, eK, eW]

end Cert.SsdClaim

end
-- ==== Proof.lean ====
module

public import proofs.«01_k».proof.Proof.AttnClaim
public import proofs.«01_k».proof.Proof.FfnClaim
public import proofs.«01_k».proof.Proof.MergeClaim
public import proofs.«01_k».proof.Proof.OprojClaim
public import proofs.«01_k».proof.Proof.InProjClaim
public import proofs.«01_k».proof.Proof.NormClaim
public import proofs.«01_k».proof.Proof.SsdClaim
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.Oproj.Frame
public import proofs.«01_k».proof.Proof.Gen.OprojIdeal.Frame
public import proofs.«01_k».proof.Proof.Gen.OprojIdeal.Value
public import proofs.«01_k».proof.Proof.Gen.OprojReferenceIdeal.Run
public import proofs.«01_k».proof.Proof.Gen.InProj.Frame
public import proofs.«01_k».proof.Proof.Gen.InProjIdeal.Frame
public import proofs.«01_k».proof.Proof.Gen.InProjReferenceIdeal.Run

@[expose] public section

theorem Cert.Proof.claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Merge.Gen.facts, Cert.MergeIdeal.Gen.facts, Cert.MergeReferenceIdeal.Gen.facts,
    Cert.Oproj.Gen.facts, Cert.OprojIdeal.Gen.facts, Cert.OprojReferenceIdeal.Gen.facts, Cert.InProj.Gen.facts, Cert.InProjIdeal.Gen.facts,
    Cert.InProjReferenceIdeal.Gen.facts, Cert.Norm.Gen.facts, Cert.NormIdeal.Gen.facts, Cert.NormReferenceIdeal.Gen.facts,
    Cert.Ssd.Gen.facts, Cert.SsdIdeal.Gen.facts, Cert.SsdReferenceIdeal.Gen.facts,
    Cert.AttnClaim.preFacts, Cert.InProjClaim.preFacts,
    Cert.AttnClaim.frame_p, Cert.AttnClaim.frame_pi, Cert.AttnClaim.frame_pi_pre, Cert.AttnClaim.frame_ri, Cert.AttnClaim.frame_ri_pre,
    Cert.FfnClaim.frame_p, Cert.FfnClaim.frame_pi, Cert.FfnClaim.frame_ri,
    Cert.MergeClaim.frame_p, Cert.MergeClaim.frame_pi, Cert.MergeClaim.frame_ri,
    Cert.OprojClaim.frame_p, Cert.OprojClaim.frame_pi, Cert.OprojClaim.frame_ri,
    Cert.InProjClaim.frame_p, Cert.InProjClaim.frame_pi, Cert.InProjClaim.frame_pi_pre, Cert.InProjClaim.frame_ri, Cert.InProjClaim.frame_ri_pre,
    Cert.NormClaim.frame_p, Cert.NormClaim.frame_pi, Cert.NormClaim.frame_ri,
    Cert.SsdClaim.frame_p, Cert.SsdClaim.frame_pi, Cert.SsdClaim.frame_ri,
    Cert.AttnClaim.preserves, Cert.AttnClaim.algebraic,
    Cert.FfnClaim.preserves, Cert.FfnClaim.algebraic,
    Cert.MergeClaim.preserves, Cert.MergeClaim.algebraic,
    Cert.OprojClaim.preserves, Cert.OprojClaim.algebraic,
    Cert.InProjClaim.preserves, Cert.InProjClaim.algebraic,
    Cert.NormClaim.preserves, Cert.NormClaim.algebraic,
    Cert.SsdClaim.preserves, Cert.SsdClaim.algebraic⟩

end
